-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.2 = (fun _ => 1#1)

def Pre_Fa (m : (ℓ : Loc Cert.Fa.nD Cert.Fa.τ Cert.Fa.sig) → Buf (Elt Bits) ℓ) : Prop :=
  True

def Pre_FaIdeal (m : (ℓ : Loc Cert.FaIdeal.nD Cert.FaIdeal.τ Cert.FaIdeal.sig) → Buf (Elt Ideal) ℓ) : Prop :=
  True

def Pre_FaIdeal_finite_fa [hPre_finite_fa : Cert.Pre_finite_fa.Facts] (m : (ℓ : Loc Cert.FaIdeal.nD Cert.FaIdeal.τ Cert.FaIdeal.sig) → Buf (Elt Ideal) ℓ) : Prop :=
  ∀ c : Dev Cert.FaIdeal.nD,
    (Cert.Pre_finite_fa.fn (F := Ideal) (m ((c.tc : Thread Cert.FaIdeal.nD Cert.FaIdeal.τ).loc Cert.FaIdeal.main_arg0)) (m ((c.tc : Thread Cert.FaIdeal.nD Cert.FaIdeal.τ).loc Cert.FaIdeal.main_arg1)) (m ((c.tc : Thread Cert.FaIdeal.nD Cert.FaIdeal.τ).loc Cert.FaIdeal.main_arg2)) (m ((c.tc : Thread Cert.FaIdeal.nD Cert.FaIdeal.τ).loc Cert.FaIdeal.main_arg3))).1 = (fun _ => 1#1)
    ∧ (Cert.Pre_finite_fa.fn (F := Ideal) (m ((c.tc : Thread Cert.FaIdeal.nD Cert.FaIdeal.τ).loc Cert.FaIdeal.main_arg0)) (m ((c.tc : Thread Cert.FaIdeal.nD Cert.FaIdeal.τ).loc Cert.FaIdeal.main_arg1)) (m ((c.tc : Thread Cert.FaIdeal.nD Cert.FaIdeal.τ).loc Cert.FaIdeal.main_arg2)) (m ((c.tc : Thread Cert.FaIdeal.nD Cert.FaIdeal.τ).loc Cert.FaIdeal.main_arg3))).2.1 = (fun _ => 1#1)
    ∧ (Cert.Pre_finite_fa.fn (F := Ideal) (m ((c.tc : Thread Cert.FaIdeal.nD Cert.FaIdeal.τ).loc Cert.FaIdeal.main_arg0)) (m ((c.tc : Thread Cert.FaIdeal.nD Cert.FaIdeal.τ).loc Cert.FaIdeal.main_arg1)) (m ((c.tc : Thread Cert.FaIdeal.nD Cert.FaIdeal.τ).loc Cert.FaIdeal.main_arg2)) (m ((c.tc : Thread Cert.FaIdeal.nD Cert.FaIdeal.τ).loc Cert.FaIdeal.main_arg3))).2.2.1 = (fun _ => 1#1)
    ∧ (Cert.Pre_finite_fa.fn (F := Ideal) (m ((c.tc : Thread Cert.FaIdeal.nD Cert.FaIdeal.τ).loc Cert.FaIdeal.main_arg0)) (m ((c.tc : Thread Cert.FaIdeal.nD Cert.FaIdeal.τ).loc Cert.FaIdeal.main_arg1)) (m ((c.tc : Thread Cert.FaIdeal.nD Cert.FaIdeal.τ).loc Cert.FaIdeal.main_arg2)) (m ((c.tc : Thread Cert.FaIdeal.nD Cert.FaIdeal.τ).loc Cert.FaIdeal.main_arg3))).2.2.2 = (fun _ => 1#1)

def Pre_FaRefIdeal (m : (ℓ : Loc Cert.FaRefIdeal.nD Cert.FaRefIdeal.τ Cert.FaRefIdeal.sig) → Buf (Elt Ideal) ℓ) : Prop :=
  True

def Pre_FaRefIdeal_finite_fa [hPre_finite_fa : Cert.Pre_finite_fa.Facts] (m : (ℓ : Loc Cert.FaRefIdeal.nD Cert.FaRefIdeal.τ Cert.FaRefIdeal.sig) → Buf (Elt Ideal) ℓ) : Prop :=
  ∀ c : Dev Cert.FaRefIdeal.nD,
    (Cert.Pre_finite_fa.fn (F := Ideal) (m ((c.tc : Thread Cert.FaRefIdeal.nD Cert.FaRefIdeal.τ).loc Cert.FaRefIdeal.main_arg0)) (m ((c.tc : Thread Cert.FaRefIdeal.nD Cert.FaRefIdeal.τ).loc Cert.FaRefIdeal.main_arg1)) (m ((c.tc : Thread Cert.FaRefIdeal.nD Cert.FaRefIdeal.τ).loc Cert.FaRefIdeal.main_arg2)) (m ((c.tc : Thread Cert.FaRefIdeal.nD Cert.FaRefIdeal.τ).loc Cert.FaRefIdeal.main_arg3))).1 = (fun _ => 1#1)
    ∧ (Cert.Pre_finite_fa.fn (F := Ideal) (m ((c.tc : Thread Cert.FaRefIdeal.nD Cert.FaRefIdeal.τ).loc Cert.FaRefIdeal.main_arg0)) (m ((c.tc : Thread Cert.FaRefIdeal.nD Cert.FaRefIdeal.τ).loc Cert.FaRefIdeal.main_arg1)) (m ((c.tc : Thread Cert.FaRefIdeal.nD Cert.FaRefIdeal.τ).loc Cert.FaRefIdeal.main_arg2)) (m ((c.tc : Thread Cert.FaRefIdeal.nD Cert.FaRefIdeal.τ).loc Cert.FaRefIdeal.main_arg3))).2.1 = (fun _ => 1#1)
    ∧ (Cert.Pre_finite_fa.fn (F := Ideal) (m ((c.tc : Thread Cert.FaRefIdeal.nD Cert.FaRefIdeal.τ).loc Cert.FaRefIdeal.main_arg0)) (m ((c.tc : Thread Cert.FaRefIdeal.nD Cert.FaRefIdeal.τ).loc Cert.FaRefIdeal.main_arg1)) (m ((c.tc : Thread Cert.FaRefIdeal.nD Cert.FaRefIdeal.τ).loc Cert.FaRefIdeal.main_arg2)) (m ((c.tc : Thread Cert.FaRefIdeal.nD Cert.FaRefIdeal.τ).loc Cert.FaRefIdeal.main_arg3))).2.2.1 = (fun _ => 1#1)
    ∧ (Cert.Pre_finite_fa.fn (F := Ideal) (m ((c.tc : Thread Cert.FaRefIdeal.nD Cert.FaRefIdeal.τ).loc Cert.FaRefIdeal.main_arg0)) (m ((c.tc : Thread Cert.FaRefIdeal.nD Cert.FaRefIdeal.τ).loc Cert.FaRefIdeal.main_arg1)) (m ((c.tc : Thread Cert.FaRefIdeal.nD Cert.FaRefIdeal.τ).loc Cert.FaRefIdeal.main_arg2)) (m ((c.tc : Thread Cert.FaRefIdeal.nD Cert.FaRefIdeal.τ).loc Cert.FaRefIdeal.main_arg3))).2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2))).1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2))).2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2))).2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2))).1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2))).2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2))).2.2 = (fun _ => 1#1)

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgIdeal_finite_hg [hPre_finite_hg : Cert.Pre_finite_hg.Facts] (m : (ℓ : Loc Cert.HgIdeal.nD Cert.HgIdeal.τ Cert.HgIdeal.sig) → Buf (Elt Ideal) ℓ) : Prop :=
  ∀ c : Dev Cert.HgIdeal.nD,
    (Cert.Pre_finite_hg.fn (F := Ideal) (m ((c.tc : Thread Cert.HgIdeal.nD Cert.HgIdeal.τ).loc Cert.HgIdeal.main_arg0)) (m ((c.tc : Thread Cert.HgIdeal.nD Cert.HgIdeal.τ).loc Cert.HgIdeal.main_arg1)) (m ((c.tc : Thread Cert.HgIdeal.nD Cert.HgIdeal.τ).loc Cert.HgIdeal.main_arg2)) (m ((c.tc : Thread Cert.HgIdeal.nD Cert.HgIdeal.τ).loc Cert.HgIdeal.main_arg3))).1 = (fun _ => 1#1)
    ∧ (Cert.Pre_finite_hg.fn (F := Ideal) (m ((c.tc : Thread Cert.HgIdeal.nD Cert.HgIdeal.τ).loc Cert.HgIdeal.main_arg0)) (m ((c.tc : Thread Cert.HgIdeal.nD Cert.HgIdeal.τ).loc Cert.HgIdeal.main_arg1)) (m ((c.tc : Thread Cert.HgIdeal.nD Cert.HgIdeal.τ).loc Cert.HgIdeal.main_arg2)) (m ((c.tc : Thread Cert.HgIdeal.nD Cert.HgIdeal.τ).loc Cert.HgIdeal.main_arg3))).2.1 = (fun _ => 1#1)
    ∧ (Cert.Pre_finite_hg.fn (F := Ideal) (m ((c.tc : Thread Cert.HgIdeal.nD Cert.HgIdeal.τ).loc Cert.HgIdeal.main_arg0)) (m ((c.tc : Thread Cert.HgIdeal.nD Cert.HgIdeal.τ).loc Cert.HgIdeal.main_arg1)) (m ((c.tc : Thread Cert.HgIdeal.nD Cert.HgIdeal.τ).loc Cert.HgIdeal.main_arg2)) (m ((c.tc : Thread Cert.HgIdeal.nD Cert.HgIdeal.τ).loc Cert.HgIdeal.main_arg3))).2.2.1 = (fun _ => 1#1)
    ∧ (Cert.Pre_finite_hg.fn (F := Ideal) (m ((c.tc : Thread Cert.HgIdeal.nD Cert.HgIdeal.τ).loc Cert.HgIdeal.main_arg0)) (m ((c.tc : Thread Cert.HgIdeal.nD Cert.HgIdeal.τ).loc Cert.HgIdeal.main_arg1)) (m ((c.tc : Thread Cert.HgIdeal.nD Cert.HgIdeal.τ).loc Cert.HgIdeal.main_arg2)) (m ((c.tc : Thread Cert.HgIdeal.nD Cert.HgIdeal.τ).loc Cert.HgIdeal.main_arg3))).2.2.2 = (fun _ => 1#1)

def Pre_HgRefIdeal (m : (ℓ : Loc Cert.HgRefIdeal.nD Cert.HgRefIdeal.τ Cert.HgRefIdeal.sig) → Buf (Elt Ideal) ℓ) : Prop :=
  True

def Pre_HgRefIdeal_finite_hg [hPre_finite_hg : Cert.Pre_finite_hg.Facts] (m : (ℓ : Loc Cert.HgRefIdeal.nD Cert.HgRefIdeal.τ Cert.HgRefIdeal.sig) → Buf (Elt Ideal) ℓ) : Prop :=
  ∀ c : Dev Cert.HgRefIdeal.nD,
    (Cert.Pre_finite_hg.fn (F := Ideal) (m ((c.tc : Thread Cert.HgRefIdeal.nD Cert.HgRefIdeal.τ).loc Cert.HgRefIdeal.main_arg0)) (m ((c.tc : Thread Cert.HgRefIdeal.nD Cert.HgRefIdeal.τ).loc Cert.HgRefIdeal.main_arg1)) (m ((c.tc : Thread Cert.HgRefIdeal.nD Cert.HgRefIdeal.τ).loc Cert.HgRefIdeal.main_arg2)) (m ((c.tc : Thread Cert.HgRefIdeal.nD Cert.HgRefIdeal.τ).loc Cert.HgRefIdeal.main_arg3))).1 = (fun _ => 1#1)
    ∧ (Cert.Pre_finite_hg.fn (F := Ideal) (m ((c.tc : Thread Cert.HgRefIdeal.nD Cert.HgRefIdeal.τ).loc Cert.HgRefIdeal.main_arg0)) (m ((c.tc : Thread Cert.HgRefIdeal.nD Cert.HgRefIdeal.τ).loc Cert.HgRefIdeal.main_arg1)) (m ((c.tc : Thread Cert.HgRefIdeal.nD Cert.HgRefIdeal.τ).loc Cert.HgRefIdeal.main_arg2)) (m ((c.tc : Thread Cert.HgRefIdeal.nD Cert.HgRefIdeal.τ).loc Cert.HgRefIdeal.main_arg3))).2.1 = (fun _ => 1#1)
    ∧ (Cert.Pre_finite_hg.fn (F := Ideal) (m ((c.tc : Thread Cert.HgRefIdeal.nD Cert.HgRefIdeal.τ).loc Cert.HgRefIdeal.main_arg0)) (m ((c.tc : Thread Cert.HgRefIdeal.nD Cert.HgRefIdeal.τ).loc Cert.HgRefIdeal.main_arg1)) (m ((c.tc : Thread Cert.HgRefIdeal.nD Cert.HgRefIdeal.τ).loc Cert.HgRefIdeal.main_arg2)) (m ((c.tc : Thread Cert.HgRefIdeal.nD Cert.HgRefIdeal.τ).loc Cert.HgRefIdeal.main_arg3))).2.2.1 = (fun _ => 1#1)
    ∧ (Cert.Pre_finite_hg.fn (F := Ideal) (m ((c.tc : Thread Cert.HgRefIdeal.nD Cert.HgRefIdeal.τ).loc Cert.HgRefIdeal.main_arg0)) (m ((c.tc : Thread Cert.HgRefIdeal.nD Cert.HgRefIdeal.τ).loc Cert.HgRefIdeal.main_arg1)) (m ((c.tc : Thread Cert.HgRefIdeal.nD Cert.HgRefIdeal.τ).loc Cert.HgRefIdeal.main_arg2)) (m ((c.tc : Thread Cert.HgRefIdeal.nD Cert.HgRefIdeal.τ).loc Cert.HgRefIdeal.main_arg3))).2.2.2 = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdIdeal_finite_upbwd [hPre_finite_upbwd : Cert.Pre_finite_upbwd.Facts] (m : (ℓ : Loc Cert.UpBwdIdeal.nD Cert.UpBwdIdeal.τ Cert.UpBwdIdeal.sig) → Buf (Elt Ideal) ℓ) : Prop :=
  ∀ c : Dev Cert.UpBwdIdeal.nD,
    (Cert.Pre_finite_upbwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).1 = (fun _ => 1#1)
    ∧ (Cert.Pre_finite_upbwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.1 = (fun _ => 1#1)
    ∧ (Cert.Pre_finite_upbwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.1 = (fun _ => 1#1)
    ∧ (Cert.Pre_finite_upbwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2.1 = (fun _ => 1#1)
    ∧ (Cert.Pre_finite_upbwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2.2.1 = (fun _ => 1#1)
    ∧ (Cert.Pre_finite_upbwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2.2.2.1 = (fun _ => 1#1)
    ∧ (Cert.Pre_finite_upbwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2.2.2.2 = (fun _ => 1#1)

def Pre_UpBwdRefIdeal (m : (ℓ : Loc Cert.UpBwdRefIdeal.nD Cert.UpBwdRefIdeal.τ Cert.UpBwdRefIdeal.sig) → Buf (Elt Ideal) ℓ) : Prop :=
  True

def Pre_UpBwdRefIdeal_finite_upbwd [hPre_finite_upbwd : Cert.Pre_finite_upbwd.Facts] (m : (ℓ : Loc Cert.UpBwdRefIdeal.nD Cert.UpBwdRefIdeal.τ Cert.UpBwdRefIdeal.sig) → Buf (Elt Ideal) ℓ) : Prop :=
  ∀ c : Dev Cert.UpBwdRefIdeal.nD,
    (Cert.Pre_finite_upbwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).1 = (fun _ => 1#1)
    ∧ (Cert.Pre_finite_upbwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.1 = (fun _ => 1#1)
    ∧ (Cert.Pre_finite_upbwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.1 = (fun _ => 1#1)
    ∧ (Cert.Pre_finite_upbwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2.1 = (fun _ => 1#1)
    ∧ (Cert.Pre_finite_upbwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2.2.1 = (fun _ => 1#1)
    ∧ (Cert.Pre_finite_upbwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2.2.2.1 = (fun _ => 1#1)
    ∧ (Cert.Pre_finite_upbwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2.2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_inbwd [hPre_finite_inbwd : Cert.Pre_finite_inbwd.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_inbwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).1 = (fun _ => 1#1)
    ∧ (Cert.Pre_finite_inbwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.1 = (fun _ => 1#1)
    ∧ (Cert.Pre_finite_inbwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.1 = (fun _ => 1#1)
    ∧ (Cert.Pre_finite_inbwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.1 = (fun _ => 1#1)
    ∧ (Cert.Pre_finite_inbwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.2.1 = (fun _ => 1#1)
    ∧ (Cert.Pre_finite_inbwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite_inbwd [hPre_finite_inbwd : Cert.Pre_finite_inbwd.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite_inbwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).1 = (fun _ => 1#1)
    ∧ (Cert.Pre_finite_inbwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.1 = (fun _ => 1#1)
    ∧ (Cert.Pre_finite_inbwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.1 = (fun _ => 1#1)
    ∧ (Cert.Pre_finite_inbwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.2.1 = (fun _ => 1#1)
    ∧ (Cert.Pre_finite_inbwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.2.2.1 = (fun _ => 1#1)
    ∧ (Cert.Pre_finite_inbwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).2.2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).2.2.2.2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7))).2.2.2.2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).2.2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).2.2.2.2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))).2.2.2.2.2.2.2 = (fun _ => 1#1)

def Pre_Fw (m : (ℓ : Loc Cert.Fw.nD Cert.Fw.τ Cert.Fw.sig) → Buf (Elt Bits) ℓ) : Prop :=
  True

def Pre_FwIdeal (m : (ℓ : Loc Cert.FwIdeal.nD Cert.FwIdeal.τ Cert.FwIdeal.sig) → Buf (Elt Ideal) ℓ) : Prop :=
  True

def Pre_FwIdeal_finite_fw [hPre_finite_fw : Cert.Pre_finite_fw.Facts] (m : (ℓ : Loc Cert.FwIdeal.nD Cert.FwIdeal.τ Cert.FwIdeal.sig) → Buf (Elt Ideal) ℓ) : Prop :=
  ∀ c : Dev Cert.FwIdeal.nD,
    (Cert.Pre_finite_fw.fn (F := Ideal) (m ((c.tc : Thread Cert.FwIdeal.nD Cert.FwIdeal.τ).loc Cert.FwIdeal.main_arg0)) (m ((c.tc : Thread Cert.FwIdeal.nD Cert.FwIdeal.τ).loc Cert.FwIdeal.main_arg1)) (m ((c.tc : Thread Cert.FwIdeal.nD Cert.FwIdeal.τ).loc Cert.FwIdeal.main_arg2))).1 = (fun _ => 1#1)
    ∧ (Cert.Pre_finite_fw.fn (F := Ideal) (m ((c.tc : Thread Cert.FwIdeal.nD Cert.FwIdeal.τ).loc Cert.FwIdeal.main_arg0)) (m ((c.tc : Thread Cert.FwIdeal.nD Cert.FwIdeal.τ).loc Cert.FwIdeal.main_arg1)) (m ((c.tc : Thread Cert.FwIdeal.nD Cert.FwIdeal.τ).loc Cert.FwIdeal.main_arg2))).2.1 = (fun _ => 1#1)
    ∧ (Cert.Pre_finite_fw.fn (F := Ideal) (m ((c.tc : Thread Cert.FwIdeal.nD Cert.FwIdeal.τ).loc Cert.FwIdeal.main_arg0)) (m ((c.tc : Thread Cert.FwIdeal.nD Cert.FwIdeal.τ).loc Cert.FwIdeal.main_arg1)) (m ((c.tc : Thread Cert.FwIdeal.nD Cert.FwIdeal.τ).loc Cert.FwIdeal.main_arg2))).2.2 = (fun _ => 1#1)

def Pre_FwRefIdeal (m : (ℓ : Loc Cert.FwRefIdeal.nD Cert.FwRefIdeal.τ Cert.FwRefIdeal.sig) → Buf (Elt Ideal) ℓ) : Prop :=
  True

def Pre_FwRefIdeal_finite_fw [hPre_finite_fw : Cert.Pre_finite_fw.Facts] (m : (ℓ : Loc Cert.FwRefIdeal.nD Cert.FwRefIdeal.τ Cert.FwRefIdeal.sig) → Buf (Elt Ideal) ℓ) : Prop :=
  ∀ c : Dev Cert.FwRefIdeal.nD,
    (Cert.Pre_finite_fw.fn (F := Ideal) (m ((c.tc : Thread Cert.FwRefIdeal.nD Cert.FwRefIdeal.τ).loc Cert.FwRefIdeal.main_arg0)) (m ((c.tc : Thread Cert.FwRefIdeal.nD Cert.FwRefIdeal.τ).loc Cert.FwRefIdeal.main_arg1)) (m ((c.tc : Thread Cert.FwRefIdeal.nD Cert.FwRefIdeal.τ).loc Cert.FwRefIdeal.main_arg2))).1 = (fun _ => 1#1)
    ∧ (Cert.Pre_finite_fw.fn (F := Ideal) (m ((c.tc : Thread Cert.FwRefIdeal.nD Cert.FwRefIdeal.τ).loc Cert.FwRefIdeal.main_arg0)) (m ((c.tc : Thread Cert.FwRefIdeal.nD Cert.FwRefIdeal.τ).loc Cert.FwRefIdeal.main_arg1)) (m ((c.tc : Thread Cert.FwRefIdeal.nD Cert.FwRefIdeal.τ).loc Cert.FwRefIdeal.main_arg2))).2.1 = (fun _ => 1#1)
    ∧ (Cert.Pre_finite_fw.fn (F := Ideal) (m ((c.tc : Thread Cert.FwRefIdeal.nD Cert.FwRefIdeal.τ).loc Cert.FwRefIdeal.main_arg0)) (m ((c.tc : Thread Cert.FwRefIdeal.nD Cert.FwRefIdeal.τ).loc Cert.FwRefIdeal.main_arg1)) (m ((c.tc : Thread Cert.FwRefIdeal.nD Cert.FwRefIdeal.τ).loc Cert.FwRefIdeal.main_arg2))).2.2 = (fun _ => 1#1)

def Pre_GlaF (m : (ℓ : Loc Cert.GlaF.nD Cert.GlaF.τ Cert.GlaF.sig) → Buf (Elt Bits) ℓ) : Prop :=
  True

def Pre_GlaFIdeal (m : (ℓ : Loc Cert.GlaFIdeal.nD Cert.GlaFIdeal.τ Cert.GlaFIdeal.sig) → Buf (Elt Ideal) ℓ) : Prop :=
  True

def Pre_GlaB (m : (ℓ : Loc Cert.GlaB.nD Cert.GlaB.τ Cert.GlaB.sig) → Buf (Elt Bits) ℓ) : Prop :=
  True

def Pre_GlaBIdeal (m : (ℓ : Loc Cert.GlaBIdeal.nD Cert.GlaBIdeal.τ Cert.GlaBIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFRefIdeal (m : (ℓ : Loc Cert.FfnFRefIdeal.nD Cert.FfnFRefIdeal.τ Cert.FfnFRefIdeal.sig) → Buf (Elt Ideal) ℓ) : Prop :=
  True

def Pre_PostF (m : (ℓ : Loc Cert.PostF.nD Cert.PostF.τ Cert.PostF.sig) → Buf (Elt Bits) ℓ) : Prop :=
  True

def Pre_PostFIdeal (m : (ℓ : Loc Cert.PostFIdeal.nD Cert.PostFIdeal.τ Cert.PostFIdeal.sig) → Buf (Elt Ideal) ℓ) : Prop :=
  True

def Pre_PostFRefIdeal (m : (ℓ : Loc Cert.PostFRefIdeal.nD Cert.PostFRefIdeal.τ Cert.PostFRefIdeal.sig) → Buf (Elt Ideal) ℓ) : Prop :=
  True

def Pre_GlaFF (m : (ℓ : Loc Cert.GlaFF.nD Cert.GlaFF.τ Cert.GlaFF.sig) → Buf (Elt Bits) ℓ) : Prop :=
  True

def Pre_GlaFFIdeal (m : (ℓ : Loc Cert.GlaFFIdeal.nD Cert.GlaFFIdeal.τ Cert.GlaFFIdeal.sig) → Buf (Elt Ideal) ℓ) : Prop :=
  True

def Pre_GlaFB (m : (ℓ : Loc Cert.GlaFB.nD Cert.GlaFB.τ Cert.GlaFB.sig) → Buf (Elt Bits) ℓ) : Prop :=
  True

def Pre_GlaFBIdeal (m : (ℓ : Loc Cert.GlaFBIdeal.nD Cert.GlaFBIdeal.τ Cert.GlaFBIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Fa [hFa : Cert.Fa.Facts] : Prop :=
  ∀ (m : (ℓ : Loc Cert.Fa.nD Cert.Fa.τ Cert.Fa.sig) → Buf (Elt Bits) ℓ) (g : Dev Cert.Fa.nD → PrngReg), Pre_Fa m →
    θ_run (Cert.Fa.defs (F := Bits)) (onTc (τ := Cert.Fa.τ) (Cert.Fa.main (F := Bits))) ⟨m, fun _ => 0, g⟩ (fun r => (∀ c : Dev Cert.Fa.nD,
      r.2.mem ((c.tc : Thread Cert.Fa.nD Cert.Fa.τ).loc Cert.Fa.main_arg0) = m ((c.tc : Thread Cert.Fa.nD Cert.Fa.τ).loc Cert.Fa.main_arg0)
      ∧ r.2.mem ((c.tc : Thread Cert.Fa.nD Cert.Fa.τ).loc Cert.Fa.main_arg1) = m ((c.tc : Thread Cert.Fa.nD Cert.Fa.τ).loc Cert.Fa.main_arg1)
      ∧ r.2.mem ((c.tc : Thread Cert.Fa.nD Cert.Fa.τ).loc Cert.Fa.main_arg2) = m ((c.tc : Thread Cert.Fa.nD Cert.Fa.τ).loc Cert.Fa.main_arg2)
      ∧ r.2.mem ((c.tc : Thread Cert.Fa.nD Cert.Fa.τ).loc Cert.Fa.main_arg3) = m ((c.tc : Thread Cert.Fa.nD Cert.Fa.τ).loc Cert.Fa.main_arg3))
      ∧ r.2.sem = fun _ => 0)

def quiescent_FaIdeal [hFaIdeal : Cert.FaIdeal.Facts] : Prop :=
  ∀ (m : (ℓ : Loc Cert.FaIdeal.nD Cert.FaIdeal.τ Cert.FaIdeal.sig) → Buf (Elt Ideal) ℓ) (g : Dev Cert.FaIdeal.nD → PrngReg), Pre_FaIdeal m →
    θ_run (Cert.FaIdeal.defs (F := Ideal)) (onTc (τ := Cert.FaIdeal.τ) (Cert.FaIdeal.main (F := Ideal))) ⟨m, fun _ => 0, g⟩ (fun r => (∀ c : Dev Cert.FaIdeal.nD,
      r.2.mem ((c.tc : Thread Cert.FaIdeal.nD Cert.FaIdeal.τ).loc Cert.FaIdeal.main_arg0) = m ((c.tc : Thread Cert.FaIdeal.nD Cert.FaIdeal.τ).loc Cert.FaIdeal.main_arg0)
      ∧ r.2.mem ((c.tc : Thread Cert.FaIdeal.nD Cert.FaIdeal.τ).loc Cert.FaIdeal.main_arg1) = m ((c.tc : Thread Cert.FaIdeal.nD Cert.FaIdeal.τ).loc Cert.FaIdeal.main_arg1)
      ∧ r.2.mem ((c.tc : Thread Cert.FaIdeal.nD Cert.FaIdeal.τ).loc Cert.FaIdeal.main_arg2) = m ((c.tc : Thread Cert.FaIdeal.nD Cert.FaIdeal.τ).loc Cert.FaIdeal.main_arg2)
      ∧ r.2.mem ((c.tc : Thread Cert.FaIdeal.nD Cert.FaIdeal.τ).loc Cert.FaIdeal.main_arg3) = m ((c.tc : Thread Cert.FaIdeal.nD Cert.FaIdeal.τ).loc Cert.FaIdeal.main_arg3))
      ∧ r.2.sem = fun _ => 0)

def quiescent_FaIdeal_pre_finite_fa [hFaIdeal : Cert.FaIdeal.Facts] [hPre_finite_fa : Cert.Pre_finite_fa.Facts] : Prop :=
  ∀ (m : (ℓ : Loc Cert.FaIdeal.nD Cert.FaIdeal.τ Cert.FaIdeal.sig) → Buf (Elt Ideal) ℓ) (g : Dev Cert.FaIdeal.nD → PrngReg), Pre_FaIdeal_finite_fa m →
    θ_run (Cert.FaIdeal.defs (F := Ideal)) (onTc (τ := Cert.FaIdeal.τ) (Cert.FaIdeal.main (F := Ideal))) ⟨m, fun _ => 0, g⟩ (fun r => (∀ c : Dev Cert.FaIdeal.nD,
      r.2.mem ((c.tc : Thread Cert.FaIdeal.nD Cert.FaIdeal.τ).loc Cert.FaIdeal.main_arg0) = m ((c.tc : Thread Cert.FaIdeal.nD Cert.FaIdeal.τ).loc Cert.FaIdeal.main_arg0)
      ∧ r.2.mem ((c.tc : Thread Cert.FaIdeal.nD Cert.FaIdeal.τ).loc Cert.FaIdeal.main_arg1) = m ((c.tc : Thread Cert.FaIdeal.nD Cert.FaIdeal.τ).loc Cert.FaIdeal.main_arg1)
      ∧ r.2.mem ((c.tc : Thread Cert.FaIdeal.nD Cert.FaIdeal.τ).loc Cert.FaIdeal.main_arg2) = m ((c.tc : Thread Cert.FaIdeal.nD Cert.FaIdeal.τ).loc Cert.FaIdeal.main_arg2)
      ∧ r.2.mem ((c.tc : Thread Cert.FaIdeal.nD Cert.FaIdeal.τ).loc Cert.FaIdeal.main_arg3) = m ((c.tc : Thread Cert.FaIdeal.nD Cert.FaIdeal.τ).loc Cert.FaIdeal.main_arg3))
      ∧ r.2.sem = fun _ => 0)

def quiescent_FaRefIdeal [hFaRefIdeal : Cert.FaRefIdeal.Facts] : Prop :=
  ∀ (m : (ℓ : Loc Cert.FaRefIdeal.nD Cert.FaRefIdeal.τ Cert.FaRefIdeal.sig) → Buf (Elt Ideal) ℓ) (g : Dev Cert.FaRefIdeal.nD → PrngReg), Pre_FaRefIdeal m →
    θ_run (Cert.FaRefIdeal.defs (F := Ideal)) (onTc (τ := Cert.FaRefIdeal.τ) (Cert.FaRefIdeal.main (F := Ideal))) ⟨m, fun _ => 0, g⟩ (fun r => (∀ c : Dev Cert.FaRefIdeal.nD,
      r.2.mem ((c.tc : Thread Cert.FaRefIdeal.nD Cert.FaRefIdeal.τ).loc Cert.FaRefIdeal.main_arg0) = m ((c.tc : Thread Cert.FaRefIdeal.nD Cert.FaRefIdeal.τ).loc Cert.FaRefIdeal.main_arg0)
      ∧ r.2.mem ((c.tc : Thread Cert.FaRefIdeal.nD Cert.FaRefIdeal.τ).loc Cert.FaRefIdeal.main_arg1) = m ((c.tc : Thread Cert.FaRefIdeal.nD Cert.FaRefIdeal.τ).loc Cert.FaRefIdeal.main_arg1)
      ∧ r.2.mem ((c.tc : Thread Cert.FaRefIdeal.nD Cert.FaRefIdeal.τ).loc Cert.FaRefIdeal.main_arg2) = m ((c.tc : Thread Cert.FaRefIdeal.nD Cert.FaRefIdeal.τ).loc Cert.FaRefIdeal.main_arg2)
      ∧ r.2.mem ((c.tc : Thread Cert.FaRefIdeal.nD Cert.FaRefIdeal.τ).loc Cert.FaRefIdeal.main_arg3) = m ((c.tc : Thread Cert.FaRefIdeal.nD Cert.FaRefIdeal.τ).loc Cert.FaRefIdeal.main_arg3))
      ∧ r.2.sem = fun _ => 0)

def quiescent_FaRefIdeal_pre_finite_fa [hFaRefIdeal : Cert.FaRefIdeal.Facts] [hPre_finite_fa : Cert.Pre_finite_fa.Facts] : Prop :=
  ∀ (m : (ℓ : Loc Cert.FaRefIdeal.nD Cert.FaRefIdeal.τ Cert.FaRefIdeal.sig) → Buf (Elt Ideal) ℓ) (g : Dev Cert.FaRefIdeal.nD → PrngReg), Pre_FaRefIdeal_finite_fa m →
    θ_run (Cert.FaRefIdeal.defs (F := Ideal)) (onTc (τ := Cert.FaRefIdeal.τ) (Cert.FaRefIdeal.main (F := Ideal))) ⟨m, fun _ => 0, g⟩ (fun r => (∀ c : Dev Cert.FaRefIdeal.nD,
      r.2.mem ((c.tc : Thread Cert.FaRefIdeal.nD Cert.FaRefIdeal.τ).loc Cert.FaRefIdeal.main_arg0) = m ((c.tc : Thread Cert.FaRefIdeal.nD Cert.FaRefIdeal.τ).loc Cert.FaRefIdeal.main_arg0)
      ∧ r.2.mem ((c.tc : Thread Cert.FaRefIdeal.nD Cert.FaRefIdeal.τ).loc Cert.FaRefIdeal.main_arg1) = m ((c.tc : Thread Cert.FaRefIdeal.nD Cert.FaRefIdeal.τ).loc Cert.FaRefIdeal.main_arg1)
      ∧ r.2.mem ((c.tc : Thread Cert.FaRefIdeal.nD Cert.FaRefIdeal.τ).loc Cert.FaRefIdeal.main_arg2) = m ((c.tc : Thread Cert.FaRefIdeal.nD Cert.FaRefIdeal.τ).loc Cert.FaRefIdeal.main_arg2)
      ∧ r.2.mem ((c.tc : Thread Cert.FaRefIdeal.nD Cert.FaRefIdeal.τ).loc Cert.FaRefIdeal.main_arg3) = m ((c.tc : Thread Cert.FaRefIdeal.nD Cert.FaRefIdeal.τ).loc Cert.FaRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1)
      ∧ r.2.mem ((c.tc : Thread Cert.Hg.nD Cert.Hg.τ).loc Cert.Hg.main_arg2) = m ((c.tc : Thread Cert.Hg.nD Cert.Hg.τ).loc Cert.Hg.main_arg2)
      ∧ r.2.mem ((c.tc : Thread Cert.Hg.nD Cert.Hg.τ).loc Cert.Hg.main_arg3) = m ((c.tc : Thread Cert.Hg.nD Cert.Hg.τ).loc Cert.Hg.main_arg3))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
      ∧ r.2.mem ((c.tc : Thread Cert.HgIdeal.nD Cert.HgIdeal.τ).loc Cert.HgIdeal.main_arg2) = m ((c.tc : Thread Cert.HgIdeal.nD Cert.HgIdeal.τ).loc Cert.HgIdeal.main_arg2)
      ∧ r.2.mem ((c.tc : Thread Cert.HgIdeal.nD Cert.HgIdeal.τ).loc Cert.HgIdeal.main_arg3) = m ((c.tc : Thread Cert.HgIdeal.nD Cert.HgIdeal.τ).loc Cert.HgIdeal.main_arg3))
      ∧ r.2.sem = fun _ => 0)

def quiescent_HgIdeal_pre_finite_hg [hHgIdeal : Cert.HgIdeal.Facts] [hPre_finite_hg : Cert.Pre_finite_hg.Facts] : Prop :=
  ∀ (m : (ℓ : Loc Cert.HgIdeal.nD Cert.HgIdeal.τ Cert.HgIdeal.sig) → Buf (Elt Ideal) ℓ) (g : Dev Cert.HgIdeal.nD → PrngReg), Pre_HgIdeal_finite_hg m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
      ∧ r.2.mem ((c.tc : Thread Cert.HgIdeal.nD Cert.HgIdeal.τ).loc Cert.HgIdeal.main_arg2) = m ((c.tc : Thread Cert.HgIdeal.nD Cert.HgIdeal.τ).loc Cert.HgIdeal.main_arg2)
      ∧ r.2.mem ((c.tc : Thread Cert.HgIdeal.nD Cert.HgIdeal.τ).loc Cert.HgIdeal.main_arg3) = m ((c.tc : Thread Cert.HgIdeal.nD Cert.HgIdeal.τ).loc Cert.HgIdeal.main_arg3))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1)
      ∧ r.2.mem ((c.tc : Thread Cert.HgRefIdeal.nD Cert.HgRefIdeal.τ).loc Cert.HgRefIdeal.main_arg2) = m ((c.tc : Thread Cert.HgRefIdeal.nD Cert.HgRefIdeal.τ).loc Cert.HgRefIdeal.main_arg2)
      ∧ r.2.mem ((c.tc : Thread Cert.HgRefIdeal.nD Cert.HgRefIdeal.τ).loc Cert.HgRefIdeal.main_arg3) = m ((c.tc : Thread Cert.HgRefIdeal.nD Cert.HgRefIdeal.τ).loc Cert.HgRefIdeal.main_arg3))
      ∧ r.2.sem = fun _ => 0)

def quiescent_HgRefIdeal_pre_finite_hg [hHgRefIdeal : Cert.HgRefIdeal.Facts] [hPre_finite_hg : Cert.Pre_finite_hg.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal_finite_hg m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1)
      ∧ r.2.mem ((c.tc : Thread Cert.HgRefIdeal.nD Cert.HgRefIdeal.τ).loc Cert.HgRefIdeal.main_arg2) = m ((c.tc : Thread Cert.HgRefIdeal.nD Cert.HgRefIdeal.τ).loc Cert.HgRefIdeal.main_arg2)
      ∧ r.2.mem ((c.tc : Thread Cert.HgRefIdeal.nD Cert.HgRefIdeal.τ).loc Cert.HgRefIdeal.main_arg3) = m ((c.tc : Thread Cert.HgRefIdeal.nD Cert.HgRefIdeal.τ).loc Cert.HgRefIdeal.main_arg3))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdIdeal_pre_finite_upbwd [hUpBwdIdeal : Cert.UpBwdIdeal.Facts] [hPre_finite_upbwd : Cert.Pre_finite_upbwd.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal_finite_upbwd m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_UpBwdRefIdeal_pre_finite_upbwd [hUpBwdRefIdeal : Cert.UpBwdRefIdeal.Facts] [hPre_finite_upbwd : Cert.Pre_finite_upbwd.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal_finite_upbwd m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_finite_inbwd [hInBwdIdeal : Cert.InBwdIdeal.Facts] [hPre_finite_inbwd : Cert.Pre_finite_inbwd.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_inbwd m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_InBwdRefIdeal_pre_finite_inbwd [hInBwdRefIdeal : Cert.InBwdRefIdeal.Facts] [hPre_finite_inbwd : Cert.Pre_finite_inbwd.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite_inbwd m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_Fw [hFw : Cert.Fw.Facts] : Prop :=
  ∀ (m : (ℓ : Loc Cert.Fw.nD Cert.Fw.τ Cert.Fw.sig) → Buf (Elt Bits) ℓ) (g : Dev Cert.Fw.nD → PrngReg), Pre_Fw m →
    θ_run (Cert.Fw.defs (F := Bits)) (onTc (τ := Cert.Fw.τ) (Cert.Fw.main (F := Bits))) ⟨m, fun _ => 0, g⟩ (fun r => (∀ c : Dev Cert.Fw.nD,
      r.2.mem ((c.tc : Thread Cert.Fw.nD Cert.Fw.τ).loc Cert.Fw.main_arg0) = m ((c.tc : Thread Cert.Fw.nD Cert.Fw.τ).loc Cert.Fw.main_arg0)
      ∧ r.2.mem ((c.tc : Thread Cert.Fw.nD Cert.Fw.τ).loc Cert.Fw.main_arg1) = m ((c.tc : Thread Cert.Fw.nD Cert.Fw.τ).loc Cert.Fw.main_arg1)
      ∧ r.2.mem ((c.tc : Thread Cert.Fw.nD Cert.Fw.τ).loc Cert.Fw.main_arg2) = m ((c.tc : Thread Cert.Fw.nD Cert.Fw.τ).loc Cert.Fw.main_arg2))
      ∧ r.2.sem = fun _ => 0)

def quiescent_FwIdeal [hFwIdeal : Cert.FwIdeal.Facts] : Prop :=
  ∀ (m : (ℓ : Loc Cert.FwIdeal.nD Cert.FwIdeal.τ Cert.FwIdeal.sig) → Buf (Elt Ideal) ℓ) (g : Dev Cert.FwIdeal.nD → PrngReg), Pre_FwIdeal m →
    θ_run (Cert.FwIdeal.defs (F := Ideal)) (onTc (τ := Cert.FwIdeal.τ) (Cert.FwIdeal.main (F := Ideal))) ⟨m, fun _ => 0, g⟩ (fun r => (∀ c : Dev Cert.FwIdeal.nD,
      r.2.mem ((c.tc : Thread Cert.FwIdeal.nD Cert.FwIdeal.τ).loc Cert.FwIdeal.main_arg0) = m ((c.tc : Thread Cert.FwIdeal.nD Cert.FwIdeal.τ).loc Cert.FwIdeal.main_arg0)
      ∧ r.2.mem ((c.tc : Thread Cert.FwIdeal.nD Cert.FwIdeal.τ).loc Cert.FwIdeal.main_arg1) = m ((c.tc : Thread Cert.FwIdeal.nD Cert.FwIdeal.τ).loc Cert.FwIdeal.main_arg1)
      ∧ r.2.mem ((c.tc : Thread Cert.FwIdeal.nD Cert.FwIdeal.τ).loc Cert.FwIdeal.main_arg2) = m ((c.tc : Thread Cert.FwIdeal.nD Cert.FwIdeal.τ).loc Cert.FwIdeal.main_arg2))
      ∧ r.2.sem = fun _ => 0)

def quiescent_FwIdeal_pre_finite_fw [hFwIdeal : Cert.FwIdeal.Facts] [hPre_finite_fw : Cert.Pre_finite_fw.Facts] : Prop :=
  ∀ (m : (ℓ : Loc Cert.FwIdeal.nD Cert.FwIdeal.τ Cert.FwIdeal.sig) → Buf (Elt Ideal) ℓ) (g : Dev Cert.FwIdeal.nD → PrngReg), Pre_FwIdeal_finite_fw m →
    θ_run (Cert.FwIdeal.defs (F := Ideal)) (onTc (τ := Cert.FwIdeal.τ) (Cert.FwIdeal.main (F := Ideal))) ⟨m, fun _ => 0, g⟩ (fun r => (∀ c : Dev Cert.FwIdeal.nD,
      r.2.mem ((c.tc : Thread Cert.FwIdeal.nD Cert.FwIdeal.τ).loc Cert.FwIdeal.main_arg0) = m ((c.tc : Thread Cert.FwIdeal.nD Cert.FwIdeal.τ).loc Cert.FwIdeal.main_arg0)
      ∧ r.2.mem ((c.tc : Thread Cert.FwIdeal.nD Cert.FwIdeal.τ).loc Cert.FwIdeal.main_arg1) = m ((c.tc : Thread Cert.FwIdeal.nD Cert.FwIdeal.τ).loc Cert.FwIdeal.main_arg1)
      ∧ r.2.mem ((c.tc : Thread Cert.FwIdeal.nD Cert.FwIdeal.τ).loc Cert.FwIdeal.main_arg2) = m ((c.tc : Thread Cert.FwIdeal.nD Cert.FwIdeal.τ).loc Cert.FwIdeal.main_arg2))
      ∧ r.2.sem = fun _ => 0)

def quiescent_FwRefIdeal [hFwRefIdeal : Cert.FwRefIdeal.Facts] : Prop :=
  ∀ (m : (ℓ : Loc Cert.FwRefIdeal.nD Cert.FwRefIdeal.τ Cert.FwRefIdeal.sig) → Buf (Elt Ideal) ℓ) (g : Dev Cert.FwRefIdeal.nD → PrngReg), Pre_FwRefIdeal m →
    θ_run (Cert.FwRefIdeal.defs (F := Ideal)) (onTc (τ := Cert.FwRefIdeal.τ) (Cert.FwRefIdeal.main (F := Ideal))) ⟨m, fun _ => 0, g⟩ (fun r => (∀ c : Dev Cert.FwRefIdeal.nD,
      r.2.mem ((c.tc : Thread Cert.FwRefIdeal.nD Cert.FwRefIdeal.τ).loc Cert.FwRefIdeal.main_arg0) = m ((c.tc : Thread Cert.FwRefIdeal.nD Cert.FwRefIdeal.τ).loc Cert.FwRefIdeal.main_arg0)
      ∧ r.2.mem ((c.tc : Thread Cert.FwRefIdeal.nD Cert.FwRefIdeal.τ).loc Cert.FwRefIdeal.main_arg1) = m ((c.tc : Thread Cert.FwRefIdeal.nD Cert.FwRefIdeal.τ).loc Cert.FwRefIdeal.main_arg1)
      ∧ r.2.mem ((c.tc : Thread Cert.FwRefIdeal.nD Cert.FwRefIdeal.τ).loc Cert.FwRefIdeal.main_arg2) = m ((c.tc : Thread Cert.FwRefIdeal.nD Cert.FwRefIdeal.τ).loc Cert.FwRefIdeal.main_arg2))
      ∧ r.2.sem = fun _ => 0)

def quiescent_FwRefIdeal_pre_finite_fw [hFwRefIdeal : Cert.FwRefIdeal.Facts] [hPre_finite_fw : Cert.Pre_finite_fw.Facts] : Prop :=
  ∀ (m : (ℓ : Loc Cert.FwRefIdeal.nD Cert.FwRefIdeal.τ Cert.FwRefIdeal.sig) → Buf (Elt Ideal) ℓ) (g : Dev Cert.FwRefIdeal.nD → PrngReg), Pre_FwRefIdeal_finite_fw m →
    θ_run (Cert.FwRefIdeal.defs (F := Ideal)) (onTc (τ := Cert.FwRefIdeal.τ) (Cert.FwRefIdeal.main (F := Ideal))) ⟨m, fun _ => 0, g⟩ (fun r => (∀ c : Dev Cert.FwRefIdeal.nD,
      r.2.mem ((c.tc : Thread Cert.FwRefIdeal.nD Cert.FwRefIdeal.τ).loc Cert.FwRefIdeal.main_arg0) = m ((c.tc : Thread Cert.FwRefIdeal.nD Cert.FwRefIdeal.τ).loc Cert.FwRefIdeal.main_arg0)
      ∧ r.2.mem ((c.tc : Thread Cert.FwRefIdeal.nD Cert.FwRefIdeal.τ).loc Cert.FwRefIdeal.main_arg1) = m ((c.tc : Thread Cert.FwRefIdeal.nD Cert.FwRefIdeal.τ).loc Cert.FwRefIdeal.main_arg1)
      ∧ r.2.mem ((c.tc : Thread Cert.FwRefIdeal.nD Cert.FwRefIdeal.τ).loc Cert.FwRefIdeal.main_arg2) = m ((c.tc : Thread Cert.FwRefIdeal.nD Cert.FwRefIdeal.τ).loc Cert.FwRefIdeal.main_arg2))
      ∧ r.2.sem = fun _ => 0)

def quiescent_GlaF [hGlaF : Cert.GlaF.Facts] : Prop :=
  ∀ (m : (ℓ : Loc Cert.GlaF.nD Cert.GlaF.τ Cert.GlaF.sig) → Buf (Elt Bits) ℓ) (g : Dev Cert.GlaF.nD → PrngReg), Pre_GlaF m →
    θ_run (Cert.GlaF.defs (F := Bits)) (onTc (τ := Cert.GlaF.τ) (Cert.GlaF.main (F := Bits))) ⟨m, fun _ => 0, g⟩ (fun r => (∀ c : Dev Cert.GlaF.nD,
      r.2.mem ((c.tc : Thread Cert.GlaF.nD Cert.GlaF.τ).loc Cert.GlaF.main_arg0) = m ((c.tc : Thread Cert.GlaF.nD Cert.GlaF.τ).loc Cert.GlaF.main_arg0)
      ∧ r.2.mem ((c.tc : Thread Cert.GlaF.nD Cert.GlaF.τ).loc Cert.GlaF.main_arg1) = m ((c.tc : Thread Cert.GlaF.nD Cert.GlaF.τ).loc Cert.GlaF.main_arg1)
      ∧ r.2.mem ((c.tc : Thread Cert.GlaF.nD Cert.GlaF.τ).loc Cert.GlaF.main_arg2) = m ((c.tc : Thread Cert.GlaF.nD Cert.GlaF.τ).loc Cert.GlaF.main_arg2)
      ∧ r.2.mem ((c.tc : Thread Cert.GlaF.nD Cert.GlaF.τ).loc Cert.GlaF.main_arg3) = m ((c.tc : Thread Cert.GlaF.nD Cert.GlaF.τ).loc Cert.GlaF.main_arg3))
      ∧ r.2.sem = fun _ => 0)

def quiescent_GlaFIdeal [hGlaFIdeal : Cert.GlaFIdeal.Facts] : Prop :=
  ∀ (m : (ℓ : Loc Cert.GlaFIdeal.nD Cert.GlaFIdeal.τ Cert.GlaFIdeal.sig) → Buf (Elt Ideal) ℓ) (g : Dev Cert.GlaFIdeal.nD → PrngReg), Pre_GlaFIdeal m →
    θ_run (Cert.GlaFIdeal.defs (F := Ideal)) (onTc (τ := Cert.GlaFIdeal.τ) (Cert.GlaFIdeal.main (F := Ideal))) ⟨m, fun _ => 0, g⟩ (fun r => (∀ c : Dev Cert.GlaFIdeal.nD,
      r.2.mem ((c.tc : Thread Cert.GlaFIdeal.nD Cert.GlaFIdeal.τ).loc Cert.GlaFIdeal.main_arg0) = m ((c.tc : Thread Cert.GlaFIdeal.nD Cert.GlaFIdeal.τ).loc Cert.GlaFIdeal.main_arg0)
      ∧ r.2.mem ((c.tc : Thread Cert.GlaFIdeal.nD Cert.GlaFIdeal.τ).loc Cert.GlaFIdeal.main_arg1) = m ((c.tc : Thread Cert.GlaFIdeal.nD Cert.GlaFIdeal.τ).loc Cert.GlaFIdeal.main_arg1)
      ∧ r.2.mem ((c.tc : Thread Cert.GlaFIdeal.nD Cert.GlaFIdeal.τ).loc Cert.GlaFIdeal.main_arg2) = m ((c.tc : Thread Cert.GlaFIdeal.nD Cert.GlaFIdeal.τ).loc Cert.GlaFIdeal.main_arg2)
      ∧ r.2.mem ((c.tc : Thread Cert.GlaFIdeal.nD Cert.GlaFIdeal.τ).loc Cert.GlaFIdeal.main_arg3) = m ((c.tc : Thread Cert.GlaFIdeal.nD Cert.GlaFIdeal.τ).loc Cert.GlaFIdeal.main_arg3))
      ∧ r.2.sem = fun _ => 0)

def quiescent_GlaB [hGlaB : Cert.GlaB.Facts] : Prop :=
  ∀ (m : (ℓ : Loc Cert.GlaB.nD Cert.GlaB.τ Cert.GlaB.sig) → Buf (Elt Bits) ℓ) (g : Dev Cert.GlaB.nD → PrngReg), Pre_GlaB m →
    θ_run (Cert.GlaB.defs (F := Bits)) (onTc (τ := Cert.GlaB.τ) (Cert.GlaB.main (F := Bits))) ⟨m, fun _ => 0, g⟩ (fun r => (∀ c : Dev Cert.GlaB.nD,
      r.2.mem ((c.tc : Thread Cert.GlaB.nD Cert.GlaB.τ).loc Cert.GlaB.main_arg0) = m ((c.tc : Thread Cert.GlaB.nD Cert.GlaB.τ).loc Cert.GlaB.main_arg0)
      ∧ r.2.mem ((c.tc : Thread Cert.GlaB.nD Cert.GlaB.τ).loc Cert.GlaB.main_arg1) = m ((c.tc : Thread Cert.GlaB.nD Cert.GlaB.τ).loc Cert.GlaB.main_arg1)
      ∧ r.2.mem ((c.tc : Thread Cert.GlaB.nD Cert.GlaB.τ).loc Cert.GlaB.main_arg2) = m ((c.tc : Thread Cert.GlaB.nD Cert.GlaB.τ).loc Cert.GlaB.main_arg2)
      ∧ r.2.mem ((c.tc : Thread Cert.GlaB.nD Cert.GlaB.τ).loc Cert.GlaB.main_arg3) = m ((c.tc : Thread Cert.GlaB.nD Cert.GlaB.τ).loc Cert.GlaB.main_arg3)
      ∧ r.2.mem ((c.tc : Thread Cert.GlaB.nD Cert.GlaB.τ).loc Cert.GlaB.main_arg4) = m ((c.tc : Thread Cert.GlaB.nD Cert.GlaB.τ).loc Cert.GlaB.main_arg4)
      ∧ r.2.mem ((c.tc : Thread Cert.GlaB.nD Cert.GlaB.τ).loc Cert.GlaB.main_arg5) = m ((c.tc : Thread Cert.GlaB.nD Cert.GlaB.τ).loc Cert.GlaB.main_arg5)
      ∧ r.2.mem ((c.tc : Thread Cert.GlaB.nD Cert.GlaB.τ).loc Cert.GlaB.main_arg6) = m ((c.tc : Thread Cert.GlaB.nD Cert.GlaB.τ).loc Cert.GlaB.main_arg6)
      ∧ r.2.mem ((c.tc : Thread Cert.GlaB.nD Cert.GlaB.τ).loc Cert.GlaB.main_arg7) = m ((c.tc : Thread Cert.GlaB.nD Cert.GlaB.τ).loc Cert.GlaB.main_arg7))
      ∧ r.2.sem = fun _ => 0)

def quiescent_GlaBIdeal [hGlaBIdeal : Cert.GlaBIdeal.Facts] : Prop :=
  ∀ (m : (ℓ : Loc Cert.GlaBIdeal.nD Cert.GlaBIdeal.τ Cert.GlaBIdeal.sig) → Buf (Elt Ideal) ℓ) (g : Dev Cert.GlaBIdeal.nD → PrngReg), Pre_GlaBIdeal m →
    θ_run (Cert.GlaBIdeal.defs (F := Ideal)) (onTc (τ := Cert.GlaBIdeal.τ) (Cert.GlaBIdeal.main (F := Ideal))) ⟨m, fun _ => 0, g⟩ (fun r => (∀ c : Dev Cert.GlaBIdeal.nD,
      r.2.mem ((c.tc : Thread Cert.GlaBIdeal.nD Cert.GlaBIdeal.τ).loc Cert.GlaBIdeal.main_arg0) = m ((c.tc : Thread Cert.GlaBIdeal.nD Cert.GlaBIdeal.τ).loc Cert.GlaBIdeal.main_arg0)
      ∧ r.2.mem ((c.tc : Thread Cert.GlaBIdeal.nD Cert.GlaBIdeal.τ).loc Cert.GlaBIdeal.main_arg1) = m ((c.tc : Thread Cert.GlaBIdeal.nD Cert.GlaBIdeal.τ).loc Cert.GlaBIdeal.main_arg1)
      ∧ r.2.mem ((c.tc : Thread Cert.GlaBIdeal.nD Cert.GlaBIdeal.τ).loc Cert.GlaBIdeal.main_arg2) = m ((c.tc : Thread Cert.GlaBIdeal.nD Cert.GlaBIdeal.τ).loc Cert.GlaBIdeal.main_arg2)
      ∧ r.2.mem ((c.tc : Thread Cert.GlaBIdeal.nD Cert.GlaBIdeal.τ).loc Cert.GlaBIdeal.main_arg3) = m ((c.tc : Thread Cert.GlaBIdeal.nD Cert.GlaBIdeal.τ).loc Cert.GlaBIdeal.main_arg3)
      ∧ r.2.mem ((c.tc : Thread Cert.GlaBIdeal.nD Cert.GlaBIdeal.τ).loc Cert.GlaBIdeal.main_arg4) = m ((c.tc : Thread Cert.GlaBIdeal.nD Cert.GlaBIdeal.τ).loc Cert.GlaBIdeal.main_arg4)
      ∧ r.2.mem ((c.tc : Thread Cert.GlaBIdeal.nD Cert.GlaBIdeal.τ).loc Cert.GlaBIdeal.main_arg5) = m ((c.tc : Thread Cert.GlaBIdeal.nD Cert.GlaBIdeal.τ).loc Cert.GlaBIdeal.main_arg5)
      ∧ r.2.mem ((c.tc : Thread Cert.GlaBIdeal.nD Cert.GlaBIdeal.τ).loc Cert.GlaBIdeal.main_arg6) = m ((c.tc : Thread Cert.GlaBIdeal.nD Cert.GlaBIdeal.τ).loc Cert.GlaBIdeal.main_arg6)
      ∧ r.2.mem ((c.tc : Thread Cert.GlaBIdeal.nD Cert.GlaBIdeal.τ).loc Cert.GlaBIdeal.main_arg7) = m ((c.tc : Thread Cert.GlaBIdeal.nD Cert.GlaBIdeal.τ).loc Cert.GlaBIdeal.main_arg7))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2))
      ∧ r.2.sem = fun _ => 0)

def quiescent_PostF [hPostF : Cert.PostF.Facts] : Prop :=
  ∀ (m : (ℓ : Loc Cert.PostF.nD Cert.PostF.τ Cert.PostF.sig) → Buf (Elt Bits) ℓ) (g : Dev Cert.PostF.nD → PrngReg), Pre_PostF m →
    θ_run (Cert.PostF.defs (F := Bits)) (onTc (τ := Cert.PostF.τ) (Cert.PostF.main (F := Bits))) ⟨m, fun _ => 0, g⟩ (fun r => (∀ c : Dev Cert.PostF.nD,
      r.2.mem ((c.tc : Thread Cert.PostF.nD Cert.PostF.τ).loc Cert.PostF.main_arg0) = m ((c.tc : Thread Cert.PostF.nD Cert.PostF.τ).loc Cert.PostF.main_arg0)
      ∧ r.2.mem ((c.tc : Thread Cert.PostF.nD Cert.PostF.τ).loc Cert.PostF.main_arg1) = m ((c.tc : Thread Cert.PostF.nD Cert.PostF.τ).loc Cert.PostF.main_arg1))
      ∧ r.2.sem = fun _ => 0)

def quiescent_PostFIdeal [hPostFIdeal : Cert.PostFIdeal.Facts] : Prop :=
  ∀ (m : (ℓ : Loc Cert.PostFIdeal.nD Cert.PostFIdeal.τ Cert.PostFIdeal.sig) → Buf (Elt Ideal) ℓ) (g : Dev Cert.PostFIdeal.nD → PrngReg), Pre_PostFIdeal m →
    θ_run (Cert.PostFIdeal.defs (F := Ideal)) (onTc (τ := Cert.PostFIdeal.τ) (Cert.PostFIdeal.main (F := Ideal))) ⟨m, fun _ => 0, g⟩ (fun r => (∀ c : Dev Cert.PostFIdeal.nD,
      r.2.mem ((c.tc : Thread Cert.PostFIdeal.nD Cert.PostFIdeal.τ).loc Cert.PostFIdeal.main_arg0) = m ((c.tc : Thread Cert.PostFIdeal.nD Cert.PostFIdeal.τ).loc Cert.PostFIdeal.main_arg0)
      ∧ r.2.mem ((c.tc : Thread Cert.PostFIdeal.nD Cert.PostFIdeal.τ).loc Cert.PostFIdeal.main_arg1) = m ((c.tc : Thread Cert.PostFIdeal.nD Cert.PostFIdeal.τ).loc Cert.PostFIdeal.main_arg1))
      ∧ r.2.sem = fun _ => 0)

def quiescent_PostFRefIdeal [hPostFRefIdeal : Cert.PostFRefIdeal.Facts] : Prop :=
  ∀ (m : (ℓ : Loc Cert.PostFRefIdeal.nD Cert.PostFRefIdeal.τ Cert.PostFRefIdeal.sig) → Buf (Elt Ideal) ℓ) (g : Dev Cert.PostFRefIdeal.nD → PrngReg), Pre_PostFRefIdeal m →
    θ_run (Cert.PostFRefIdeal.defs (F := Ideal)) (onTc (τ := Cert.PostFRefIdeal.τ) (Cert.PostFRefIdeal.main (F := Ideal))) ⟨m, fun _ => 0, g⟩ (fun r => (∀ c : Dev Cert.PostFRefIdeal.nD,
      r.2.mem ((c.tc : Thread Cert.PostFRefIdeal.nD Cert.PostFRefIdeal.τ).loc Cert.PostFRefIdeal.main_arg0) = m ((c.tc : Thread Cert.PostFRefIdeal.nD Cert.PostFRefIdeal.τ).loc Cert.PostFRefIdeal.main_arg0)
      ∧ r.2.mem ((c.tc : Thread Cert.PostFRefIdeal.nD Cert.PostFRefIdeal.τ).loc Cert.PostFRefIdeal.main_arg1) = m ((c.tc : Thread Cert.PostFRefIdeal.nD Cert.PostFRefIdeal.τ).loc Cert.PostFRefIdeal.main_arg1))
      ∧ r.2.sem = fun _ => 0)

def quiescent_GlaFF [hGlaFF : Cert.GlaFF.Facts] : Prop :=
  ∀ (m : (ℓ : Loc Cert.GlaFF.nD Cert.GlaFF.τ Cert.GlaFF.sig) → Buf (Elt Bits) ℓ) (g : Dev Cert.GlaFF.nD → PrngReg), Pre_GlaFF m →
    θ_run (Cert.GlaFF.defs (F := Bits)) (onTc (τ := Cert.GlaFF.τ) (Cert.GlaFF.main (F := Bits))) ⟨m, fun _ => 0, g⟩ (fun r => (∀ c : Dev Cert.GlaFF.nD,
      r.2.mem ((c.tc : Thread Cert.GlaFF.nD Cert.GlaFF.τ).loc Cert.GlaFF.main_arg0) = m ((c.tc : Thread Cert.GlaFF.nD Cert.GlaFF.τ).loc Cert.GlaFF.main_arg0)
      ∧ r.2.mem ((c.tc : Thread Cert.GlaFF.nD Cert.GlaFF.τ).loc Cert.GlaFF.main_arg1) = m ((c.tc : Thread Cert.GlaFF.nD Cert.GlaFF.τ).loc Cert.GlaFF.main_arg1))
      ∧ r.2.sem = fun _ => 0)

def quiescent_GlaFFIdeal [hGlaFFIdeal : Cert.GlaFFIdeal.Facts] : Prop :=
  ∀ (m : (ℓ : Loc Cert.GlaFFIdeal.nD Cert.GlaFFIdeal.τ Cert.GlaFFIdeal.sig) → Buf (Elt Ideal) ℓ) (g : Dev Cert.GlaFFIdeal.nD → PrngReg), Pre_GlaFFIdeal m →
    θ_run (Cert.GlaFFIdeal.defs (F := Ideal)) (onTc (τ := Cert.GlaFFIdeal.τ) (Cert.GlaFFIdeal.main (F := Ideal))) ⟨m, fun _ => 0, g⟩ (fun r => (∀ c : Dev Cert.GlaFFIdeal.nD,
      r.2.mem ((c.tc : Thread Cert.GlaFFIdeal.nD Cert.GlaFFIdeal.τ).loc Cert.GlaFFIdeal.main_arg0) = m ((c.tc : Thread Cert.GlaFFIdeal.nD Cert.GlaFFIdeal.τ).loc Cert.GlaFFIdeal.main_arg0)
      ∧ r.2.mem ((c.tc : Thread Cert.GlaFFIdeal.nD Cert.GlaFFIdeal.τ).loc Cert.GlaFFIdeal.main_arg1) = m ((c.tc : Thread Cert.GlaFFIdeal.nD Cert.GlaFFIdeal.τ).loc Cert.GlaFFIdeal.main_arg1))
      ∧ r.2.sem = fun _ => 0)

def quiescent_GlaFB [hGlaFB : Cert.GlaFB.Facts] : Prop :=
  ∀ (m : (ℓ : Loc Cert.GlaFB.nD Cert.GlaFB.τ Cert.GlaFB.sig) → Buf (Elt Bits) ℓ) (g : Dev Cert.GlaFB.nD → PrngReg), Pre_GlaFB m →
    θ_run (Cert.GlaFB.defs (F := Bits)) (onTc (τ := Cert.GlaFB.τ) (Cert.GlaFB.main (F := Bits))) ⟨m, fun _ => 0, g⟩ (fun r => (∀ c : Dev Cert.GlaFB.nD,
      r.2.mem ((c.tc : Thread Cert.GlaFB.nD Cert.GlaFB.τ).loc Cert.GlaFB.main_arg0) = m ((c.tc : Thread Cert.GlaFB.nD Cert.GlaFB.τ).loc Cert.GlaFB.main_arg0)
      ∧ r.2.mem ((c.tc : Thread Cert.GlaFB.nD Cert.GlaFB.τ).loc Cert.GlaFB.main_arg1) = m ((c.tc : Thread Cert.GlaFB.nD Cert.GlaFB.τ).loc Cert.GlaFB.main_arg1)
      ∧ r.2.mem ((c.tc : Thread Cert.GlaFB.nD Cert.GlaFB.τ).loc Cert.GlaFB.main_arg2) = m ((c.tc : Thread Cert.GlaFB.nD Cert.GlaFB.τ).loc Cert.GlaFB.main_arg2)
      ∧ r.2.mem ((c.tc : Thread Cert.GlaFB.nD Cert.GlaFB.τ).loc Cert.GlaFB.main_arg3) = m ((c.tc : Thread Cert.GlaFB.nD Cert.GlaFB.τ).loc Cert.GlaFB.main_arg3))
      ∧ r.2.sem = fun _ => 0)

def quiescent_GlaFBIdeal [hGlaFBIdeal : Cert.GlaFBIdeal.Facts] : Prop :=
  ∀ (m : (ℓ : Loc Cert.GlaFBIdeal.nD Cert.GlaFBIdeal.τ Cert.GlaFBIdeal.sig) → Buf (Elt Ideal) ℓ) (g : Dev Cert.GlaFBIdeal.nD → PrngReg), Pre_GlaFBIdeal m →
    θ_run (Cert.GlaFBIdeal.defs (F := Ideal)) (onTc (τ := Cert.GlaFBIdeal.τ) (Cert.GlaFBIdeal.main (F := Ideal))) ⟨m, fun _ => 0, g⟩ (fun r => (∀ c : Dev Cert.GlaFBIdeal.nD,
      r.2.mem ((c.tc : Thread Cert.GlaFBIdeal.nD Cert.GlaFBIdeal.τ).loc Cert.GlaFBIdeal.main_arg0) = m ((c.tc : Thread Cert.GlaFBIdeal.nD Cert.GlaFBIdeal.τ).loc Cert.GlaFBIdeal.main_arg0)
      ∧ r.2.mem ((c.tc : Thread Cert.GlaFBIdeal.nD Cert.GlaFBIdeal.τ).loc Cert.GlaFBIdeal.main_arg1) = m ((c.tc : Thread Cert.GlaFBIdeal.nD Cert.GlaFBIdeal.τ).loc Cert.GlaFBIdeal.main_arg1)
      ∧ r.2.mem ((c.tc : Thread Cert.GlaFBIdeal.nD Cert.GlaFBIdeal.τ).loc Cert.GlaFBIdeal.main_arg2) = m ((c.tc : Thread Cert.GlaFBIdeal.nD Cert.GlaFBIdeal.τ).loc Cert.GlaFBIdeal.main_arg2)
      ∧ r.2.mem ((c.tc : Thread Cert.GlaFBIdeal.nD Cert.GlaFBIdeal.τ).loc Cert.GlaFBIdeal.main_arg3) = m ((c.tc : Thread Cert.GlaFBIdeal.nD Cert.GlaFBIdeal.τ).loc Cert.GlaFBIdeal.main_arg3))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3)
      ∧ r.2.mem ((c.tc : Thread Cert.OutF.nD Cert.OutF.τ).loc Cert.OutF.main_arg4) = m ((c.tc : Thread Cert.OutF.nD Cert.OutF.τ).loc Cert.OutF.main_arg4))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
      ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3)
      ∧ r.2.mem ((c.tc : Thread Cert.OutFRefIdeal.nD Cert.OutFRefIdeal.τ).loc Cert.OutFRefIdeal.main_arg4) = m ((c.tc : Thread Cert.OutFRefIdeal.nD Cert.OutFRefIdeal.τ).loc Cert.OutFRefIdeal.main_arg4))
      ∧ r.2.sem = fun _ => 0)

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v11) = v0 c
          ∧ r.2.mem ((c.tc : Thread Cert.ActRefIdeal.nD Cert.ActRefIdeal.τ).loc Cert.ActRefIdeal.main_v12) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Fa_FaIdeal : Prop :=
  True

def algebraic_FaIdeal_FaRefIdeal_pre_finite_fa [hFaIdeal : Cert.FaIdeal.Facts] [hFaRefIdeal : Cert.FaRefIdeal.Facts] [hPre_finite_fa : Cert.Pre_finite_fa.Facts] : Prop :=
  ∀ (m : (ℓ : Loc Cert.FaIdeal.nD Cert.FaIdeal.τ Cert.FaIdeal.sig) → Buf (Elt Ideal) ℓ) (g : Dev Cert.FaIdeal.nD → PrngReg)
    (m' : (ℓ : Loc Cert.FaRefIdeal.nD Cert.FaRefIdeal.τ Cert.FaRefIdeal.sig) → Buf (Elt Ideal) ℓ) (g' : Dev Cert.FaRefIdeal.nD → PrngReg), Pre_FaIdeal_finite_fa m →
    (∀ c : Dev Cert.FaIdeal.nD,
      m' ((c.tc : Thread Cert.FaRefIdeal.nD Cert.FaRefIdeal.τ).loc Cert.FaRefIdeal.main_arg0) = m ((c.tc : Thread Cert.FaIdeal.nD Cert.FaIdeal.τ).loc Cert.FaIdeal.main_arg0)
      ∧ m' ((c.tc : Thread Cert.FaRefIdeal.nD Cert.FaRefIdeal.τ).loc Cert.FaRefIdeal.main_arg1) = m ((c.tc : Thread Cert.FaIdeal.nD Cert.FaIdeal.τ).loc Cert.FaIdeal.main_arg1)
      ∧ m' ((c.tc : Thread Cert.FaRefIdeal.nD Cert.FaRefIdeal.τ).loc Cert.FaRefIdeal.main_arg2) = m ((c.tc : Thread Cert.FaIdeal.nD Cert.FaIdeal.τ).loc Cert.FaIdeal.main_arg2)
      ∧ m' ((c.tc : Thread Cert.FaRefIdeal.nD Cert.FaRefIdeal.τ).loc Cert.FaRefIdeal.main_arg3) = m ((c.tc : Thread Cert.FaIdeal.nD Cert.FaIdeal.τ).loc Cert.FaIdeal.main_arg3)) →
    ∃ (v0 : (c : Dev Cert.FaIdeal.nD) → Buf (Elt Ideal) ((c.tc : Thread Cert.FaIdeal.nD Cert.FaIdeal.τ).loc Cert.FaIdeal.main_v46_0)) (v1 : (c : Dev Cert.FaIdeal.nD) → Buf (Elt Ideal) ((c.tc : Thread Cert.FaIdeal.nD Cert.FaIdeal.τ).loc Cert.FaIdeal.main_v46_1)) (v2 : (c : Dev Cert.FaIdeal.nD) → Buf (Elt Ideal) ((c.tc : Thread Cert.FaIdeal.nD Cert.FaIdeal.τ).loc Cert.FaIdeal.main_v46_2)),
      θ_run (Cert.FaIdeal.defs (F := Ideal)) (onTc (τ := Cert.FaIdeal.τ) (Cert.FaIdeal.main (F := Ideal))) ⟨m, fun _ => 0, g⟩ (fun r => ∀ c : Dev Cert.FaIdeal.nD,
          r.2.mem ((c.tc : Thread Cert.FaIdeal.nD Cert.FaIdeal.τ).loc Cert.FaIdeal.main_v46_0) = v0 c
          ∧ r.2.mem ((c.tc : Thread Cert.FaIdeal.nD Cert.FaIdeal.τ).loc Cert.FaIdeal.main_v46_1) = v1 c
          ∧ r.2.mem ((c.tc : Thread Cert.FaIdeal.nD Cert.FaIdeal.τ).loc Cert.FaIdeal.main_v46_2) = v2 c
          ∧ r.2.mem ((c.tc : Thread Cert.FaIdeal.nD Cert.FaIdeal.τ).loc Cert.FaIdeal.main_arg0) = m ((c.tc : Thread Cert.FaIdeal.nD Cert.FaIdeal.τ).loc Cert.FaIdeal.main_arg0)
          ∧ r.2.mem ((c.tc : Thread Cert.FaIdeal.nD Cert.FaIdeal.τ).loc Cert.FaIdeal.main_arg1) = m ((c.tc : Thread Cert.FaIdeal.nD Cert.FaIdeal.τ).loc Cert.FaIdeal.main_arg1)
          ∧ r.2.mem ((c.tc : Thread Cert.FaIdeal.nD Cert.FaIdeal.τ).loc Cert.FaIdeal.main_arg2) = m ((c.tc : Thread Cert.FaIdeal.nD Cert.FaIdeal.τ).loc Cert.FaIdeal.main_arg2)
          ∧ r.2.mem ((c.tc : Thread Cert.FaIdeal.nD Cert.FaIdeal.τ).loc Cert.FaIdeal.main_arg3) = m ((c.tc : Thread Cert.FaIdeal.nD Cert.FaIdeal.τ).loc Cert.FaIdeal.main_arg3))
      ∧ θ_run (Cert.FaRefIdeal.defs (F := Ideal)) (onTc (τ := Cert.FaRefIdeal.τ) (Cert.FaRefIdeal.main (F := Ideal))) ⟨m', fun _ => 0, g'⟩ (fun r => ∀ c : Dev Cert.FaRefIdeal.nD,
          r.2.mem ((c.tc : Thread Cert.FaRefIdeal.nD Cert.FaRefIdeal.τ).loc Cert.FaRefIdeal.main_v55) = v0 c
          ∧ r.2.mem ((c.tc : Thread Cert.FaRefIdeal.nD Cert.FaRefIdeal.τ).loc Cert.FaRefIdeal.main_v61) = v1 c
          ∧ r.2.mem ((c.tc : Thread Cert.FaRefIdeal.nD Cert.FaRefIdeal.τ).loc Cert.FaRefIdeal.main_v63) = v2 c
          ∧ r.2.mem ((c.tc : Thread Cert.FaRefIdeal.nD Cert.FaRefIdeal.τ).loc Cert.FaRefIdeal.main_arg0) = m' ((c.tc : Thread Cert.FaRefIdeal.nD Cert.FaRefIdeal.τ).loc Cert.FaRefIdeal.main_arg0)
          ∧ r.2.mem ((c.tc : Thread Cert.FaRefIdeal.nD Cert.FaRefIdeal.τ).loc Cert.FaRefIdeal.main_arg1) = m' ((c.tc : Thread Cert.FaRefIdeal.nD Cert.FaRefIdeal.τ).loc Cert.FaRefIdeal.main_arg1)
          ∧ r.2.mem ((c.tc : Thread Cert.FaRefIdeal.nD Cert.FaRefIdeal.τ).loc Cert.FaRefIdeal.main_arg2) = m' ((c.tc : Thread Cert.FaRefIdeal.nD Cert.FaRefIdeal.τ).loc Cert.FaRefIdeal.main_arg2)
          ∧ r.2.mem ((c.tc : Thread Cert.FaRefIdeal.nD Cert.FaRefIdeal.τ).loc Cert.FaRefIdeal.main_arg3) = m' ((c.tc : Thread Cert.FaRefIdeal.nD Cert.FaRefIdeal.τ).loc Cert.FaRefIdeal.main_arg3))

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v38) = v0 c
          ∧ r.2.mem ((c.tc : Thread Cert.PostRefIdeal.nD Cert.PostRefIdeal.τ).loc Cert.PostRefIdeal.main_v44) = v1 c
          ∧ r.2.mem ((c.tc : Thread Cert.PostRefIdeal.nD Cert.PostRefIdeal.τ).loc Cert.PostRefIdeal.main_v18) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_Hg_HgIdeal : Prop :=
  True

def algebraic_HgIdeal_HgRefIdeal_pre_finite_hg [hHgIdeal : Cert.HgIdeal.Facts] [hHgRefIdeal : Cert.HgRefIdeal.Facts] [hPre_finite_hg : Cert.Pre_finite_hg.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal_finite_hg m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)
      ∧ m' ((c.tc : Thread Cert.HgRefIdeal.nD Cert.HgRefIdeal.τ).loc Cert.HgRefIdeal.main_arg2) = m ((c.tc : Thread Cert.HgIdeal.nD Cert.HgIdeal.τ).loc Cert.HgIdeal.main_arg2)
      ∧ m' ((c.tc : Thread Cert.HgRefIdeal.nD Cert.HgRefIdeal.τ).loc Cert.HgRefIdeal.main_arg3) = m ((c.tc : Thread Cert.HgIdeal.nD Cert.HgIdeal.τ).loc Cert.HgIdeal.main_arg3)) →
    ∃ (v0 : (c : Dev Cert.HgIdeal.nD) → Buf (Elt Ideal) ((c.tc : Thread Cert.HgIdeal.nD Cert.HgIdeal.τ).loc Cert.HgIdeal.main_v0_0)) (v1 : (c : Dev Cert.HgIdeal.nD) → Buf (Elt Ideal) ((c.tc : Thread Cert.HgIdeal.nD Cert.HgIdeal.τ).loc Cert.HgIdeal.main_v0_1)) (v2 : (c : Dev Cert.HgIdeal.nD) → Buf (Elt Ideal) ((c.tc : Thread Cert.HgIdeal.nD Cert.HgIdeal.τ).loc Cert.HgIdeal.main_v0_2)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v0_0) = v0 c
          ∧ r.2.mem ((c.tc : Thread Cert.HgIdeal.nD Cert.HgIdeal.τ).loc Cert.HgIdeal.main_v0_1) = v1 c
          ∧ r.2.mem ((c.tc : Thread Cert.HgIdeal.nD Cert.HgIdeal.τ).loc Cert.HgIdeal.main_v0_2) = v2 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
          ∧ r.2.mem ((c.tc : Thread Cert.HgIdeal.nD Cert.HgIdeal.τ).loc Cert.HgIdeal.main_arg2) = m ((c.tc : Thread Cert.HgIdeal.nD Cert.HgIdeal.τ).loc Cert.HgIdeal.main_arg2)
          ∧ r.2.mem ((c.tc : Thread Cert.HgIdeal.nD Cert.HgIdeal.τ).loc Cert.HgIdeal.main_arg3) = m ((c.tc : Thread Cert.HgIdeal.nD Cert.HgIdeal.τ).loc Cert.HgIdeal.main_arg3))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v52) = v0 c
          ∧ r.2.mem ((c.tc : Thread Cert.HgRefIdeal.nD Cert.HgRefIdeal.τ).loc Cert.HgRefIdeal.main_v53) = v1 c
          ∧ r.2.mem ((c.tc : Thread Cert.HgRefIdeal.nD Cert.HgRefIdeal.τ).loc Cert.HgRefIdeal.main_v54) = v2 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1)
          ∧ r.2.mem ((c.tc : Thread Cert.HgRefIdeal.nD Cert.HgRefIdeal.τ).loc Cert.HgRefIdeal.main_arg2) = m' ((c.tc : Thread Cert.HgRefIdeal.nD Cert.HgRefIdeal.τ).loc Cert.HgRefIdeal.main_arg2)
          ∧ r.2.mem ((c.tc : Thread Cert.HgRefIdeal.nD Cert.HgRefIdeal.τ).loc Cert.HgRefIdeal.main_arg3) = m' ((c.tc : Thread Cert.HgRefIdeal.nD Cert.HgRefIdeal.τ).loc Cert.HgRefIdeal.main_arg3))

def preserves_UpBwd_UpBwdIdeal : Prop :=
  True

def algebraic_UpBwdIdeal_UpBwdRefIdeal_pre_finite_upbwd [hUpBwdIdeal : Cert.UpBwdIdeal.Facts] [hUpBwdRefIdeal : Cert.UpBwdRefIdeal.Facts] [hPre_finite_upbwd : Cert.Pre_finite_upbwd.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal_finite_upbwd m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)) →
    ∃ (v0 : (c : Dev Cert.UpBwdIdeal.nD) → Buf (Elt Ideal) ((c.tc : Thread Cert.UpBwdIdeal.nD Cert.UpBwdIdeal.τ).loc Cert.UpBwdIdeal.main_v8_0)) (v1 : (c : Dev Cert.UpBwdIdeal.nD) → Buf (Elt Ideal) ((c.tc : Thread Cert.UpBwdIdeal.nD Cert.UpBwdIdeal.τ).loc Cert.UpBwdIdeal.main_v8_1)) (v2 : (c : Dev Cert.UpBwdIdeal.nD) → Buf (Elt Ideal) ((c.tc : Thread Cert.UpBwdIdeal.nD Cert.UpBwdIdeal.τ).loc Cert.UpBwdIdeal.main_v8_2)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v8_0) = v0 c
          ∧ r.2.mem ((c.tc : Thread Cert.UpBwdIdeal.nD Cert.UpBwdIdeal.τ).loc Cert.UpBwdIdeal.main_v8_1) = v1 c
          ∧ r.2.mem ((c.tc : Thread Cert.UpBwdIdeal.nD Cert.UpBwdIdeal.τ).loc Cert.UpBwdIdeal.main_v8_2) = v2 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v45) = v0 c
          ∧ r.2.mem ((c.tc : Thread Cert.UpBwdRefIdeal.nD Cert.UpBwdRefIdeal.τ).loc Cert.UpBwdRefIdeal.main_v46) = v1 c
          ∧ r.2.mem ((c.tc : Thread Cert.UpBwdRefIdeal.nD Cert.UpBwdRefIdeal.τ).loc Cert.UpBwdRefIdeal.main_v28) = v2 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6))

def preserves_InBwd_InBwdIdeal : Prop :=
  True

def algebraic_InBwdIdeal_InBwdRefIdeal_pre_finite_inbwd [hInBwdIdeal : Cert.InBwdIdeal.Facts] [hInBwdRefIdeal : Cert.InBwdRefIdeal.Facts] [hPre_finite_inbwd : Cert.Pre_finite_inbwd.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite_inbwd m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v10_0)) (v1 : (c : Dev Cert.InBwdIdeal.nD) → Buf (Elt Ideal) ((c.tc : Thread Cert.InBwdIdeal.nD Cert.InBwdIdeal.τ).loc Cert.InBwdIdeal.main_v10_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v10_0) = v0 c
          ∧ r.2.mem ((c.tc : Thread Cert.InBwdIdeal.nD Cert.InBwdIdeal.τ).loc Cert.InBwdIdeal.main_v10_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v41) = v0 c
          ∧ r.2.mem ((c.tc : Thread Cert.InBwdRefIdeal.nD Cert.InBwdRefIdeal.τ).loc Cert.InBwdRefIdeal.main_v24) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v37) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v19_0)) (v1 : (c : Dev Cert.PrepIdeal.nD) → Buf (Elt Ideal) ((c.tc : Thread Cert.PrepIdeal.nD Cert.PrepIdeal.τ).loc Cert.PrepIdeal.main_v19_1)) (v2 : (c : Dev Cert.PrepIdeal.nD) → Buf (Elt Ideal) ((c.tc : Thread Cert.PrepIdeal.nD Cert.PrepIdeal.τ).loc Cert.PrepIdeal.main_v19_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v19_0) = v0 c
          ∧ r.2.mem ((c.tc : Thread Cert.PrepIdeal.nD Cert.PrepIdeal.τ).loc Cert.PrepIdeal.main_v19_1) = v1 c
          ∧ r.2.mem ((c.tc : Thread Cert.PrepIdeal.nD Cert.PrepIdeal.τ).loc Cert.PrepIdeal.main_v19_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v170) = v0 c
          ∧ r.2.mem ((c.tc : Thread Cert.PrepRefIdeal.nD Cert.PrepRefIdeal.τ).loc Cert.PrepRefIdeal.main_v171) = v1 c
          ∧ r.2.mem ((c.tc : Thread Cert.PrepRefIdeal.nD Cert.PrepRefIdeal.τ).loc Cert.PrepRefIdeal.main_v172) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def preserves_Fw_FwIdeal : Prop :=
  True

def algebraic_FwIdeal_FwRefIdeal_pre_finite_fw [hFwIdeal : Cert.FwIdeal.Facts] [hFwRefIdeal : Cert.FwRefIdeal.Facts] [hPre_finite_fw : Cert.Pre_finite_fw.Facts] : Prop :=
  ∀ (m : (ℓ : Loc Cert.FwIdeal.nD Cert.FwIdeal.τ Cert.FwIdeal.sig) → Buf (Elt Ideal) ℓ) (g : Dev Cert.FwIdeal.nD → PrngReg)
    (m' : (ℓ : Loc Cert.FwRefIdeal.nD Cert.FwRefIdeal.τ Cert.FwRefIdeal.sig) → Buf (Elt Ideal) ℓ) (g' : Dev Cert.FwRefIdeal.nD → PrngReg), Pre_FwIdeal_finite_fw m →
    (∀ c : Dev Cert.FwIdeal.nD,
      m' ((c.tc : Thread Cert.FwRefIdeal.nD Cert.FwRefIdeal.τ).loc Cert.FwRefIdeal.main_arg0) = m ((c.tc : Thread Cert.FwIdeal.nD Cert.FwIdeal.τ).loc Cert.FwIdeal.main_arg0)
      ∧ m' ((c.tc : Thread Cert.FwRefIdeal.nD Cert.FwRefIdeal.τ).loc Cert.FwRefIdeal.main_arg1) = m ((c.tc : Thread Cert.FwIdeal.nD Cert.FwIdeal.τ).loc Cert.FwIdeal.main_arg1)
      ∧ m' ((c.tc : Thread Cert.FwRefIdeal.nD Cert.FwRefIdeal.τ).loc Cert.FwRefIdeal.main_arg2) = m ((c.tc : Thread Cert.FwIdeal.nD Cert.FwIdeal.τ).loc Cert.FwIdeal.main_arg2)) →
    ∃ (v0 : (c : Dev Cert.FwIdeal.nD) → Buf (Elt Ideal) ((c.tc : Thread Cert.FwIdeal.nD Cert.FwIdeal.τ).loc Cert.FwIdeal.main_v31_0)) (v1 : (c : Dev Cert.FwIdeal.nD) → Buf (Elt Ideal) ((c.tc : Thread Cert.FwIdeal.nD Cert.FwIdeal.τ).loc Cert.FwIdeal.main_v31_1)),
      θ_run (Cert.FwIdeal.defs (F := Ideal)) (onTc (τ := Cert.FwIdeal.τ) (Cert.FwIdeal.main (F := Ideal))) ⟨m, fun _ => 0, g⟩ (fun r => ∀ c : Dev Cert.FwIdeal.nD,
          r.2.mem ((c.tc : Thread Cert.FwIdeal.nD Cert.FwIdeal.τ).loc Cert.FwIdeal.main_v31_0) = v0 c
          ∧ r.2.mem ((c.tc : Thread Cert.FwIdeal.nD Cert.FwIdeal.τ).loc Cert.FwIdeal.main_v31_1) = v1 c
          ∧ r.2.mem ((c.tc : Thread Cert.FwIdeal.nD Cert.FwIdeal.τ).loc Cert.FwIdeal.main_arg0) = m ((c.tc : Thread Cert.FwIdeal.nD Cert.FwIdeal.τ).loc Cert.FwIdeal.main_arg0)
          ∧ r.2.mem ((c.tc : Thread Cert.FwIdeal.nD Cert.FwIdeal.τ).loc Cert.FwIdeal.main_arg1) = m ((c.tc : Thread Cert.FwIdeal.nD Cert.FwIdeal.τ).loc Cert.FwIdeal.main_arg1)
          ∧ r.2.mem ((c.tc : Thread Cert.FwIdeal.nD Cert.FwIdeal.τ).loc Cert.FwIdeal.main_arg2) = m ((c.tc : Thread Cert.FwIdeal.nD Cert.FwIdeal.τ).loc Cert.FwIdeal.main_arg2))
      ∧ θ_run (Cert.FwRefIdeal.defs (F := Ideal)) (onTc (τ := Cert.FwRefIdeal.τ) (Cert.FwRefIdeal.main (F := Ideal))) ⟨m', fun _ => 0, g'⟩ (fun r => ∀ c : Dev Cert.FwRefIdeal.nD,
          r.2.mem ((c.tc : Thread Cert.FwRefIdeal.nD Cert.FwRefIdeal.τ).loc Cert.FwRefIdeal.main_v28) = v0 c
          ∧ r.2.mem ((c.tc : Thread Cert.FwRefIdeal.nD Cert.FwRefIdeal.τ).loc Cert.FwRefIdeal.main_v35) = v1 c
          ∧ r.2.mem ((c.tc : Thread Cert.FwRefIdeal.nD Cert.FwRefIdeal.τ).loc Cert.FwRefIdeal.main_arg0) = m' ((c.tc : Thread Cert.FwRefIdeal.nD Cert.FwRefIdeal.τ).loc Cert.FwRefIdeal.main_arg0)
          ∧ r.2.mem ((c.tc : Thread Cert.FwRefIdeal.nD Cert.FwRefIdeal.τ).loc Cert.FwRefIdeal.main_arg1) = m' ((c.tc : Thread Cert.FwRefIdeal.nD Cert.FwRefIdeal.τ).loc Cert.FwRefIdeal.main_arg1)
          ∧ r.2.mem ((c.tc : Thread Cert.FwRefIdeal.nD Cert.FwRefIdeal.τ).loc Cert.FwRefIdeal.main_arg2) = m' ((c.tc : Thread Cert.FwRefIdeal.nD Cert.FwRefIdeal.τ).loc Cert.FwRefIdeal.main_arg2))

def preserves_GlaF_GlaFIdeal : Prop :=
  True

def preserves_GlaB_GlaBIdeal : Prop :=
  True

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0_0)) (v1 : (c : Dev Cert.RmsFIdeal.nD) → Buf (Elt Ideal) ((c.tc : Thread Cert.RmsFIdeal.nD Cert.RmsFIdeal.τ).loc Cert.RmsFIdeal.main_v0_1)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0_0) = v0 c
          ∧ r.2.mem ((c.tc : Thread Cert.RmsFIdeal.nD Cert.RmsFIdeal.τ).loc Cert.RmsFIdeal.main_v0_1) = v1 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v12) = v0 c
          ∧ r.2.mem ((c.tc : Thread Cert.RmsFRefIdeal.nD Cert.RmsFRefIdeal.τ).loc Cert.RmsFRefIdeal.main_v7) = v1 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_FfnF_FfnFIdeal : Prop :=
  True

def algebraic_FfnFIdeal_FfnFRefIdeal [hFfnFIdeal : Cert.FfnFIdeal.Facts] [hFfnFRefIdeal : Cert.FfnFRefIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)) →
    ∃ (v0 : (c : Dev Cert.FfnFIdeal.nD) → Buf (Elt Ideal) ((c.tc : Thread Cert.FfnFIdeal.nD Cert.FfnFIdeal.τ).loc Cert.FfnFIdeal.main_v0_0)) (v1 : (c : Dev Cert.FfnFIdeal.nD) → Buf (Elt Ideal) ((c.tc : Thread Cert.FfnFIdeal.nD Cert.FfnFIdeal.τ).loc Cert.FfnFIdeal.main_v0_1)) (v2 : (c : Dev Cert.FfnFIdeal.nD) → Buf (Elt Ideal) ((c.tc : Thread Cert.FfnFIdeal.nD Cert.FfnFIdeal.τ).loc Cert.FfnFIdeal.main_v0_2)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v0_0) = v0 c
          ∧ r.2.mem ((c.tc : Thread Cert.FfnFIdeal.nD Cert.FfnFIdeal.τ).loc Cert.FfnFIdeal.main_v0_1) = v1 c
          ∧ r.2.mem ((c.tc : Thread Cert.FfnFIdeal.nD Cert.FfnFIdeal.τ).loc Cert.FfnFIdeal.main_v0_2) = v2 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v4) = v0 c
          ∧ r.2.mem ((c.tc : Thread Cert.FfnFRefIdeal.nD Cert.FfnFRefIdeal.τ).loc Cert.FfnFRefIdeal.main_v5) = v1 c
          ∧ r.2.mem ((c.tc : Thread Cert.FfnFRefIdeal.nD Cert.FfnFRefIdeal.τ).loc Cert.FfnFRefIdeal.main_v8) = v2 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2))

def preserves_PostF_PostFIdeal : Prop :=
  True

def algebraic_PostFIdeal_PostFRefIdeal [hPostFIdeal : Cert.PostFIdeal.Facts] [hPostFRefIdeal : Cert.PostFRefIdeal.Facts] : Prop :=
  ∀ (m : (ℓ : Loc Cert.PostFIdeal.nD Cert.PostFIdeal.τ Cert.PostFIdeal.sig) → Buf (Elt Ideal) ℓ) (g : Dev Cert.PostFIdeal.nD → PrngReg)
    (m' : (ℓ : Loc Cert.PostFRefIdeal.nD Cert.PostFRefIdeal.τ Cert.PostFRefIdeal.sig) → Buf (Elt Ideal) ℓ) (g' : Dev Cert.PostFRefIdeal.nD → PrngReg), Pre_PostFIdeal m →
    (∀ c : Dev Cert.PostFIdeal.nD,
      m' ((c.tc : Thread Cert.PostFRefIdeal.nD Cert.PostFRefIdeal.τ).loc Cert.PostFRefIdeal.main_arg0) = m ((c.tc : Thread Cert.PostFIdeal.nD Cert.PostFIdeal.τ).loc Cert.PostFIdeal.main_arg0)
      ∧ m' ((c.tc : Thread Cert.PostFRefIdeal.nD Cert.PostFRefIdeal.τ).loc Cert.PostFRefIdeal.main_arg1) = m ((c.tc : Thread Cert.PostFIdeal.nD Cert.PostFIdeal.τ).loc Cert.PostFIdeal.main_arg1)) →
    ∃ (v0 : (c : Dev Cert.PostFIdeal.nD) → Buf (Elt Ideal) ((c.tc : Thread Cert.PostFIdeal.nD Cert.PostFIdeal.τ).loc Cert.PostFIdeal.main_v0_0)) (v1 : (c : Dev Cert.PostFIdeal.nD) → Buf (Elt Ideal) ((c.tc : Thread Cert.PostFIdeal.nD Cert.PostFIdeal.τ).loc Cert.PostFIdeal.main_v0_1)),
      θ_run (Cert.PostFIdeal.defs (F := Ideal)) (onTc (τ := Cert.PostFIdeal.τ) (Cert.PostFIdeal.main (F := Ideal))) ⟨m, fun _ => 0, g⟩ (fun r => ∀ c : Dev Cert.PostFIdeal.nD,
          r.2.mem ((c.tc : Thread Cert.PostFIdeal.nD Cert.PostFIdeal.τ).loc Cert.PostFIdeal.main_v0_0) = v0 c
          ∧ r.2.mem ((c.tc : Thread Cert.PostFIdeal.nD Cert.PostFIdeal.τ).loc Cert.PostFIdeal.main_v0_1) = v1 c
          ∧ r.2.mem ((c.tc : Thread Cert.PostFIdeal.nD Cert.PostFIdeal.τ).loc Cert.PostFIdeal.main_arg0) = m ((c.tc : Thread Cert.PostFIdeal.nD Cert.PostFIdeal.τ).loc Cert.PostFIdeal.main_arg0)
          ∧ r.2.mem ((c.tc : Thread Cert.PostFIdeal.nD Cert.PostFIdeal.τ).loc Cert.PostFIdeal.main_arg1) = m ((c.tc : Thread Cert.PostFIdeal.nD Cert.PostFIdeal.τ).loc Cert.PostFIdeal.main_arg1))
      ∧ θ_run (Cert.PostFRefIdeal.defs (F := Ideal)) (onTc (τ := Cert.PostFRefIdeal.τ) (Cert.PostFRefIdeal.main (F := Ideal))) ⟨m', fun _ => 0, g'⟩ (fun r => ∀ c : Dev Cert.PostFRefIdeal.nD,
          r.2.mem ((c.tc : Thread Cert.PostFRefIdeal.nD Cert.PostFRefIdeal.τ).loc Cert.PostFRefIdeal.main_v2) = v0 c
          ∧ r.2.mem ((c.tc : Thread Cert.PostFRefIdeal.nD Cert.PostFRefIdeal.τ).loc Cert.PostFRefIdeal.main_v15) = v1 c
          ∧ r.2.mem ((c.tc : Thread Cert.PostFRefIdeal.nD Cert.PostFRefIdeal.τ).loc Cert.PostFRefIdeal.main_arg0) = m' ((c.tc : Thread Cert.PostFRefIdeal.nD Cert.PostFRefIdeal.τ).loc Cert.PostFRefIdeal.main_arg0)
          ∧ r.2.mem ((c.tc : Thread Cert.PostFRefIdeal.nD Cert.PostFRefIdeal.τ).loc Cert.PostFRefIdeal.main_arg1) = m' ((c.tc : Thread Cert.PostFRefIdeal.nD Cert.PostFRefIdeal.τ).loc Cert.PostFRefIdeal.main_arg1))

def preserves_GlaFF_GlaFFIdeal : Prop :=
  True

def preserves_GlaFB_GlaFBIdeal : Prop :=
  True

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)
      ∧ m' ((c.tc : Thread Cert.OutFRefIdeal.nD Cert.OutFRefIdeal.τ).loc Cert.OutFRefIdeal.main_arg4) = m ((c.tc : Thread Cert.OutFIdeal.nD Cert.OutFIdeal.τ).loc Cert.OutFIdeal.main_arg4)) →
    ∃ (v0 : (c : Dev Cert.OutFIdeal.nD) → Buf (Elt Ideal) ((c.tc : Thread Cert.OutFIdeal.nD Cert.OutFIdeal.τ).loc Cert.OutFIdeal.main_v2_0)) (v1 : (c : Dev Cert.OutFIdeal.nD) → Buf (Elt Ideal) ((c.tc : Thread Cert.OutFIdeal.nD Cert.OutFIdeal.τ).loc Cert.OutFIdeal.main_v2_1)) (v2 : (c : Dev Cert.OutFIdeal.nD) → Buf (Elt Ideal) ((c.tc : Thread Cert.OutFIdeal.nD Cert.OutFIdeal.τ).loc Cert.OutFIdeal.main_v2_2)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v2_0) = v0 c
          ∧ r.2.mem ((c.tc : Thread Cert.OutFIdeal.nD Cert.OutFIdeal.τ).loc Cert.OutFIdeal.main_v2_1) = v1 c
          ∧ r.2.mem ((c.tc : Thread Cert.OutFIdeal.nD Cert.OutFIdeal.τ).loc Cert.OutFIdeal.main_v2_2) = v2 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3)
          ∧ r.2.mem ((c.tc : Thread Cert.OutFIdeal.nD Cert.OutFIdeal.τ).loc Cert.OutFIdeal.main_arg4) = m ((c.tc : Thread Cert.OutFIdeal.nD Cert.OutFIdeal.τ).loc Cert.OutFIdeal.main_arg4))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v2) = v0 c
          ∧ r.2.mem ((c.tc : Thread Cert.OutFRefIdeal.nD Cert.OutFRefIdeal.τ).loc Cert.OutFRefIdeal.main_v15) = v1 c
          ∧ r.2.mem ((c.tc : Thread Cert.OutFRefIdeal.nD Cert.OutFRefIdeal.τ).loc Cert.OutFRefIdeal.main_v10) = v2 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3)
          ∧ r.2.mem ((c.tc : Thread Cert.OutFRefIdeal.nD Cert.OutFRefIdeal.τ).loc Cert.OutFRefIdeal.main_arg4) = m' ((c.tc : Thread Cert.OutFRefIdeal.nD Cert.OutFRefIdeal.τ).loc Cert.OutFRefIdeal.main_arg4))

def Claim : Prop :=
  ∃ (hAct : Cert.Act.Facts) (hActIdeal : Cert.ActIdeal.Facts) (hActRefIdeal : Cert.ActRefIdeal.Facts) (hFa : Cert.Fa.Facts) (hFaIdeal : Cert.FaIdeal.Facts) (hFaRefIdeal : Cert.FaRefIdeal.Facts) (hPost : Cert.Post.Facts) (hPostIdeal : Cert.PostIdeal.Facts) (hPostRefIdeal : Cert.PostRefIdeal.Facts) (hHg : Cert.Hg.Facts) (hHgIdeal : Cert.HgIdeal.Facts) (hHgRefIdeal : Cert.HgRefIdeal.Facts) (hUpBwd : Cert.UpBwd.Facts) (hUpBwdIdeal : Cert.UpBwdIdeal.Facts) (hUpBwdRefIdeal : Cert.UpBwdRefIdeal.Facts) (hInBwd : Cert.InBwd.Facts) (hInBwdIdeal : Cert.InBwdIdeal.Facts) (hInBwdRefIdeal : Cert.InBwdRefIdeal.Facts) (hLoss : Cert.Loss.Facts) (hLossIdeal : Cert.LossIdeal.Facts) (hLossRefIdeal : Cert.LossRefIdeal.Facts) (hPrep : Cert.Prep.Facts) (hPrepIdeal : Cert.PrepIdeal.Facts) (hPrepRefIdeal : Cert.PrepRefIdeal.Facts) (hFw : Cert.Fw.Facts) (hFwIdeal : Cert.FwIdeal.Facts) (hFwRefIdeal : Cert.FwRefIdeal.Facts) (hGlaF : Cert.GlaF.Facts) (hGlaFIdeal : Cert.GlaFIdeal.Facts) (hGlaB : Cert.GlaB.Facts) (hGlaBIdeal : Cert.GlaBIdeal.Facts) (hRmsF : Cert.RmsF.Facts) (hRmsFIdeal : Cert.RmsFIdeal.Facts) (hRmsFRefIdeal : Cert.RmsFRefIdeal.Facts) (hFfnF : Cert.FfnF.Facts) (hFfnFIdeal : Cert.FfnFIdeal.Facts) (hFfnFRefIdeal : Cert.FfnFRefIdeal.Facts) (hPostF : Cert.PostF.Facts) (hPostFIdeal : Cert.PostFIdeal.Facts) (hPostFRefIdeal : Cert.PostFRefIdeal.Facts) (hGlaFF : Cert.GlaFF.Facts) (hGlaFFIdeal : Cert.GlaFFIdeal.Facts) (hGlaFB : Cert.GlaFB.Facts) (hGlaFBIdeal : Cert.GlaFBIdeal.Facts) (hOutF : Cert.OutF.Facts) (hOutFIdeal : Cert.OutFIdeal.Facts) (hOutFRefIdeal : Cert.OutFRefIdeal.Facts) (hPre_finite_act : Cert.Pre_finite_act.Facts) (hPre_finite_fa : Cert.Pre_finite_fa.Facts) (hPre_finite_post : Cert.Pre_finite_post.Facts) (hPre_finite_hg : Cert.Pre_finite_hg.Facts) (hPre_finite_upbwd : Cert.Pre_finite_upbwd.Facts) (hPre_finite_inbwd : Cert.Pre_finite_inbwd.Facts) (hPre_finite_loss : Cert.Pre_finite_loss.Facts) (hPre_finite_prep : Cert.Pre_finite_prep.Facts) (hPre_finite_fw : Cert.Pre_finite_fw.Facts),
    quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_Fa (hFa := hFa)
    ∧ quiescent_FaIdeal (hFaIdeal := hFaIdeal)
    ∧ quiescent_FaIdeal_pre_finite_fa (hFaIdeal := hFaIdeal) (hPre_finite_fa := hPre_finite_fa)
    ∧ quiescent_FaRefIdeal (hFaRefIdeal := hFaRefIdeal)
    ∧ quiescent_FaRefIdeal_pre_finite_fa (hFaRefIdeal := hFaRefIdeal) (hPre_finite_fa := hPre_finite_fa)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_Hg (hHg := hHg)
    ∧ quiescent_HgIdeal (hHgIdeal := hHgIdeal)
    ∧ quiescent_HgIdeal_pre_finite_hg (hHgIdeal := hHgIdeal) (hPre_finite_hg := hPre_finite_hg)
    ∧ quiescent_HgRefIdeal (hHgRefIdeal := hHgRefIdeal)
    ∧ quiescent_HgRefIdeal_pre_finite_hg (hHgRefIdeal := hHgRefIdeal) (hPre_finite_hg := hPre_finite_hg)
    ∧ quiescent_UpBwd (hUpBwd := hUpBwd)
    ∧ quiescent_UpBwdIdeal (hUpBwdIdeal := hUpBwdIdeal)
    ∧ quiescent_UpBwdIdeal_pre_finite_upbwd (hUpBwdIdeal := hUpBwdIdeal) (hPre_finite_upbwd := hPre_finite_upbwd)
    ∧ quiescent_UpBwdRefIdeal (hUpBwdRefIdeal := hUpBwdRefIdeal)
    ∧ quiescent_UpBwdRefIdeal_pre_finite_upbwd (hUpBwdRefIdeal := hUpBwdRefIdeal) (hPre_finite_upbwd := hPre_finite_upbwd)
    ∧ quiescent_InBwd (hInBwd := hInBwd)
    ∧ quiescent_InBwdIdeal (hInBwdIdeal := hInBwdIdeal)
    ∧ quiescent_InBwdIdeal_pre_finite_inbwd (hInBwdIdeal := hInBwdIdeal) (hPre_finite_inbwd := hPre_finite_inbwd)
    ∧ quiescent_InBwdRefIdeal (hInBwdRefIdeal := hInBwdRefIdeal)
    ∧ quiescent_InBwdRefIdeal_pre_finite_inbwd (hInBwdRefIdeal := hInBwdRefIdeal) (hPre_finite_inbwd := hPre_finite_inbwd)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_Fw (hFw := hFw)
    ∧ quiescent_FwIdeal (hFwIdeal := hFwIdeal)
    ∧ quiescent_FwIdeal_pre_finite_fw (hFwIdeal := hFwIdeal) (hPre_finite_fw := hPre_finite_fw)
    ∧ quiescent_FwRefIdeal (hFwRefIdeal := hFwRefIdeal)
    ∧ quiescent_FwRefIdeal_pre_finite_fw (hFwRefIdeal := hFwRefIdeal) (hPre_finite_fw := hPre_finite_fw)
    ∧ quiescent_GlaF (hGlaF := hGlaF)
    ∧ quiescent_GlaFIdeal (hGlaFIdeal := hGlaFIdeal)
    ∧ quiescent_GlaB (hGlaB := hGlaB)
    ∧ quiescent_GlaBIdeal (hGlaBIdeal := hGlaBIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_FfnF (hFfnF := hFfnF)
    ∧ quiescent_FfnFIdeal (hFfnFIdeal := hFfnFIdeal)
    ∧ quiescent_FfnFRefIdeal (hFfnFRefIdeal := hFfnFRefIdeal)
    ∧ quiescent_PostF (hPostF := hPostF)
    ∧ quiescent_PostFIdeal (hPostFIdeal := hPostFIdeal)
    ∧ quiescent_PostFRefIdeal (hPostFRefIdeal := hPostFRefIdeal)
    ∧ quiescent_GlaFF (hGlaFF := hGlaFF)
    ∧ quiescent_GlaFFIdeal (hGlaFFIdeal := hGlaFFIdeal)
    ∧ quiescent_GlaFB (hGlaFB := hGlaFB)
    ∧ quiescent_GlaFBIdeal (hGlaFBIdeal := hGlaFBIdeal)
    ∧ quiescent_OutF (hOutF := hOutF)
    ∧ quiescent_OutFIdeal (hOutFIdeal := hOutFIdeal)
    ∧ quiescent_OutFRefIdeal (hOutFRefIdeal := hOutFRefIdeal)
    ∧ preserves_Act_ActIdeal
    ∧ algebraic_ActIdeal_ActRefIdeal_pre_finite_act (hActIdeal := hActIdeal) (hActRefIdeal := hActRefIdeal) (hPre_finite_act := hPre_finite_act)
    ∧ preserves_Fa_FaIdeal
    ∧ algebraic_FaIdeal_FaRefIdeal_pre_finite_fa (hFaIdeal := hFaIdeal) (hFaRefIdeal := hFaRefIdeal) (hPre_finite_fa := hPre_finite_fa)
    ∧ preserves_Post_PostIdeal
    ∧ algebraic_PostIdeal_PostRefIdeal_pre_finite_post (hPostIdeal := hPostIdeal) (hPostRefIdeal := hPostRefIdeal) (hPre_finite_post := hPre_finite_post)
    ∧ preserves_Hg_HgIdeal
    ∧ algebraic_HgIdeal_HgRefIdeal_pre_finite_hg (hHgIdeal := hHgIdeal) (hHgRefIdeal := hHgRefIdeal) (hPre_finite_hg := hPre_finite_hg)
    ∧ preserves_UpBwd_UpBwdIdeal
    ∧ algebraic_UpBwdIdeal_UpBwdRefIdeal_pre_finite_upbwd (hUpBwdIdeal := hUpBwdIdeal) (hUpBwdRefIdeal := hUpBwdRefIdeal) (hPre_finite_upbwd := hPre_finite_upbwd)
    ∧ preserves_InBwd_InBwdIdeal
    ∧ algebraic_InBwdIdeal_InBwdRefIdeal_pre_finite_inbwd (hInBwdIdeal := hInBwdIdeal) (hInBwdRefIdeal := hInBwdRefIdeal) (hPre_finite_inbwd := hPre_finite_inbwd)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Prep_PrepIdeal
    ∧ algebraic_PrepIdeal_PrepRefIdeal_pre_finite_prep (hPrepIdeal := hPrepIdeal) (hPrepRefIdeal := hPrepRefIdeal) (hPre_finite_prep := hPre_finite_prep)
    ∧ preserves_Fw_FwIdeal
    ∧ algebraic_FwIdeal_FwRefIdeal_pre_finite_fw (hFwIdeal := hFwIdeal) (hFwRefIdeal := hFwRefIdeal) (hPre_finite_fw := hPre_finite_fw)
    ∧ preserves_GlaF_GlaFIdeal
    ∧ preserves_GlaB_GlaBIdeal
    ∧ preserves_RmsF_RmsFIdeal
    ∧ algebraic_RmsFIdeal_RmsFRefIdeal (hRmsFIdeal := hRmsFIdeal) (hRmsFRefIdeal := hRmsFRefIdeal)
    ∧ preserves_FfnF_FfnFIdeal
    ∧ algebraic_FfnFIdeal_FfnFRefIdeal (hFfnFIdeal := hFfnFIdeal) (hFfnFRefIdeal := hFfnFRefIdeal)
    ∧ preserves_PostF_PostFIdeal
    ∧ algebraic_PostFIdeal_PostFRefIdeal (hPostFIdeal := hPostFIdeal) (hPostFRefIdeal := hPostFRefIdeal)
    ∧ preserves_GlaFF_GlaFFIdeal
    ∧ preserves_GlaFB_GlaFBIdeal
    ∧ preserves_OutF_OutFIdeal
    ∧ algebraic_OutFIdeal_OutFRefIdeal (hOutFIdeal := hOutFIdeal) (hOutFRefIdeal := hOutFRefIdeal)
-- ==== Pre_finite_act.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S2816x1024 1 × IVec S8192x2816 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .bf16 := Host.absf main_arg2
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  let main_v9 : FVec F S8192x2816 .bf16 := Host.absf main_arg3
  let main_cst_2 : FVec F S_ .bf16 := constant S_ .bf16 0x7F80#16
  let main_v10 : FVec F S8192x2816 .bf16 := broadcastInDim S8192x2816 ![] bcast_S_S8192x2816 main_cst_2
  let main_v11 : IVec S8192x2816 1 := cmpf .olt main_v9 main_v10
  (main_v2, main_v5, main_v8, main_v11)
-- ==== Pre_finite_fa.lean ====
abbrev S2x4x8192x64 : Shape := ⟨4, ![2, 4, 8192, 64]⟩
abbrev S2x8192x64 : Shape := ⟨3, ![2, 8192, 64]⟩
abbrev S_ : Shape := ⟨0, ![]⟩

class Facts : Prop where
  bcast_S_S2x4x8192x64 : S_.BroadcastsInDim S2x4x8192x64 (![] : Fin 0 → Fin S2x4x8192x64.rank)
  bcast_S_S2x8192x64 : S_.BroadcastsInDim S2x8192x64 (![] : Fin 0 → Fin S2x8192x64.rank)

variable [Facts]

def fn {F : FTy → Type} [FloatOps F] (main_arg0 : FVec F S2x4x8192x64 .f32) (main_arg1 : FVec F S2x8192x64 .f32) (main_arg2 : FVec F S2x8192x64 .f32) (main_arg3 : FVec F S2x4x8192x64 .f32) : IVec S2x4x8192x64 1 × IVec S2x8192x64 1 × IVec S2x8192x64 1 × IVec S2x4x8192x64 1 :=
  let main_v0 : FVec F S2x4x8192x64 .f32 := Host.absf main_arg0
  let main_cst : FVec F S_ .f32 := constant S_ .f32 0x7F800000#32
  let main_v1 : FVec F S2x4x8192x64 .f32 := broadcastInDim S2x4x8192x64 ![] bcast_S_S2x4x8192x64 main_cst
  let main_v2 : IVec S2x4x8192x64 1 := cmpf .olt main_v0 main_v1
  let main_v3 : FVec F S2x8192x64 .f32 := Host.absf main_arg1
  let main_cst_0 : FVec F S_ .f32 := constant S_ .f32 0x7F800000#32
  let main_v4 : FVec F S2x8192x64 .f32 := broadcastInDim S2x8192x64 ![] bcast_S_S2x8192x64 main_cst_0
  let main_v5 : IVec S2x8192x64 1 := cmpf .olt main_v3 main_v4
  let main_v6 : FVec F S2x8192x64 .f32 := Host.absf main_arg2
  let main_cst_1 : FVec F S_ .f32 := constant S_ .f32 0x7F800000#32
  let main_v7 : FVec F S2x8192x64 .f32 := broadcastInDim S2x8192x64 ![] bcast_S_S2x8192x64 main_cst_1
  let main_v8 : IVec S2x8192x64 1 := cmpf .olt main_v6 main_v7
  let main_v9 : FVec F S2x4x8192x64 .f32 := Host.absf main_arg3
  let main_cst_2 : FVec F S_ .f32 := constant S_ .f32 0x7F800000#32
  let main_v10 : FVec F S2x4x8192x64 .f32 := broadcastInDim S2x4x8192x64 ![] bcast_S_S2x4x8192x64 main_cst_2
  let main_v11 : IVec S2x4x8192x64 1 := cmpf .olt main_v9 main_v10
  (main_v2, main_v5, main_v8, main_v11)
-- ==== Pre_finite_fw.lean ====
abbrev S2x4x8192x64 : Shape := ⟨4, ![2, 4, 8192, 64]⟩
abbrev S2x8192x64 : Shape := ⟨3, ![2, 8192, 64]⟩
abbrev S_ : Shape := ⟨0, ![]⟩

class Facts : Prop where
  bcast_S_S2x4x8192x64 : S_.BroadcastsInDim S2x4x8192x64 (![] : Fin 0 → Fin S2x4x8192x64.rank)
  bcast_S_S2x8192x64 : S_.BroadcastsInDim S2x8192x64 (![] : Fin 0 → Fin S2x8192x64.rank)

variable [Facts]

def fn {F : FTy → Type} [FloatOps F] (main_arg0 : FVec F S2x4x8192x64 .f32) (main_arg1 : FVec F S2x8192x64 .f32) (main_arg2 : FVec F S2x8192x64 .f32) : IVec S2x4x8192x64 1 × IVec S2x8192x64 1 × IVec S2x8192x64 1 :=
  let main_v0 : FVec F S2x4x8192x64 .f32 := Host.absf main_arg0
  let main_cst : FVec F S_ .f32 := constant S_ .f32 0x7F800000#32
  let main_v1 : FVec F S2x4x8192x64 .f32 := broadcastInDim S2x4x8192x64 ![] bcast_S_S2x4x8192x64 main_cst
  let main_v2 : IVec S2x4x8192x64 1 := cmpf .olt main_v0 main_v1
  let main_v3 : FVec F S2x8192x64 .f32 := Host.absf main_arg1
  let main_cst_0 : FVec F S_ .f32 := constant S_ .f32 0x7F800000#32
  let main_v4 : FVec F S2x8192x64 .f32 := broadcastInDim S2x8192x64 ![] bcast_S_S2x8192x64 main_cst_0
  let main_v5 : IVec S2x8192x64 1 := cmpf .olt main_v3 main_v4
  let main_v6 : FVec F S2x8192x64 .f32 := Host.absf main_arg2
  let main_cst_1 : FVec F S_ .f32 := constant S_ .f32 0x7F800000#32
  let main_v7 : FVec F S2x8192x64 .f32 := broadcastInDim S2x8192x64 ![] bcast_S_S2x8192x64 main_cst_1
  let main_v8 : IVec S2x8192x64 1 := cmpf .olt main_v6 main_v7
  (main_v2, main_v5, main_v8)
-- ==== Pre_finite_hg.lean ====
abbrev S8192x1024 : Shape := ⟨2, ![8192, 1024]⟩
abbrev S8192x512 : Shape := ⟨2, ![8192, 512]⟩
abbrev S8192x3328 : Shape := ⟨2, ![8192, 3328]⟩
abbrev S1x128 : Shape := ⟨2, ![1, 128]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x3328 : S_.BroadcastsInDim S8192x3328 (![] : Fin 0 → Fin S8192x3328.rank)
  bcast_S_S1x128 : S_.BroadcastsInDim S1x128 (![] : Fin 0 → Fin S1x128.rank)

variable [Facts]

def fn {F : FTy → Type} [FloatOps F] (main_arg0 : FVec F S8192x1024 .f32) (main_arg1 : FVec F S8192x512 .f32) (main_arg2 : FVec F S8192x3328 .f32) (main_arg3 : FVec F S1x128 .f32) : IVec S8192x1024 1 × IVec S8192x512 1 × IVec S8192x3328 1 × IVec S1x128 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x3328 .f32 := Host.absf main_arg2
  let main_cst_1 : FVec F S_ .f32 := constant S_ .f32 0x7F800000#32
  let main_v7 : FVec F S8192x3328 .f32 := broadcastInDim S8192x3328 ![] bcast_S_S8192x3328 main_cst_1
  let main_v8 : IVec S8192x3328 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  (main_v2, main_v5, main_v8, main_v11)
-- ==== Pre_finite_inbwd.lean ====
abbrev S8192x2560 : Shape := ⟨2, ![8192, 2560]⟩
abbrev S8192x768 : Shape := ⟨2, ![8192, 768]⟩
abbrev S3328x1024 : Shape := ⟨2, ![3328, 1024]⟩
abbrev S8192x1024 : Shape := ⟨2, ![8192, 1024]⟩
abbrev S1x1024 : Shape := ⟨2, ![1, 1024]⟩
abbrev S_ : Shape := ⟨0, ![]⟩

class Facts : Prop where
  bcast_S_S8192x2560 : S_.BroadcastsInDim S8192x2560 (![] : Fin 0 → Fin S8192x2560.rank)
  bcast_S_S8192x768 : S_.BroadcastsInDim S8192x768 (![] : Fin 0 → Fin S8192x768.rank)
  bcast_S_S3328x1024 : S_.BroadcastsInDim S3328x1024 (![] : Fin 0 → Fin S3328x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2560 .bf16) (main_arg1 : FVec F S8192x768 .bf16) (main_arg2 : FVec F S3328x1024 .bf16) (main_arg3 : FVec F S8192x1024 .f32) (main_arg4 : FVec F S1x1024 .f32) (main_arg5 : FVec F S8192x1024 .f32) : IVec S8192x2560 1 × IVec S8192x768 1 × IVec S3328x1024 1 × IVec S8192x1024 1 × IVec S1x1024 1 × IVec S8192x1024 1 :=
  let main_v0 : FVec F S8192x2560 .bf16 := Host.absf main_arg0
  let main_cst : FVec F S_ .bf16 := constant S_ .bf16 0x7F80#16
  let main_v1 : FVec F S8192x2560 .bf16 := broadcastInDim S8192x2560 ![] bcast_S_S8192x2560 main_cst
  let main_v2 : IVec S8192x2560 1 := cmpf .olt main_v0 main_v1
  let main_v3 : FVec F S8192x768 .bf16 := Host.absf main_arg1
  let main_cst_0 : FVec F S_ .bf16 := constant S_ .bf16 0x7F80#16
  let main_v4 : FVec F S8192x768 .bf16 := broadcastInDim S8192x768 ![] bcast_S_S8192x768 main_cst_0
  let main_v5 : IVec S8192x768 1 := cmpf .olt main_v3 main_v4
  let main_v6 : FVec F S3328x1024 .bf16 := Host.absf main_arg2
  let main_cst_1 : FVec F S_ .bf16 := constant S_ .bf16 0x7F80#16
  let main_v7 : FVec F S3328x1024 .bf16 := broadcastInDim S3328x1024 ![] bcast_S_S3328x1024 main_cst_1
  let main_v8 : IVec S3328x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite_loss.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x2816 .bf16) (main_arg1 : FVec F S2816x1024 .bf16) (main_arg2 : FVec F S8192x1024 .f32) (main_arg3 : FVec F S8192x1024 .f32) (main_arg4 : FVec F S1024 .f32) : IVec S8192x2816 1 × IVec S2816x1024 1 × IVec S8192x1024 1 × IVec S8192x1024 1 × IVec S1024 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite_post.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x1024 .f32) (main_arg1 : FVec F S8192x512 .f32) (main_arg2 : FVec F S1x512 .f32) : IVec S8192x1024 1 × IVec S8192x512 1 × IVec S1x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  (main_v2, main_v5, main_v8)
-- ==== Pre_finite_prep.lean ====
abbrev S8192x3328 : Shape := ⟨2, ![8192, 3328]⟩
abbrev S2x16x64x2048 : Shape := ⟨4, ![2, 16, 64, 2048]⟩
abbrev S2x16x64x512 : Shape := ⟨4, ![2, 16, 64, 512]⟩
abbrev S8192x32 : Shape := ⟨2, ![8192, 32]⟩
abbrev S1x64 : Shape := ⟨2, ![1, 64]⟩
abbrev S_ : Shape := ⟨0, ![]⟩

class Facts : Prop where
  bcast_S_S8192x3328 : S_.BroadcastsInDim S8192x3328 (![] : Fin 0 → Fin S8192x3328.rank)
  bcast_S_S2x16x64x2048 : S_.BroadcastsInDim S2x16x64x2048 (![] : Fin 0 → Fin S2x16x64x2048.rank)
  bcast_S_S2x16x64x512 : S_.BroadcastsInDim S2x16x64x512 (![] : Fin 0 → Fin S2x16x64x512.rank)
  bcast_S_S8192x32 : S_.BroadcastsInDim S8192x32 (![] : Fin 0 → Fin S8192x32.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_v2 : IVec S8192x3328 1) (main_v5 : IVec S2x16x64x2048 1) (main_v8 : IVec S2x16x64x512 1) (main_v11 : IVec S2x16x64x512 1) (main_v14 : IVec S8192x32 1) (main_v17 : IVec S8192x32 1) : IVec S8192x3328 1 × IVec S2x16x64x2048 1 × IVec S2x16x64x512 1 × IVec S2x16x64x512 1 × IVec S8192x32 1 × IVec S8192x32 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  (main_v2, main_v5, main_v8, main_v11, main_v14, main_v17, main_v20, main_v23)

def fn {F : FTy → Type} [FloatOps F] (main_arg0 : FVec F S8192x3328 .f32) (main_arg1 : FVec F S2x16x64x2048 .f32) (main_arg2 : FVec F S2x16x64x512 .f32) (main_arg3 : FVec F S2x16x64x512 .f32) (main_arg4 : FVec F S8192x32 .f32) (main_arg5 : FVec F S8192x32 .f32) (main_arg6 : FVec F S1x64 .f32) (main_arg7 : FVec F S1x64 .f32) : IVec S8192x3328 1 × IVec S2x16x64x2048 1 × IVec S2x16x64x512 1 × IVec S2x16x64x512 1 × IVec S8192x32 1 × IVec S8192x32 1 × IVec S1x64 1 × IVec S1x64 1 :=
  let main_v0 : FVec F S8192x3328 .f32 := Host.absf main_arg0
  let main_cst : FVec F S_ .f32 := constant S_ .f32 0x7F800000#32
  let main_v1 : FVec F S8192x3328 .f32 := broadcastInDim S8192x3328 ![] bcast_S_S8192x3328 main_cst
  let main_v2 : IVec S8192x3328 1 := cmpf .olt main_v0 main_v1
  let main_v3 : FVec F S2x16x64x2048 .f32 := Host.absf main_arg1
  let main_cst_0 : FVec F S_ .f32 := constant S_ .f32 0x7F800000#32
  let main_v4 : FVec F S2x16x64x2048 .f32 := broadcastInDim S2x16x64x2048 ![] bcast_S_S2x16x64x2048 main_cst_0
  let main_v5 : IVec S2x16x64x2048 1 := cmpf .olt main_v3 main_v4
  let main_v6 : FVec F S2x16x64x512 .f32 := Host.absf main_arg2
  let main_cst_1 : FVec F S_ .f32 := constant S_ .f32 0x7F800000#32
  let main_v7 : FVec F S2x16x64x512 .f32 := broadcastInDim S2x16x64x512 ![] bcast_S_S2x16x64x512 main_cst_1
  let main_v8 : IVec S2x16x64x512 1 := cmpf .olt main_v6 main_v7
  let main_v9 : FVec F S2x16x64x512 .f32 := Host.absf main_arg3
  let main_cst_2 : FVec F S_ .f32 := constant S_ .f32 0x7F800000#32
  let main_v10 : FVec F S2x16x64x512 .f32 := broadcastInDim S2x16x64x512 ![] bcast_S_S2x16x64x512 main_cst_2
  let main_v11 : IVec S2x16x64x512 1 := cmpf .olt main_v9 main_v10
  let main_v12 : FVec F S8192x32 .f32 := Host.absf main_arg4
  let main_cst_3 : FVec F S_ .f32 := constant S_ .f32 0x7F800000#32
  let main_v13 : FVec F S8192x32 .f32 := broadcastInDim S8192x32 ![] bcast_S_S8192x32 main_cst_3
  let main_v14 : IVec S8192x32 1 := cmpf .olt main_v12 main_v13
  let main_v15 : FVec F S8192x32 .f32 := Host.absf main_arg5
  let main_cst_4 : FVec F S_ .f32 := constant S_ .f32 0x7F800000#32
  let main_v16 : FVec F S8192x32 .f32 := broadcastInDim S8192x32 ![] bcast_S_S8192x32 main_cst_4
  let main_v17 : IVec S8192x32 1 := cmpf .olt main_v15 main_v16
  fn_part1 (F := F) main_arg6 main_arg7 main_v2 main_v5 main_v8 main_v11 main_v14 main_v17
-- ==== Pre_finite_upbwd.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S8192x1024 .f32) (main_v2 : IVec S8192x2816 1) (main_v5 : IVec S8192x2816 1) (main_v8 : IVec S2816x1024 1) (main_v11 : IVec S2816x1024 1) (main_v14 : IVec S8192x1024 1) (main_v17 : IVec S1x1024 1) : IVec S8192x2816 1 × IVec S8192x2816 1 × IVec S2816x1024 1 × IVec S2816x1024 1 × IVec S8192x1024 1 × IVec S1x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x2816 .bf16) (main_arg1 : FVec F S8192x2816 .bf16) (main_arg2 : FVec F S2816x1024 .bf16) (main_arg3 : FVec F S2816x1024 .bf16) (main_arg4 : FVec F S8192x1024 .f32) (main_arg5 : FVec F S1x1024 .f32) (main_arg6 : FVec F S8192x1024 .f32) : IVec S8192x2816 1 × IVec S8192x2816 1 × IVec S2816x1024 1 × IVec S2816x1024 1 × IVec S8192x1024 1 × IVec S1x1024 1 × IVec S8192x1024 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_v3 : FVec F S8192x2816 .bf16 := Host.absf main_arg1
  let main_cst_0 : FVec F S_ .bf16 := constant S_ .bf16 0x7F80#16
  let main_v4 : FVec F S8192x2816 .bf16 := broadcastInDim S8192x2816 ![] bcast_S_S8192x2816 main_cst_0
  let main_v5 : IVec S8192x2816 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Act.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Fa.lean ====
abbrev S2x4x8192x64 : Shape := ⟨4, ![2, 4, 8192, 64]⟩
abbrev S2x8192x64 : Shape := ⟨3, ![2, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x4x16x512x64 : Shape := ⟨5, ![2, 4, 16, 512, 64]⟩
abbrev S2x16x64x4x512 : Shape := ⟨5, ![2, 16, 64, 4, 512]⟩
abbrev S2x16x64x2048 : Shape := ⟨4, ![2, 16, 64, 2048]⟩
abbrev S2x16x512x64 : Shape := ⟨4, ![2, 16, 512, 64]⟩
abbrev S2x16x64x512 : Shape := ⟨4, ![2, 16, 64, 512]⟩
abbrev S2x4x16x512 : Shape := ⟨4, ![2, 4, 16, 512]⟩
abbrev S2x16x4x512 : Shape := ⟨4, ![2, 16, 4, 512]⟩
abbrev S2x16x1x2048 : Shape := ⟨4, ![2, 16, 1, 2048]⟩
abbrev S1x1x64x2048 : Shape := ⟨4, ![1, 1, 64, 2048]⟩
abbrev S1x16x64x512 : Shape := ⟨4, ![1, 16, 64, 512]⟩
abbrev S1x1x1x2048 : Shape := ⟨4, ![1, 1, 1, 2048]⟩
abbrev S64x2048 : Shape := ⟨2, ![64, 2048]⟩
abbrev S1x2048 : Shape := ⟨2, ![1, 2048]⟩
abbrev S1x1x64x512 : Shape := ⟨4, ![1, 1, 64, 512]⟩
abbrev S64x512 : Shape := ⟨2, ![64, 512]⟩
abbrev S512x2048 : Shape := ⟨2, ![512, 2048]⟩

abbrev nBuf : Space → Nat
  | .hbm => 62
  | .vmem => 19
  | .smem => 0
  | _ => 0

abbrev bufTy : (tb : Table) → Fin (tcTables nBuf tb) → BufTy
  | .hbm, ⟨0, _⟩ => ⟨S2x4x8192x64, .f32⟩
  | .hbm, ⟨1, _⟩ => ⟨S2x8192x64, .f32⟩
  | .hbm, ⟨2, _⟩ => ⟨S2x8192x64, .f32⟩
  | .hbm, ⟨3, _⟩ => ⟨S2x4x8192x64, .f32⟩
  | .hbm, ⟨4, _⟩ => ⟨S2x4x8192x8192, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8192, .f32⟩
  | .hbm, ⟨12, _⟩ => ⟨S2x4x8192x8192, .f32⟩
  | .hbm, ⟨13, _⟩ => ⟨S2x4x8192x8192, .f32⟩
  | .hbm, ⟨14, _⟩ => ⟨S_, .f32⟩
  | .hbm, ⟨15, _⟩ => ⟨S2x4x8192, .f32⟩
  | .hbm, ⟨16, _⟩ => ⟨S2x4x8192x1, .f32⟩
  | .hbm, ⟨17, _⟩ => ⟨S2x4x8192x8192, .f32⟩
  | .hbm, ⟨18, _⟩ => ⟨S2x4x8192x8192, .f32⟩
  | .hbm, ⟨19, _⟩ => ⟨S2x4x8192x64, .f32⟩
  | .hbm, ⟨20, _⟩ => ⟨S2x4x8192x1, .f32⟩
  | .hbm, ⟨21, _⟩ => ⟨S2x4x8192x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x4x8192x1, .f32⟩
  | .hbm, ⟨27, _⟩ => ⟨S2x4x8192x1, .f32⟩
  | .hbm, ⟨28, _⟩ => ⟨S2x4x8192x64, .f32⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x4x8192x64, .f32⟩
  | .hbm, ⟨38, _⟩ => ⟨S2x4x8192x64, .f32⟩
  | .hbm, ⟨39, _⟩ => ⟨S2x4x16x512x64, .f32⟩
  | .hbm, ⟨40, _⟩ => ⟨S2x16x64x4x512, .f32⟩
  | .hbm, ⟨41, _⟩ => ⟨S2x16x64x2048, .f32⟩
  | .hbm, ⟨42, _⟩ => ⟨S2x16x64x2048, .bf16⟩
  | .hbm, ⟨43, _⟩ => ⟨S2x16x512x64, .f32⟩
  | .hbm, ⟨44, _⟩ => ⟨S2x16x64x512, .f32⟩
  | .hbm, ⟨45, _⟩ => ⟨S2x16x64x512, .bf16⟩
  | .hbm, ⟨46, _⟩ => ⟨S2x16x512x64, .f32⟩
  | .hbm, ⟨47, _⟩ => ⟨S2x16x64x512, .f32⟩
  | .hbm, ⟨48, _⟩ => ⟨S2x16x64x512, .bf16⟩
  | .hbm, ⟨49, _⟩ => ⟨S2x4x16x512x64, .f32⟩
  | .hbm, ⟨50, _⟩ => ⟨S2x16x64x4x512, .f32⟩
  | .hbm, ⟨51, _⟩ => ⟨S2x16x64x2048, .f32⟩
  | .hbm, ⟨52, _⟩ => ⟨S2x16x64x2048, .bf16⟩
  | .hbm, ⟨53, _⟩ => ⟨S2x4x16x512, .f32⟩
  | .hbm, ⟨54, _⟩ => ⟨S2x16x4x512, .f32⟩
  | .hbm, ⟨55, _⟩ => ⟨S2x16x1x2048, .f32⟩
  | .hbm, ⟨56, _⟩ => ⟨S2x4x16x512, .f32⟩
  | .hbm, ⟨57, _⟩ => ⟨S2x16x4x512, .f32⟩
  | .hbm, ⟨58, _⟩ => ⟨S2x16x1x2048, .f32⟩
  | .hbm, ⟨59, _⟩ => ⟨S2x16x64x2048, .f32⟩
  | .hbm, ⟨60, _⟩ => ⟨S2x16x64x512, .f32⟩
  | .hbm, ⟨61, _⟩ => ⟨S2x16x64x512, .f32⟩
  | .local _ .vmem, ⟨0, _⟩ => ⟨S1x1x64x2048, .bf16⟩
  | .local _ .vmem, ⟨1, _⟩ => ⟨S1x1x64x2048, .bf16⟩
  | .local _ .vmem, ⟨2, _⟩ => ⟨S1x16x64x512, .bf16⟩
  | .local _ .vmem, ⟨3, _⟩ => ⟨S1x16x64x512, .bf16⟩
  | .local _ .vmem, ⟨4, _⟩ => ⟨S1x16x64x512, .bf16⟩
  | .local _ .vmem, ⟨5, _⟩ => ⟨S1x16x64x512, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S1x1x64x2048, .f32⟩
  | .local _ .vmem, ⟨13, _⟩ => ⟨S1x1x64x2048, .f32⟩
  | .local _ .vmem, ⟨14, _⟩ => ⟨S1x16x64x512, .f32⟩
  | .local _ .vmem, ⟨15, _⟩ => ⟨S1x16x64x512, .f32⟩
  | .local _ .vmem, ⟨16, _⟩ => ⟨S1x16x64x512, .f32⟩
  | .local _ .vmem, ⟨17, _⟩ => ⟨S1x16x64x512, .f32⟩
  | .local _ .vmem, ⟨18, _⟩ => ⟨S64x2048, .f32⟩
  | _, _ => ⟨S2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_18 : BitVec 32 := 0#32
  let c16_i32 : BitVec 32 := 16#32
  let v15 : BitVec 32 := Scalar.addi c0_i32_18 c16_i32
  let c1_i32 : BitVec 32 := 1#32
  ⟨c0_i32_18, v15, c1_i32⟩
def k0_off1 (k0_t1 : Fin k0_t1_loop.trips) : Fin 4 → Nat :=
  let c0_26 : Index := 0#32
  let c0_i32_18 : BitVec 32 := 0#32
  let c1_i32 : BitVec 32 := 1#32
  let arg12 : BitVec 32 := Scf.iv c0_i32_18 c1_i32 k0_t1
  let v20 : Index := Scalar.indexCast arg12
  let c0_27 : Index := 0#32
  let c0_28 : Index := 0#32
  ![0, v20.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FaRefIdeal.lean ====
abbrev S2x4x8192x64 : Shape := ⟨4, ![2, 4, 8192, 64]⟩
abbrev S2x8192x64 : Shape := ⟨3, ![2, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x8192 : Shape := ⟨3, ![2, 64, 8192]⟩
abbrev S2x4x16x512x64 : Shape := ⟨5, ![2, 4, 16, 512, 64]⟩
abbrev S2x16x64x4x512 : Shape := ⟨5, ![2, 16, 64, 4, 512]⟩
abbrev S2x16x64x2048 : Shape := ⟨4, ![2, 16, 64, 2048]⟩
abbrev S2x16x512x64 : Shape := ⟨4, ![2, 16, 512, 64]⟩
abbrev S2x16x64x512 : Shape := ⟨4, ![2, 16, 64, 512]⟩

abbrev nBuf : Space → Nat
  | .hbm => 85
  | .vmem => 0
  | .smem => 0
  | _ => 0

abbrev bufTy : (tb : Table) → Fin (tcTables nBuf tb) → BufTy
  | .hbm, ⟨0, _⟩ => ⟨S2x4x8192x64, .f32⟩
  | .hbm, ⟨1, _⟩ => ⟨S2x8192x64, .f32⟩
  | .hbm, ⟨2, _⟩ => ⟨S2x8192x64, .f32⟩
  | .hbm, ⟨3, _⟩ => ⟨S2x4x8192x64, .f32⟩
  | .hbm, ⟨4, _⟩ => ⟨S2x4x8192x8192, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S2x4x8192x1, .f32⟩
  | .hbm, ⟨11, _⟩ => ⟨S2x4x8192x8192, .f32⟩
  | .hbm, ⟨12, _⟩ => ⟨S2x4x8192x8192, .i1⟩
  | .hbm, ⟨13, _⟩ => ⟨S2x4x8192x8192, .f32⟩
  | .hbm, ⟨14, _⟩ => ⟨S_, .f32⟩
  | .hbm, ⟨15, _⟩ => ⟨S2x4x8192, .f32⟩
  | .hbm, ⟨16, _⟩ => ⟨S_, .f32⟩
  | .hbm, ⟨17, _⟩ => ⟨S2x4x8192, .f32⟩
  | .hbm, ⟨18, _⟩ => ⟨S2x4x8192, .f32⟩
  | .hbm, ⟨19, _⟩ => ⟨S_, .f32⟩
  | .hbm, ⟨20, _⟩ => ⟨S2x4x8192, .f32⟩
  | .hbm, ⟨21, _⟩ => ⟨S2x4x8192, .i1⟩
  | .hbm, ⟨22, _⟩ => ⟨S_, .f32⟩
  | .hbm, ⟨23, _⟩ => ⟨S2x4x8192, .f32⟩
  | .hbm, ⟨24, _⟩ => ⟨S2x4x8192, .i1⟩
  | .hbm, ⟨25, _⟩ => ⟨S_, .f32⟩
  | .hbm, ⟨26, _⟩ => ⟨S2x4x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x4x8192x1, .f32⟩
  | .hbm, ⟨43, _⟩ => ⟨S_, .f32⟩
  | .hbm, ⟨44, _⟩ => ⟨S2x4x8192x1, .f32⟩
  | .hbm, ⟨45, _⟩ => ⟨S2x4x8192x1, .f32⟩
  | .hbm, ⟨46, _⟩ => ⟨S2x4x8192x64, .f32⟩
  | .hbm, ⟨47, _⟩ => ⟨S2x64x8192, .f32⟩
  | .hbm, ⟨48, _⟩ => ⟨S2x8192x64, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S_, .f32⟩
  | .hbm, ⟨54, _⟩ => ⟨S2x4x8192, .f32⟩
  | .hbm, ⟨55, _⟩ => ⟨S2x4x8192x1, .f32⟩
  | .hbm, ⟨56, _⟩ => ⟨S2x4x8192x1, .f32⟩
  | .hbm, ⟨57, _⟩ => ⟨S2x4x8192x8192, .f32⟩
  | .hbm, ⟨58, _⟩ => ⟨S2x4x8192x8192, .f32⟩
  | .hbm, ⟨59, _⟩ => ⟨S_, .f32⟩
  | .hbm, ⟨60, _⟩ => ⟨S2x4x8192, .f32⟩
  | .hbm, ⟨61, _⟩ => ⟨S2x4x8192x8192, .f32⟩
  | .hbm, ⟨62, _⟩ => ⟨S2x4x8192x8192, .f32⟩
  | .hbm, ⟨63, _⟩ => ⟨S2x4x8192x8192, .f32⟩
  | .hbm, ⟨64, _⟩ => ⟨S_, .f32⟩
  | .hbm, ⟨65, _⟩ => ⟨S2x4x8192x8192, .f32⟩
  | .hbm, ⟨66, _⟩ => ⟨S2x4x8192x8192, .f32⟩
  | .hbm, ⟨67, _⟩ => ⟨S2x8192x64, .f32⟩
  | .hbm, ⟨68, _⟩ => ⟨S2x4x8192x64, .f32⟩
  | .hbm, ⟨69, _⟩ => ⟨S2x4x16x512x64, .f32⟩
  | .hbm, ⟨70, _⟩ => ⟨S2x16x64x4x512, .f32⟩
  | .hbm, ⟨71, _⟩ => ⟨S2x16x64x2048, .f32⟩
  | .hbm, ⟨72, _⟩ => ⟨S_, .f32⟩
  | .hbm, ⟨73, _⟩ => ⟨S2x16x64x2048, .f32⟩
  | .hbm, ⟨74, _⟩ => ⟨S2x16x64x2048, .f32⟩
  | .hbm, ⟨75, _⟩ => ⟨S2x16x512x64, .f32⟩
  | .hbm, ⟨76, _⟩ => ⟨S2x16x64x512, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2x16x64x512, .f32⟩
  | .hbm, ⟨82, _⟩ => ⟨S2x16x64x512, .f32⟩
  | .hbm, ⟨83, _⟩ => ⟨S2x16x512x64, .f32⟩
  | .hbm, ⟨84, _⟩ => ⟨S2x16x64x512, .f32⟩
  | _, _ => ⟨S2x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Post.lean ====
abbrev S8192x1024 : Shape := ⟨2, ![8192, 1024]⟩
abbrev S8192x512 : Shape := ⟨2, ![8192, 512]⟩
abbrev S1x512 : Shape := ⟨2, ![1, 512]⟩
abbrev S2x16x64x2048 : Shape := ⟨4, ![2, 16, 64, 2048]⟩
abbrev S2x16x1x2048 : Shape := ⟨4, ![2, 16, 1, 2048]⟩
abbrev S512x512 : Shape := ⟨2, ![512, 512]⟩
abbrev S2x1x64x2048 : Shape := ⟨4, ![2, 1, 64, 2048]⟩
abbrev S2x1x1x2048 : Shape := ⟨4, ![2, 1, 1, 2048]⟩
abbrev S512 : Shape := ⟨1, ![512]⟩
abbrev S512x1 : Shape := ⟨2, ![512, 1]⟩
abbrev S512x256 : Shape := ⟨2, ![512, 256]⟩
abbrev S256x512 : Shape := ⟨2, ![256, 512]⟩
abbrev S64x512 : Shape := ⟨2, ![64, 512]⟩
abbrev S64x2048 : Shape := ⟨2, ![64, 2048]⟩
abbrev S1x1x64x2048 : Shape := ⟨4, ![1, 1, 64, 2048]⟩
abbrev S2048 : Shape := ⟨1, ![2048]⟩
abbrev S1x2048 : Shape := ⟨2, ![1, 2048]⟩
abbrev S1x1x1x2048 : Shape := ⟨4, ![1, 1, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1x512, .f32⟩
  | .hbm, ⟨3, _⟩ => ⟨S2x16x64x2048, .bf16⟩
  | .hbm, ⟨4, _⟩ => ⟨S2x16x1x2048, .f32⟩
  | .hbm, ⟨5, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S2x1x64x2048, .bf16⟩
  | .local _ .vmem, ⟨6, _⟩ => ⟨S2x1x64x2048, .bf16⟩
  | .local _ .vmem, ⟨7, _⟩ => ⟨S2x1x1x2048, .f32⟩
  | .local _ .vmem, ⟨8, _⟩ => ⟨S2x1x1x2048, .f32⟩
  | .local _ .vmem, ⟨9, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostRefIdeal.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩
abbrev S16x512x2x4x64 : Shape := ⟨5, ![16, 512, 2, 4, 64]⟩
abbrev S2x16x64x4x512 : Shape := ⟨5, ![2, 16, 64, 4, 512]⟩
abbrev S2x16x64x2048 : Shape := ⟨4, ![2, 16, 64, 2048]⟩
abbrev S2x16x2048 : Shape := ⟨3, ![2, 16, 2048]⟩
abbrev S2x16x1x2048 : Shape := ⟨4, ![2, 16, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S16x512x2x4x64, .f32⟩
  | .hbm, ⟨47, _⟩ => ⟨S2x16x64x4x512, .f32⟩
  | .hbm, ⟨48, _⟩ => ⟨S2x16x64x2048, .f32⟩
  | .hbm, ⟨49, _⟩ => ⟨S2x16x64x2048, .bf16⟩
  | .hbm, ⟨50, _⟩ => ⟨S8192x512, .f32⟩
  | .hbm, ⟨51, _⟩ => ⟨S16x512x2x4x64, .f32⟩
  | .hbm, ⟨52, _⟩ => ⟨S2x16x64x4x512, .f32⟩
  | .hbm, ⟨53, _⟩ => ⟨S2x16x64x2048, .f32⟩
  | .hbm, ⟨54, _⟩ => ⟨S_, .f32⟩
  | .hbm, ⟨55, _⟩ => ⟨S2x16x2048, .f32⟩
  | .hbm, ⟨56, _⟩ => ⟨S2x16x1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Hg.lean ====
abbrev S8192x1024 : Shape := ⟨2, ![8192, 1024]⟩
abbrev S8192x512 : Shape := ⟨2, ![8192, 512]⟩
abbrev S8192x3328 : Shape := ⟨2, ![8192, 3328]⟩
abbrev S1x128 : Shape := ⟨2, ![1, 128]⟩
abbrev S1x512 : Shape := ⟨2, ![1, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x3328, .f32⟩
  | .hbm, ⟨3, _⟩ => ⟨S1x128, .f32⟩
  | .hbm, ⟨4, _⟩ => ⟨S8192x512, .f32⟩
  | .hbm, ⟨5, _⟩ => ⟨S8192x512, .bf16⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HgRefIdeal.lean ====
abbrev S8192x1024 : Shape := ⟨2, ![8192, 1024]⟩
abbrev S8192x512 : Shape := ⟨2, ![8192, 512]⟩
abbrev S8192x3328 : Shape := ⟨2, ![8192, 3328]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S4x128 : Shape := ⟨2, ![4, 128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x3328, .f32⟩
  | .hbm, ⟨3, _⟩ => ⟨S1x128, .f32⟩
  | .hbm, ⟨4, _⟩ => ⟨S8192x512, .f32⟩
  | .hbm, ⟨5, _⟩ => ⟨S1x1x1x128, .f32⟩
  | .hbm, ⟨6, _⟩ => ⟨S1x1x4x128, .f32⟩
  | .hbm, ⟨7, _⟩ => ⟨S1x512, .f32⟩
  | .hbm, ⟨8, _⟩ => ⟨S4x128, .f32⟩
  | .hbm, ⟨9, _⟩ => ⟨S8192x4x128, .f32⟩
  | .hbm, ⟨10, _⟩ => ⟨S8192x4x128, .f32⟩
  | .hbm, ⟨11, _⟩ => ⟨S_, .f32⟩
  | .hbm, ⟨12, _⟩ => ⟨S8192x4, .f32⟩
  | .hbm, ⟨13, _⟩ => ⟨S8192x4x1, .f32⟩
  | .hbm, ⟨14, _⟩ => ⟨S_, .f32⟩
  | .hbm, ⟨15, _⟩ => ⟨S8192x4x1, .f32⟩
  | .hbm, ⟨16, _⟩ => ⟨S8192x4x1, .f32⟩
  | .hbm, ⟨17, _⟩ => ⟨S_, .f32⟩
  | .hbm, ⟨18, _⟩ => ⟨S8192x4x1, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S_, .f32⟩
  | .hbm, ⟨23, _⟩ => ⟨S8192x4x1, .f32⟩
  | .hbm, ⟨24, _⟩ => ⟨S8192x4x1, .f32⟩
  | .hbm, ⟨25, _⟩ => ⟨S8192x4x128, .f32⟩
  | .hbm, ⟨26, _⟩ => ⟨S8192x4x128, .f32⟩
  | .hbm, ⟨27, _⟩ => ⟨S1x4x128, .f32⟩
  | .hbm, ⟨28, _⟩ => ⟨S8192x4x128, .f32⟩
  | .hbm, ⟨29, _⟩ => ⟨S8192x4x128, .f32⟩
  | .hbm, ⟨30, _⟩ => ⟨S8192x4x128, .f32⟩
  | .hbm, ⟨31, _⟩ => ⟨S8192x4x128, .f32⟩
  | .hbm, ⟨32, _⟩ => ⟨S8192x4x128, .f32⟩
  | .hbm, ⟨33, _⟩ => ⟨S_, .f32⟩
  | .hbm, ⟨34, _⟩ => ⟨S8192x4x128, .f32⟩
  | .hbm, ⟨35, _⟩ => ⟨S8192x4x128, .f32⟩
  | .hbm, ⟨36, _⟩ => ⟨S_, .f32⟩
  | .hbm, ⟨37, _⟩ => ⟨S8192x4x128, .f32⟩
  | .hbm, ⟨38, _⟩ => ⟨S8192x4x128, .f32⟩
  | .hbm, ⟨39, _⟩ => ⟨S_, .f32⟩
  | .hbm, ⟨40, _⟩ => ⟨S8192x4x128, .f32⟩
  | .hbm, ⟨41, _⟩ => ⟨S8192x4x128, .f32⟩
  | .hbm, ⟨42, _⟩ => ⟨S8192x4x128, .f32⟩
  | .hbm, ⟨43, _⟩ => ⟨S8192x4x128, .f32⟩
  | .hbm, ⟨44, _⟩ => ⟨S8192x4x128, .f32⟩
  | .hbm, ⟨45, _⟩ => ⟨S8192x512, .f32⟩
  | .hbm, ⟨46, _⟩ => ⟨S8192x512, .f32⟩
  | .hbm, ⟨47, _⟩ => ⟨S8192x4x128, .f32⟩
  | .hbm, ⟨48, _⟩ => ⟨S8192x4x128, .f32⟩
  | .hbm, ⟨49, _⟩ => ⟨S8192x4x128, .f32⟩
  | .hbm, ⟨50, _⟩ => ⟨S8192x4x128, .f32⟩
  | .hbm, ⟨51, _⟩ => ⟨S8192x4x128, .f32⟩
  | .hbm, ⟨52, _⟩ => ⟨S8192x4x128, .f32⟩
  | .hbm, ⟨53, _⟩ => ⟨S8192x4x128, .f32⟩
  | .hbm, ⟨54, _⟩ => ⟨S8192x512, .f32⟩
  | .hbm, ⟨55, _⟩ => ⟨S8192x4x128, .f32⟩
  | .hbm, ⟨56, _⟩ => ⟨S_, .f32⟩
  | .hbm, ⟨57, _⟩ => ⟨S4x128, .f32⟩
  | .hbm, ⟨58, _⟩ => ⟨S1x4x128, .f32⟩
  | .hbm, ⟨59, _⟩ => ⟨S8192x4x128, .f32⟩
  | .hbm, ⟨60, _⟩ => ⟨S8192x4x128, .f32⟩
  | .hbm, ⟨61, _⟩ => ⟨S_, .f32⟩
  | .hbm, ⟨62, _⟩ => ⟨S4x128, .f32⟩
  | .hbm, ⟨63, _⟩ => ⟨S8192x4x128, .f32⟩
  | .hbm, ⟨64, _⟩ => ⟨S_, .f32⟩
  | .hbm, ⟨65, _⟩ => ⟨S8192x4, .f32⟩
  | .hbm, ⟨66, _⟩ => ⟨S8192x4x1, .f32⟩
  | .hbm, ⟨67, _⟩ => ⟨S8192x4x128, .f32⟩
  | .hbm, ⟨68, _⟩ => ⟨S8192x4x128, .f32⟩
  | .hbm, ⟨69, _⟩ => ⟨S8192x4x1, .f32⟩
  | .hbm, ⟨70, _⟩ => ⟨S_, .f32⟩
  | .hbm, ⟨71, _⟩ => ⟨S8192x4x1, .f32⟩
  | .hbm, ⟨72, _⟩ => ⟨S8192x4x1, .f32⟩
  | .hbm, ⟨73, _⟩ => ⟨S_, .f32⟩
  | .hbm, ⟨74, _⟩ => ⟨S8192x4, .f32⟩
  | .hbm, ⟨75, _⟩ => ⟨S8192x4x128, .f32⟩
  | .hbm, ⟨76, _⟩ => ⟨S8192x4x128, .f32⟩
  | .hbm, ⟨77, _⟩ => ⟨S8192x4x128, .f32⟩
  | .hbm, ⟨78, _⟩ => ⟨S8192x4x128, .f32⟩
  | .hbm, ⟨79, _⟩ => ⟨S8192x4x128, .f32⟩
  | .hbm, ⟨80, _⟩ => ⟨S8192x512, .f32⟩
  | .hbm, ⟨81, _⟩ => ⟨S8192x512, .bf16⟩
  | .hbm, ⟨82, _⟩ => ⟨S1x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== UpBwd.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x2816 : Shape := ⟨2, ![256, 2816]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 21
  | .vmem => 18
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .bf16⟩
  | .hbm, ⟨20, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== UpBwdRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== InBwd.lean ====
abbrev S8192x2560 : Shape := ⟨2, ![8192, 2560]⟩
abbrev S8192x768 : Shape := ⟨2, ![8192, 768]⟩
abbrev S3328x1024 : Shape := ⟨2, ![3328, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩
abbrev S768x1024 : Shape := ⟨2, ![768, 1024]⟩
abbrev S512x2560 : Shape := ⟨2, ![512, 2560]⟩
abbrev S512x768 : Shape := ⟨2, ![512, 768]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 21
  | .vmem => 16
  | .smem => 0
  | _ => 0

abbrev bufTy : (tb : Table) → Fin (tcTables nBuf tb) → BufTy
  | .hbm, ⟨0, _⟩ => ⟨S8192x2560, .bf16⟩
  | .hbm, ⟨1, _⟩ => ⟨S8192x768, .bf16⟩
  | .hbm, ⟨2, _⟩ => ⟨S3328x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S2560x1024, .bf16⟩
  | .hbm, ⟨18, _⟩ => ⟨S768x1024, .bf16⟩
  | .hbm, ⟨19, _⟩ => ⟨S8192x1024, .f32⟩
  | .hbm, ⟨20, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x768, .bf16⟩
  | .local _ .vmem, ⟨4, _⟩ => ⟨S512x768, .bf16⟩
  | .local _ .vmem, ⟨5, _⟩ => ⟨S768x1024, .bf16⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== InBwdRefIdeal.lean ====
abbrev S8192x2560 : Shape := ⟨2, ![8192, 2560]⟩
abbrev S8192x768 : Shape := ⟨2, ![8192, 768]⟩
abbrev S3328x1024 : Shape := ⟨2, ![3328, 1024]⟩
abbrev S8192x1024 : Shape := ⟨2, ![8192, 1024]⟩
abbrev S1x1024 : Shape := ⟨2, ![1, 1024]⟩
abbrev S8192x3328 : Shape := ⟨2, ![8192, 3328]⟩
abbrev S1024x3328 : Shape := ⟨2, ![1024, 3328]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x768, .bf16⟩
  | .hbm, ⟨2, _⟩ => ⟨S3328x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x2560, .f32⟩
  | .hbm, ⟨7, _⟩ => ⟨S8192x768, .f32⟩
  | .hbm, ⟨8, _⟩ => ⟨S8192x3328, .f32⟩
  | .hbm, ⟨9, _⟩ => ⟨S3328x1024, .f32⟩
  | .hbm, ⟨10, _⟩ => ⟨S1024x3328, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x3328, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S1x1, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1, .f32⟩
  | .hbm, ⟨76, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Prep.lean ====
abbrev S8192x3328 : Shape := ⟨2, ![8192, 3328]⟩
abbrev S2x16x64x2048 : Shape := ⟨4, ![2, 16, 64, 2048]⟩
abbrev S2x16x64x512 : Shape := ⟨4, ![2, 16, 64, 512]⟩
abbrev S8192x32 : Shape := ⟨2, ![8192, 32]⟩
abbrev S1x64 : Shape := ⟨2, ![1, 64]⟩
abbrev S8192x32x2 : Shape := ⟨3, ![8192, 32, 2]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x32x1 : Shape := ⟨3, ![8192, 32, 1]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S8192x768 : Shape := ⟨2, ![8192, 768]⟩
abbrev S512x512 : Shape := ⟨2, ![512, 512]⟩
abbrev S512x128 : Shape := ⟨2, ![512, 128]⟩
abbrev S2x1x64x2048 : Shape := ⟨4, ![2, 1, 64, 2048]⟩
abbrev S2x1x64x512 : Shape := ⟨4, ![2, 1, 64, 512]⟩
abbrev S512x768 : Shape := ⟨2, ![512, 768]⟩
abbrev S1x1x64x2048 : Shape := ⟨4, ![1, 1, 64, 2048]⟩
abbrev S64x2048 : Shape := ⟨2, ![64, 2048]⟩
abbrev S64x512 : Shape := ⟨2, ![64, 512]⟩
abbrev S256x512 : Shape := ⟨2, ![256, 512]⟩
abbrev S512x256 : Shape := ⟨2, ![512, 256]⟩
abbrev S512 : Shape := ⟨1, ![512]⟩
abbrev S1x1x64x512 : Shape := ⟨4, ![1, 1, 64, 512]⟩
abbrev S128x512 : Shape := ⟨2, ![128, 512]⟩
abbrev S128x128 : Shape := ⟨2, ![128, 128]⟩
abbrev S128 : Shape := ⟨1, ![128]⟩

abbrev nBuf : Space → Nat
  | .hbm => 30
  | .vmem => 20
  | .smem => 0
  | _ => 0

abbrev bufTy : (tb : Table) → Fin (tcTables nBuf tb) → BufTy
  | .hbm, ⟨0, _⟩ => ⟨S8192x3328, .f32⟩
  | .hbm, ⟨1, _⟩ => ⟨S2x16x64x2048, .f32⟩
  | .hbm, ⟨2, _⟩ => ⟨S2x16x64x512, .f32⟩
  | .hbm, ⟨3, _⟩ => ⟨S2x16x64x512, .f32⟩
  | .hbm, ⟨4, _⟩ => ⟨S8192x32, .f32⟩
  | .hbm, ⟨5, _⟩ => ⟨S8192x32, .f32⟩
  | .hbm, ⟨6, _⟩ => ⟨S1x64, .f32⟩
  | .hbm, ⟨7, _⟩ => ⟨S1x64, .f32⟩
  | .hbm, ⟨8, _⟩ => ⟨S8192x32x2, .f32⟩
  | .hbm, ⟨9, _⟩ => ⟨S8192x64, .f32⟩
  | .hbm, ⟨10, _⟩ => ⟨S1x8192x1x64, .f32⟩
  | .hbm, ⟨11, _⟩ => ⟨S1x8192x2x64, .f32⟩
  | .hbm, ⟨12, _⟩ => ⟨S8192x128, .f32⟩
  | .hbm, ⟨13, _⟩ => ⟨S8192x32, .f32⟩
  | .hbm, ⟨14, _⟩ => ⟨S8192x32x1, .f32⟩
  | .hbm, ⟨15, _⟩ => ⟨S8192x32x1, .f32⟩
  | .hbm, ⟨16, _⟩ => ⟨S8192x32x2, .f32⟩
  | .hbm, ⟨17, _⟩ => ⟨S8192x64, .f32⟩
  | .hbm, ⟨18, _⟩ => ⟨S1x8192x1x64, .f32⟩
  | .hbm, ⟨19, _⟩ => ⟨S1x8192x2x64, .f32⟩
  | .hbm, ⟨20, _⟩ => ⟨S8192x128, .f32⟩
  | .hbm, ⟨21, _⟩ => ⟨S1x1x1x64, .f32⟩
  | .hbm, ⟨22, _⟩ => ⟨S1x1x8x64, .f32⟩
  | .hbm, ⟨23, _⟩ => ⟨S1x512, .f32⟩
  | .hbm, ⟨24, _⟩ => ⟨S1x1x1x64, .f32⟩
  | .hbm, ⟨25, _⟩ => ⟨S1x1x2x64, .f32⟩
  | .hbm, ⟨26, _⟩ => ⟨S1x128, .f32⟩
  | .hbm, ⟨27, _⟩ => ⟨S8192x768, .bf16⟩
  | .hbm, ⟨28, _⟩ => ⟨S1x512, .f32⟩
  | .hbm, ⟨29, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S2x1x64x2048, .f32⟩
  | .local _ .vmem, ⟨5, _⟩ => ⟨S2x1x64x2048, .f32⟩
  | .local _ .vmem, ⟨6, _⟩ => ⟨S2x1x64x512, .f32⟩
  | .local _ .vmem, ⟨7, _⟩ => ⟨S2x1x64x512, .f32⟩
  | .local _ .vmem, ⟨8, _⟩ => ⟨S2x1x64x512, .f32⟩
  | .local _ .vmem, ⟨9, _⟩ => ⟨S2x1x64x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512, .f32⟩
  | .local _ .vmem, ⟨15, _⟩ => ⟨S1x128, .f32⟩
  | .local _ .vmem, ⟨16, _⟩ => ⟨S512x768, .bf16⟩
  | .local _ .vmem, ⟨17, _⟩ => ⟨S512x768, .bf16⟩
  | .local _ .vmem, ⟨18, _⟩ => ⟨S1x512, .f32⟩
  | .local _ .vmem, ⟨19, _⟩ => ⟨S1x128, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_4 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PrepRefIdeal.lean ====
abbrev S8192x3328 : Shape := ⟨2, ![8192, 3328]⟩
abbrev S2x16x64x2048 : Shape := ⟨4, ![2, 16, 64, 2048]⟩
abbrev S2x16x64x512 : Shape := ⟨4, ![2, 16, 64, 512]⟩
abbrev S8192x32 : Shape := ⟨2, ![8192, 32]⟩
abbrev S1x64 : Shape := ⟨2, ![1, 64]⟩
abbrev S2x16x64x4x512 : Shape := ⟨5, ![2, 16, 64, 4, 512]⟩
abbrev S16x512x2x4x64 : Shape := ⟨5, ![16, 512, 2, 4, 64]⟩
abbrev S8192x8x64 : Shape := ⟨3, ![8192, 8, 64]⟩
abbrev S16x512x2x64 : Shape := ⟨4, ![16, 512, 2, 64]⟩
abbrev S8192x2x64 : Shape := ⟨3, ![8192, 2, 64]⟩
abbrev S8192x128 : Shape := ⟨2, ![8192, 128]⟩
abbrev S8192x512 : Shape := ⟨2, ![8192, 512]⟩
abbrev S1x1x1x64 : Shape := ⟨4, ![1, 1, 1, 64]⟩
abbrev S8x1x1x64 : Shape := ⟨4, ![8, 1, 1, 64]⟩
abbrev S8x64 : Shape := ⟨2, ![8, 64]⟩
abbrev S_ : Shape := ⟨0, ![]⟩
abbrev S8192x8 : Shape := ⟨2, ![8192, 8]⟩
abbrev S8192x8x1 : Shape := ⟨3, ![8192, 8, 1]⟩
abbrev S1x8x64 : Shape := ⟨3, ![1, 8, 64]⟩
abbrev S8192x8x32 : Shape := ⟨3, ![8192, 8, 32]⟩
abbrev S8192x1x32 : Shape := ⟨3, ![8192, 1, 32]⟩
abbrev S8192x8x32x1 : Shape := ⟨4, ![8192, 8, 32, 1]⟩
abbrev S8192x8x32x2 : Shape := ⟨4, ![8192, 8, 32, 2]⟩
abbrev S2x1x1x64 : Shape := ⟨4, ![2, 1, 1, 64]⟩
abbrev S2x64 : Shape := ⟨2, ![2, 64]⟩
abbrev S8192x2 : Shape := ⟨2, ![8192, 2]⟩
abbrev S8192x2x1 : Shape := ⟨3, ![8192, 2, 1]⟩
abbrev S1x2x64 : Shape := ⟨3, ![1, 2, 64]⟩
abbrev S8192x2x32 : Shape := ⟨3, ![8192, 2, 32]⟩
abbrev S8192x2x32x1 : Shape := ⟨4, ![8192, 2, 32, 1]⟩
abbrev S8192x2x32x2 : Shape := ⟨4, ![8192, 2, 32, 2]⟩
abbrev S8192x768 : Shape := ⟨2, ![8192, 768]⟩
abbrev S1x512 : Shape := ⟨2, ![1, 512]⟩
abbrev S1x128 : Shape := ⟨2, ![1, 128]⟩

abbrev nBuf : Space → Nat
  | .hbm => 205
  | .vmem => 0
  | .smem => 0
  | _ => 0

abbrev hbmTy0_0 (i : Nat) : BufTy := match i % 128 with
  | 0 => ⟨S8192x3328, .f32⟩
  | 1 => ⟨S2x16x64x2048, .f32⟩
  | 2 => ⟨S2x16x64x512, .f32⟩
  | 3 => ⟨S2x16x64x512, .f32⟩
  | 4 => ⟨S8192x32, .f32⟩
  | 5 => ⟨S8192x32, .f32⟩
  | 6 => ⟨S1x64, .f32⟩
  | 7 => ⟨S1x64, .f32⟩
  | 8 => ⟨S2x16x64x4x512, .f32⟩
  | 9 => ⟨S16x512x2x4x64, .f32⟩
  | 10 => ⟨S8192x8x64, .f32⟩
  | 11 => ⟨S16x512x2x64, .f32⟩
  | 12 => ⟨S8192x2x64, .f32⟩
  | 13 => ⟨S16x512x2x64, .f32⟩
  | 14 => ⟨S8192x128, .f32⟩
  | 15 => ⟨S8192x512, .f32⟩
  | 16 => ⟨S8192x8x64, .f32⟩
  | 17 => ⟨S1x1x1x64, .f32⟩
  | 18 => ⟨S8x1x1x64, .f32⟩
  | 19 => ⟨S8x64, .f32⟩
  | 20 => ⟨S8192x8x64, .f32⟩
  | 21 => ⟨S_, .f32⟩
  | 22 => ⟨S8192x8, .f32⟩
  | 23 => ⟨S8192x8x1, .f32⟩
  | 24 => ⟨S_, .f32⟩
  | 25 => ⟨S8192x8x1, .f32⟩
  | 26 => ⟨S8192x8x1, .f32⟩
  | 27 => ⟨S_, .f32⟩
  | 28 => ⟨S8192x8x1, .f32⟩
  | 29 => ⟨S8192x8x1, .f32⟩
  | 30 => ⟨S8192x8x1, .f32⟩
  | 31 => ⟨S8192x8x1, .f32⟩
  | 32 => ⟨S_, .f32⟩
  | 33 => ⟨S8192x8x1, .f32⟩
  | 34 => ⟨S8192x8x1, .f32⟩
  | 35 => ⟨S8192x8x64, .f32⟩
  | 36 => ⟨S8192x8x64, .f32⟩
  | 37 => ⟨S1x8x64, .f32⟩
  | 38 => ⟨S8192x8x64, .f32⟩
  | 39 => ⟨S8192x8x64, .f32⟩
  | 40 => ⟨S8192x8x32, .f32⟩
  | 41 => ⟨S8192x8x32, .f32⟩
  | 42 => ⟨S8192x1x32, .f32⟩
  | 43 => ⟨S8192x1x32, .f32⟩
  | 44 => ⟨S8192x8x32, .f32⟩
  | 45 => ⟨S8192x8x32, .f32⟩
  | 46 => ⟨S8192x8x32, .f32⟩
  | 47 => ⟨S8192x8x32, .f32⟩
  | 48 => ⟨S8192x8x32, .f32⟩
  | 49 => ⟨S8192x8x32, .f32⟩
  | 50 => ⟨S8192x8x32, .f32⟩
  | 51 => ⟨S8192x8x32, .f32⟩
  | 52 => ⟨S8192x8x32, .f32⟩
  | 53 => ⟨S8192x8x32, .f32⟩
  | 54 => ⟨S8192x8x32x1, .f32⟩
  | 55 => ⟨S8192x8x32x1, .f32⟩
  | 56 => ⟨S8192x8x32x2, .f32⟩
  | 57 => ⟨S8192x8x64, .f32⟩
  | 58 => ⟨S_, .f32⟩
  | 59 => ⟨S8192x8x64, .f32⟩
  | 60 => ⟨S8192x8x64, .f32⟩
  | 61 => ⟨S8192x8x32x2, .f32⟩
  | 62 => ⟨S8192x8x32x1, .f32⟩
  | 63 => ⟨S8192x8x32, .f32⟩
  | 64 => ⟨S8192x8x32x1, .f32⟩
  | 65 => ⟨S8192x8x32, .f32⟩
  | 66 => ⟨S8192x8x32, .f32⟩
  | 67 => ⟨S8192x8x32, .f32⟩
  | 68 => ⟨S8192x8x32, .f32⟩
  | 69 => ⟨S8192x8x32, .f32⟩
  | 70 => ⟨S8192x8x32, .f32⟩
  | 71 => ⟨S8192x8x32, .f32⟩
  | 72 => ⟨S8192x8x32, .f32⟩
  | 73 => ⟨S8192x8x32, .f32⟩
  | 74 => ⟨S8192x8x32, .f32⟩
  | 75 => ⟨S8192x8x32, .f32⟩
  | 76 => ⟨S8192x8x32, .f32⟩
  | 77 => ⟨S_, .f32⟩
  | 78 => ⟨S8192x8x64, .f32⟩
  | 79 => ⟨S_, .f32⟩
  | 80 => ⟨S8192x8x64, .f32⟩
  | 81 => ⟨S8192x8x64, .f32⟩
  | 82 => ⟨S8192x8x64, .f32⟩
  | 83 => ⟨S_, .f32⟩
  | 84 => ⟨S8x64, .f32⟩
  | 85 => ⟨S1x8x64, .f32⟩
  | 86 => ⟨S8192x8x64, .f32⟩
  | 87 => ⟨S8192x8x64, .f32⟩
  | 88 => ⟨S_, .f32⟩
  | 89 => ⟨S8x64, .f32⟩
  | 90 => ⟨S8192x8x64, .f32⟩
  | 91 => ⟨S_, .f32⟩
  | 92 => ⟨S8192x8, .f32⟩
  | 93 => ⟨S8192x8x1, .f32⟩
  | 94 => ⟨S8192x8x64, .f32⟩
  | 95 => ⟨S8192x8x64, .f32⟩
  | 96 => ⟨S8192x8x1, .f32⟩
  | 97 => ⟨S_, .f32⟩
  | 98 => ⟨S8192x8x1, .f32⟩
  | 99 => ⟨S8192x8x1, .f32⟩
  | 100 => ⟨S_, .f32⟩
  | 101 => ⟨S8192x8, .f32⟩
  | 102 => ⟨S8192x8x64, .f32⟩
  | 103 => ⟨S8192x8x64, .f32⟩
  | 104 => ⟨S8192x8x64, .f32⟩
  | 105 => ⟨S8192x8x64, .f32⟩
  | 106 => ⟨S8192x8x64, .f32⟩
  | 107 => ⟨S8192x128, .f32⟩
  | 108 => ⟨S8192x2x64, .f32⟩
  | 109 => ⟨S1x1x1x64, .f32⟩
  | 110 => ⟨S2x1x1x64, .f32⟩
  | 111 => ⟨S2x64, .f32⟩
  | 112 => ⟨S8192x2x64, .f32⟩
  | 113 => ⟨S_, .f32⟩
  | 114 => ⟨S8192x2, .f32⟩
  | 115 => ⟨S8192x2x1, .f32⟩
  | 116 => ⟨S_, .f32⟩
  | 117 => ⟨S8192x2x1, .f32⟩
  | 118 => ⟨S8192x2x1, .f32⟩
  | 119 => ⟨S_, .f32⟩
  | 120 => ⟨S8192x2x1, .f32⟩
  | 121 => ⟨S8192x2x1, .f32⟩
  | 122 => ⟨S8192x2x1, .f32⟩
  | 123 => ⟨S8192x2x1, .f32⟩
  | 124 => ⟨S_, .f32⟩
  | 125 => ⟨S8192x2x1, .f32⟩
  | 126 => ⟨S8192x2x1, .f32⟩
  | 127 => ⟨S8192x2x64, .f32⟩
  | _ => ⟨S8192x3328, .f32⟩

abbrev hbmTy0_1 (i : Nat) : BufTy := match i % 128 with
  | 0 => ⟨S8192x2x64, .f32⟩
  | 1 => ⟨S1x2x64, .f32⟩
  | 2 => ⟨S8192x2x64, .f32⟩
  | 3 => ⟨S8192x2x64, .f32⟩
  | 4 => ⟨S8192x2x32, .f32⟩
  | 5 => ⟨S8192x2x32, .f32⟩
  | 6 => ⟨S8192x1x32, .f32⟩
  | 7 => ⟨S8192x1x32, .f32⟩
  | 8 => ⟨S8192x2x32, .f32⟩
  | 9 => ⟨S8192x2x32, .f32⟩
  | 10 => ⟨S8192x2x32, .f32⟩
  | 11 => ⟨S8192x2x32, .f32⟩
  | 12 => ⟨S8192x2x32, .f32⟩
  | 13 => ⟨S8192x2x32, .f32⟩
  | 14 => ⟨S8192x2x32, .f32⟩
  | 15 => ⟨S8192x2x32, .f32⟩
  | 16 => ⟨S8192x2x32, .f32⟩
  | 17 => ⟨S8192x2x32, .f32⟩
  | 18 => ⟨S8192x2x32x1, .f32⟩
  | 19 => ⟨S8192x2x32x1, .f32⟩
  | 20 => ⟨S8192x2x32x2, .f32⟩
  | 21 => ⟨S8192x2x64, .f32⟩
  | 22 => ⟨S_, .f32⟩
  | 23 => ⟨S8192x2x64, .f32⟩
  | 24 => ⟨S8192x2x64, .f32⟩
  | 25 => ⟨S8192x2x32x2, .f32⟩
  | 26 => ⟨S8192x2x32x1, .f32⟩
  | 27 => ⟨S8192x2x32, .f32⟩
  | 28 => ⟨S8192x2x32x1, .f32⟩
  | 29 => ⟨S8192x2x32, .f32⟩
  | 30 => ⟨S8192x2x32, .f32⟩
  | 31 => ⟨S8192x2x32, .f32⟩
  | 32 => ⟨S8192x2x32, .f32⟩
  | 33 => ⟨S8192x2x32, .f32⟩
  | 34 => ⟨S8192x2x32, .f32⟩
  | 35 => ⟨S8192x2x32, .f32⟩
  | 36 => ⟨S8192x2x32, .f32⟩
  | 37 => ⟨S8192x2x32, .f32⟩
  | 38 => ⟨S8192x2x32, .f32⟩
  | 39 => ⟨S8192x2x32, .f32⟩
  | 40 => ⟨S8192x2x32, .f32⟩
  | 41 => ⟨S_, .f32⟩
  | 42 => ⟨S8192x2x64, .f32⟩
  | 43 => ⟨S_, .f32⟩
  | 44 => ⟨S8192x2x64, .f32⟩
  | 45 => ⟨S8192x2x64, .f32⟩
  | 46 => ⟨S8192x2x64, .f32⟩
  | 47 => ⟨S_, .f32⟩
  | 48 => ⟨S2x64, .f32⟩
  | 49 => ⟨S1x2x64, .f32⟩
  | 50 => ⟨S8192x2x64, .f32⟩
  | 51 => ⟨S8192x2x64, .f32⟩
  | 52 => ⟨S_, .f32⟩
  | 53 => ⟨S2x64, .f32⟩
  | 54 => ⟨S8192x2x64, .f32⟩
  | 55 => ⟨S_, .f32⟩
  | 56 => ⟨S8192x2, .f32⟩
  | 57 => ⟨S8192x2x1, .f32⟩
  | 58 => ⟨S8192x2x64, .f32⟩
  | 59 => ⟨S8192x2x64, .f32⟩
  | 60 => ⟨S8192x2x1, .f32⟩
  | 61 => ⟨S_, .f32⟩
  | 62 => ⟨S8192x2x1, .f32⟩
  | 63 => ⟨S8192x2x1, .f32⟩
  | 64 => ⟨S_, .f32⟩
  | 65 => ⟨S8192x2, .f32⟩
  | 66 => ⟨S8192x2x64, .f32⟩
  | 67 => ⟨S8192x2x64, .f32⟩
  | 68 => ⟨S8192x2x64, .f32⟩
  | 69 => ⟨S8192x2x64, .f32⟩
  | 70 => ⟨S8192x2x64, .f32⟩
  | 71 => ⟨S8192x512, .f32⟩
  | 72 => ⟨S8192x128, .f32⟩
  | 73 => ⟨S8192x768, .f32⟩
  | 74 => ⟨S8192x768, .bf16⟩
  | 75 => ⟨S1x512, .f32⟩
  | 76 => ⟨S1x128, .f32⟩
  | _ => ⟨S8192x3328, .f32⟩

abbrev hbmTy (i : Nat) : BufTy := match i / 128 with
  | 0 => hbmTy0_0 i
  | 1 => hbmTy0_1 i
  | _ => ⟨S8192x3328, .f32⟩

abbrev bufTy : (tb : Table) → Fin (tcTables nBuf tb) → BufTy
  | .hbm, ⟨i, _⟩ => hbmTy i
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_7 : Ref sig .tc := ⟨.hbm, 88, rfl⟩
abbrev main_v72 : Ref sig .tc := ⟨.hbm, 89, rfl⟩
abbrev main_v73 : Ref sig .tc := ⟨.hbm, 90, rfl⟩
abbrev main_cst_8 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_cst_13 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_cst_16 : Ref sig .tc := ⟨.hbm, 169, rfl⟩
abbrev main_v144 : Ref sig .tc := ⟨.hbm, 170, rfl⟩
abbrev main_cst_17 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_cst_18 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_cst_19 : Ref sig .tc := ⟨.hbm, 180, rfl⟩
abbrev main_v152 : Ref sig .tc := ⟨.hbm, 181, rfl⟩
abbrev main_v153 : Ref sig .tc := ⟨.hbm, 182, rfl⟩
abbrev main_cst_20 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_21 : Ref sig .tc := ⟨.hbm, 189, rfl⟩
abbrev main_v159 : Ref sig .tc := ⟨.hbm, 190, rfl⟩
abbrev main_v160 : Ref sig .tc := ⟨.hbm, 191, rfl⟩
abbrev main_cst_22 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩

abbrev nD : Nat := 1
abbrev τ : Topo := Topo.v7x

variable {F : FTy → Type} [FloatOps F]
-- ==== Fw.lean ====
abbrev S2x4x8192x64 : Shape := ⟨4, ![2, 4, 8192, 64]⟩
abbrev S2x8192x64 : Shape := ⟨3, ![2, 8192, 64]⟩
abbrev S_ : Shape := ⟨0, ![]⟩
abbrev S2x4x16x512x64 : Shape := ⟨5, ![2, 4, 16, 512, 64]⟩
abbrev S2x16x64x4x512 : Shape := ⟨5, ![2, 16, 64, 4, 512]⟩
abbrev S2x16x64x2048 : Shape := ⟨4, ![2, 16, 64, 2048]⟩
abbrev S2x16x512x64 : Shape := ⟨4, ![2, 16, 512, 64]⟩
abbrev S2x16x64x512 : Shape := ⟨4, ![2, 16, 64, 512]⟩
abbrev S2x16x2048 : Shape := ⟨3, ![2, 16, 2048]⟩
abbrev S2x16x1x2048 : Shape := ⟨4, ![2, 16, 1, 2048]⟩
abbrev S2x16x512 : Shape := ⟨3, ![2, 16, 512]⟩
abbrev S2x16 : Shape := ⟨2, ![2, 16]⟩
abbrev S2 : Shape := ⟨1, ![2]⟩
abbrev S2x1x1x1 : Shape := ⟨4, ![2, 1, 1, 1]⟩
abbrev S1x1x64x2048 : Shape := ⟨4, ![1, 1, 64, 2048]⟩
abbrev S1x16x64x512 : Shape := ⟨4, ![1, 16, 64, 512]⟩
abbrev S1x1x1x2048 : Shape := ⟨4, ![1, 1, 1, 2048]⟩
abbrev S64x2048 : Shape := ⟨2, ![64, 2048]⟩
abbrev S1x2048 : Shape := ⟨2, ![1, 2048]⟩
abbrev S8x2048 : Shape := ⟨2, ![8, 2048]⟩
abbrev S1x1x64x512 : Shape := ⟨4, ![1, 1, 64, 512]⟩
abbrev S64x512 : Shape := ⟨2, ![64, 512]⟩
abbrev S512x2048 : Shape := ⟨2, ![512, 2048]⟩
abbrev S64x8x2048 : Shape := ⟨3, ![64, 8, 2048]⟩
abbrev S2048 : Shape := ⟨1, ![2048]⟩

abbrev nBuf : Space → Nat
  | .hbm => 44
  | .vmem => 13
  | .smem => 0
  | _ => 0

abbrev bufTy : (tb : Table) → Fin (tcTables nBuf tb) → BufTy
  | .hbm, ⟨0, _⟩ => ⟨S2x4x8192x64, .f32⟩
  | .hbm, ⟨1, _⟩ => ⟨S2x8192x64, .f32⟩
  | .hbm, ⟨2, _⟩ => ⟨S2x8192x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x4x8192x64, .f32⟩
  | .hbm, ⟨10, _⟩ => ⟨S2x4x8192x64, .f32⟩
  | .hbm, ⟨11, _⟩ => ⟨S2x4x16x512x64, .f32⟩
  | .hbm, ⟨12, _⟩ => ⟨S2x16x64x4x512, .f32⟩
  | .hbm, ⟨13, _⟩ => ⟨S2x16x64x2048, .f32⟩
  | .hbm, ⟨14, _⟩ => ⟨S2x16x64x2048, .bf16⟩
  | .hbm, ⟨15, _⟩ => ⟨S2x16x512x64, .f32⟩
  | .hbm, ⟨16, _⟩ => ⟨S2x16x64x512, .f32⟩
  | .hbm, ⟨17, _⟩ => ⟨S2x16x64x512, .bf16⟩
  | .hbm, ⟨18, _⟩ => ⟨S2x16x64x2048, .f32⟩
  | .hbm, ⟨19, _⟩ => ⟨S2x16x64x512, .f32⟩
  | .hbm, ⟨20, _⟩ => ⟨S2x16x64x2048, .f32⟩
  | .hbm, ⟨21, _⟩ => ⟨S_, .f32⟩
  | .hbm, ⟨22, _⟩ => ⟨S2x16x2048, .f32⟩
  | .hbm, ⟨23, _⟩ => ⟨S2x16x1x2048, .f32⟩
  | .hbm, ⟨24, _⟩ => ⟨S2x16x1x2048, .f32⟩
  | .hbm, ⟨25, _⟩ => ⟨S2x16x64x512, .f32⟩
  | .hbm, ⟨26, _⟩ => ⟨S_, .f32⟩
  | .hbm, ⟨27, _⟩ => ⟨S2x16x512, .f32⟩
  | .hbm, ⟨28, _⟩ => ⟨S_, .f32⟩
  | .hbm, ⟨29, _⟩ => ⟨S2x16, .f32⟩
  | .hbm, ⟨30, _⟩ => ⟨S_, .f32⟩
  | .hbm, ⟨31, _⟩ => ⟨S2, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S2x1x1x1, .f32⟩
  | .hbm, ⟨37, _⟩ => ⟨S2x16x1x2048, .f32⟩
  | .hbm, ⟨38, _⟩ => ⟨S2x16x1x2048, .f32⟩
  | .hbm, ⟨39, _⟩ => ⟨S2x16x512x64, .f32⟩
  | .hbm, ⟨40, _⟩ => ⟨S2x16x64x512, .f32⟩
  | .hbm, ⟨41, _⟩ => ⟨S2x16x64x512, .bf16⟩
  | .hbm, ⟨42, _⟩ => ⟨S2x16x64x2048, .f32⟩
  | .hbm, ⟨43, _⟩ => ⟨S2x16x1x2048, .f32⟩
  | .local _ .vmem, ⟨0, _⟩ => ⟨S1x1x64x2048, .bf16⟩
  | .local _ .vmem, ⟨1, _⟩ => ⟨S1x1x64x2048, .bf16⟩
  | .local _ .vmem, ⟨2, _⟩ => ⟨S1x16x64x512, .bf16⟩
  | .local _ .vmem, ⟨3, _⟩ => ⟨S1x16x64x512, .bf16⟩
  | .local _ .vmem, ⟨4, _⟩ => ⟨S1x16x64x512, .bf16⟩
  | .local _ .vmem, ⟨5, _⟩ => ⟨S1x16x64x512, .bf16⟩
  | .local _ .vmem, ⟨6, _⟩ => ⟨S1x1x1x2048, .f32⟩
  | .local _ .vmem, ⟨7, _⟩ => ⟨S1x1x1x2048, .f32⟩
  | .local _ .vmem, ⟨8, _⟩ => ⟨S1x1x64x2048, .f32⟩
  | .local _ .vmem, ⟨9, _⟩ => ⟨S1x1x64x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S64x2048, .f32⟩
  | _, _ => ⟨S2x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32 : BitVec 32 := 2#32
  let v9 : BitVec 32 := Scalar.addi c0_i32 c2_i32
  let c1_i32 : BitVec 32 := 1#32
  ⟨c0_i32, v9, c1_i32⟩
def k0_off1 (k0_t1 : Fin k0_t1_loop.trips) (c0_i32_23 : BitVec 32) : Fin 4 → Nat :=
  let c0_24 : Index := 0#32
  let c8_i32 : BitVec 32 := 8#32
  let c0_i32 : BitVec 32 := 0#32
  let c1_i32 : BitVec 32 := 1#32
  let arg9 : BitVec 32 := Scf.iv c0_i32 c1_i32 k0_t1
  let v27 : BitVec 32 := Scalar.muli c8_i32 arg9
  let v28 : BitVec 32 := Scalar.addi v27 c0_i32_23
  let v29 : Index := Scalar.indexCast v28
  let c0_25 : Index := 0#32
  let c0_26 : Index := 0#32
  ![0, v29.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwRefIdeal.lean ====
abbrev S2x4x8192x64 : Shape := ⟨4, ![2, 4, 8192, 64]⟩
abbrev S2x8192x64 : Shape := ⟨3, ![2, 8192, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x4x16x512x64 : Shape := ⟨5, ![2, 4, 16, 512, 64]⟩
abbrev S2x16x64x4x512 : Shape := ⟨5, ![2, 16, 64, 4, 512]⟩
abbrev S2x16x64x2048 : Shape := ⟨4, ![2, 16, 64, 2048]⟩
abbrev S2x4x16x512 : Shape := ⟨4, ![2, 4, 16, 512]⟩
abbrev S2x16x4x512 : Shape := ⟨4, ![2, 16, 4, 512]⟩
abbrev S2x16x1x2048 : Shape := ⟨4, ![2, 16, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x4x8192x64, .f32⟩
  | .hbm, ⟨1, _⟩ => ⟨S2x8192x64, .f32⟩
  | .hbm, ⟨2, _⟩ => ⟨S2x8192x64, .f32⟩
  | .hbm, ⟨3, _⟩ => ⟨S2x4x8192x8192, .f32⟩
  | .hbm, ⟨4, _⟩ => ⟨S_, .f32⟩
  | .hbm, ⟨5, _⟩ => ⟨S2x4x8192x8192, .f32⟩
  | .hbm, ⟨6, _⟩ => ⟨S2x4x8192x8192, .f32⟩
  | .hbm, ⟨7, _⟩ => ⟨S_, .f32⟩
  | .hbm, ⟨8, _⟩ => ⟨S2x4x8192, .f32⟩
  | .hbm, ⟨9, _⟩ => ⟨S2x4x8192x1, .f32⟩
  | .hbm, ⟨10, _⟩ => ⟨S2x4x8192x8192, .f32⟩
  | .hbm, ⟨11, _⟩ => ⟨S2x4x8192x8192, .f32⟩
  | .hbm, ⟨12, _⟩ => ⟨S2x4x8192x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192, .f32⟩
  | .hbm, ⟨17, _⟩ => ⟨S2x4x8192x8192, .f32⟩
  | .hbm, ⟨18, _⟩ => ⟨S_, .f32⟩
  | .hbm, ⟨19, _⟩ => ⟨S2x4x8192x8192, .f32⟩
  | .hbm, ⟨20, _⟩ => ⟨S2x4x8192x8192, .f32⟩
  | .hbm, ⟨21, _⟩ => ⟨S_, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .f32⟩
  | .hbm, ⟨26, _⟩ => ⟨S2x4x8192x1, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x64, .f32⟩
  | .hbm, ⟨36, _⟩ => ⟨S2x4x16x512x64, .f32⟩
  | .hbm, ⟨37, _⟩ => ⟨S2x16x64x4x512, .f32⟩
  | .hbm, ⟨38, _⟩ => ⟨S2x16x64x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x4x8192, .f32⟩
  | .hbm, ⟨44, _⟩ => ⟨S2x4x8192, .f32⟩
  | .hbm, ⟨45, _⟩ => ⟨S2x4x16x512, .f32⟩
  | .hbm, ⟨46, _⟩ => ⟨S2x16x4x512, .f32⟩
  | .hbm, ⟨47, _⟩ => ⟨S2x16x1x2048, .f32⟩
  | _, _ => ⟨S2x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== GlaF.lean ====
abbrev S8192x3328 : Shape := ⟨2, ![8192, 3328]⟩
abbrev S1x512 : Shape := ⟨2, ![1, 512]⟩
abbrev S8192x512 : Shape := ⟨2, ![8192, 512]⟩
abbrev S128x4x128x128 : Shape := ⟨4, ![128, 4, 128, 128]⟩
abbrev S512x512 : Shape := ⟨2, ![512, 512]⟩
abbrev S8x4x128x128 : Shape := ⟨4, ![8, 4, 128, 128]⟩
abbrev S4x128x128 : Shape := ⟨3, ![4, 128, 128]⟩
abbrev S64x128 : Shape := ⟨2, ![64, 128]⟩
abbrev S64x64 : Shape := ⟨2, ![64, 64]⟩
abbrev S1x128 : Shape := ⟨2, ![1, 128]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩

abbrev nBuf : Space → Nat
  | .hbm => 8
  | .vmem => 19
  | .smem => 0
  | _ => 0

abbrev bufTy : (tb : Table) → Fin (tcTables nBuf tb) → BufTy
  | .hbm, ⟨0, _⟩ => ⟨S8192x3328, .f32⟩
  | .hbm, ⟨1, _⟩ => ⟨S1x512, .f32⟩
  | .hbm, ⟨2, _⟩ => ⟨S8192x512, .f32⟩
  | .hbm, ⟨3, _⟩ => ⟨S128x4x128x128, .f32⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S8x4x128x128, .f32⟩
  | .local _ .vmem, ⟨10, _⟩ => ⟨S8x4x128x128, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S4x128x128, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let c64_i32 : BitVec 32 := 64#32
  let v9 : BitVec 32 := Scalar.muli v8 c64_i32
  v9
def k0_off1 (k0_t1 : Fin k0_t1_loop.trips) : Fin 2 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let c64_i32 : BitVec 32 := 64#32
  let v9 : BitVec 32 := Scalar.muli v8 c64_i32
  let v10 : BitVec 32 := v9
  let v11 : Index := Scalar.indexCast v10
  let c0 : Index := 0#32
  ![v11.toNat, 0]
def k0_off2 (k0_t1 : Fin k0_t1_loop.trips) : Fin 4 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let v108 : Index := Scalar.indexCast v8
  let c0_33 : Index := 0#32
  let c0_34 : Index := 0#32
  let c0_35 : Index := 0#32
  ![v108.toNat, 0, 0, 0]
def k0_off3 (k0_t1 : Fin k0_t1_loop.trips) : Fin 2 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let c64_i32 : BitVec 32 := 64#32
  let v9 : BitVec 32 := Scalar.muli v8 c64_i32
  let v10 : BitVec 32 := v9
  let v232 : Index := Scalar.indexCast v10
  let c128 : Index := 128#32
  ![v232.toNat, 128]
def k0_off4 (k0_t1 : Fin k0_t1_loop.trips) : Fin 4 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let v329 : Index := Scalar.indexCast v8
  let c1 : Index := 1#32
  let c0_112 : Index := 0#32
  let c0_113 : Index := 0#32
  ![v329.toNat, 1, 0, 0]
def k0_off5 (k0_t1 : Fin k0_t1_loop.trips) : Fin 2 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let c64_i32 : BitVec 32 := 64#32
  let v9 : BitVec 32 := Scalar.muli v8 c64_i32
  let v10 : BitVec 32 := v9
  let v453 : Index := Scalar.indexCast v10
  let c256 : Index := 256#32
  ![v453.toNat, 256]
def k0_off6 (k0_t1 : Fin k0_t1_loop.trips) : Fin 4 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let v550 : Index := Scalar.indexCast v8
  let c2 : Index := 2#32
  let c0_195 : Index := 0#32
  let c0_196 : Index := 0#32
  ![v550.toNat, 2, 0, 0]
def k0_off7 (k0_t1 : Fin k0_t1_loop.trips) : Fin 2 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let c64_i32 : BitVec 32 := 64#32
  let v9 : BitVec 32 := Scalar.muli v8 c64_i32
  let v10 : BitVec 32 := v9
  let v674 : Index := Scalar.indexCast v10
  let c384 : Index := 384#32
  ![v674.toNat, 384]
def k0_off8 (k0_t1 : Fin k0_t1_loop.trips) : Fin 4 → Nat :=
  let c7_i32 : BitVec 32 := 7#32
  let c0_i32_1 : BitVec 32 := 0#32
  let c1_i32 : BitVec 32 := 1#32
  let arg12 : BitVec 32 := Scf.iv c0_i32_1 c1_i32 k0_t1
  let v8 : BitVec 32 := Scalar.subi c7_i32 arg12
  let v771 : Index := Scalar.indexCast v8
  let c3 : Index := 3#32
  let c0_278 : Index := 0#32
  let c0_279 : Index := 0#32
  ![v771.toNat, 3, 0, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GlaB.lean ====
abbrev S8192x3328 : Shape := ⟨2, ![8192, 3328]⟩
abbrev S1x512 : Shape := ⟨2, ![1, 512]⟩
abbrev S8192x512 : Shape := ⟨2, ![8192, 512]⟩
abbrev S128x4x128x128 : Shape := ⟨4, ![128, 4, 128, 128]⟩
abbrev S8192x2560 : Shape := ⟨2, ![8192, 2560]⟩
abbrev S512x512 : Shape := ⟨2, ![512, 512]⟩
abbrev S8x4x128x128 : Shape := ⟨4, ![8, 4, 128, 128]⟩
abbrev S512x2560 : Shape := ⟨2, ![512, 2560]⟩
abbrev S4x128x128 : Shape := ⟨3, ![4, 128, 128]⟩
abbrev S64x128 : Shape := ⟨2, ![64, 128]⟩
abbrev S64x64 : Shape := ⟨2, ![64, 64]⟩
abbrev S1x128 : Shape := ⟨2, ![1, 128]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩

abbrev nBuf : Space → Nat
  | .hbm => 10
  | .vmem => 23
  | .smem => 0
  | _ => 0

abbrev bufTy : (tb : Table) → Fin (tcTables nBuf tb) → BufTy
  | .hbm, ⟨0, _⟩ => ⟨S8192x3328, .f32⟩
  | .hbm, ⟨1, _⟩ => ⟨S1x512, .f32⟩
  | .hbm, ⟨2, _⟩ => ⟨S8192x512, .f32⟩
  | .hbm, ⟨3, _⟩ => ⟨S128x4x128x128, .f32⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x2560, .bf16⟩
  | .hbm, ⟨9, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S8x4x128x128, .f32⟩
  | .local _ .vmem, ⟨10, _⟩ => ⟨S8x4x128x128, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x2560, .bf16⟩
  | .local _ .vmem, ⟨20, _⟩ => ⟨S512x2560, .bf16⟩
  | .local _ .vmem, ⟨21, _⟩ => ⟨S1x512, .f32⟩
  | .local _ .vmem, ⟨22, _⟩ => ⟨S4x128x128, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  v8
def k0_off1 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v10 : Index := Scalar.indexCast v9
  let c0 : Index := 0#32
  ![v10.toNat, 0]
def k0_off2 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v107 : Index := Scalar.indexCast arg14
  let c0_31 : Index := 0#32
  let c0_32 : Index := 0#32
  let c0_33 : Index := 0#32
  ![v107.toNat, 0, 0, 0]
def k0_off3 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v243 : Index := Scalar.indexCast v9
  let c0_80 : Index := 0#32
  ![v243.toNat, 0]
def k0_off4 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v247 : Index := Scalar.indexCast v9
  let c512 : Index := 512#32
  ![v247.toNat, 512]
def k0_off5 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v249 : Index := Scalar.indexCast v9
  let c1024 : Index := 1024#32
  ![v249.toNat, 1024]
def k0_off6 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v255 : Index := Scalar.indexCast v9
  let c1536 : Index := 1536#32
  ![v255.toNat, 1536]
def k0_off7 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v259 : Index := Scalar.indexCast v9
  let c2048 : Index := 2048#32
  ![v259.toNat, 2048]
def k0_off8 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v261 : Index := Scalar.indexCast v9
  let c128 : Index := 128#32
  ![v261.toNat, 128]
def k0_off9 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v358 : Index := Scalar.indexCast arg14
  let c1 : Index := 1#32
  let c0_119 : Index := 0#32
  let c0_120 : Index := 0#32
  ![v358.toNat, 1, 0, 0]
def k0_off10 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v494 : Index := Scalar.indexCast v9
  let c128_170 : Index := 128#32
  ![v494.toNat, 128]
def k0_off11 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v498 : Index := Scalar.indexCast v9
  let c640 : Index := 640#32
  ![v498.toNat, 640]
def k0_off12 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v500 : Index := Scalar.indexCast v9
  let c1152 : Index := 1152#32
  ![v500.toNat, 1152]
def k0_off13 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v506 : Index := Scalar.indexCast v9
  let c1664 : Index := 1664#32
  ![v506.toNat, 1664]
def k0_off14 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v510 : Index := Scalar.indexCast v9
  let c2176 : Index := 2176#32
  ![v510.toNat, 2176]
def k0_off15 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v512 : Index := Scalar.indexCast v9
  let c256 : Index := 256#32
  ![v512.toNat, 256]
def k0_off16 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v609 : Index := Scalar.indexCast arg14
  let c2 : Index := 2#32
  let c0_209 : Index := 0#32
  let c0_210 : Index := 0#32
  ![v609.toNat, 2, 0, 0]
def k0_off17 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v745 : Index := Scalar.indexCast v9
  let c256_260 : Index := 256#32
  ![v745.toNat, 256]
def k0_off18 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v749 : Index := Scalar.indexCast v9
  let c768 : Index := 768#32
  ![v749.toNat, 768]
def k0_off19 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v751 : Index := Scalar.indexCast v9
  let c1280 : Index := 1280#32
  ![v751.toNat, 1280]
def k0_off20 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v757 : Index := Scalar.indexCast v9
  let c1792 : Index := 1792#32
  ![v757.toNat, 1792]
def k0_off21 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v761 : Index := Scalar.indexCast v9
  let c2304 : Index := 2304#32
  ![v761.toNat, 2304]
def k0_off22 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v763 : Index := Scalar.indexCast v9
  let c384 : Index := 384#32
  ![v763.toNat, 384]
def k0_off23 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v860 : Index := Scalar.indexCast arg14
  let c3 : Index := 3#32
  let c0_299 : Index := 0#32
  let c0_300 : Index := 0#32
  ![v860.toNat, 3, 0, 0]
def k0_off24 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v996 : Index := Scalar.indexCast v9
  let c384_350 : Index := 384#32
  ![v996.toNat, 384]
def k0_off25 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v1000 : Index := Scalar.indexCast v9
  let c896 : Index := 896#32
  ![v1000.toNat, 896]
def k0_off26 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v1002 : Index := Scalar.indexCast v9
  let c1408 : Index := 1408#32
  ![v1002.toNat, 1408]
def k0_off27 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v1008 : Index := Scalar.indexCast v9
  let c1920 : Index := 1920#32
  ![v1008.toNat, 1920]
def k0_off28 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c64_i32 : BitVec 32 := 64#32
  let v8 : BitVec 32 := Scalar.muli arg14 c64_i32
  let v9 : BitVec 32 := v8
  let v1012 : Index := Scalar.indexCast v9
  let c2432 : Index := 2432#32
  ![v1012.toNat, 2432]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RmsF.lean ====
abbrev S8192x1024 : Shape := ⟨2, ![8192, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1, .f32⟩
  | .local _ .vmem, ⟨6, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnF.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S1024x2816, .bf16⟩
  | .hbm, ⟨4, _⟩ => ⟨S8192x2816, .f32⟩
  | .hbm, ⟨5, _⟩ => ⟨S1024x2816, .bf16⟩
  | .hbm, ⟨6, _⟩ => ⟨S8192x2816, .f32⟩
  | .hbm, ⟨7, _⟩ => ⟨S8192x2816, .bf16⟩
  | .hbm, ⟨8, _⟩ => ⟨S8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== PostF.lean ====
abbrev S2x16x64x2048 : Shape := ⟨4, ![2, 16, 64, 2048]⟩
abbrev S1x512 : Shape := ⟨2, ![1, 512]⟩
abbrev S8192x512 : Shape := ⟨2, ![8192, 512]⟩
abbrev S2x1x64x2048 : Shape := ⟨4, ![2, 1, 64, 2048]⟩
abbrev S512x512 : Shape := ⟨2, ![512, 512]⟩
abbrev S1x1x64x2048 : Shape := ⟨4, ![1, 1, 64, 2048]⟩
abbrev S64x2048 : Shape := ⟨2, ![64, 2048]⟩
abbrev S64x512 : Shape := ⟨2, ![64, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2x16x64x2048, .f32⟩
  | .hbm, ⟨1, _⟩ => ⟨S1x512, .f32⟩
  | .hbm, ⟨2, _⟩ => ⟨S8192x512, .f32⟩
  | .hbm, ⟨3, _⟩ => ⟨S8192x512, .bf16⟩
  | .local _ .vmem, ⟨0, _⟩ => ⟨S2x1x64x2048, .f32⟩
  | .local _ .vmem, ⟨1, _⟩ => ⟨S2x1x64x2048, .f32⟩
  | .local _ .vmem, ⟨2, _⟩ => ⟨S1x512, .f32⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | _, _ => ⟨S2x16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostFRefIdeal.lean ====
abbrev S2x16x64x2048 : Shape := ⟨4, ![2, 16, 64, 2048]⟩
abbrev S1x512 : Shape := ⟨2, ![1, 512]⟩
abbrev S2x16x64x4x512 : Shape := ⟨5, ![2, 16, 64, 4, 512]⟩
abbrev S16x512x2x4x64 : Shape := ⟨5, ![16, 512, 2, 4, 64]⟩
abbrev S8192x512 : Shape := ⟨2, ![8192, 512]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S2x16x64x2048, .f32⟩
  | .hbm, ⟨1, _⟩ => ⟨S1x512, .f32⟩
  | .hbm, ⟨2, _⟩ => ⟨S2x16x64x4x512, .f32⟩
  | .hbm, ⟨3, _⟩ => ⟨S16x512x2x4x64, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .bf16⟩
  | _, _ => ⟨S2x16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== GlaFF.lean ====
abbrev S8192x3328 : Shape := ⟨2, ![8192, 3328]⟩
abbrev S1x512 : Shape := ⟨2, ![1, 512]⟩
abbrev S8192x512 : Shape := ⟨2, ![8192, 512]⟩
abbrev S128x4x128x128 : Shape := ⟨4, ![128, 4, 128, 128]⟩
abbrev S512x512 : Shape := ⟨2, ![512, 512]⟩
abbrev S8x4x128x128 : Shape := ⟨4, ![8, 4, 128, 128]⟩
abbrev S4x128x128 : Shape := ⟨3, ![4, 128, 128]⟩
abbrev S64x128 : Shape := ⟨2, ![64, 128]⟩
abbrev S64x64 : Shape := ⟨2, ![64, 64]⟩
abbrev S1x128 : Shape := ⟨2, ![1, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 4
  | .vmem => 12
  | .smem => 0
  | _ => 0

abbrev bufTy : (tb : Table) → Fin (tcTables nBuf tb) → BufTy
  | .hbm, ⟨0, _⟩ => ⟨S8192x3328, .f32⟩
  | .hbm, ⟨1, _⟩ => ⟨S1x512, .f32⟩
  | .hbm, ⟨2, _⟩ => ⟨S8192x512, .f32⟩
  | .hbm, ⟨3, _⟩ => ⟨S128x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S8x4x128x128, .f32⟩
  | .local _ .vmem, ⟨10, _⟩ => ⟨S8x4x128x128, .f32⟩
  | .local _ .vmem, ⟨11, _⟩ => ⟨S4x128x128, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def k0_mult1 : BitVec 32 :=
  let c0_i32_1 : BitVec 32 := 0#32
  let c64_i32 : BitVec 32 := 64#32
  let v7 : BitVec 32 := Scalar.muli c0_i32_1 c64_i32
  v7
def k0_off1 (c0_i32_1 : BitVec 32) : Fin 2 → Nat :=
  let c64_i32 : BitVec 32 := 64#32
  let v7 : BitVec 32 := Scalar.muli c0_i32_1 c64_i32
  let v8 : BitVec 32 := v7
  let v9 : Index := Scalar.indexCast v8
  let c0 : Index := 0#32
  ![v9.toNat, 0]
def k0_off2 (c0_i32_1 : BitVec 32) : Fin 2 → Nat :=
  let c64_i32 : BitVec 32 := 64#32
  let v7 : BitVec 32 := Scalar.muli c0_i32_1 c64_i32
  let v8 : BitVec 32 := v7
  let v133 : Index := Scalar.indexCast v8
  let c128 : Index := 128#32
  ![v133.toNat, 128]
def k0_off3 (c0_i32_1 : BitVec 32) : Fin 2 → Nat :=
  let c64_i32 : BitVec 32 := 64#32
  let v7 : BitVec 32 := Scalar.muli c0_i32_1 c64_i32
  let v8 : BitVec 32 := v7
  let v257 : Index := Scalar.indexCast v8
  let c256 : Index := 256#32
  ![v257.toNat, 256]
def k0_off4 (c0_i32_1 : BitVec 32) : Fin 2 → Nat :=
  let c64_i32 : BitVec 32 := 64#32
  let v7 : BitVec 32 := Scalar.muli c0_i32_1 c64_i32
  let v8 : BitVec 32 := v7
  let v381 : Index := Scalar.indexCast v8
  let c384 : Index := 384#32
  ![v381.toNat, 384]
def k0_mult2 : BitVec 32 :=
  let c1_i32_188 : BitVec 32 := 1#32
  let c64_i32_189 : BitVec 32 := 64#32
  let v505 : BitVec 32 := Scalar.muli c1_i32_188 c64_i32_189
  v505
def k0_mult3 : BitVec 32 :=
  let c2_i32_390 : BitVec 32 := 2#32
  let c64_i32_391 : BitVec 32 := 64#32
  let v1003 : BitVec 32 := Scalar.muli c2_i32_390 c64_i32_391
  v1003
def k0_mult4 : BitVec 32 :=
  let c3_i32 : BitVec 32 := 3#32
  let c64_i32_592 : BitVec 32 := 64#32
  let v1501 : BitVec 32 := Scalar.muli c3_i32 c64_i32_592
  v1501
def k0_mult5 : BitVec 32 :=
  let c4_i32_793 : BitVec 32 := 4#32
  let c64_i32_794 : BitVec 32 := 64#32
  let v1999 : BitVec 32 := Scalar.muli c4_i32_793 c64_i32_794
  v1999
def k0_mult6 : BitVec 32 :=
  let c5_i32 : BitVec 32 := 5#32
  let c64_i32_995 : BitVec 32 := 64#32
  let v2497 : BitVec 32 := Scalar.muli c5_i32 c64_i32_995
  v2497
def k0_mult7 : BitVec 32 :=
  let c6_i32 : BitVec 32 := 6#32
  let c64_i32_1196 : BitVec 32 := 64#32
  let v2995 : BitVec 32 := Scalar.muli c6_i32 c64_i32_1196
  v2995
def k0_mult8 : BitVec 32 :=
  let c7_i32 : BitVec 32 := 7#32
  let c64_i32_1397 : BitVec 32 := 64#32
  let v3493 : BitVec 32 := Scalar.muli c7_i32 c64_i32_1397
  v3493
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlaFB.lean ====
abbrev S8192x3328 : Shape := ⟨2, ![8192, 3328]⟩
abbrev S1x512 : Shape := ⟨2, ![1, 512]⟩
abbrev S8192x512 : Shape := ⟨2, ![8192, 512]⟩
abbrev S1x128 : Shape := ⟨2, ![1, 128]⟩
abbrev S128x4x128x128 : Shape := ⟨4, ![128, 4, 128, 128]⟩
abbrev S512x512 : Shape := ⟨2, ![512, 512]⟩
abbrev S8x4x128x128 : Shape := ⟨4, ![8, 4, 128, 128]⟩
abbrev S4x128x128 : Shape := ⟨3, ![4, 128, 128]⟩
abbrev S64x128 : Shape := ⟨2, ![64, 128]⟩
abbrev S64x64 : Shape := ⟨2, ![64, 64]⟩
abbrev S1x128x128 : Shape := ⟨3, ![1, 128, 128]⟩
abbrev S128x128 : Shape := ⟨2, ![128, 128]⟩
abbrev S1x1x128x128 : Shape := ⟨4, ![1, 1, 128, 128]⟩
abbrev S64 : Shape := ⟨1, ![64]⟩
abbrev S64x1 : Shape := ⟨2, ![64, 1]⟩

abbrev nBuf : Space → Nat
  | .hbm => 7
  | .vmem => 19
  | .smem => 0
  | _ => 0

abbrev bufTy : (tb : Table) → Fin (tcTables nBuf tb) → BufTy
  | .hbm, ⟨0, _⟩ => ⟨S8192x3328, .f32⟩
  | .hbm, ⟨1, _⟩ => ⟨S1x512, .f32⟩
  | .hbm, ⟨2, _⟩ => ⟨S8192x512, .f32⟩
  | .hbm, ⟨3, _⟩ => ⟨S1x128, .f32⟩
  | .hbm, ⟨4, _⟩ => ⟨S8192x512, .f32⟩
  | .hbm, ⟨5, _⟩ => ⟨S128x4x128x128, .f32⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x128, .f32⟩
  | .local _ .vmem, ⟨12, _⟩ => ⟨S512x512, .f32⟩
  | .local _ .vmem, ⟨13, _⟩ => ⟨S512x512, .f32⟩
  | .local _ .vmem, ⟨14, _⟩ => ⟨S8x4x128x128, .f32⟩
  | .local _ .vmem, ⟨15, _⟩ => ⟨S8x4x128x128, .f32⟩
  | .local _ .vmem, ⟨16, _⟩ => ⟨S512x512, .bf16⟩
  | .local _ .vmem, ⟨17, _⟩ => ⟨S512x512, .bf16⟩
  | .local _ .vmem, ⟨18, _⟩ => ⟨S4x128x128, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def k0_mult1 : BitVec 32 :=
  let c7_i32 : BitVec 32 := 7#32
  let c0_i32_1 : BitVec 32 := 0#32
  let v7 : BitVec 32 := Scalar.subi c7_i32 c0_i32_1
  let c64_i32 : BitVec 32 := 64#32
  let v8 : BitVec 32 := Scalar.muli v7 c64_i32
  v8
def k0_off1 (c0_i32_1 : BitVec 32) : Fin 2 → Nat :=
  let c7_i32 : BitVec 32 := 7#32
  let v7 : BitVec 32 := Scalar.subi c7_i32 c0_i32_1
  let c64_i32 : BitVec 32 := 64#32
  let v8 : BitVec 32 := Scalar.muli v7 c64_i32
  let v9 : BitVec 32 := v8
  let v10 : Index := Scalar.indexCast v9
  let c0 : Index := 0#32
  ![v10.toNat, 0]
def k0_off2 (c0_i32_1 : BitVec 32) : Fin 4 → Nat :=
  let c7_i32 : BitVec 32 := 7#32
  let v7 : BitVec 32 := Scalar.subi c7_i32 c0_i32_1
  let v105 : Index := Scalar.indexCast v7
  let c0_34 : Index := 0#32
  let c0_35 : Index := 0#32
  let c0_36 : Index := 0#32
  ![v105.toNat, 0, 0, 0]
def k0_off3 (c0_i32_1 : BitVec 32) : Fin 2 → Nat :=
  let c7_i32 : BitVec 32 := 7#32
  let v7 : BitVec 32 := Scalar.subi c7_i32 c0_i32_1
  let c64_i32 : BitVec 32 := 64#32
  let v8 : BitVec 32 := Scalar.muli v7 c64_i32
  let v9 : BitVec 32 := v8
  let v164 : Index := Scalar.indexCast v9
  let c128 : Index := 128#32
  ![v164.toNat, 128]
def k0_off4 (c0_i32_1 : BitVec 32) : Fin 4 → Nat :=
  let c7_i32 : BitVec 32 := 7#32
  let v7 : BitVec 32 := Scalar.subi c7_i32 c0_i32_1
  let v259 : Index := Scalar.indexCast v7
  let c1_93 : Index := 1#32
  let c0_94 : Index := 0#32
  let c0_95 : Index := 0#32
  ![v259.toNat, 1, 0, 0]
def k0_off5 (c0_i32_1 : BitVec 32) : Fin 2 → Nat :=
  let c7_i32 : BitVec 32 := 7#32
  let v7 : BitVec 32 := Scalar.subi c7_i32 c0_i32_1
  let c64_i32 : BitVec 32 := 64#32
  let v8 : BitVec 32 := Scalar.muli v7 c64_i32
  let v9 : BitVec 32 := v8
  let v318 : Index := Scalar.indexCast v9
  let c256 : Index := 256#32
  ![v318.toNat, 256]
def k0_off6 (c0_i32_1 : BitVec 32) : Fin 4 → Nat :=
  let c7_i32 : BitVec 32 := 7#32
  let v7 : BitVec 32 := Scalar.subi c7_i32 c0_i32_1
  let v413 : Index := Scalar.indexCast v7
  let c2_152 : Index := 2#32
  let c0_153 : Index := 0#32
  let c0_154 : Index := 0#32
  ![v413.toNat, 2, 0, 0]
def k0_off7 (c0_i32_1 : BitVec 32) : Fin 2 → Nat :=
  let c7_i32 : BitVec 32 := 7#32
  let v7 : BitVec 32 := Scalar.subi c7_i32 c0_i32_1
  let c64_i32 : BitVec 32 := 64#32
  let v8 : BitVec 32 := Scalar.muli v7 c64_i32
  let v9 : BitVec 32 := v8
  let v472 : Index := Scalar.indexCast v9
  let c384 : Index := 384#32
  ![v472.toNat, 384]
def k0_off8 (c0_i32_1 : BitVec 32) : Fin 4 → Nat :=
  let c7_i32 : BitVec 32 := 7#32
  let v7 : BitVec 32 := Scalar.subi c7_i32 c0_i32_1
  let v567 : Index := Scalar.indexCast v7
  let c3_211 : Index := 3#32
  let c0_212 : Index := 0#32
  let c0_213 : Index := 0#32
  ![v567.toNat, 3, 0, 0]
def k0_mult2 : BitVec 32 :=
  let c7_i32_232 : BitVec 32 := 7#32
  let c1_i32 : BitVec 32 := 1#32
  let v626 : BitVec 32 := Scalar.subi c7_i32_232 c1_i32
  let c64_i32_233 : BitVec 32 := 64#32
  let v627 : BitVec 32 := Scalar.muli v626 c64_i32_233
  v627
def k0_mult3 : BitVec 32 :=
  let c7_i32_478 : BitVec 32 := 7#32
  let c2_i32 : BitVec 32 := 2#32
  let v1245 : BitVec 32 := Scalar.subi c7_i32_478 c2_i32
  let c64_i32_479 : BitVec 32 := 64#32
  let v1246 : BitVec 32 := Scalar.muli v1245 c64_i32_479
  v1246
def k0_mult4 : BitVec 32 :=
  let c7_i32_724 : BitVec 32 := 7#32
  let c3_i32 : BitVec 32 := 3#32
  let v1864 : BitVec 32 := Scalar.subi c7_i32_724 c3_i32
  let c64_i32_725 : BitVec 32 := 64#32
  let v1865 : BitVec 32 := Scalar.muli v1864 c64_i32_725
  v1865
def k0_mult5 : BitVec 32 :=
  let c7_i32_970 : BitVec 32 := 7#32
  let c4_i32 : BitVec 32 := 4#32
  let v2483 : BitVec 32 := Scalar.subi c7_i32_970 c4_i32
  let c64_i32_971 : BitVec 32 := 64#32
  let v2484 : BitVec 32 := Scalar.muli v2483 c64_i32_971
  v2484
def k0_mult6 : BitVec 32 :=
  let c7_i32_1216 : BitVec 32 := 7#32
  let c5_i32 : BitVec 32 := 5#32
  let v3102 : BitVec 32 := Scalar.subi c7_i32_1216 c5_i32
  let c64_i32_1217 : BitVec 32 := 64#32
  let v3103 : BitVec 32 := Scalar.muli v3102 c64_i32_1217
  v3103
def k0_mult7 : BitVec 32 :=
  let c7_i32_1462 : BitVec 32 := 7#32
  let c6_i32 : BitVec 32 := 6#32
  let v3721 : BitVec 32 := Scalar.subi c7_i32_1462 c6_i32
  let c64_i32_1463 : BitVec 32 := 64#32
  let v3722 : BitVec 32 := Scalar.muli v3721 c64_i32_1463
  v3722
def k0_mult8 : BitVec 32 :=
  let c7_i32_1709 : BitVec 32 := 7#32
  let c7_i32_1708 : BitVec 32 := 7#32
  let v4340 : BitVec 32 := Scalar.subi c7_i32_1709 c7_i32_1708
  let c64_i32_1710 : BitVec 32 := 64#32
  let v4341 : BitVec 32 := Scalar.muli v4340 c64_i32_1710
  v4341
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutF.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S512x1024 : Shape := ⟨2, ![512, 1024]⟩
abbrev S8192x1 : Shape := ⟨2, ![8192, 1]⟩
abbrev S512x512 : Shape := ⟨2, ![512, 512]⟩
abbrev S512x1 : Shape := ⟨2, ![512, 1]⟩
abbrev S512 : Shape := ⟨1, ![512]⟩

abbrev nBuf : Space → Nat
  | .hbm => 10
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S512x1024, .bf16⟩
  | .hbm, ⟨6, _⟩ => ⟨S512x1024, .bf16⟩
  | .hbm, ⟨7, _⟩ => ⟨S8192x1024, .f32⟩
  | .hbm, ⟨8, _⟩ => ⟨S8192x1024, .bf16⟩
  | .hbm, ⟨9, _⟩ => ⟨S8192x1, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== OutFRefIdeal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Val.GlaFIdeal.lean ====
/- The frame of `GlaFIdeal`: whatever the staging buffers and the carried scratch hold, one point of the grid
   runs to the end and leaves them owned; no window's contents are named, so the launch gives back every argument
   array as it was and every counter at zero. -/
module

public import proofs.«01_k».proof.Proof.Gen.GlaFIdeal.Frame.Runs

@[expose] public section

set_option maxRecDepth 16384

noncomputable section

namespace Cert.GlaFIdeal.Any

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.GlaFIdeal Cert.GlaFIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One point of the grid, from any contents of its buffers to some contents of them: the first point (the branch
    taken) and every other one. -/
theorem point_any (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S8x4x128x128 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (arg10 : Memref sig .tc .vmem S1x512 .f32) (harg10 : arg10.IsWhole) (arg11 : Memref sig .tc .vmem S4x128x128 .f32) (harg11 : arg11.IsWhole) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gla_bwd_f i arg1 harg1 arg2 harg2 arg3 harg3 arg4 harg4 arg5 harg5 arg6 harg6 arg7 harg7 arg8 harg8 arg9 harg9 arg10 harg10 arg11 harg11) K := by
  simp only [cc0_gla_bwd_f_eq_skeleton]; unfold cc0_gla_bwd_f_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  by_cases hc : cond0_0 i
  all_goals
    sl_exec (disch := first | sl_exact hc)
    sl_step
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl

/-- No window's contents are named. -/
def every : Fin 10 → Bool := fun _ => true

/-- The proof data: the arrays as the region finds them, nothing named of what a point leaves, the scratch at
    anything between points, the shares of the arrays several windows read, nothing owed. -/
def data (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (data m 0 c).A w = V m c (Pipeline.arrRef spec0 w) := by
  dsimp only [data]

/-- The region's state around a point: the scratch at anything, nothing owed, each window's buffer at anything. -/
def around (c : Dev nD) (t : Fin cfg0.N) : sProp 𝕄 :=
  iprop(Pipeline.ΦA spec0 c ∗ (data m 0 c).owesAt () t.castSucc ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d))

/-- A point keeps that state. -/
theorem point_keeps (c : Dev nD) (t : Fin cfg0.N) :
    around m c t ⊢ wp frame (wpE (defs₀ (F := F)) Variants.none c none) Set.univ (bodyAt0 t) (fun _ => around m c t) := by
  unfold around bodyAt0
  rw [PhiA0_eq]
  iintro ⟨⟨HS, Hg⟩, Ho, W0, W1, W2, W3, W4, W5, W6, W7, W8, W9⟩
  iapply (point_any c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [HS]; · iexact HS
  iintro ⟨W0, W1, W2, W3, W4, W5, W6, W7, W8, W9, HS⟩
  isplitl [HS Hg]
  · isplitl [HS]; · iexact HS
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

/-- The kernel the pipeline calls at a point is the one above. -/
theorem row (t : Fin cfg0.N) : defs₀ (F := F) .tc cfg0.body (cfg0.bodyArgs t (cfg0.slots t)) = bodyAt0 t := by
  unfold defs₀; rw [Defs.onTc_tc]

/-- What the pipeline asks of the kernel, with every window unnamed. -/
theorem obliged (c : Dev nD) :
    BodyObligation (data (F := F) m 0 c) (defs₀ (F := F)) Variants.none () Set.univ every := fun t => by
  rw [bigSep_W0, bigSep_W0, row]
  exact triple_restated (point_keeps m c t) rfl .rfl fun _ => .rfl

set_option backward.isDefEq.respectTransparency.types false in
/-- The launch: it ends, every array no window writes is as the region found it, every counter is at zero. -/
theorem launched : θ_run defs (onTc (τ := τ) (main (F := F))) (s₀ m ρ)
    (fun r => Pipeline.RDat.FramePost (cfgs 0) (fun c => (data m 0 c).toRForget every) (V m) r ∧ r.2.sem = fun _ => 0) :=
  Pipeline.θ_run_frame_forget_shared (Q' := _) cfgs (data m) (0 : Fin 1) launch₀0 defs₀ Variants.none every m ρ main
    (hbody := fun c => (obliged m c).loose) (hq := fun _ _ _ => rfl) (howed := fun _ _ => rfl) (V := V m)
    (hmain := hmain m Variants.none) (hA := A_eq m) (hΦ := fun _ _ => rfl)

/-- The frame: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 2 rfl).trans ((A_eq m c 2).trans (V_main_arg0 m c)),
      (h.1.arr_in c 3 rfl).trans ((A_eq m c 3).trans (V_main_arg1 m c)),
      (h.1.arr_in c 4 rfl).trans ((A_eq m c 4).trans (V_main_arg2 m c)),
      (h.1.arr_in c 5 rfl).trans ((A_eq m c 5).trans (V_main_arg3 m c))⟩, h.2⟩) (launched m ρ)

end Cert.GlaFIdeal.Any

end
-- ==== Proof.Val.GlaBIdeal.lean ====
/- The frame of `GlaBIdeal`: whatever the staging buffers and the carried scratch hold, one point of the grid
   runs to the end and leaves them owned; no window's contents are named, so the launch gives back every argument
   array as it was and every counter at zero. -/
module

public import proofs.«01_k».proof.Proof.Gen.GlaBIdeal.Frame.Runs

@[expose] public section

set_option maxRecDepth 16384

noncomputable section

namespace Cert.GlaBIdeal.Any

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.GlaBIdeal Cert.GlaBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One point of the grid, from any contents of its buffers to some contents of them: the first point (the branch
    taken) and every other one. -/
theorem point_any (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S8x4x128x128 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x2560 .bf16) (harg11 : arg11.IsWhole) (arg12 : Memref sig .tc .vmem S1x512 .f32) (harg12 : arg12.IsWhole) (arg13 : Memref sig .tc .vmem S4x128x128 .f32) (harg13 : arg13.IsWhole) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_gla_bwd_b i arg1 harg1 arg2 harg2 arg3 harg3 arg4 harg4 arg5 harg5 arg6 harg6 arg7 harg7 arg8 harg8 arg9 harg9 arg10 harg10 arg11 harg11 arg12 harg12 arg13 harg13) K := by
  simp only [cc0_gla_bwd_b_eq_skeleton]; unfold cc0_gla_bwd_b_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  by_cases hc : cond0_0 i
  all_goals
    sl_exec (disch := first | sl_exact hc)
    sl_step
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

/-- No window's contents are named. -/
def every : Fin 12 → Bool := fun _ => true

/-- The proof data: the arrays as the region finds them, nothing named of what a point leaves, the scratch at
    anything between points, the shares of the arrays several windows read, nothing owed. -/
def data (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (data m 0 c).A w = V m c (Pipeline.arrRef spec0 w) := by
  dsimp only [data]

/-- The region's state around a point: the scratch at anything, nothing owed, each window's buffer at anything. -/
def around (c : Dev nD) (t : Fin cfg0.N) : sProp 𝕄 :=
  iprop(Pipeline.ΦA spec0 c ∗ (data m 0 c).owesAt () t.castSucc ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d))

/-- A point keeps that state. -/
theorem point_keeps (c : Dev nD) (t : Fin cfg0.N) :
    around m c t ⊢ wp frame (wpE (defs₀ (F := F)) Variants.none c none) Set.univ (bodyAt0 t) (fun _ => around m c t) := by
  unfold around bodyAt0
  rw [PhiA0_eq]
  iintro ⟨⟨HS, Hg⟩, Ho, W0, W1, W2, W3, W4, W5, W6, W7, W8, W9, W10, W11⟩
  iapply (point_any c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [HS]; · iexact HS
  iintro ⟨W0, W1, W2, W3, W4, W5, W6, W7, W8, W9, W10, W11, HS⟩
  isplitl [HS Hg]
  · isplitl [HS]; · iexact HS
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexact W11

/-- The kernel the pipeline calls at a point is the one above. -/
theorem row (t : Fin cfg0.N) : defs₀ (F := F) .tc cfg0.body (cfg0.bodyArgs t (cfg0.slots t)) = bodyAt0 t := by
  unfold defs₀; rw [Defs.onTc_tc]

/-- What the pipeline asks of the kernel, with every window unnamed. -/
theorem obliged (c : Dev nD) :
    BodyObligation (data (F := F) m 0 c) (defs₀ (F := F)) Variants.none () Set.univ every := fun t => by
  rw [bigSep_W0, bigSep_W0, row]
  exact triple_restated (point_keeps m c t) rfl .rfl fun _ => .rfl

set_option backward.isDefEq.respectTransparency.types false in
/-- The launch: it ends, every array no window writes is as the region found it, every counter is at zero. -/
theorem launched : θ_run defs (onTc (τ := τ) (main (F := F))) (s₀ m ρ)
    (fun r => Pipeline.RDat.FramePost (cfgs 0) (fun c => (data m 0 c).toRForget every) (V m) r ∧ r.2.sem = fun _ => 0) :=
  Pipeline.θ_run_frame_forget_shared (Q' := _) cfgs (data m) (0 : Fin 1) launch₀0 defs₀ Variants.none every m ρ main
    (hbody := fun c => (obliged m c).loose) (hq := fun _ _ _ => rfl) (howed := fun _ _ => rfl) (V := V m)
    (hmain := hmain m Variants.none) (hA := A_eq m) (hΦ := fun _ _ => rfl)

/-- The frame: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1.arr_in c 2 rfl).trans ((A_eq m c 2).trans (V_main_arg0 m c)),
      (h.1.arr_in c 3 rfl).trans ((A_eq m c 3).trans (V_main_arg1 m c)),
      (h.1.arr_in c 4 rfl).trans ((A_eq m c 4).trans (V_main_arg2 m c)),
      (h.1.arr_in c 5 rfl).trans ((A_eq m c 5).trans (V_main_arg3 m c)),
      (h.1.arr_in c 6 rfl).trans ((A_eq m c 6).trans (V_main_arg4 m c)),
      (h.1.arr_in c 7 rfl).trans ((A_eq m c 7).trans (V_main_arg5 m c)),
      (h.1.arr_in c 8 rfl).trans ((A_eq m c 8).trans (V_main_arg6 m c)),
      (h.1.arr_in c 9 rfl).trans ((A_eq m c 9).trans (V_main_arg7 m c))⟩, h.2⟩) (launched m ρ)

end Cert.GlaBIdeal.Any

end
-- ==== Proof.Val.GlaFFIdeal.lean ====
/- The frame of `GlaFFIdeal`: whatever the staging buffers and the carried scratch hold, one point of the grid
   runs to the end and leaves them owned; no window's contents are named, so the launch gives back every argument
   array as it was and every counter at zero. -/
module

public import proofs.«01_k».proof.Proof.Gen.GlaFFIdeal.Frame.Runs

@[expose] public section

set_option maxRecDepth 16384

noncomputable section

namespace Cert.GlaFFIdeal.Any

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.GlaFFIdeal Cert.GlaFFIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One point of the grid, from any contents of its buffers to some contents of them: the first point (the branch
    taken) and every other one. -/
theorem point_any (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S8x4x128x128 .f32) (harg6 : arg6.IsWhole) (arg7 : Memref sig .tc .vmem S4x128x128 .f32) (harg7 : arg7.IsWhole) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E (cc0_gla_fwd_f i arg1 harg1 arg2 harg2 arg3 harg3 arg4 harg4 arg5 harg5 arg6 harg6 arg7 harg7) K := by
  simp only [cc0_gla_fwd_f_eq_skeleton]; unfold cc0_gla_fwd_f_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  by_cases hc : cond0_0 i
  all_goals
    sl_exec (disch := first | sl_exact hc)
    sl_step
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    iexists _; iexists _; isplitr; swap; · iexact H7
    ipureintro; rfl

/-- No window's contents are named. -/
def every : Fin 6 → Bool := fun _ => true

/-- The proof data: the arrays as the region finds them, nothing named of what a point leaves, the scratch at
    anything between points, the shares of the arrays several windows read, nothing owed. -/
def data (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (data m 0 c).A w = V m c (Pipeline.arrRef spec0 w) := by
  dsimp only [data]

/-- The region's state around a point: the scratch at anything, nothing owed, each window's buffer at anything. -/
def around (c : Dev nD) (t : Fin cfg0.N) : sProp 𝕄 :=
  iprop(Pipeline.ΦA spec0 c ∗ (data m 0 c).owesAt () t.castSucc ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d))

/-- A point keeps that state. -/
theorem point_keeps (c : Dev nD) (t : Fin cfg0.N) :
    around m c t ⊢ wp frame (wpE (defs₀ (F := F)) Variants.none c none) Set.univ (bodyAt0 t) (fun _ => around m c t) := by
  unfold around bodyAt0
  rw [PhiA0_eq]
  iintro ⟨⟨HS, Hg⟩, Ho, W0, W1, W2, W3, W4, W5⟩
  iapply (point_any c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) Set.univ _)
  isplitl [W0]; · iexact W0
  isplitl [W1]; · iexact W1
  isplitl [W2]; · iexact W2
  isplitl [W3]; · iexact W3
  isplitl [W4]; · iexact W4
  isplitl [W5]; · iexact W5
  isplitl [HS]; · iexact HS
  iintro ⟨W0, W1, W2, W3, W4, W5, HS⟩
  isplitl [HS Hg]
  · isplitl [HS]; · iexact HS
    iexact Hg
  isplitl [Ho]; · iexact Ho
  isplitl [W0]; · iexact W0
  isplitl [W1]; · iexact W1
  isplitl [W2]; · iexact W2
  isplitl [W3]; · iexact W3
  isplitl [W4]; · iexact W4
  iexact W5

/-- The kernel the pipeline calls at a point is the one above. -/
theorem row (t : Fin cfg0.N) : defs₀ (F := F) .tc cfg0.body (cfg0.bodyArgs t (cfg0.slots t)) = bodyAt0 t := by
  unfold defs₀; rw [Defs.onTc_tc]

/-- What the pipeline asks of the kernel, with every window unnamed. -/
theorem obliged (c : Dev nD) :
    BodyObligation (data (F := F) m 0 c) (defs₀ (F := F)) Variants.none () Set.univ every := fun t => by
  rw [bigSep_W0, bigSep_W0, row]
  exact triple_restated (point_keeps m c t) rfl .rfl fun _ => .rfl

set_option backward.isDefEq.respectTransparency.types false in
/-- The launch: it ends, every array no window writes is as the region found it, every counter is at zero. -/
theorem launched : θ_run defs (onTc (τ := τ) (main (F := F))) (s₀ m ρ)
    (fun r => Pipeline.RDat.FramePost (cfgs 0) (fun c => (data m 0 c).toRForget every) (V m) r ∧ r.2.sem = fun _ => 0) :=
  Pipeline.θ_run_frame_forget_shared (Q' := _) cfgs (data m) (0 : Fin 1) launch₀0 defs₀ Variants.none every m ρ main
    (hbody := fun c => (obliged m c).loose) (hq := fun _ _ _ => rfl) (howed := fun _ _ => rfl) (V := V m)
    (hmain := hmain m Variants.none) (hA := A_eq m) (hΦ := fun _ _ => rfl)

/-- The frame: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 2 rfl).trans ((A_eq m c 2).trans (V_main_arg0 m c)),
      (h.1.arr_in c 3 rfl).trans ((A_eq m c 3).trans (V_main_arg1 m c))⟩, h.2⟩) (launched m ρ)

end Cert.GlaFFIdeal.Any

end
-- ==== Proof.Val.GlaFBIdeal.lean ====
/- The frame of `GlaFBIdeal`: whatever the staging buffers and the carried scratch hold, one point of the grid
   runs to the end and leaves them owned; no window's contents are named, so the launch gives back every argument
   array as it was and every counter at zero. -/
module

public import proofs.«01_k».proof.Proof.Gen.GlaFBIdeal.Frame.Runs

@[expose] public section

set_option maxRecDepth 16384

noncomputable section

namespace Cert.GlaFBIdeal.Any

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.GlaFBIdeal Cert.GlaFBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One point of the grid, from any contents of its buffers to some contents of them: the first point (the branch
    taken) and every other one. -/
theorem point_any (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S8x4x128x128 .f32) (harg9 : arg9.IsWhole) (arg10 : Memref sig .tc .vmem S512x512 .bf16) (harg10 : arg10.IsWhole) (arg11 : Memref sig .tc .vmem S4x128x128 .f32) (harg11 : arg11.IsWhole) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gla_fwd_b i arg1 harg1 arg2 harg2 arg3 harg3 arg4 harg4 arg5 harg5 arg6 harg6 arg7 harg7 arg8 harg8 arg9 harg9 arg10 harg10 arg11 harg11) K := by
  simp only [cc0_gla_fwd_b_eq_skeleton]; unfold cc0_gla_fwd_b_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  by_cases hc : cond0_0 i
  all_goals
    sl_exec (disch := first | sl_exact hc)
    sl_step
    iapply Hk
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    iexists _; iexists _; isplitr; swap; · iexact H11
    ipureintro; rfl

/-- No window's contents are named. -/
def every : Fin 10 → Bool := fun _ => true

/-- The proof data: the arrays as the region finds them, nothing named of what a point leaves, the scratch at
    anything between points, the shares of the arrays several windows read, nothing owed. -/
def data (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (data m 0 c).A w = V m c (Pipeline.arrRef spec0 w) := by
  dsimp only [data]

/-- The region's state around a point: the scratch at anything, nothing owed, each window's buffer at anything. -/
def around (c : Dev nD) (t : Fin cfg0.N) : sProp 𝕄 :=
  iprop(Pipeline.ΦA spec0 c ∗ (data m 0 c).owesAt () t.castSucc ∗ (∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d))

/-- A point keeps that state. -/
theorem point_keeps (c : Dev nD) (t : Fin cfg0.N) :
    around m c t ⊢ wp frame (wpE (defs₀ (F := F)) Variants.none c none) Set.univ (bodyAt0 t) (fun _ => around m c t) := by
  unfold around bodyAt0
  rw [PhiA0_eq]
  iintro ⟨⟨HS, Hg⟩, Ho, W0, W1, W2, W3, W4, W5, W6, W7, W8, W9⟩
  iapply (point_any c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [HS]; · iexact HS
  iintro ⟨W0, W1, W2, W3, W4, W5, W6, W7, W8, W9, HS⟩
  isplitl [HS Hg]
  · isplitl [HS]; · iexact HS
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

/-- The kernel the pipeline calls at a point is the one above. -/
theorem row (t : Fin cfg0.N) : defs₀ (F := F) .tc cfg0.body (cfg0.bodyArgs t (cfg0.slots t)) = bodyAt0 t := by
  unfold defs₀; rw [Defs.onTc_tc]

/-- What the pipeline asks of the kernel, with every window unnamed. -/
theorem obliged (c : Dev nD) :
    BodyObligation (data (F := F) m 0 c) (defs₀ (F := F)) Variants.none () Set.univ every := fun t => by
  rw [bigSep_W0, bigSep_W0, row]
  exact triple_restated (point_keeps m c t) rfl .rfl fun _ => .rfl

set_option backward.isDefEq.respectTransparency.types false in
/-- The launch: it ends, every array no window writes is as the region found it, every counter is at zero. -/
theorem launched : θ_run defs (onTc (τ := τ) (main (F := F))) (s₀ m ρ)
    (fun r => Pipeline.RDat.FramePost (cfgs 0) (fun c => (data m 0 c).toRForget every) (V m) r ∧ r.2.sem = fun _ => 0) :=
  Pipeline.θ_run_frame_forget_shared (Q' := _) cfgs (data m) (0 : Fin 1) launch₀0 defs₀ Variants.none every m ρ main
    (hbody := fun c => (obliged m c).loose) (hq := fun _ _ _ => rfl) (howed := fun _ _ => rfl) (V := V m)
    (hmain := hmain m Variants.none) (hA := A_eq m) (hΦ := fun _ _ => rfl)

/-- The frame: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 2 rfl).trans ((A_eq m c 2).trans (V_main_arg0 m c)),
      (h.1.arr_in c 3 rfl).trans ((A_eq m c 3).trans (V_main_arg1 m c)),
      (h.1.arr_in c 4 rfl).trans ((A_eq m c 4).trans (V_main_arg2 m c)),
      (h.1.arr_in c 6 rfl).trans ((A_eq m c 6).trans (V_main_arg3 m c))⟩, h.2⟩) (launched m ρ)

end Cert.GlaFBIdeal.Any

end
-- ==== Proof.Val.Real.lean ====
/-
  Finite extended reals, shared by the value proofs.  A certificate's precondition keeps every argument
  finite; the lemmas here turn an expression over the extended reals whose leaves are finite into the same
  expression over the reals, where the ring laws hold.
-/
module

public import Idealize.ShloMosaic.Lib.Pointwise
public import Idealize.ShloMosaic.Lib.IdealHost

@[expose] public section

noncomputable section

namespace Cert.Val

open Idealize.ShloMosaic

/-- The pattern of `+∞` at bf16 denotes the top of the extended reals. -/
theorem ofBits_inf_bf16 : Ideal.ofBits .bf16 0x7F80#16 = ⊤ := by simp [Ideal.ofBits, Ideal.ieee]
/-- The pattern of `+∞` at f32 denotes the top of the extended reals. -/
theorem ofBits_inf_f32 : Ideal.ofBits .f32 0x7F800000#32 = ⊤ := by simp [Ideal.ofBits, Ideal.ieee]

/-- An extended real of absolute value below `+∞` is a real. -/
theorem real_of_abs_lt (x : EReal) (h : max x (-x) < ⊤) : ∃ r : ℝ, x = (r : EReal) := by
  induction x with
  | bot => simp at h
  | top => simp at h
  | coe r => exact ⟨r, rfl⟩

/-- The comparison `|x| < b` set, `b` being `+∞`, says that `x` is a real. -/
theorem real_of_cmp (x b : EReal) (hb : b = ⊤) (h : Ideal.cmp .olt (max x (-x)) b = 1#1) :
    ∃ r : ℝ, x = (r : EReal) := by
  subst hb
  refine real_of_abs_lt x ?_
  by_contra hn
  simp [Ideal.cmp, hn] at h

/-- A vector all of whose elements are reals is the image of a real vector. -/
theorem exists_real {s : Shape} {φ : FTy} (x : FVec Ideal s φ) (h : ∀ i, ∃ r : ℝ, x i = (r : EReal)) :
    ∃ f : s.Idx → ℝ, x = fun i => (f i : EReal) :=
  ⟨fun i => (h i).choose, funext fun i => (h i).choose_spec⟩

/-- The quotient of two reals, the divisor nonzero, is the real quotient. -/
theorem div_real (x y : ℝ) (h : y ≠ 0) : Ideal.div (x : EReal) (y : EReal) = ((x / y : ℝ) : EReal) := by
  rw [Ideal.div_coe h, ← EReal.coe_mul, mul_one_div]

/-- The sum of finitely many reals is the real sum. -/
theorem sum_real {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logistic function of a real, as both programs spell it. -/
theorem sigmoid_real (g : ℝ) :
    Ideal.div 1 (1 + Ideal.exp (-(g : EReal))) = (((1 + Real.exp (-g))⁻¹ : ℝ) : EReal) := by
  have h : (1 + Real.exp (-g)) ≠ 0 := by positivity
  rw [← EReal.coe_neg, Ideal.exp_coe, ← EReal.coe_one, ← EReal.coe_add, div_real _ _ h, one_div]

end Cert.Val

end
-- ==== Proof.Val.Rms.lean ====
/-
  The gradient of the root-mean-square norm of one row, shared by the value proofs of the norms: the kernels' form and
  the form the derivative comes out in are the same number over finite entries.
-/
module

public import proofs.«01_k».proof.Proof.Val.Real

@[expose] public section

noncomputable section

open Idealize.ShloMosaic

namespace Cert.Val.Rms

variable {N : ℕ}

/-- The number under the root: the mean square of a row with the small constant added. -/
def ms (n e : EReal) (x : Fin N → EReal) : EReal := Ideal.div (∑ k, x k * x k) n + e

/-- The factor of the norm. -/
def rs (n e : EReal) (x : Fin N → EReal) : EReal := Ideal.rsqrt (ms n e x)

/-- The gradient of entry `j` of the row from the gradient `g` of the normed row, as the kernels compute it. -/
def back (n e : EReal) (x g : Fin N → EReal) (j : Fin N) : EReal :=
  rs n e x * (g j - x j * rs n e x * Ideal.div (∑ k, g k * (x k * rs n e x)) n)

/-- What the chain rule gives through the mean square: half of entry `j`'s share, divided by `x j`. -/
def thru (n e h : EReal) (x g : Fin N → EReal) : EReal :=
  Ideal.div ((∑ k, x k * g k) * (h * Ideal.div (rs n e x) (ms n e x))) n

/-- The mean square of a finite row is a positive real, and the norm's factor its root's inverse. -/
theorem ms_real (n e : ℝ) (hn : 0 < n) (he : 0 < e) (x : Fin N → ℝ) :
    ∃ s : ℝ, 0 < s ∧ ms n e (fun k => (x k : EReal)) = (s : EReal)
      ∧ rs n e (fun k => (x k : EReal)) = ((Real.sqrt s)⁻¹ : ℝ) := by
  have hs : 0 < (∑ k, x k * x k) / n + e :=
    add_pos_of_nonneg_of_pos (div_nonneg (Finset.sum_nonneg fun k _ => mul_self_nonneg _) hn.le) he
  have h : ms n e (fun k => (x k : EReal)) = (((∑ k, x k * x k) / n + e : ℝ) : EReal) := by
    unfold ms
    simp only [← EReal.coe_mul, sum_real]
    rw [div_real _ _ hn.ne', ← EReal.coe_add]
  refine ⟨_, hs, h, ?_⟩
  unfold rs
  rw [h, Ideal.rsqrt_coe, if_neg hs.le.not_gt, if_neg hs.ne']

/-- The derivative's form is the kernels' form. -/
theorem back_eq (n e : ℝ) (hn : 0 < n) (he : 0 < e) (x g : Fin N → ℝ) (j : Fin N) :
    (g j : EReal) * rs n e (fun k => (x k : EReal))
        + (x j : EReal) * thru n e ((-(1 / 2) : ℝ) : EReal) (fun k => (x k : EReal)) (fun k => (g k : EReal))
        + thru n e ((-(1 / 2) : ℝ) : EReal) (fun k => (x k : EReal)) (fun k => (g k : EReal)) * (x j : EReal)
      = back n e (fun k => (x k : EReal)) (fun k => (g k : EReal)) j := by
  obtain ⟨s, hs, h1, h2⟩ := ms_real n e hn he x
  unfold thru back
  rw [h1, h2]
  simp only [← EReal.coe_mul, sum_real, div_real _ _ hs.ne', div_real _ _ hn.ne', ← EReal.coe_sub, ← EReal.coe_add]
  refine congrArg _ ?_
  have e1 : (∑ k, g k * (x k * (√s)⁻¹)) = (∑ k, x k * g k) * (√s)⁻¹ := by
    rw [Finset.sum_mul]
    exact Finset.sum_congr rfl fun k _ => by ring
  have hq : √s ≠ 0 := (Real.sqrt_pos.2 hs).ne'
  have e2 : (√s)⁻¹ / s = (√s)⁻¹ * (√s)⁻¹ * (√s)⁻¹ := by
    field_simp
    rw [Real.sq_sqrt hs.le]
  rw [e1, e2]
  ring

/-- Finite values give a finite gradient. -/
theorem back_real (n e : ℝ) (hn : 0 < n) (he : 0 < e) (x g : Fin N → ℝ) (j : Fin N) :
    ∃ r : ℝ, back n e (fun k => (x k : EReal)) (fun k => (g k : EReal)) j = (r : EReal) := by
  obtain ⟨s, hs, h1, h2⟩ := ms_real n e hn he x
  unfold back
  rw [h2]
  simp only [← EReal.coe_mul, sum_real, div_real _ _ hn.ne', ← EReal.coe_sub]
  exact ⟨_, rfl⟩

/-- The constants: the small number of the norm, the widths, and the factor of the derivative. -/
def eps : ℝ := 8796093 * (2 : ℝ) ^ (-43 : ℤ)
theorem eps_pos : 0 < eps := by unfold eps; positivity
theorem eps_eq : Ideal.ofBits .f32 0x358637BD#32 = ((eps : ℝ) : EReal) := by
  unfold eps
  simp [Ideal.ofBits, Ideal.ieee, ← EReal.coe_mul]
theorem w1024 : Ideal.ofBits .f32 0x44800000#32 = ((1024 : ℝ) : EReal) := by
  simp [Ideal.ofBits, Ideal.ieee, ← EReal.coe_mul]; norm_num [← EReal.coe_mul]
theorem w512 : Ideal.ofBits .f32 0x44000000#32 = ((512 : ℝ) : EReal) := by
  simp [Ideal.ofBits, Ideal.ieee, ← EReal.coe_mul]; norm_num [← EReal.coe_mul]
theorem w128 : Ideal.ofBits .f32 0x43000000#32 = ((128 : ℝ) : EReal) := by
  simp [Ideal.ofBits, Ideal.ieee, ← EReal.coe_mul]; norm_num [← EReal.coe_mul]
theorem w64 : Ideal.ofBits .f32 0x42800000#32 = ((64 : ℝ) : EReal) := by
  simp [Ideal.ofBits, Ideal.ieee, ← EReal.coe_mul]; norm_num [← EReal.coe_mul]
/-- The norm's constant and the derivative's factor as the programs write them. -/
abbrev ee : EReal := Ideal.ofBits .f32 0x358637BD#32
abbrev hh : EReal := Ideal.ofBits .f32 0xBF000000#32
theorem half_neg : Ideal.ofBits .f32 0xBF000000#32 = ((-(1 / 2) : ℝ) : EReal) := by
  simp [Ideal.ofBits, Ideal.ieee, ← EReal.coe_mul]; norm_num [← EReal.coe_mul]

/-- The derivative's form is the kernels' form, for a finite row and a finite gradient. -/
theorem back_of (n : EReal) (n' : ℝ) (hn : 0 < n') (en : n = (n' : EReal)) (x g : Fin N → EReal)
    (hx : ∀ k, ∃ r : ℝ, x k = (r : EReal)) (hg : ∀ k, ∃ r : ℝ, g k = (r : EReal)) (j : Fin N) :
    g j * rs n ee x + x j * thru n ee hh x g + thru n ee hh x g * x j = back n ee x g j := by
  choose x' hx using hx
  choose g' hg using hg
  obtain rfl : x = fun k => (x' k : EReal) := funext hx
  obtain rfl : g = fun k => (g' k : EReal) := funext hg
  subst en
  unfold ee hh
  rw [eps_eq, half_neg]
  exact back_eq n' eps hn eps_pos x' g' j

/-- The same with a summand before it. -/
theorem add_back_of (n : EReal) (n' : ℝ) (hn : 0 < n') (en : n = (n' : EReal)) (x g : Fin N → EReal)
    (hx : ∀ k, ∃ r : ℝ, x k = (r : EReal)) (hg : ∀ k, ∃ r : ℝ, g k = (r : EReal)) (j : Fin N) (d : EReal) :
    d + g j * rs n ee x + x j * thru n ee hh x g + thru n ee hh x g * x j = d + back n ee x g j := by
  rw [← back_of n n' hn en x g hx hg j, add_assoc, add_assoc, add_assoc]

/-- A sum of products of finite numbers is finite. -/
theorem dot_real {K : ℕ} (u v : Fin K → EReal) (hu : ∀ k, ∃ r : ℝ, u k = (r : EReal)) (hv : ∀ k, ∃ r : ℝ, v k = (r : EReal)) :
    ∃ r : ℝ, ∑ k, u k * v k = (r : EReal) := by
  choose u' hu using hu
  choose v' hv using hv
  refine ⟨∑ k, u' k * v' k, ?_⟩
  rw [← sum_real]
  exact Finset.sum_congr rfl fun k _ => by rw [hu, hv, EReal.coe_mul]
theorem mul_real {u v : EReal} (hu : ∃ r : ℝ, u = (r : EReal)) (hv : ∃ r : ℝ, v = (r : EReal)) : ∃ r : ℝ, u * v = (r : EReal) := by
  obtain ⟨r, rfl⟩ := hu
  obtain ⟨s, rfl⟩ := hv
  exact ⟨r * s, (EReal.coe_mul r s).symm⟩
theorem add_real {u v : EReal} (hu : ∃ r : ℝ, u = (r : EReal)) (hv : ∃ r : ℝ, v = (r : EReal)) : ∃ r : ℝ, u + v = (r : EReal) := by
  obtain ⟨r, rfl⟩ := hu
  obtain ⟨s, rfl⟩ := hv
  exact ⟨r + s, (EReal.coe_add r s).symm⟩

theorem sub_real {u v : EReal} (hu : ∃ r : ℝ, u = (r : EReal)) (hv : ∃ r : ℝ, v = (r : EReal)) : ∃ r : ℝ, u - v = (r : EReal) := by
  obtain ⟨r, rfl⟩ := hu
  obtain ⟨s, rfl⟩ := hv
  exact ⟨r - s, (EReal.coe_sub r s).symm⟩

/-- A finite row's norm factor is finite. -/
theorem rs_real (n : EReal) (n' : ℝ) (hn : 0 < n') (en : n = (n' : EReal)) (x : Fin N → EReal) (hx : ∀ k, ∃ r : ℝ, x k = (r : EReal)) :
    ∃ r : ℝ, rs n ee x = (r : EReal) := by
  choose x' hx using hx
  obtain rfl : x = fun k => (x' k : EReal) := funext hx
  subst en
  unfold ee
  rw [eps_eq]
  obtain ⟨s, -, -, e⟩ := ms_real n' eps hn eps_pos x'
  exact ⟨_, e⟩

/-- A factor common to finitely many finite summands. -/
theorem mul_sum_real {K : ℕ} (c : EReal) (u : Fin K → EReal) (hc : ∃ r : ℝ, c = (r : EReal)) (hu : ∀ k, ∃ r : ℝ, u k = (r : EReal)) :
    ∑ k, c * u k = c * ∑ k, u k := by
  choose u' hu using hu
  obtain ⟨c', rfl⟩ := hc
  obtain rfl : u = fun k => (u' k : EReal) := funext hu
  simp only [← EReal.coe_mul, sum_real, Finset.mul_sum]
theorem sum_real_of {K : ℕ} (u : Fin K → EReal) (hu : ∀ k, ∃ r : ℝ, u k = (r : EReal)) : ∃ r : ℝ, ∑ k, u k = (r : EReal) := by
  choose u' hu using hu
  obtain rfl : u = fun k => (u' k : EReal) := funext hu
  exact ⟨_, sum_real _ u'⟩
theorem div_real_of {u : EReal} (n : EReal) (n' : ℝ) (hn : n' ≠ 0) (en : n = (n' : EReal)) (hu : ∃ r : ℝ, u = (r : EReal)) : ∃ r : ℝ, Ideal.div u n = (r : EReal) := by
  obtain ⟨r, rfl⟩ := hu
  subst en
  exact ⟨_, div_real _ _ hn⟩

end Cert.Val.Rms

end
-- ==== Proof.Val.RmsF.lean ====
/-
  The norm before the in-projection (`RmsF`): its two results, the normed rows and the rows' factors, of the kernel and
  of the reference as the same functions of the two arguments.
-/
module

public import proofs.«01_k».proof.Defs
public import proofs.«01_k».proof.Proof.Gen.RmsFIdeal.Value
public import proofs.«01_k».proof.Proof.Gen.RmsFRefIdeal.Run
public import proofs.«01_k».proof.Proof.Val.Rms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.RmsF

open Cert.Val.Rms

abbrev SX : Shape := ⟨2, ![8192, 1024]⟩
abbrev SW : Shape := ⟨2, ![1, 1024]⟩
abbrev SR : Shape := ⟨2, ![8192, 1]⟩

/-- The width of a row as the programs write it. -/
abbrev nn : EReal := Ideal.ofBits .f32 0x44800000#32

/-- The normed rows, and the factor of each row. -/
def normed (x : FVec Ideal SX .f32) (w : FVec Ideal SW .f32) : FVec Ideal SX .bf16 := fun j =>
  x j * rs nn ee (fun q => x (ix2 (j 0) q)) * w (ix2 0 (j 1))
def fac (x : FVec Ideal SX .f32) : FVec Ideal SR .f32 := fun j => rs nn ee (fun q => x (ix2 (j 0) q))

end Cert.Val.RmsF

/-! ## The kernel -/

namespace Cert.RmsFIdeal.Val

open Cert.RmsFIdeal Cert.RmsFIdeal.Gen Cert.Val Cert.Val.RmsF Cert.Val.Rms

variable (m : (ℓ : Loc nD τ sig) → Buf (Elt Ideal) ℓ)

abbrev A0 (c : Dev nD) : FVec Ideal SX .f32 := m ((c : Thread nD τ).loc main_arg0)
abbrev A1 (c : Dev nD) : FVec Ideal SW .f32 := m ((c : Thread nD τ).loc main_arg1)

theorem pay1 (x0 : Vec Ideal S512x1024 .f32) (i : Fin 512) :
    k0_pay1 (F := Ideal) x0 (ix2 i 0) = rs nn ee (fun q => x0 (ix2 i q)) := by
  unfold rs ms
  pointwise [k0_pay1]
theorem pay2 (x0 : Vec Ideal S512x1024 .f32) (x1 : Vec Ideal S1x1024 .f32) (i : Fin 512) (k : Fin 1024) :
    k0_pay2 (F := Ideal) x0 x1 (ix2 i k) = x0 (ix2 i k) * rs nn ee (fun q => x0 (ix2 i q)) * x1 (ix2 0 k) := by
  rw [← pay1 x0 i]
  pointwise [k0_pay2]

/-- The row of the array that is row `i` of block `t`. -/
def row (t : Fin cfg0.N) (i : Fin 512) : Fin 8192 := ⟨t.val * 512 + i.val, by have := t.isLt; have : cfg0.N = 16 := N_0; omega⟩

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-! Each window's block, read off the array it is a block of. -/
theorem rd0 (X : FVec Ideal SX .f32) (t : Fin cfg0.N) (i : Fin 512) (k : Fin 1024) : ((cfg0.win 0).blk t).view.read (Elt Ideal) X (ix2 i k) = X (ix2 (row t i) k) := by blk_ext [idx t, row]
theorem rd1 (X : FVec Ideal SW .f32) (t : Fin cfg0.N) (k : Fin 1024) : ((cfg0.win 1).blk t).view.read (Elt Ideal) X (ix2 0 k) = X (ix2 0 k) := by blk_ext [idx t]

theorem final2 (c : Dev nD) : (dats m 0 c).arrAt 2 cfg0.N = normed (A0 m c) (A1 m c) := by
  refine (dats m 0 c).arrAt_eq_of_covers 2 _ (by decide +kernel) fun t _ y => ?_
  blk_simp
  rw [after0_2]
  frame_out
  idx_vars y
  rw [pay2]
  simp only [iblk]
  refine Eq.trans (b := normed (A0 m c) (A1 m c) (ix2 (row t y0) y1)) ?_ (congrArg (normed (A0 m c) (A1 m c)) ?_)
  · unfold normed
    exact congrArg₂ (fun a b : EReal => a * b) (congrArg₂ (fun a b : EReal => a * b) (rd0 _ t y0 y1)
      (congrArg (rs nn ee) (funext fun q => rd0 _ t y0 q))) (rd1 _ t y1)
  · blk_ext [idx t, row]
theorem final3 (c : Dev nD) : (dats m 0 c).arrAt 3 cfg0.N = fac (A0 m c) := by
  refine (dats m 0 c).arrAt_eq_of_covers 3 _ (by decide +kernel) fun t _ y => ?_
  blk_simp
  rw [after0_3]
  frame_out
  idx_vars y
  obtain rfl : y1 = 0 := Subsingleton.elim _ _
  rw [pay1]
  simp only [iblk]
  refine Eq.trans (b := fac (A0 m c) (ix2 (row t y0) 0)) ?_ (congrArg (fac (A0 m c)) ?_)
  · exact congrArg (rs nn ee) (funext fun q => rd0 _ t y0 q)
  · blk_ext [idx t, row]

end Cert.RmsFIdeal.Val

/-! ## The reference -/

namespace Cert.RmsFRefIdeal.Val

open Cert.RmsFRefIdeal Cert.RmsFRefIdeal.Gen Cert.Val Cert.Val.RmsF Cert.Val.Rms

/-- The reference's run, its results read index by index. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = normed (m ((c.tc : Thread nD τ).loc main_arg0)) (m ((c.tc : Thread nD τ).loc main_arg1))
      ∧ r.2.mem ((c.tc : Thread nD τ).loc main_v7) = fac (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2⟩) (Value.run m ρ)
  all_goals
    clear h
    funext j
    idx_vars j
  · unfold normed rs ms
    pointwise
  · obtain rfl : j1 = 0 := Subsingleton.elim _ _
    unfold fac rs ms
    pointwise

end Cert.RmsFRefIdeal.Val

/-! ## The claims -/

namespace Cert.Val.RmsF

open Cert.RmsFIdeal.Val (A0 A1)

/-- The reference's frame: its run read at the arguments; it has no semaphore. -/
theorem frame_ref : Cert.quiescent_RmsFRefIdeal := fun m ρ _ =>
  (θ_run Cert.RmsFRefIdeal.defs _ _).mono (fun r h => ⟨fun c => (h c).2.2,
      Idealize.ShloMosaic.sem_eq_zero_of_no_sems (by decide) r.2⟩) (Cert.RmsFRefIdeal.Val.run m ρ)

/-- Both programs end with the same normed rows and factors. -/
theorem algebraic : Cert.algebraic_RmsFIdeal_RmsFRefIdeal := by
  intro m ρ m' ρ' _ hagree
  refine ⟨fun c => normed (A0 m c) (A1 m c), fun c => fac (A0 m c), ?_, ?_⟩
  · exact (θ_run Cert.RmsFIdeal.defs _ _).mono (fun _ h c => ⟨(h c).1.trans (Cert.RmsFIdeal.Val.final2 m c),
      (h c).2.1.trans (Cert.RmsFIdeal.Val.final3 m c), (h c).2.2⟩) (Cert.RmsFIdeal.Value.run_blocks m ρ)
  · refine (θ_run Cert.RmsFRefIdeal.defs _ _).mono (fun _ h c => ⟨(h c).1.trans ?_, (h c).2.1.trans ?_, (h c).2.2⟩) (Cert.RmsFRefIdeal.Val.run m' ρ')
    · rw [(hagree c).1, (hagree c).2]
    · rw [(hagree c).1]

end Cert.Val.RmsF

end
-- ==== Proof.Val.FfnF.lean ====
/-
  The gated feed-forward's first half (`FfnF`): the gate, the up product and the activation, of the kernel and of the
  reference as the same functions of the three arguments.
-/
module

public import proofs.«01_k».proof.Defs
public import proofs.«01_k».proof.Proof.Gen.FfnFIdeal.Value
public import proofs.«01_k».proof.Proof.Gen.FfnFRefIdeal.Run
public import proofs.«01_k».proof.Proof.Val.Real
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.FfnF

abbrev SX : Shape := ⟨2, ![8192, 1024]⟩
abbrev SW : Shape := ⟨2, ![2816, 1024]⟩
abbrev SG : Shape := ⟨2, ![8192, 2816]⟩

/-- Rows of `x` against rows of the weight. -/
def dots (x : FVec Ideal SX .bf16) (w : FVec Ideal SW .bf16) : FVec Ideal SG .bf16 := fun j =>
  ∑ l : Fin 1024, x (ix2 (j 0) l) * w (ix2 (j 1) l)

/-- The gated value of a gate `g` and a value `u`. -/
def gated (g u : EReal) : EReal := g * Ideal.div 1 (1 + Ideal.exp (-g)) * u

/-- The activation. -/
def act (x : FVec Ideal SX .bf16) (wg wu : FVec Ideal SW .bf16) : FVec Ideal SG .bf16 := fun j =>
  gated (dots x wg j) (dots x wu j)

end Cert.Val.FfnF

/-! ## The kernel -/

namespace Cert.FfnFIdeal.Val

open Cert.FfnFIdeal Cert.FfnFIdeal.Gen Cert.Val Cert.Val.FfnF

variable (m : (ℓ : Loc nD τ sig) → Buf (Elt Ideal) ℓ)

abbrev A0 (c : Dev nD) : FVec Ideal SX .bf16 := m ((c : Thread nD τ).loc main_arg0)
abbrev A1 (c : Dev nD) : FVec Ideal SW .bf16 := m ((c : Thread nD τ).loc main_arg1)
abbrev A2 (c : Dev nD) : FVec Ideal SW .bf16 := m ((c : Thread nD τ).loc main_arg2)

theorem pay3 (x0 : Vec Ideal S512x1024 .bf16) (x1 : Vec Ideal S1408x1024 .bf16) (y : S512x1408.Idx) :
    k0_pay3 (F := Ideal) x0 x1 y = ∑ l : Fin 1024, x0 (ix2 (y 0) l) * x1 (ix2 (y 1) l) := by
  idx_vars y
  pointwise [k0_pay3, k0_pay1]
theorem pay4 (x0 : Vec Ideal S512x1024 .bf16) (x1 : Vec Ideal S1408x1024 .bf16) (y : S512x1408.Idx) :
    k0_pay4 (F := Ideal) x0 x1 y = ∑ l : Fin 1024, x0 (ix2 (y 0) l) * x1 (ix2 (y 1) l) := by
  idx_vars y
  pointwise [k0_pay4, k0_pay2]
theorem pay5 (x0 : Vec Ideal S512x1024 .bf16) (x1 x2 : Vec Ideal S1408x1024 .bf16) (y : S512x1408.Idx) :
    k0_pay5 (F := Ideal) x0 x1 x2 y = gated (∑ l : Fin 1024, x0 (ix2 (y 0) l) * x1 (ix2 (y 1) l)) (∑ l : Fin 1024, x0 (ix2 (y 0) l) * x2 (ix2 (y 1) l)) := by
  idx_vars y
  unfold gated
  pointwise [k0_pay5, k0_pay2, k0_pay1]
  simp only [zero_sub]

/-- Where the windows stand at a grid point. -/
theorem idx : ∀ t : Fin cfg0.N, win0_0.index t = ![t.val / 2, 0] ∧ win0_1.index t = ![t.val % 2, 0] ∧ win0_2.index t = ![t.val % 2, 0]
    ∧ win0_3.index t = ![t.val / 2, t.val % 2] ∧ win0_4.index t = ![t.val / 2, t.val % 2] ∧ win0_5.index t = ![t.val / 2, t.val % 2] :=
  (by decide +kernel : ∀ t : Fin grid0.N, _)

/-- The two products' blocks, at an index of the array. -/
theorem gate_at (c : Dev nD) (t : Fin cfg0.N) (y : S512x1408.Idx) :
    (∑ l : Fin 1024, @HMul.hMul EReal EReal EReal _ (iblk m c 0 t (ix2 (y 0) l)) (iblk m c 1 t (ix2 (y 1) l))) = dots (A0 m c) (A1 m c) (((cfg0.win 3).blk t).view.emb y) := by
  unfold dots
  refine Fin.sum_fin_congr fun s => ?_
  blk_point [iblk, V, idx t]
theorem up_at (c : Dev nD) (t : Fin cfg0.N) (y : S512x1408.Idx) :
    (∑ l : Fin 1024, @HMul.hMul EReal EReal EReal _ (iblk m c 0 t (ix2 (y 0) l)) (iblk m c 2 t (ix2 (y 1) l))) = dots (A0 m c) (A2 m c) (((cfg0.win 4).blk t).view.emb y) := by
  unfold dots
  refine Fin.sum_fin_congr fun s => ?_
  blk_point [iblk, V, idx t]

theorem final3 (c : Dev nD) : (dats m 0 c).arrAt 3 (cfgs 0).N = dots (A0 m c) (A1 m c) := by
  refine (dats m 0 c).arrAt_eq_of_covers 3 _ (by decide +kernel) fun t _ y => ?_
  blk_simp
  rw [after0_3]
  frame_out
  rw [pay3]
  exact gate_at m c t y
theorem final4 (c : Dev nD) : (dats m 0 c).arrAt 4 (cfgs 0).N = dots (A0 m c) (A2 m c) := by
  refine (dats m 0 c).arrAt_eq_of_covers 4 _ (by decide +kernel) fun t _ y => ?_
  blk_simp
  rw [after0_4]
  frame_out
  rw [pay4]
  exact up_at m c t y
theorem final5 (c : Dev nD) : (dats m 0 c).arrAt 5 (cfgs 0).N = act (A0 m c) (A1 m c) (A2 m c) := by
  refine (dats m 0 c).arrAt_eq_of_covers 5 _ (by decide +kernel) fun t _ y => ?_
  blk_simp
  rw [after0_5]
  frame_out
  rw [pay5]
  exact congrArg₂ gated (gate_at m c t y) (up_at m c t y)

end Cert.FfnFIdeal.Val

/-! ## The reference -/

namespace Cert.FfnFRefIdeal.Val

open Cert.FfnFRefIdeal Cert.FfnFRefIdeal.Gen Cert.Val Cert.Val.FfnF

/-- The reference's run, its results read index by index. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = dots (m ((c.tc : Thread nD τ).loc main_arg0)) (m ((c.tc : Thread nD τ).loc main_arg1))
      ∧ r.2.mem ((c.tc : Thread nD τ).loc main_v5) = dots (m ((c.tc : Thread nD τ).loc main_arg0)) (m ((c.tc : Thread nD τ).loc main_arg2))
      ∧ r.2.mem ((c.tc : Thread nD τ).loc main_v8) = act (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2.1.trans ?_, (h c).2.2.2⟩) (Value.run m ρ)
  · funext j
    idx_vars j
    unfold dots
    pointwise
  · funext j
    idx_vars j
    unfold dots
    pointwise
  · funext j
    idx_vars j
    unfold act gated dots
    pointwise

end Cert.FfnFRefIdeal.Val

/-! ## The claims -/

namespace Cert.Val.FfnF

open Cert.FfnFIdeal.Val (A0 A1 A2)

/-- The reference's frame: its run read at the arguments; it has no semaphore. -/
theorem frame_ref : Cert.quiescent_FfnFRefIdeal := fun m ρ _ =>
  (θ_run Cert.FfnFRefIdeal.defs _ _).mono (fun r h => ⟨fun c => (h c).2.2.2,
      Idealize.ShloMosaic.sem_eq_zero_of_no_sems (by decide) r.2⟩) (Cert.FfnFRefIdeal.Val.run m ρ)

/-- Both programs end with the same gate, up product and activation. -/
theorem algebraic : Cert.algebraic_FfnFIdeal_FfnFRefIdeal := by
  intro m ρ m' ρ' _ hagree
  refine ⟨fun c => dots (A0 m c) (A1 m c), fun c => dots (A0 m c) (A2 m c), fun c => act (A0 m c) (A1 m c) (A2 m c), ?_, ?_⟩
  · exact (θ_run Cert.FfnFIdeal.defs _ _).mono (fun _ h c => ⟨(h c).1.trans (Cert.FfnFIdeal.Val.final3 m c),
      (h c).2.1.trans (Cert.FfnFIdeal.Val.final4 m c), (h c).2.2.1.trans (Cert.FfnFIdeal.Val.final5 m c), (h c).2.2.2⟩) (Cert.FfnFIdeal.Value.run_blocks m ρ)
  · refine (θ_run Cert.FfnFRefIdeal.defs _ _).mono (fun _ h c => ⟨(h c).1.trans ?_, (h c).2.1.trans ?_, (h c).2.2.1.trans ?_, (h c).2.2.2⟩) (Cert.FfnFRefIdeal.Val.run m' ρ')
    · rw [(hagree c).1, (hagree c).2.1]
    · rw [(hagree c).1, (hagree c).2.2]
    · rw [(hagree c).1, (hagree c).2.1, (hagree c).2.2]

end Cert.Val.FfnF

end
-- ==== Proof.Val.PostF.lean ====
/-
  The attention's output norm (`PostF`): the output with the tokens as rows, and its normed rows, of the kernel and of the
  reference as the same functions of the two arguments.
-/
module

public import proofs.«01_k».proof.Defs
public import proofs.«01_k».proof.Proof.Gen.PostFIdeal.Value
public import proofs.«01_k».proof.Proof.Gen.PostFRefIdeal.Run
public import proofs.«01_k».proof.Proof.Val.Rms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.PostF

open Cert.Val.Rms

abbrev SQ : Shape := ⟨4, ![2, 16, 64, 2048]⟩
abbrev SW : Shape := ⟨2, ![1, 512]⟩
abbrev SO : Shape := ⟨2, ![8192, 512]⟩

/-- The width of a row as the programs write it. -/
abbrev nn : EReal := Ideal.ofBits .f32 0x44000000#32

/-- Where token `i`'s column `k` stands in the layout by query blocks. -/
def kv (k : Fin 512) : Fin 2 := ⟨k.val / 256, by omega⟩
def dim (k : Fin 512) : Fin 64 := ⟨k.val % 64, by omega⟩
def lane (i : Fin 512) (k : Fin 512) : Fin 2048 := ⟨k.val / 64 % 4 * 512 + i.val, by omega⟩

/-- The output with the tokens as rows. -/
def toks (o : FVec Ideal SQ .f32) : FVec Ideal SO .f32 := fun j =>
  o (ix4 (kv (j 1)) ⟨(j 0).val / 512, by have := (j 0).isLt; change _ < 8192 at this; omega⟩ (dim (j 1)) (lane ⟨(j 0).val % 512, by omega⟩ (j 1)))

/-- Its normed rows. -/
def normed (o : FVec Ideal SQ .f32) (w : FVec Ideal SW .f32) : FVec Ideal SO .bf16 := fun j =>
  toks o j * rs nn ee (fun q => toks o (ix2 (j 0) q)) * w (ix2 0 (j 1))

end Cert.Val.PostF

/-! ## The kernel -/

namespace Cert.PostFIdeal.Val

open Cert.PostFIdeal Cert.PostFIdeal.Gen Cert.Val Cert.Val.PostF Cert.Val.Rms

variable (m : (ℓ : Loc nD τ sig) → Buf (Elt Ideal) ℓ)

abbrev A0 (c : Dev nD) : FVec Ideal SQ .f32 := m ((c : Thread nD τ).loc main_arg0)
abbrev A1 (c : Dev nD) : FVec Ideal SW .f32 := m ((c : Thread nD τ).loc main_arg1)

theorem pay1 (x0 x1 : Vec Ideal S1x1x64x2048 .f32) (i : Fin 512) (k : Fin 512) :
    k0_pay1 (F := Ideal) x0 x1 (ix2 i k) = if k.val < 256 then x0 (ix4 0 0 (dim k) (lane i k)) else x1 (ix4 0 0 (dim k) (lane i k)) := by
  unfold dim lane
  pointwise [k0_pay1]
  split_ifs <;> first
    | (exfalso; omega)
    | exact congrArg₂ (fun a b => x0 (ix4 0 0 a b)) (Fin.ext (by dsimp only; omega)) (Fin.ext (by dsimp only; omega))
    | exact congrArg₂ (fun a b => x1 (ix4 0 0 a b)) (Fin.ext (by dsimp only; omega)) (Fin.ext (by dsimp only; omega))
theorem pay2 (x0 x1 : Vec Ideal S1x1x64x2048 .f32) (x2 : Vec Ideal S1x512 .f32) (i : Fin 512) (k : Fin 512) :
    k0_pay2 (F := Ideal) x0 x1 x2 (ix2 i k) = k0_pay1 (F := Ideal) x0 x1 (ix2 i k) * rs nn ee (fun q => k0_pay1 (F := Ideal) x0 x1 (ix2 i q)) * x2 (ix2 0 k) := by
  unfold rs ms
  pointwise [k0_pay2]

/-- The row of the array that is row `i` of block `t`. -/
def row (t : Fin cfg0.N) (i : Fin 512) : Fin 8192 := ⟨t.val * 512 + i.val, by have := t.isLt; have : cfg0.N = 16 := N_0; omega⟩

theorem idx : ∀ t : Fin cfg0.N, win0_0.index t = ![0, t.val, 0, 0] ∧ win0_1.index t = ![0, 0]
    ∧ win0_2.index t = ![t.val, 0] ∧ win0_3.index t = ![t.val, 0] :=
  (by decide +kernel : ∀ t : Fin grid0.N, _)

/-! The two loads of a block, and the scale's block. -/
theorem rd0 (X : FVec Ideal SQ .f32) (t : Fin cfg0.N) (a : Fin 2) (d : Fin 64) (r : Fin 2048) :
    ((cfg0.win 0).blk t).view.read (Elt Ideal) X (ix4 a 0 d r) = X (ix4 a ⟨t.val, lt_of_lt_of_eq t.isLt N_0⟩ d r) := by blk_ext [idx t]
theorem ld (X : Vec Ideal S2x1x64x2048 .f32) (n : ℕ) (g : Fin 2) (e : g.val = n) (h) (d : Fin 64) (r : Fin 2048) :
    View.ld (Val := Elt Ideal) (S := S2x1x64x2048) (e' := .f32) X (Rect.unit (s := S2x1x64x2048) ![n, 0, 0, 0] ![1, 1, 64, 2048] h) (ix4 0 0 d r) = X (ix4 g 0 d r) := by
  refine View.ld_unit_apply_of (Val := Elt Ideal) (e := .f32) X _ _ h (ix4 0 0 d r) (ix4 g 0 d r) fun q => ?_
  fin_cases q <;> simp [e]
theorem ld0 (c : Dev nD) (t : Fin cfg0.N) (d : Fin 64) (r : Fin 2048) : View.ld (iblk m c 0 t) r0_0 (ix4 0 0 d r)
    = A0 m c (ix4 0 ⟨t.val, lt_of_lt_of_eq t.isLt N_0⟩ d r) :=
  (ld (iblk m c 0 t) 0 0 rfl _ d r).trans (rd0 _ t 0 d r)
theorem ld1 (c : Dev nD) (t : Fin cfg0.N) (d : Fin 64) (r : Fin 2048) : View.ld (iblk m c 0 t) r0_1 (ix4 0 0 d r)
    = A0 m c (ix4 1 ⟨t.val, lt_of_lt_of_eq t.isLt N_0⟩ d r) :=
  (ld (iblk m c 0 t) 1 1 rfl _ d r).trans (rd0 _ t 1 d r)
theorem rd1 (X : FVec Ideal SW .f32) (t : Fin cfg0.N) (k : Fin 512) : ((cfg0.win 1).blk t).view.read (Elt Ideal) X (ix2 0 k) = X (ix2 0 k) := by blk_ext [idx t]

/-- A row of the output, put together from the two loads. -/
theorem at1 (c : Dev nD) (t : Fin cfg0.N) (i k : Fin 512) :
    k0_pay1 (F := Ideal) (View.ld (iblk m c 0 t) r0_0) (View.ld (iblk m c 0 t) r0_1) (ix2 i k) = toks (A0 m c) (ix2 (row t i) k) := by
  have hr : (row t i).val = t.val * 512 + i.val := rfl
  rw [pay1, ld0, ld1]
  unfold toks
  have e1 : (⟨t.val, lt_of_lt_of_eq t.isLt N_0⟩ : Fin 16) = ⟨(row t i).val / 512, by omega⟩ := Fin.ext (by dsimp only; omega)
  have e2 : (⟨(row t i).val % 512, by omega⟩ : Fin 512) = i := Fin.ext (by dsimp only; omega)
  dsimp only [ix2_0, ix2_1]
  rw [e2, e1]
  split_ifs with h
  · exact congrArg (fun a => A0 m c (ix4 a _ _ _)) (Fin.ext (by unfold kv; dsimp only; omega))
  · exact congrArg (fun a => A0 m c (ix4 a _ _ _)) (Fin.ext (by unfold kv; dsimp only; omega))

theorem at2 (c : Dev nD) (t : Fin cfg0.N) (i k : Fin 512) :
    k0_pay2 (F := Ideal) (View.ld (iblk m c 0 t) r0_0) (View.ld (iblk m c 0 t) r0_1) (iblk m c 1 t) (ix2 i k)
      = normed (A0 m c) (A1 m c) (ix2 (row t i) k) := by
  refine (pay2 _ _ _ i k).trans (congrArg₂ (fun a b : EReal => a * b) (congrArg₂ (fun a b : EReal => a * b) (at1 m c t i k)
    (congrArg (rs nn ee) (funext fun q => at1 m c t i q))) (rd1 _ t k))

theorem final2 (c : Dev nD) : (dats m 0 c).arrAt 2 cfg0.N = toks (A0 m c) := by
  refine (dats m 0 c).arrAt_eq_of_covers 2 _ (by decide +kernel) fun t _ y => ?_
  blk_simp
  rw [after0_2]
  frame_out
  idx_vars y
  refine (at1 m c t y0 y1).trans (congrArg (toks (A0 m c)) ?_)
  blk_ext [idx t, row]
theorem final3 (c : Dev nD) : (dats m 0 c).arrAt 3 cfg0.N = normed (A0 m c) (A1 m c) := by
  refine (dats m 0 c).arrAt_eq_of_covers 3 _ (by decide +kernel) fun t _ y => ?_
  blk_simp
  rw [after0_3]
  frame_out
  idx_vars y
  refine (at2 m c t y0 y1).trans (congrArg (normed (A0 m c) (A1 m c)) ?_)
  blk_ext [idx t, row]

end Cert.PostFIdeal.Val

namespace Cert.PostFRefIdeal.Val

open Cert.PostFRefIdeal Cert.PostFRefIdeal.Gen Cert.Val Cert.Val.PostF Cert.Val.Rms

/-- The reference's run, its results read index by index. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = toks (m ((c.tc : Thread nD τ).loc main_arg0))
      ∧ r.2.mem ((c.tc : Thread nD τ).loc main_v15) = normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2⟩) (Value.run m ρ)
  all_goals
    clear h
    funext j
    idx_vars j
  · unfold toks kv dim lane
    pointwise
  · unfold normed toks rs ms kv dim lane
    pointwise

end Cert.PostFRefIdeal.Val

/-! ## The claims -/

namespace Cert.Val.PostF

open Cert.PostFIdeal.Val (A0 A1)

/-- The reference's frame: its run read at the arguments; it has no semaphore. -/
theorem frame_ref : Cert.quiescent_PostFRefIdeal := fun m ρ _ =>
  (θ_run Cert.PostFRefIdeal.defs _ _).mono (fun r h => ⟨fun c => (h c).2.2,
      Idealize.ShloMosaic.sem_eq_zero_of_no_sems (by decide) r.2⟩) (Cert.PostFRefIdeal.Val.run m ρ)

/-- Both programs end with the same output and normed output. -/
theorem algebraic : Cert.algebraic_PostFIdeal_PostFRefIdeal := by
  intro m ρ m' ρ' _ hagree
  refine ⟨fun c => toks (A0 m c), fun c => normed (A0 m c) (A1 m c), ?_, ?_⟩
  · exact (θ_run Cert.PostFIdeal.defs _ _).mono (fun _ h c => ⟨(h c).1.trans (Cert.PostFIdeal.Val.final2 m c),
      (h c).2.1.trans (Cert.PostFIdeal.Val.final3 m c), (h c).2.2⟩) (Cert.PostFIdeal.Value.run_blocks m ρ)
  · refine (θ_run Cert.PostFRefIdeal.defs _ _).mono (fun _ h c => ⟨(h c).1.trans ?_, (h c).2.1.trans ?_, (h c).2.2⟩) (Cert.PostFRefIdeal.Val.run m' ρ')
    · rw [(hagree c).1]
    · rw [(hagree c).1, (hagree c).2]

end Cert.Val.PostF

end
-- ==== Proof.Val.OutF.lean ====
/-
  The out-projection with the norm after it (`OutF`): its three results, the rows with the residual added, the normed
  rows and the rows' factors, of the kernel and of the reference as the same functions of the five arguments.
-/
module

public import proofs.«01_k».proof.Defs
public import proofs.«01_k».proof.Proof.Gen.OutFIdeal.Value
public import proofs.«01_k».proof.Proof.Gen.OutFRefIdeal.Run
public import proofs.«01_k».proof.Proof.Val.Rms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.OutF

open Cert.Val.Rms

abbrev SA : Shape := ⟨2, ![8192, 512]⟩
abbrev SP : Shape := ⟨2, ![1024, 1024]⟩
abbrev SX : Shape := ⟨2, ![8192, 1024]⟩
abbrev SW : Shape := ⟨2, ![1, 1024]⟩
abbrev SR : Shape := ⟨2, ![8192, 1]⟩

/-- The width of a row as the programs write it. -/
abbrev nn : EReal := Ideal.ofBits .f32 0x44800000#32

/-- Row `l` of the upper half of the weight, and of its lower half. -/
def up (l : Fin 512) : Fin 1024 := ⟨l.val, by omega⟩
def lo (l : Fin 512) : Fin 1024 := ⟨512 + l.val, by omega⟩

variable (a b : FVec Ideal SA .bf16) (p : FVec Ideal SP .bf16) (x : FVec Ideal SX .f32) (w : FVec Ideal SW .f32)

/-- The product of the two halves of a row with the weight. -/
def prod (i : Fin 8192) (k : Fin 1024) : EReal := (∑ l : Fin 512, a (ix2 i l) * p (ix2 (up l) k)) + ∑ l : Fin 512, b (ix2 i l) * p (ix2 (lo l) k)

/-- The rows with the residual added, the normed rows, and the factor of each row. -/
def rows : FVec Ideal SX .f32 := fun j => x j + prod a b p (j 0) (j 1)
def fac : FVec Ideal SR .f32 := fun j => rs nn ee (fun q => rows a b p x (ix2 (j 0) q))
def normed : FVec Ideal SX .bf16 := fun j => rows a b p x j * rs nn ee (fun q => rows a b p x (ix2 (j 0) q)) * w (ix2 0 (j 1))

/-- A sum over the weight's rows is the sum over its two halves. -/
theorem sum_halves (f : Fin 1024 → EReal) : ∑ l : Fin 1024, f l = (∑ l : Fin 512, f (up l)) + ∑ l : Fin 512, f (lo l) :=
  Fin.sum_univ_add (a := 512) (b := 512) f

end Cert.Val.OutF

/-! ## The kernel -/

namespace Cert.OutFIdeal.Val

open Cert.OutFIdeal Cert.OutFIdeal.Gen Cert.Val Cert.Val.OutF Cert.Val.Rms

theorem pay1 (x0 : Vec Ideal S512x512 .bf16) (x1 : Vec Ideal S512x1024 .bf16) (x2 : Vec Ideal S512x512 .bf16) (x3 : Vec Ideal S512x1024 .bf16) (x4 : Vec Ideal S512x1024 .f32)
    (i : Fin 512) (k : Fin 1024) : k0_pay1 (F := Ideal) x0 x1 x2 x3 x4 (ix2 i k) =
      (∑ l : Fin 512, x0 (ix2 i l) * x1 (ix2 l k)) + (∑ l : Fin 512, x2 (ix2 i l) * x3 (ix2 l k)) + x4 (ix2 i k) := by
  pointwise [k0_pay1]
theorem pay2 (x0 : Vec Ideal S512x512 .bf16) (x1 : Vec Ideal S512x1024 .bf16) (x2 : Vec Ideal S512x512 .bf16) (x3 : Vec Ideal S512x1024 .bf16) (x4 : Vec Ideal S512x1024 .f32)
    (i : Fin 512) : k0_pay2 (F := Ideal) x0 x1 x2 x3 x4 (ix2 i 0) = rs nn ee (fun q => k0_pay1 (F := Ideal) x0 x1 x2 x3 x4 (ix2 i q)) := by
  unfold rs ms
  unfold k0_pay2
  generalize k0_pay1 (F := Ideal) x0 x1 x2 x3 x4 = y
  pointwise
theorem pay3 (x0 : Vec Ideal S512x512 .bf16) (x1 : Vec Ideal S512x1024 .bf16) (x2 : Vec Ideal S512x512 .bf16) (x3 : Vec Ideal S512x1024 .bf16) (x4 : Vec Ideal S512x1024 .f32)
    (x5 : Vec Ideal S1x1024 .f32) (i : Fin 512) (k : Fin 1024) : k0_pay3 (F := Ideal) x0 x1 x2 x3 x4 x5 (ix2 i k) =
      k0_pay1 (F := Ideal) x0 x1 x2 x3 x4 (ix2 i k) * k0_pay2 (F := Ideal) x0 x1 x2 x3 x4 (ix2 i 0) * x5 (ix2 0 k) := by
  unfold k0_pay3
  generalize k0_pay1 (F := Ideal) x0 x1 x2 x3 x4 = y
  generalize k0_pay2 (F := Ideal) x0 x1 x2 x3 x4 = z
  pointwise

variable (m : (ℓ : Loc nD τ sig) → Buf (Elt Ideal) ℓ)

abbrev A0 (c : Dev nD) : FVec Ideal SA .bf16 := m ((c.tc : Thread nD τ).loc main_arg0)
abbrev A1 (c : Dev nD) : FVec Ideal SA .bf16 := m ((c.tc : Thread nD τ).loc main_arg1)
abbrev A2 (c : Dev nD) : FVec Ideal SP .bf16 := m ((c.tc : Thread nD τ).loc main_arg2)
abbrev A3 (c : Dev nD) : FVec Ideal SX .f32 := m ((c.tc : Thread nD τ).loc main_arg3)
abbrev A4 (c : Dev nD) : FVec Ideal SW .f32 := m ((c.tc : Thread nD τ).loc main_arg4)

/-- The row of the array that is row `i` of block `t`. -/
def row (t : Fin cfg0.N) (i : Fin 512) : Fin 8192 := ⟨t.val * 512 + i.val, by have := t.isLt; have : cfg0.N = 16 := N_0; omega⟩

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![t.val, 0] :=
  (by decide +kernel : ∀ t : Fin grid0.N, _)

/-! Each window's block, read off the array it is a block of. -/
theorem rd0 (X : FVec Ideal SA .bf16) (t : Fin cfg0.N) (i : Fin 512) (l : Fin 512) : ((cfg0.win 0).blk t).view.read (Elt Ideal) X (ix2 i l) = X (ix2 (row t i) l) := by blk_ext [idx t, row]
theorem rd1 (X : (⟨2, ![512, 1024]⟩ : Shape).Idx → EReal) (t : Fin cfg0.N) (l : Fin 512) (k : Fin 1024) : ((cfg0.win 1).blk t).view.read (Elt Ideal) X (ix2 l k) = X (ix2 l k) := by blk_ext [idx t]
theorem rd2 (X : FVec Ideal SA .bf16) (t : Fin cfg0.N) (i : Fin 512) (l : Fin 512) : ((cfg0.win 2).blk t).view.read (Elt Ideal) X (ix2 i l) = X (ix2 (row t i) l) := by blk_ext [idx t, row]
theorem rd3 (X : (⟨2, ![512, 1024]⟩ : Shape).Idx → EReal) (t : Fin cfg0.N) (l : Fin 512) (k : Fin 1024) : ((cfg0.win 3).blk t).view.read (Elt Ideal) X (ix2 l k) = X (ix2 l k) := by blk_ext [idx t]
theorem rd4 (X : FVec Ideal SX .f32) (t : Fin cfg0.N) (i : Fin 512) (k : Fin 1024) : ((cfg0.win 4).blk t).view.read (Elt Ideal) X (ix2 i k) = X (ix2 (row t i) k) := by blk_ext [idx t, row]
theorem rd5 (X : FVec Ideal SW .f32) (t : Fin cfg0.N) (k : Fin 1024) : ((cfg0.win 5).blk t).view.read (Elt Ideal) X (ix2 0 k) = X (ix2 0 k) := by blk_ext [idx t]

/-- The two halves of the weight. -/
theorem up_at (c : Dev nD) (l : Fin 512) (k : Fin 1024) : V m c main_v0 (ix2 l k) = A2 m c (ix2 (up l) k) := by
  entry_read
  unfold up
  pointwise
theorem lo_at (c : Dev nD) (l : Fin 512) (k : Fin 1024) : V m c main_v1 (ix2 l k) = A2 m c (ix2 (lo l) k) := by
  entry_read
  unfold lo
  pointwise

theorem b0 (c : Dev nD) (t : Fin cfg0.N) (i : Fin 512) (l : Fin 512) : iblk m c 0 t (ix2 i l) = A0 m c (ix2 (row t i) l) := (rd0 _ t i l).trans (congrFun (V_main_arg0 m c) _)
theorem b1 (c : Dev nD) (t : Fin cfg0.N) (l : Fin 512) (k : Fin 1024) : iblk m c 1 t (ix2 l k) = A2 m c (ix2 (up l) k) := (rd1 _ t l k).trans (up_at m c l k)
theorem b2 (c : Dev nD) (t : Fin cfg0.N) (i : Fin 512) (l : Fin 512) : iblk m c 2 t (ix2 i l) = A1 m c (ix2 (row t i) l) := (rd2 _ t i l).trans (congrFun (V_main_arg1 m c) _)
theorem b3 (c : Dev nD) (t : Fin cfg0.N) (l : Fin 512) (k : Fin 1024) : iblk m c 3 t (ix2 l k) = A2 m c (ix2 (lo l) k) := (rd3 _ t l k).trans (lo_at m c l k)
theorem b4 (c : Dev nD) (t : Fin cfg0.N) (i : Fin 512) (k : Fin 1024) : iblk m c 4 t (ix2 i k) = A3 m c (ix2 (row t i) k) := (rd4 _ t i k).trans (congrFun (V_main_arg3 m c) _)
theorem b5 (c : Dev nD) (t : Fin cfg0.N) (k : Fin 1024) : iblk m c 5 t (ix2 0 k) = A4 m c (ix2 0 k) := (rd5 _ t k).trans (congrFun (V_main_arg4 m c) _)

section block

variable (x0 : Vec Ideal S512x512 .bf16) (x1 : Vec Ideal S512x1024 .bf16) (x2 : Vec Ideal S512x512 .bf16) (x3 : Vec Ideal S512x1024 .bf16) (x4 : Vec Ideal S512x1024 .f32) (x5 : Vec Ideal S1x1024 .f32)
  (a b : FVec Ideal SA .bf16) (p : FVec Ideal SP .bf16) (x : FVec Ideal SX .f32) (w : FVec Ideal SW .f32) (i : Fin 512) (r : Fin 8192)
  (h0 : ∀ l, x0 (ix2 i l) = a (ix2 r l)) (h1 : ∀ l k, x1 (ix2 l k) = p (ix2 (up l) k)) (h2 : ∀ l, x2 (ix2 i l) = b (ix2 r l)) (h3 : ∀ l k, x3 (ix2 l k) = p (ix2 (lo l) k))
  (h4 : ∀ k, x4 (ix2 i k) = x (ix2 r k)) (h5 : ∀ k, x5 (ix2 0 k) = w (ix2 0 k))

include h0 h1 h2 h3 h4

/-- A block of each result, as stored. -/
theorem rows_of (k : Fin 1024) : k0_pay1 (F := Ideal) x0 x1 x2 x3 x4 (ix2 i k) = rows a b p x (ix2 r k) := by
  rw [pay1]
  simp only [h0, h1, h2, h3, h4]
  exact add_comm _ _
theorem fac_of : k0_pay2 (F := Ideal) x0 x1 x2 x3 x4 (ix2 i 0) = fac a b p x (ix2 r 0) :=
  (pay2 x0 x1 x2 x3 x4 i).trans (congrArg (rs nn ee) (funext fun q => rows_of x0 x1 x2 x3 x4 a b p x i r h0 h1 h2 h3 h4 q))

include h5 in
theorem normed_of (k : Fin 1024) : k0_pay3 (F := Ideal) x0 x1 x2 x3 x4 x5 (ix2 i k) = normed a b p x w (ix2 r k) := by
  rw [pay3, rows_of x0 x1 x2 x3 x4 a b p x i r h0 h1 h2 h3 h4, fac_of x0 x1 x2 x3 x4 a b p x i r h0 h1 h2 h3 h4, h5]
  rfl

end block

theorem final6 (c : Dev nD) : (dats m 0 c).arrAt 6 cfg0.N = rows (A0 m c) (A1 m c) (A2 m c) (A3 m c) := by
  refine (dats m 0 c).arrAt_eq_of_covers 6 _ (by decide +kernel) fun t _ y => ?_
  blk_simp
  rw [after0_6]
  frame_out
  idx_vars y
  refine (rows_of _ _ _ _ _ _ _ _ _ y0 (row t y0) (b0 m c t y0) (b1 m c t) (b2 m c t y0) (b3 m c t) (b4 m c t y0) y1).trans ?_
  blk_ext [idx t, row]
theorem final7 (c : Dev nD) : (dats m 0 c).arrAt 7 cfg0.N = normed (A0 m c) (A1 m c) (A2 m c) (A3 m c) (A4 m c) := by
  refine (dats m 0 c).arrAt_eq_of_covers 7 _ (by decide +kernel) fun t _ y => ?_
  blk_simp
  rw [after0_7]
  frame_out
  idx_vars y
  refine (normed_of _ _ _ _ _ _ _ _ _ _ _ y0 (row t y0) (b0 m c t y0) (b1 m c t) (b2 m c t y0) (b3 m c t) (b4 m c t y0) (b5 m c t) y1).trans ?_
  blk_ext [idx t, row]
theorem final8 (c : Dev nD) : (dats m 0 c).arrAt 8 cfg0.N = fac (A0 m c) (A1 m c) (A2 m c) (A3 m c) := by
  refine (dats m 0 c).arrAt_eq_of_covers 8 _ (by decide +kernel) fun t _ y => ?_
  blk_simp
  rw [after0_8]
  frame_out
  idx_vars y
  obtain rfl : y1 = 0 := Subsingleton.elim _ _
  refine (fac_of _ _ _ _ _ _ _ _ _ y0 (row t y0) (b0 m c t y0) (b1 m c t) (b2 m c t y0) (b3 m c t) (b4 m c t y0)).trans ?_
  blk_ext [idx t, row]

end Cert.OutFIdeal.Val

/-! ## The reference -/

namespace Cert.OutFRefIdeal.Val

open Cert.OutFRefIdeal Cert.OutFRefIdeal.Gen Cert.Val Cert.Val.OutF Cert.Val.Rms

/-- The two arguments side by side, at an index of either half. -/
theorem cat_up (a b : FVec Ideal SA .bf16) (i : Fin 8192) (l : Fin 512) :
    concatenate S8192x1024 1 [⟨S8192x512, a⟩, ⟨S8192x512, b⟩] concatenates_S8192x512_S8192x512_S8192x1024_d1 (ix2 i (up l)) = a (ix2 i l) := by
  unfold up
  pointwise
theorem cat_lo (a b : FVec Ideal SA .bf16) (i : Fin 8192) (l : Fin 512) :
    concatenate S8192x1024 1 [⟨S8192x512, a⟩, ⟨S8192x512, b⟩] concatenates_S8192x512_S8192x512_S8192x1024_d1 (ix2 i (lo l)) = b (ix2 i l) := by
  unfold lo
  pointwise

/-- The reference's rows. -/
theorem rows_eq (a b : FVec Ideal SA .bf16) (p : FVec Ideal SP .bf16) (x : FVec Ideal SX .f32) :
    addf x (Host.dotGeneral (F := Ideal) (φ₁ := .bf16) (φ₂ := .bf16) dot_S8192x1024_S1024x1024_S8192x1024_1_0_0_1_n_n none (concatenate S8192x1024 1 [⟨S8192x512, a⟩, ⟨S8192x512, b⟩] concatenates_S8192x512_S8192x512_S8192x1024_d1) p)
      = rows a b p x := by
  have e (i : Fin 8192) (k : Fin 1024) : prod a b p i k = ∑ l : Fin 1024, concatenate S8192x1024 1 [⟨S8192x512, a⟩, ⟨S8192x512, b⟩] concatenates_S8192x512_S8192x512_S8192x1024_d1 (ix2 i l) * p (ix2 l k) := by
    rw [sum_halves]
    simp only [cat_up, cat_lo]
    rfl
  funext j
  idx_vars j
  refine Eq.trans ?_ (congrArg (fun u : EReal => x (ix2 j0 j1) + u) (e j0 j1).symm)
  clear e
  generalize concatenate S8192x1024 1 [⟨S8192x512, a⟩, ⟨S8192x512, b⟩] concatenates_S8192x512_S8192x512_S8192x1024_d1 = z
  pointwise

/-- The reference's run, its results read index by index. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = rows (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15) = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10) = fac (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans (rows_eq _ _ _ _), (h c).2.1.trans ?_, (h c).2.2.1.trans ?_, (h c).2.2.2⟩) (Value.run m ρ)
  all_goals
    clear h
    rw [rows_eq]
    funext j
    idx_vars j
  · unfold normed rs ms
    generalize rows _ _ _ _ = y
    pointwise
  · obtain rfl : j1 = 0 := Subsingleton.elim _ _
    unfold fac rs ms
    generalize rows _ _ _ _ = y
    pointwise

end Cert.OutFRefIdeal.Val

/-! ## The claims -/

namespace Cert.Val.OutF

open Cert.OutFIdeal.Val (A0 A1 A2 A3 A4)

/-- The reference's frame: its run read at the arguments; it has no semaphore. -/
theorem frame_ref : Cert.quiescent_OutFRefIdeal := fun m ρ _ =>
  (θ_run Cert.OutFRefIdeal.defs _ _).mono (fun r h => ⟨fun c => (h c).2.2.2,
      Idealize.ShloMosaic.sem_eq_zero_of_no_sems (by decide) r.2⟩) (Cert.OutFRefIdeal.Val.run m ρ)

/-- Both programs end with the same rows, normed rows and factors. -/
theorem algebraic : Cert.algebraic_OutFIdeal_OutFRefIdeal := by
  intro m ρ m' ρ' _ hagree
  refine ⟨fun c => rows (A0 m c) (A1 m c) (A2 m c) (A3 m c), fun c => normed (A0 m c) (A1 m c) (A2 m c) (A3 m c) (A4 m c), fun c => fac (A0 m c) (A1 m c) (A2 m c) (A3 m c), ?_, ?_⟩
  · exact (θ_run Cert.OutFIdeal.defs _ _).mono (fun _ h c => ⟨(h c).1.trans (Cert.OutFIdeal.Val.final6 m c),
      (h c).2.1.trans (Cert.OutFIdeal.Val.final7 m c), (h c).2.2.1.trans (Cert.OutFIdeal.Val.final8 m c), (h c).2.2.2⟩) (Cert.OutFIdeal.Value.run_blocks m ρ)
  · refine (θ_run Cert.OutFRefIdeal.defs _ _).mono (fun _ h c => ⟨(h c).1.trans ?_, (h c).2.1.trans ?_, (h c).2.2.1.trans ?_, (h c).2.2.2⟩) (Cert.OutFRefIdeal.Val.run m' ρ')
    all_goals
      obtain ⟨e0, e1, e2, e3, e4⟩ := hagree c
      rw [e0, e1, e2, e3]
    rw [e4]

end Cert.Val.OutF

end
-- ==== Proof.Val.Act.lean ====
/-
  The gradient of the gated feed-forward activation (`Act`): the kernel's two result arrays after the run, and the
  reference's, as the same two functions of the four arguments (`Act.dGate`, `Act.dUp`), all arguments being finite.
-/
module

public import proofs.«01_k».proof.Defs
public import proofs.«01_k».proof.Proof.Gen.ActIdeal.Value
public import proofs.«01_k».proof.Proof.Gen.ActRefIdeal.Run
public import proofs.«01_k».proof.Proof.Gen.Pre_finite_act
public import proofs.«01_k».proof.Proof.Val.Real
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The two gradients as functions of the arguments -/

namespace Cert.Val.Act

/-- The shapes of `dx`, of the weight and of a gate. -/
abbrev SX : Shape := ⟨2, ![8192, 1024]⟩
abbrev SW : Shape := ⟨2, ![2816, 1024]⟩
abbrev SG : Shape := ⟨2, ![8192, 2816]⟩

/-- The gradient of the activation before the gate: row `i` of `dx` against row `k` of the weight. -/
def da (x : FVec Ideal SX .bf16) (w : FVec Ideal SW .bf16) (i : Fin 8192) (k : Fin 2816) : EReal :=
  ∑ l : Fin 1024, x (ix2 i l) * w (ix2 k l)

/-- The logistic function of an extended real. -/
def sgm (g : EReal) : EReal := Ideal.div 1 (1 + Ideal.exp (-g))

/-- The gradient of the gate, as the derivative of `g · σ(g) · u` comes out of the product rule. -/
def dGate (x : FVec Ideal SX .bf16) (w : FVec Ideal SW .bf16) (g u : FVec Ideal SG .bf16) : FVec Ideal SG .bf16 := fun j =>
  da x w (j 0) (j 1) * u j * sgm (g j) + g j * (da x w (j 0) (j 1) * u j) * (sgm (g j) * (1 - sgm (g j)))

/-- The gradient of `u`. -/
def dUp (x : FVec Ideal SX .bf16) (w : FVec Ideal SW .bf16) (g : FVec Ideal SG .bf16) : FVec Ideal SG .bf16 := fun j =>
  g j * sgm (g j) * da x w (j 0) (j 1)

/-- The kernel's factored form of the gate's gradient, over finite values. -/
theorem factored (d u g : ℝ) :
    (d : EReal) * u * (sgm g * (1 + g * (1 - sgm g))) = d * u * sgm g + g * (d * u) * (sgm g * (1 - sgm g)) := by
  unfold sgm
  rw [sigmoid_real, ← EReal.coe_one]
  simp only [← EReal.coe_mul, ← EReal.coe_add, ← EReal.coe_sub]
  exact congrArg _ (by ring)

/-- A row of finite numbers against another is finite. -/
theorem da_real (x : FVec Ideal SX .bf16) (w : FVec Ideal SW .bf16) (hx : ∀ i, ∃ r : ℝ, x i = (r : EReal))
    (hw : ∀ i, ∃ r : ℝ, w i = (r : EReal)) (i : Fin 8192) (k : Fin 2816) : ∃ r : ℝ, da x w i k = (r : EReal) := by
  obtain ⟨x, rfl⟩ := exists_real x hx
  obtain ⟨w, rfl⟩ := exists_real w hw
  unfold da
  simp only [← EReal.coe_mul, sum_real]
  exact ⟨_, rfl⟩

end Cert.Val.Act

/-! ## The kernel -/

namespace Cert.ActIdeal.Val

open Cert.ActIdeal Cert.ActIdeal.Gen Cert.Val Cert.Val.Act

variable (m : (ℓ : Loc nD τ sig) → Buf (Elt Ideal) ℓ) (ρ : Dev nD → PrngReg)

/-- The four argument arrays on device `c`. -/
abbrev A0 (c : Dev nD) : FVec Ideal SX .bf16 := m ((c : Thread nD τ).loc main_arg0)
abbrev A1 (c : Dev nD) : FVec Ideal SW .bf16 := m ((c : Thread nD τ).loc main_arg1)
abbrev A2 (c : Dev nD) : FVec Ideal SG .bf16 := m ((c : Thread nD τ).loc main_arg2)
abbrev A3 (c : Dev nD) : FVec Ideal SG .bf16 := m ((c : Thread nD τ).loc main_arg3)

/-- The four argument arrays are finite. -/
def Fin4 (c : Dev nD) : Prop :=
  (∀ i, ∃ r : ℝ, A0 m c i = (r : EReal))
  ∧ (∀ i, ∃ r : ℝ, A1 m c i = (r : EReal))
  ∧ (∀ i, ∃ r : ℝ, A2 m c i = (r : EReal))
  ∧ (∀ i, ∃ r : ℝ, A3 m c i = (r : EReal))

/-- The precondition read at an index of each argument. -/
theorem fin_of_pre (h : Cert.Pre_ActIdeal_finite_act m) (c : Dev nD) : Fin4 m c := by
  obtain ⟨h0, h1, h2, h3⟩ := h c
  exact ⟨fun i => real_of_cmp _ _ ofBits_inf_bf16 (congrFun h0 i), fun i => real_of_cmp _ _ ofBits_inf_bf16 (congrFun h1 i),
    fun i => real_of_cmp _ _ ofBits_inf_bf16 (congrFun h2 i), fun i => real_of_cmp _ _ ofBits_inf_bf16 (congrFun h3 i)⟩

/-- What the body stores for the gate's gradient, at an index of the block. -/
theorem pay4 (x0 : Vec Ideal S512x1024 .bf16) (x1 : Vec Ideal S1408x1024 .bf16) (x2 x3 : Vec Ideal S512x1408 .bf16) (y : S512x1408.Idx) :
    k0_pay4 (F := Ideal) x0 x1 x2 x3 y = (∑ l : Fin 1024, x0 (ix2 (y 0) l) * x1 (ix2 (y 1) l)) * x3 y * (sgm (x2 y) * (1 + x2 y * (1 - sgm (x2 y)))) := by
  idx_vars y
  unfold sgm
  pointwise [k0_pay4, k0_pay3, k0_pay2, k0_pay1]
  simp only [zero_sub]

/-- What the body stores for `u`'s gradient, at an index of the block. -/
theorem pay5 (x0 : Vec Ideal S512x1024 .bf16) (x1 : Vec Ideal S1408x1024 .bf16) (x2 : Vec Ideal S512x1408 .bf16) (y : S512x1408.Idx) :
    k0_pay5 (F := Ideal) x0 x1 x2 y = (∑ l : Fin 1024, x0 (ix2 (y 0) l) * x1 (ix2 (y 1) l)) * (x2 y * sgm (x2 y)) := by
  idx_vars y
  unfold sgm
  pointwise [k0_pay5, k0_pay3, k0_pay2, k0_pay1]
  simp only [zero_sub]

/-- Where the windows stand at a grid point. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] ∧ win0_5.index t = ![t.val / 2, t.val % 2] :=
  (by decide +kernel : ∀ t : Fin grid0.N, _)

/-- The gate's gradient after the run. -/
theorem final4 (c : Dev nD) (h : Fin4 m c) : (dats m 0 c).arrAt 4 (cfgs 0).N
    = dGate (A0 m c) (A1 m c) (A2 m c) (A3 m c) := by
  refine (dats m 0 c).arrAt_eq_of_covers 4 _ (by decide +kernel) fun t _ y => ?_
  blk_simp
  rw [after0_4]
  frame_out
  rw [pay4]
  refine Eq.trans (b := da (A0 m c) (A1 m c) ((((cfg0.win 4).blk t).view.emb y) 0) ((((cfg0.win 4).blk t).view.emb y) 1)
      * A3 m c (((cfg0.win 4).blk t).view.emb y)
      * (sgm (A2 m c (((cfg0.win 4).blk t).view.emb y))
        * (1 + A2 m c (((cfg0.win 4).blk t).view.emb y)
          * (1 - sgm (A2 m c (((cfg0.win 4).blk t).view.emb y)))))) ?_ ?_
  · unfold da sgm
    refine Ideal.mul_congr (Ideal.mul_congr (Fin.sum_fin_congr fun s => ?_) ?_) ?_ <;> blk_point [iblk, V, idx t]
  · obtain ⟨hx, hw, hg, hu⟩ := h
    obtain ⟨d, hd⟩ := da_real _ _ hx hw ((((cfg0.win 4).blk t).view.emb y) 0) ((((cfg0.win 4).blk t).view.emb y) 1)
    obtain ⟨g, hg⟩ := hg (((cfg0.win 4).blk t).view.emb y)
    obtain ⟨u, hu⟩ := hu (((cfg0.win 4).blk t).view.emb y)
    unfold dGate
    rw [hd, hg, hu]
    exact factored d u g

/-- `u`'s gradient after the run. -/
theorem final5 (c : Dev nD) : (dats m 0 c).arrAt 5 (cfgs 0).N
    = dUp (A0 m c) (A1 m c) (A2 m c) := by
  refine (dats m 0 c).arrAt_eq_of_covers 5 _ (by decide +kernel) fun t _ y => ?_
  blk_simp
  rw [after0_5]
  frame_out
  rw [pay5, mul_comm]
  unfold dUp da sgm
  refine Ideal.mul_congr ?_ ?_
  · blk_point [iblk, V, idx t]
  · refine Fin.sum_fin_congr fun s => ?_
    blk_point [iblk, V, idx t]

end Cert.ActIdeal.Val

/-! ## The reference -/

namespace Cert.ActRefIdeal.Val

open Cert.ActRefIdeal Cert.ActRefIdeal.Gen Cert.Val Cert.Val.Act

/-- The reference's run, its results read index by index. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = dGate (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v12) = dUp (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩) (Value.run m ρ)
  · funext j
    idx_vars j
    unfold dGate da
    pointwise
    rfl
  · funext j
    idx_vars j
    unfold dUp da
    pointwise
    rfl

end Cert.ActRefIdeal.Val

/-! ## The claims -/

namespace Cert.Val.Act

open Cert.ActIdeal.Val (A0 A1 A2 A3)

/-- The reference's frame: its run read at the arguments; it has no semaphore. -/
theorem frame_ref : Cert.quiescent_ActRefIdeal := fun m ρ _ =>
  (θ_run Cert.ActRefIdeal.defs _ _).mono (fun r h => ⟨fun c => (h c).2.2,
      Idealize.ShloMosaic.sem_eq_zero_of_no_sems (by decide) r.2⟩) (Cert.ActRefIdeal.Val.run m ρ)

/-- Both programs end with the two gradients of the same arguments. -/
theorem algebraic : Cert.algebraic_ActIdeal_ActRefIdeal_pre_finite_act := by
  intro m ρ m' ρ' hpre hagree
  refine ⟨fun c => dGate (A0 m c) (A1 m c) (A2 m c) (A3 m c), fun c => dUp (A0 m c) (A1 m c) (A2 m c), ?_, ?_⟩
  · exact (θ_run Cert.ActIdeal.defs _ _).mono (fun _ h c => ⟨(h c).1.trans (Cert.ActIdeal.Val.final4 m c (Cert.ActIdeal.Val.fin_of_pre m hpre c)),
      (h c).2.1.trans (Cert.ActIdeal.Val.final5 m c), (h c).2.2⟩) (Cert.ActIdeal.Value.run_blocks m ρ)
  · refine (θ_run Cert.ActRefIdeal.defs _ _).mono (fun _ h c => ⟨(h c).1.trans ?_, (h c).2.1.trans ?_, (h c).2.2⟩) (Cert.ActRefIdeal.Val.run m' ρ')
    · rw [(hagree c).1, (hagree c).2.1, (hagree c).2.2.1, (hagree c).2.2.2]
    · rw [(hagree c).1, (hagree c).2.1, (hagree c).2.2.1]

end Cert.Val.Act

end
-- ==== Proof.Val.FaTrip.lean ====
/-
  The attention gradient's kernel (`Fa`), one trip of its loop over key blocks: what the trip computes at an index, and
  what the trips before the `k`-th leave in the accumulators.
-/
module

public import proofs.«01_k».proof.Proof.Gen.FaIdeal.Value
public import proofs.«01_k».proof.Proof.Val.Real
public import Idealize.ShloMosaic.Lib.VecWindow

@[expose] public section

set_option maxRecDepth 16384

noncomputable section

open Idealize.ShloMosaic Idealize.ShloMosaic.TcCoe Idealize.SL.Sem

namespace Cert.FaIdeal.Val

open Cert.FaIdeal Cert.FaIdeal.Gen

/-! ## A trip's values -/

section values

variable (x0 x3 : Vec Ideal S1x1x64x2048 .bf16) (x1 x2 : Vec Ideal S1x16x64x512 .bf16) (x4 x5 : Vec Ideal S1x1x1x2048 .f32)

/-- The weight of key `s` of block `a` for query `r`, and the gradient of its score. -/
def pw (a : Fin 16) (s : Fin 512) (r : Fin 2048) : EReal :=
  Ideal.exp2 ((∑ e : Fin 64, x1 (ix4 0 a e s) * x0 (ix4 0 0 e r)) - x4 (ix4 0 0 0 r))
def sw (a : Fin 16) (s : Fin 512) (r : Fin 2048) : EReal :=
  pw x0 x1 x4 a s r * ((∑ e : Fin 64, x2 (ix4 0 a e s) * x3 (ix4 0 0 e r)) - x5 (ix4 0 0 0 r))

/-- Block `a` of a key array. -/
def blk (x : Vec Ideal S1x16x64x512 .bf16) (a : Fin 16) : Vec Ideal S1x1x64x512 .bf16 := fun y => x (ix4 0 a (y 2) (y 3))

theorem pay10_at (a : Fin 16) (s : Fin 512) (r : Fin 2048) :
    k0_pay10 (k0_pay3 x0) (k0_pay5 x4) (blk x1 a) (ix2 s r) = pw x0 x1 x4 a s r := by
  unfold pw blk
  pointwise [k0_pay10, k0_pay3, k0_pay5]
  rfl
theorem pay11_at (a : Fin 16) (s : Fin 512) (r : Fin 2048) :
    k0_pay11 (k0_pay3 x0) (k0_pay4 x3) (k0_pay5 x4) (k0_pay6 x5) (blk x1 a) (blk x2 a) (ix2 s r) = sw x0 x3 x1 x2 x4 x5 a s r := by
  unfold sw
  rw [← pay10_at]
  unfold blk
  pointwise [k0_pay11, k0_pay4, k0_pay6]
theorem pay12_at (a : Fin 16) (acc : Vec Ideal S64x2048 .f32) (d : Fin 64) (r : Fin 2048) :
    k0_pay12 (k0_pay3 x0) (k0_pay4 x3) (k0_pay5 x4) (k0_pay6 x5) (blk x1 a) (blk x2 a) acc (blk x1 a) (ix2 d r)
      = acc (ix2 d r) + ∑ s : Fin 512, x1 (ix4 0 a d s) * sw x0 x3 x1 x2 x4 x5 a s r := by
  simp only [← pay11_at]
  generalize hA : k0_pay11 (k0_pay3 x0) (k0_pay4 x3) (k0_pay5 x4) (k0_pay6 x5) (blk x1 a) (blk x2 a) = A
  unfold k0_pay12
  rw [hA]
  unfold blk
  pointwise
theorem pay13_at (a : Fin 16) (old : Vec Ideal S1x1x64x512 .f32) (z z' : Fin 1) (d : Fin 64) (s : Fin 512) :
    k0_pay13 (k0_pay3 x0) (k0_pay4 x3) (k0_pay5 x4) (k0_pay6 x5) (blk x1 a) (blk x2 a) old (ix4 z z' d s)
      = old (ix4 0 0 d s) + ∑ r : Fin 2048, x0 (ix4 0 0 d r) * sw x0 x3 x1 x2 x4 x5 a s r := by
  simp only [← pay11_at]
  generalize hA : k0_pay11 (k0_pay3 x0) (k0_pay4 x3) (k0_pay5 x4) (k0_pay6 x5) (blk x1 a) (blk x2 a) = A
  unfold k0_pay13
  rw [hA]
  pointwise [k0_pay3]
theorem pay8_at (a : Fin 16) (old : Vec Ideal S1x1x64x512 .f32) (z z' : Fin 1) (d : Fin 64) (s : Fin 512) :
    k0_pay8 x3 (k0_pay10 (k0_pay3 x0) (k0_pay5 x4) (blk x1 a)) old (ix4 z z' d s)
      = old (ix4 0 0 d s) + ∑ r : Fin 2048, x3 (ix4 0 0 d r) * pw x0 x1 x4 a s r := by
  simp only [← pay10_at]
  generalize hA : k0_pay10 (k0_pay3 x0) (k0_pay5 x4) (blk x1 a) = A
  pointwise [k0_pay8, k0_pay4]

end values

/-! ## The loop -/

theorem off_eq : ∀ k : Fin k0_t1_loop.trips, k0_off1 k = ![0, k.val, 0, 0] := by decide +kernel
theorem trips_eq : k0_t1_loop.trips = 16 := by decide +kernel

/-- A load at a trip's rectangle reads the trip's slab. -/
theorem load_at {e : EltTy} (x : View sig .tc .vmem S1x16x64x512 e) (X : x.ty.Contents (Elt Ideal)) (k : Fin k0_t1_loop.trips) (h : k.val < 16)
    (z z' : Fin 1) (d : Fin 64) (s : Fin 512) :
    x.readAt (Elt Ideal) (Rect.unit (s := S1x16x64x512) (k0_off1 k) S1x1x64x512.size (k0_off1_inb k)).toLoadRect X (ix4 z z' d s)
      = x.read (Elt Ideal) X (ix4 0 ⟨k.val, h⟩ d s) := by
  refine congrArg (x.read (Elt Ideal) X) (funext fun a => Fin.ext ?_)
  have ho : k0_off1 k a = ![0, k.val, 0, 0] a := congrFun (off_eq k) a
  show k0_off1 k a + 1 * (ix4 z z' d s a).val = _
  refine (congrArg (· + 1 * (ix4 z z' d s a).val) ho).trans ?_
  fin_cases a
  · show 0 + 1 * z.val = 0
    omega
  · show k.val + 1 * z'.val = k.val
    omega
  · show 0 + 1 * d.val = d.val
    omega
  · show 0 + 1 * s.val = s.val
    omega

theorem load_blk (x : View sig .tc .vmem S1x16x64x512 .bf16) (X : x.ty.Contents (Elt Ideal)) (k : Fin k0_t1_loop.trips) (h : k.val < 16) :
    x.readAt (Elt Ideal) (Rect.unit (s := S1x16x64x512) (k0_off1 k) S1x1x64x512.size (k0_off1_inb k)).toLoadRect X = blk (x.read (Elt Ideal) X) ⟨k.val, h⟩ := by
  funext y
  idx_vars y
  exact load_at x X k h _ _ _ _

/-- Every trip adds into its own slab: what the array reads after `n` of them. -/
theorem slab (v : View sig .tc .vmem S1x16x64x512 .f32) (G : v.ty.Contents (Elt Ideal)) (L : ℕ → List (View.Piece (Elt Ideal) S1x16x64x512 .f32))
    (c : Fin 16 → Fin 64 → Fin 512 → EReal) (h0 : L 0 = [])
    (hs : ∀ (k : Fin k0_t1_loop.trips) (h : k.val < 16), ∃ w, L (k.val + 1) = [⟨Rect.unit (s := S1x16x64x512) (k0_off1 k) S1x1x64x512.size (k0_off1_inb k), w⟩] ++ L k.val
      ∧ ∀ d s, w (ix4 0 0 d s) = v.read (Elt Ideal) (v.writes (Elt Ideal) G (L k.val)) (ix4 0 ⟨k.val, h⟩ d s) + c ⟨k.val, h⟩ d s)
    (n : ℕ) (hn : n ≤ 16) (a : Fin 16) (d : Fin 64) (s : Fin 512) :
    v.read (Elt Ideal) (v.writes (Elt Ideal) G (L n)) (ix4 0 a d s)
      = if a.val < n then v.read (Elt Ideal) G (ix4 0 a d s) + c a d s else v.read (Elt Ideal) G (ix4 0 a d s) := by
  induction n with
  | zero => rw [h0, View.writes_nil, if_neg (Nat.not_lt_zero _)]
  | succ n ih =>
    have hk : n < k0_t1_loop.trips := by rw [trips_eq]; omega
    obtain ⟨w, hw, hv⟩ := hs ⟨n, hk⟩ (by show n < 16; omega)
    rw [show L (n + 1) = _ from hw, List.singleton_append]
    by_cases ha : a.val = n
    · subst ha
      refine (View.read_writes_cons_unit_of_mem v G _ w (L a.val) _ (ix4 0 0 d s) (off_eq _) fun b => ?_).trans ?_
      · fin_cases b
        · rfl
        · rfl
        · exact (Nat.zero_add _).symm
        · exact (Nat.zero_add _).symm
      · refine (hv d s).trans ((congrArg (· + c a d s) ((ih (by omega)).trans (if_neg (Nat.lt_irrefl _)))).trans ?_)
        exact (if_pos (Nat.lt_succ_self _)).symm
    · refine (View.read_writes_cons_unit_of_not_mem v G _ w (L n) _ (off_eq _) 1 ?_).trans ((ih (by omega)).trans ?_)
      · show a.val < n ∨ n + 1 ≤ a.val
        omega
      · refine if_congr ?_ rfl rfl
        omega

/-- Every trip adds into the whole accumulator: what it reads after `n` of them. -/
theorem accum (v : View sig .tc .vmem S64x2048 .f32) (G : v.ty.Contents (Elt Ideal)) (L : ℕ → List (View.Piece (Elt Ideal) S64x2048 .f32))
    (c : Fin 16 → Fin 64 → Fin 2048 → EReal) (h0 : L 0 = [])
    (hs : ∀ (k : Fin k0_t1_loop.trips) (h : k.val < 16), ∃ w, L (k.val + 1) = [⟨Rect.unit (s := S64x2048) ![0, 0] S64x2048.size inb_S64x2048_S64x2048_0_0, w⟩] ++ L k.val
      ∧ ∀ d r, w (ix2 d r) = v.read (Elt Ideal) (v.writes (Elt Ideal) G (L k.val)) (ix2 d r) + c ⟨k.val, h⟩ d r)
    (n : ℕ) (hn : n ≤ 16) (d : Fin 64) (r : Fin 2048) :
    v.read (Elt Ideal) (v.writes (Elt Ideal) G (L n)) (ix2 d r)
      = v.read (Elt Ideal) G (ix2 d r) + ∑ a ∈ Finset.range n, if h : a < 16 then c ⟨a, h⟩ d r else 0 := by
  induction n with
  | zero => rw [h0, View.writes_nil, Finset.sum_range_zero, add_zero]
  | succ n ih =>
    have hk : n < k0_t1_loop.trips := by rw [trips_eq]; omega
    have hn' : n < 16 := by omega
    obtain ⟨w, hw, hv⟩ := hs ⟨n, hk⟩ hn'
    rw [show L (n + 1) = _ from hw, List.singleton_append, Finset.sum_range_succ, dif_pos hn', ← add_assoc, ← ih (by omega)]
    exact (congrFun (View.read_writes_full v G _ w (L n)) _).trans (hv d r)

section loop

variable (𝒱 : Variants) (c : Dev nD) (bd : Option 𝒱.V) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole) (arg5 : Memref sig .tc .vmem S1x1x64x2048 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x1x64x2048 .f32) (harg8 : arg8.IsWhole) (arg9 : Memref sig .tc .vmem S1x16x64x512 .f32) (harg9 : arg9.IsWhole) (arg10 : Memref sig .tc .vmem S1x16x64x512 .f32) (harg10 : arg10.IsWhole) (arg11 : Memref sig .tc .vmem S64x2048 .f32) (harg11 : arg11.IsWhole) (v3 : Vec Ideal S1x1x64x2048 .bf16) (v5 : Vec Ideal S1x1x64x2048 .bf16) (v7 : Vec Ideal S1x1x1x2048 .f32) (v9 : Vec Ideal S1x1x1x2048 .f32) (X_arg3 : BufTy.Contents (Elt Ideal) arg3.view.ty) (X_arg4 : BufTy.Contents (Elt Ideal) arg4.view.ty)
  (G9 : BufTy.Contents (Elt Ideal) arg9.view.ty) (G10 : BufTy.Contents (Elt Ideal) arg10.view.ty) (G11 : BufTy.Contents (Elt Ideal) arg11.view.ty)

/-- One trip's stores. -/
theorem trip_eq (k : Fin k0_t1_loop.trips) (h : k.val < 16) (f9 : BufTy.Contents (Elt Ideal) arg9.view.ty) (f10 : BufTy.Contents (Elt Ideal) arg10.view.ty) (f11 : BufTy.Contents (Elt Ideal) arg11.view.ty) :
    tripL_k0_t1 𝒱 c bd i arg2 harg2 arg3 harg3 arg4 harg4 arg5 harg5 arg6 harg6 arg7 harg7 arg8 harg8 arg9 harg9 arg10 harg10 arg11 harg11 v3 v5 v7 v9 X_arg3 X_arg4 k f9 f10 f11
      = ([⟨Rect.unit (k0_off1 k) S1x1x64x512.size (k0_off1_inb k), k0_pay13 (k0_pay3 v3) (k0_pay4 v5) (k0_pay5 v7) (k0_pay6 v9) (blk (arg3.view.read (Elt Ideal) X_arg3) ⟨k.val, h⟩) (blk (arg4.view.read (Elt Ideal) X_arg4) ⟨k.val, h⟩)
            (arg9.view.readAt (Elt Ideal) (Rect.unit (s := S1x16x64x512) (k0_off1 k) S1x1x64x512.size (k0_off1_inb k)).toLoadRect f9)⟩],
         [⟨Rect.unit (k0_off1 k) S1x1x64x512.size (k0_off1_inb k), k0_pay8 v5 (k0_pay10 (k0_pay3 v3) (k0_pay5 v7) (blk (arg3.view.read (Elt Ideal) X_arg3) ⟨k.val, h⟩))
            (arg10.view.readAt (Elt Ideal) (Rect.unit (s := S1x16x64x512) (k0_off1 k) S1x1x64x512.size (k0_off1_inb k)).toLoadRect f10)⟩],
         [⟨Rect.unit ![0, 0] S64x2048.size inb_S64x2048_S64x2048_0_0, k0_pay12 (k0_pay3 v3) (k0_pay4 v5) (k0_pay5 v7) (k0_pay6 v9) (blk (arg3.view.read (Elt Ideal) X_arg3) ⟨k.val, h⟩) (blk (arg4.view.read (Elt Ideal) X_arg4) ⟨k.val, h⟩)
            (arg11.view.readAt (Elt Ideal) (Rect.unit (s := S64x2048) ![0, 0] S64x2048.size inb_S64x2048_S64x2048_0_0).toLoadRect f11) (blk (arg3.view.read (Elt Ideal) X_arg3) ⟨k.val, h⟩)⟩]) := by
  rw [← load_blk arg3.view, ← load_blk arg4.view]
  unfold tripL_k0_t1 trip_k0_t1
  rfl

theorem loop9 (a : Fin 16) (d : Fin 64) (s : Fin 512) :
    arg9.view.read (Elt Ideal) (arg9.view.writes (Elt Ideal) G9 (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 16).1) (ix4 0 a d s)
      = arg9.view.read (Elt Ideal) G9 (ix4 0 a d s)
        + ∑ r : Fin 2048, v3 (ix4 0 0 d r) * sw v3 v5 (arg3.view.read (Elt Ideal) X_arg3) (arg4.view.read (Elt Ideal) X_arg4) v7 v9 a s r := by
  refine (slab arg9.view G9 (fun k => (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 k).1)
    (fun a d s => ∑ r : Fin 2048, v3 (ix4 0 0 d r) * sw v3 v5 (arg3.view.read (Elt Ideal) X_arg3) (arg4.view.read (Elt Ideal) X_arg4) v7 v9 a s r)
    rfl (fun k h => ⟨_, (congrArg Prod.fst (pb_k0_t1_succ 𝒱 c bd i arg2 harg2 arg3 harg3 arg4 harg4 arg5 harg5 arg6 harg6 arg7 harg7 arg8 harg8 arg9 harg9 arg10 harg10 arg11 harg11 v3 v5 v7 v9 X_arg3 X_arg4 G9 G10 G11 k)).trans
      (congrArg (fun z => z.1 ++ (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 k.val).1) (trip_eq 𝒱 c bd i arg2 harg2 arg3 harg3 arg4 harg4 arg5 harg5 arg6 harg6 arg7 harg7 arg8 harg8 arg9 harg9 arg10 harg10 arg11 harg11 v3 v5 v7 v9 X_arg3 X_arg4 k h _ _ _)), fun d s => ?_⟩) 16 le_rfl a d s).trans (if_pos a.isLt)
  exact (pay13_at _ _ _ _ _ _ _ _ _ _ d s).trans (congrArg (· + _) (load_at arg9.view _ k h 0 0 d s))

theorem loop10 (a : Fin 16) (d : Fin 64) (s : Fin 512) :
    arg10.view.read (Elt Ideal) (arg10.view.writes (Elt Ideal) G10 (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 16).2.1) (ix4 0 a d s)
      = arg10.view.read (Elt Ideal) G10 (ix4 0 a d s)
        + ∑ r : Fin 2048, v5 (ix4 0 0 d r) * pw v3 (arg3.view.read (Elt Ideal) X_arg3) v7 a s r := by
  refine (slab arg10.view G10 (fun k => (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 k).2.1)
    (fun a d s => ∑ r : Fin 2048, v5 (ix4 0 0 d r) * pw v3 (arg3.view.read (Elt Ideal) X_arg3) v7 a s r)
    rfl (fun k h => ⟨_, (congrArg (fun z => z.2.1) (pb_k0_t1_succ 𝒱 c bd i arg2 harg2 arg3 harg3 arg4 harg4 arg5 harg5 arg6 harg6 arg7 harg7 arg8 harg8 arg9 harg9 arg10 harg10 arg11 harg11 v3 v5 v7 v9 X_arg3 X_arg4 G9 G10 G11 k)).trans
      (congrArg (fun z => z.2.1 ++ (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 k.val).2.1) (trip_eq 𝒱 c bd i arg2 harg2 arg3 harg3 arg4 harg4 arg5 harg5 arg6 harg6 arg7 harg7 arg8 harg8 arg9 harg9 arg10 harg10 arg11 harg11 v3 v5 v7 v9 X_arg3 X_arg4 k h _ _ _)), fun d s => ?_⟩) 16 le_rfl a d s).trans (if_pos a.isLt)
  exact (pay8_at _ _ _ _ _ _ _ _ d s).trans (congrArg (· + _) (load_at arg10.view _ k h 0 0 d s))

theorem loop11 (d : Fin 64) (r : Fin 2048) :
    arg11.view.read (Elt Ideal) (arg11.view.writes (Elt Ideal) G11 (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 16).2.2) (ix2 d r)
      = arg11.view.read (Elt Ideal) G11 (ix2 d r)
        + ∑ a : Fin 16, ∑ s : Fin 512, arg3.view.read (Elt Ideal) X_arg3 (ix4 0 a d s) * sw v3 v5 (arg3.view.read (Elt Ideal) X_arg3) (arg4.view.read (Elt Ideal) X_arg4) v7 v9 a s r := by
  refine (accum arg11.view G11 (fun k => (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 k).2.2)
    (fun a d r => ∑ s : Fin 512, arg3.view.read (Elt Ideal) X_arg3 (ix4 0 a d s) * sw v3 v5 (arg3.view.read (Elt Ideal) X_arg3) (arg4.view.read (Elt Ideal) X_arg4) v7 v9 a s r)
    rfl (fun k h => ⟨_, (congrArg (fun z => z.2.2) (pb_k0_t1_succ 𝒱 c bd i arg2 harg2 arg3 harg3 arg4 harg4 arg5 harg5 arg6 harg6 arg7 harg7 arg8 harg8 arg9 harg9 arg10 harg10 arg11 harg11 v3 v5 v7 v9 X_arg3 X_arg4 G9 G10 G11 k)).trans
      (congrArg (fun z => z.2.2 ++ (pb_k0_t1 𝒱 c bd i arg2 harg2 arg3 harg3 arg4 harg4 arg5 harg5 arg6 harg6 arg7 harg7 arg8 harg8 arg9 harg9 arg10 harg10 arg11 harg11 v3 v5 v7 v9 X_arg3 X_arg4 G9 G10 G11 k.val).2.2) (trip_eq 𝒱 c bd i arg2 harg2 arg3 harg3 arg4 harg4 arg5 harg5 arg6 harg6 arg7 harg7 arg8 harg8 arg9 harg9 arg10 harg10 arg11 harg11 v3 v5 v7 v9 X_arg3 X_arg4 k h _ _ _)), fun d r => ?_⟩) 16 le_rfl d r).trans
    (congrArg (_ + ·) ((Finset.sum_range _).trans (Finset.sum_congr rfl fun a _ => dif_pos a.isLt)))
  exact (pay12_at _ _ _ _ _ _ _ _ d r).trans (congrArg (· + _) (congrFun (View.readAt_full arg11.view _ _) _))

end loop

end Cert.FaIdeal.Val

end
-- ==== Proof.Val.FaPoint.lean ====
/-
  The attention gradient's kernel (`Fa`), one point of its grid: what the point leaves in its three output blocks, as
  sums over the block's keys and queries of the blocks it read.
-/
module

public import proofs.«01_k».proof.Proof.Val.FaTrip

@[expose] public section

set_option maxRecDepth 16384

noncomputable section

open Idealize.ShloMosaic Idealize.ShloMosaic.TcCoe Idealize.SL.Sem

namespace Cert.FaIdeal.Val

open Cert.FaIdeal Cert.FaIdeal.Gen

section point

variable (c : Dev nD) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole) (arg5 : Memref sig .tc .vmem S1x1x64x2048 .bf16) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x1x64x2048 .f32) (harg8 : arg8.IsWhole) (arg9 : Memref sig .tc .vmem S1x16x64x512 .f32) (harg9 : arg9.IsWhole) (arg10 : Memref sig .tc .vmem S1x16x64x512 .f32) (harg10 : arg10.IsWhole) (arg11 : Memref sig .tc .vmem S64x2048 .f32) (harg11 : arg11.IsWhole)
 (hA : cond0_0 i) (hB : ¬ cond0_0 i) (x0 : Vec Ideal S1x1x64x2048 .bf16) (x1 : Vec Ideal S1x16x64x512 .bf16) (x2 : Vec Ideal S1x16x64x512 .bf16) (x3 : Vec Ideal S1x1x64x2048 .bf16) (x4 : Vec Ideal S1x1x1x2048 .f32) (x5 : Vec Ideal S1x1x1x2048 .f32) (xo7 xo8 : Vec Ideal S1x16x64x512 .f32)

/-- A load of a whole block of a memref holding `X` reads `X`. -/
theorem ld {s : Shape} {e : EltTy} (a : Memref sig .tc .vmem s e) (h : a.IsWhole) (X : s.Idx → Elt Ideal e) (off : Fin s.rank → ℕ)
    (inb : ∀ b, off b + s.size b ≤ s.size b) :
    a.view.readAt (Elt Ideal) (Rect.unit (s := s) off s.size inb).toLoadRect (h.unread X) = X :=
  (View.readAt_full a.view _ inb).trans (h.read_unread X)

theorem listB6 : (kernelRun0_B c i arg2 harg2 arg3 harg3 arg4 harg4 arg5 harg5 arg6 harg6 arg7 harg7 arg8 harg8 arg9 harg9 arg10 harg10 arg11 harg11 hB x0 x1 x2 x3 x4 x5 xo7 xo8).1 = [⟨Rect.unit (s := S1x1x64x2048) ![0, 0, 0, 0] S1x1x64x2048.size inb_S1x1x64x2048_S1x1x64x2048_0_0_0_0,
    k0_pay9 (arg11.view.readCov ((pb_k0_t1 Variants.none c none i arg2 harg2 arg3 harg3 arg4 harg4 arg5 harg5 arg6 harg6 arg7 harg7 arg8 harg8 arg9 harg9 arg10 harg10 arg11 harg11 x0 x3 x4 x5 (harg3.unread x1) (harg4.unread x2) (harg9.unread xo7) (harg10.unread xo8) (arg11.view.writes (Elt Ideal) arg11.view.junk kernelRun0_B.sl.HS0_1) 16).2.2 ++ kernelRun0_B.sl.HS0_1) (Rect.unit (s := S64x2048) ![0, 0] S64x2048.size inb_S64x2048_S64x2048_0_0).toLoadRect)⟩] := by
  refine Eq.trans (b := [⟨Rect.unit (s := S1x1x64x2048) ![0, 0, 0, 0] S1x1x64x2048.size inb_S1x1x64x2048_S1x1x64x2048_0_0_0_0,
    k0_pay9 (arg11.view.readCov ((pb_k0_t1 Variants.none c none i arg2 harg2 arg3 harg3 arg4 harg4 arg5 harg5 arg6 harg6 arg7 harg7 arg8 harg8 arg9 harg9 arg10 harg10 arg11 harg11 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x64x2048) ![0, 0, 0, 0] S1x1x64x2048.size inb_S1x1x64x2048_S1x1x64x2048_0_0_0_0).toLoadRect (harg5.unread x3)) (arg6.view.readAt (Elt Ideal) (Rect.unit (s := S1x1x1x2048) ![0, 0, 0, 0] S1x1x1x2048.size inb_S1x1x1x2048_S1x1x1x2048_0_0_0_0).toLoadRect (harg6.unread x4)) (arg7.view.readAt (Elt Ideal) (Rect.unit (s := S1x1x1x2048) ![0, 0, 0, 0] S1x1x1x2048.size inb_S1x1x1x2048_S1x1x1x2048_0_0_0_0).toLoadRect (harg7.unread x5)) (harg3.unread x1) (harg4.unread x2) (harg9.unread xo7) (harg10.unread xo8) (arg11.view.writes (Elt Ideal) arg11.view.junk kernelRun0_B.sl.HS0_1) 16).2.2 ++ kernelRun0_B.sl.HS0_1) (Rect.unit (s := S64x2048) ![0, 0] S64x2048.size inb_S64x2048_S64x2048_0_0).toLoadRect)⟩]) ?_ (by rw [ld, ld, ld, ld])
  unfold kernelRun0_B
  rfl

theorem listB7 : (kernelRun0_B c i arg2 harg2 arg3 harg3 arg4 harg4 arg5 harg5 arg6 harg6 arg7 harg7 arg8 harg8 arg9 harg9 arg10 harg10 arg11 harg11 hB x0 x1 x2 x3 x4 x5 xo7 xo8).2.1 = (pb_k0_t1 Variants.none c none i arg2 harg2 arg3 harg3 arg4 harg4 arg5 harg5 arg6 harg6 arg7 harg7 arg8 harg8 arg9 harg9 arg10 harg10 arg11 harg11 x0 x3 x4 x5 (harg3.unread x1) (harg4.unread x2) (harg9.unread xo7) (harg10.unread xo8) (arg11.view.writes (Elt Ideal) arg11.view.junk kernelRun0_B.sl.HS0_1) 16).1 := by
  refine Eq.trans (b := (pb_k0_t1 Variants.none c none i arg2 harg2 arg3 harg3 arg4 harg4 arg5 harg5 arg6 harg6 arg7 harg7 arg8 harg8 arg9 harg9 arg10 harg10 arg11 harg11 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x64x2048) ![0, 0, 0, 0] S1x1x64x2048.size inb_S1x1x64x2048_S1x1x64x2048_0_0_0_0).toLoadRect (harg5.unread x3)) (arg6.view.readAt (Elt Ideal) (Rect.unit (s := S1x1x1x2048) ![0, 0, 0, 0] S1x1x1x2048.size inb_S1x1x1x2048_S1x1x1x2048_0_0_0_0).toLoadRect (harg6.unread x4)) (arg7.view.readAt (Elt Ideal) (Rect.unit (s := S1x1x1x2048) ![0, 0, 0, 0] S1x1x1x2048.size inb_S1x1x1x2048_S1x1x1x2048_0_0_0_0).toLoadRect (harg7.unread x5)) (harg3.unread x1) (harg4.unread x2) (harg9.unread xo7) (harg10.unread xo8) (arg11.view.writes (Elt Ideal) arg11.view.junk kernelRun0_B.sl.HS0_1) 16).1) ?_ (by rw [ld, ld, ld, ld])
  unfold kernelRun0_B
  rfl

theorem listB8 : (kernelRun0_B c i arg2 harg2 arg3 harg3 arg4 harg4 arg5 harg5 arg6 harg6 arg7 harg7 arg8 harg8 arg9 harg9 arg10 harg10 arg11 harg11 hB x0 x1 x2 x3 x4 x5 xo7 xo8).2.2.1 = (pb_k0_t1 Variants.none c none i arg2 harg2 arg3 harg3 arg4 harg4 arg5 harg5 arg6 harg6 arg7 harg7 arg8 harg8 arg9 harg9 arg10 harg10 arg11 harg11 x0 x3 x4 x5 (harg3.unread x1) (harg4.unread x2) (harg9.unread xo7) (harg10.unread xo8) (arg11.view.writes (Elt Ideal) arg11.view.junk kernelRun0_B.sl.HS0_1) 16).2.1 := by
  refine Eq.trans (b := (pb_k0_t1 Variants.none c none i arg2 harg2 arg3 harg3 arg4 harg4 arg5 harg5 arg6 harg6 arg7 harg7 arg8 harg8 arg9 harg9 arg10 harg10 arg11 harg11 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x64x2048) ![0, 0, 0, 0] S1x1x64x2048.size inb_S1x1x64x2048_S1x1x64x2048_0_0_0_0).toLoadRect (harg5.unread x3)) (arg6.view.readAt (Elt Ideal) (Rect.unit (s := S1x1x1x2048) ![0, 0, 0, 0] S1x1x1x2048.size inb_S1x1x1x2048_S1x1x1x2048_0_0_0_0).toLoadRect (harg6.unread x4)) (arg7.view.readAt (Elt Ideal) (Rect.unit (s := S1x1x1x2048) ![0, 0, 0, 0] S1x1x1x2048.size inb_S1x1x1x2048_S1x1x1x2048_0_0_0_0).toLoadRect (harg7.unread x5)) (harg3.unread x1) (harg4.unread x2) (harg9.unread xo7) (harg10.unread xo8) (arg11.view.writes (Elt Ideal) arg11.view.junk kernelRun0_B.sl.HS0_1) 16).2.1) ?_ (by rw [ld, ld, ld, ld])
  unfold kernelRun0_B
  rfl

theorem listA6 : (kernelRun0_A c i arg2 harg2 arg3 harg3 arg4 harg4 arg5 harg5 arg6 harg6 arg7 harg7 arg8 harg8 arg9 harg9 arg10 harg10 arg11 harg11 hA x0 x1 x2 x3 x4 x5).1 = [⟨Rect.unit (s := S1x1x64x2048) ![0, 0, 0, 0] S1x1x64x2048.size inb_S1x1x64x2048_S1x1x64x2048_0_0_0_0,
    k0_pay9 (arg11.view.readCov ((pb_k0_t1 Variants.none c none i arg2 harg2 arg3 harg3 arg4 harg4 arg5 harg5 arg6 harg6 arg7 harg7 arg8 harg8 arg9 harg9 arg10 harg10 arg11 harg11 x0 x3 x4 x5 (harg3.unread x1) (harg4.unread x2) (arg9.view.writes (Elt Ideal) arg9.view.junk kernelRun0_A.sl.H7_1) (arg10.view.writes (Elt Ideal) arg10.view.junk kernelRun0_A.sl.H8_1) (arg11.view.writes (Elt Ideal) arg11.view.junk kernelRun0_A.sl.HS0_1) 16).2.2 ++ kernelRun0_A.sl.HS0_1) (Rect.unit (s := S64x2048) ![0, 0] S64x2048.size inb_S64x2048_S64x2048_0_0).toLoadRect)⟩] := by
  refine Eq.trans (b := [⟨Rect.unit (s := S1x1x64x2048) ![0, 0, 0, 0] S1x1x64x2048.size inb_S1x1x64x2048_S1x1x64x2048_0_0_0_0,
    k0_pay9 (arg11.view.readCov ((pb_k0_t1 Variants.none c none i arg2 harg2 arg3 harg3 arg4 harg4 arg5 harg5 arg6 harg6 arg7 harg7 arg8 harg8 arg9 harg9 arg10 harg10 arg11 harg11 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x64x2048) ![0, 0, 0, 0] S1x1x64x2048.size inb_S1x1x64x2048_S1x1x64x2048_0_0_0_0).toLoadRect (harg5.unread x3)) (arg6.view.readAt (Elt Ideal) (Rect.unit (s := S1x1x1x2048) ![0, 0, 0, 0] S1x1x1x2048.size inb_S1x1x1x2048_S1x1x1x2048_0_0_0_0).toLoadRect (harg6.unread x4)) (arg7.view.readAt (Elt Ideal) (Rect.unit (s := S1x1x1x2048) ![0, 0, 0, 0] S1x1x1x2048.size inb_S1x1x1x2048_S1x1x1x2048_0_0_0_0).toLoadRect (harg7.unread x5)) (harg3.unread x1) (harg4.unread x2) (arg9.view.writes (Elt Ideal) arg9.view.junk kernelRun0_A.sl.H7_1) (arg10.view.writes (Elt Ideal) arg10.view.junk kernelRun0_A.sl.H8_1) (arg11.view.writes (Elt Ideal) arg11.view.junk kernelRun0_A.sl.HS0_1) 16).2.2 ++ kernelRun0_A.sl.HS0_1) (Rect.unit (s := S64x2048) ![0, 0] S64x2048.size inb_S64x2048_S64x2048_0_0).toLoadRect)⟩]) ?_ (by rw [ld, ld, ld, ld])
  unfold kernelRun0_A
  rfl

theorem listA7 : (kernelRun0_A c i arg2 harg2 arg3 harg3 arg4 harg4 arg5 harg5 arg6 harg6 arg7 harg7 arg8 harg8 arg9 harg9 arg10 harg10 arg11 harg11 hA x0 x1 x2 x3 x4 x5).2.1 = (pb_k0_t1 Variants.none c none i arg2 harg2 arg3 harg3 arg4 harg4 arg5 harg5 arg6 harg6 arg7 harg7 arg8 harg8 arg9 harg9 arg10 harg10 arg11 harg11 x0 x3 x4 x5 (harg3.unread x1) (harg4.unread x2) (arg9.view.writes (Elt Ideal) arg9.view.junk kernelRun0_A.sl.H7_1) (arg10.view.writes (Elt Ideal) arg10.view.junk kernelRun0_A.sl.H8_1) (arg11.view.writes (Elt Ideal) arg11.view.junk kernelRun0_A.sl.HS0_1) 16).1 ++ kernelRun0_A.sl.H7_1 := by
  refine Eq.trans (b := (pb_k0_t1 Variants.none c none i arg2 harg2 arg3 harg3 arg4 harg4 arg5 harg5 arg6 harg6 arg7 harg7 arg8 harg8 arg9 harg9 arg10 harg10 arg11 harg11 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x64x2048) ![0, 0, 0, 0] S1x1x64x2048.size inb_S1x1x64x2048_S1x1x64x2048_0_0_0_0).toLoadRect (harg5.unread x3)) (arg6.view.readAt (Elt Ideal) (Rect.unit (s := S1x1x1x2048) ![0, 0, 0, 0] S1x1x1x2048.size inb_S1x1x1x2048_S1x1x1x2048_0_0_0_0).toLoadRect (harg6.unread x4)) (arg7.view.readAt (Elt Ideal) (Rect.unit (s := S1x1x1x2048) ![0, 0, 0, 0] S1x1x1x2048.size inb_S1x1x1x2048_S1x1x1x2048_0_0_0_0).toLoadRect (harg7.unread x5)) (harg3.unread x1) (harg4.unread x2) (arg9.view.writes (Elt Ideal) arg9.view.junk kernelRun0_A.sl.H7_1) (arg10.view.writes (Elt Ideal) arg10.view.junk kernelRun0_A.sl.H8_1) (arg11.view.writes (Elt Ideal) arg11.view.junk kernelRun0_A.sl.HS0_1) 16).1 ++ kernelRun0_A.sl.H7_1) ?_ (by rw [ld, ld, ld, ld])
  unfold kernelRun0_A
  rfl

theorem listA8 : (kernelRun0_A c i arg2 harg2 arg3 harg3 arg4 harg4 arg5 harg5 arg6 harg6 arg7 harg7 arg8 harg8 arg9 harg9 arg10 harg10 arg11 harg11 hA x0 x1 x2 x3 x4 x5).2.2.1 = (pb_k0_t1 Variants.none c none i arg2 harg2 arg3 harg3 arg4 harg4 arg5 harg5 arg6 harg6 arg7 harg7 arg8 harg8 arg9 harg9 arg10 harg10 arg11 harg11 x0 x3 x4 x5 (harg3.unread x1) (harg4.unread x2) (arg9.view.writes (Elt Ideal) arg9.view.junk kernelRun0_A.sl.H7_1) (arg10.view.writes (Elt Ideal) arg10.view.junk kernelRun0_A.sl.H8_1) (arg11.view.writes (Elt Ideal) arg11.view.junk kernelRun0_A.sl.HS0_1) 16).2.1 ++ kernelRun0_A.sl.H8_1 := by
  refine Eq.trans (b := (pb_k0_t1 Variants.none c none i arg2 harg2 arg3 harg3 arg4 harg4 arg5 harg5 arg6 harg6 arg7 harg7 arg8 harg8 arg9 harg9 arg10 harg10 arg11 harg11 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x64x2048) ![0, 0, 0, 0] S1x1x64x2048.size inb_S1x1x64x2048_S1x1x64x2048_0_0_0_0).toLoadRect (harg5.unread x3)) (arg6.view.readAt (Elt Ideal) (Rect.unit (s := S1x1x1x2048) ![0, 0, 0, 0] S1x1x1x2048.size inb_S1x1x1x2048_S1x1x1x2048_0_0_0_0).toLoadRect (harg6.unread x4)) (arg7.view.readAt (Elt Ideal) (Rect.unit (s := S1x1x1x2048) ![0, 0, 0, 0] S1x1x1x2048.size inb_S1x1x1x2048_S1x1x1x2048_0_0_0_0).toLoadRect (harg7.unread x5)) (harg3.unread x1) (harg4.unread x2) (arg9.view.writes (Elt Ideal) arg9.view.junk kernelRun0_A.sl.H7_1) (arg10.view.writes (Elt Ideal) arg10.view.junk kernelRun0_A.sl.H8_1) (arg11.view.writes (Elt Ideal) arg11.view.junk kernelRun0_A.sl.HS0_1) 16).2.1 ++ kernelRun0_A.sl.H8_1) ?_ (by rw [ld, ld, ld, ld])
  unfold kernelRun0_A
  rfl

theorem pay1_at (y : S1x16x64x512.Idx) : k0_pay1 (F := Ideal) y = 0 := by
  idx_vars y
  pointwise [k0_pay1]
theorem pay2_at (y : S1x16x64x512.Idx) : k0_pay2 (F := Ideal) y = 0 := by
  idx_vars y
  pointwise [k0_pay2]
theorem pay7_at (y : S64x2048.Idx) : k0_pay7 (F := Ideal) y = 0 := by
  idx_vars y
  pointwise [k0_pay7]
theorem pay9_at (v : Vec Ideal S64x2048 .f32) (z z' : Fin 1) (d : Fin 64) (r : Fin 2048) : k0_pay9 v (ix4 z z' d r) = v (ix2 d r) := by
  pointwise [k0_pay9]

/-- What a point adds to a key's gradient, and to a value's; what it gives for a query's. -/
def addK (a : Fin 16) (d : Fin 64) (s : Fin 512) : EReal := ∑ r : Fin 2048, x0 (ix4 0 0 d r) * sw x0 x3 x1 x2 x4 x5 a s r
def addV (a : Fin 16) (d : Fin 64) (s : Fin 512) : EReal := ∑ r : Fin 2048, x3 (ix4 0 0 d r) * pw x0 x1 x4 a s r
def putQ (d : Fin 64) (r : Fin 2048) : EReal := ∑ a : Fin 16, ∑ s : Fin 512, x1 (ix4 0 a d s) * sw x0 x3 x1 x2 x4 x5 a s r

/-- The accumulator starts at zero. -/
theorem zeroed (h : S64x2048.Idx) (H : List (View.Piece (Elt Ideal) S64x2048 .f32))
    (hH : H = [⟨Rect.unit (s := S64x2048) ![0, 0] S64x2048.size inb_S64x2048_S64x2048_0_0, k0_pay7 (F := Ideal)⟩]) :
    arg11.view.read (Elt Ideal) (arg11.view.writes (Elt Ideal) arg11.view.junk H) h = 0 := by
  rw [hH]
  exact (congrFun (View.read_writes_full arg11.view _ inb_S64x2048_S64x2048_0_0 _ []) h).trans (pay7_at h)

theorem outB6 (z z' : Fin 1) (d : Fin 64) (r : Fin 2048) : out0_B_6 c i arg2 harg2 arg3 harg3 arg4 harg4 arg5 harg5 arg6 harg6 arg7 harg7 arg8 harg8 arg9 harg9 arg10 harg10 arg11 harg11 hB x0 x1 x2 x3 x4 x5 xo7 xo8 (ix4 z z' d r) = putQ x0 x1 x2 x3 x4 x5 d r := by
  unfold out0_B_6
  rw [listB6, View.read_writes_full, pay9_at]
  refine (congrFun (View.readAt_full arg11.view _ inb_S64x2048_S64x2048_0_0) _).trans ?_
  rw [View.writes_append, loop11, zeroed arg11 _ kernelRun0_B.sl.HS0_1 rfl, zero_add, harg3.read_unread, harg4.read_unread]
  rfl

theorem outB7 (z : Fin 1) (a : Fin 16) (d : Fin 64) (s : Fin 512) :
    out0_B_7 c i arg2 harg2 arg3 harg3 arg4 harg4 arg5 harg5 arg6 harg6 arg7 harg7 arg8 harg8 arg9 harg9 arg10 harg10 arg11 harg11 hB x0 x1 x2 x3 x4 x5 xo7 xo8 (ix4 z a d s) = xo7 (ix4 z a d s) + addK x0 x1 x2 x3 x4 x5 a d s := by
  obtain rfl : z = 0 := Subsingleton.elim _ _
  unfold out0_B_7
  rw [View.read_writes_of_cover VO0_7 VO0_7.junk arg9.view (harg9.unread xo7) _ (cover0_B_7 c i arg2 harg2 arg3 harg3 arg4 harg4 arg5 harg5 arg6 harg6 arg7 harg7 arg8 harg8 arg9 harg9 arg10 harg10 arg11 harg11 hB x0 x1 x2 x3 x4 x5 xo7 xo8), listB7]
  refine (loop9 _ _ _ _ _ _ _ _ _ _ _ _ _ _ _ _ _ _ _ _ _ _ _ _ _ _ _ _ _ _ _ _ _ _ _ _).trans ?_
  simp only [Memref.IsWhole.read_unread]
  rfl

theorem outB8 (z : Fin 1) (a : Fin 16) (d : Fin 64) (s : Fin 512) :
    out0_B_8 c i arg2 harg2 arg3 harg3 arg4 harg4 arg5 harg5 arg6 harg6 arg7 harg7 arg8 harg8 arg9 harg9 arg10 harg10 arg11 harg11 hB x0 x1 x2 x3 x4 x5 xo7 xo8 (ix4 z a d s) = xo8 (ix4 z a d s) + addV x0 x1 x3 x4 a d s := by
  obtain rfl : z = 0 := Subsingleton.elim _ _
  unfold out0_B_8
  rw [View.read_writes_of_cover VO0_8 VO0_8.junk arg10.view (harg10.unread xo8) _ (cover0_B_8 c i arg2 harg2 arg3 harg3 arg4 harg4 arg5 harg5 arg6 harg6 arg7 harg7 arg8 harg8 arg9 harg9 arg10 harg10 arg11 harg11 hB x0 x1 x2 x3 x4 x5 xo7 xo8), listB8]
  refine (loop10 _ _ _ _ _ _ _ _ _ _ _ _ _ _ _ _ _ _ _ _ _ _ _ _ _ _ _ _ _ _ _ _ _ _ _ _).trans ?_
  simp only [Memref.IsWhole.read_unread]
  rfl

theorem outA6 (z z' : Fin 1) (d : Fin 64) (r : Fin 2048) : out0_A_6 c i arg2 harg2 arg3 harg3 arg4 harg4 arg5 harg5 arg6 harg6 arg7 harg7 arg8 harg8 arg9 harg9 arg10 harg10 arg11 harg11 hA x0 x1 x2 x3 x4 x5 (ix4 z z' d r) = putQ x0 x1 x2 x3 x4 x5 d r := by
  unfold out0_A_6
  rw [listA6, View.read_writes_full, pay9_at]
  refine (congrFun (View.readAt_full arg11.view _ inb_S64x2048_S64x2048_0_0) _).trans ?_
  rw [View.writes_append, loop11, zeroed arg11 _ kernelRun0_A.sl.HS0_1 rfl, zero_add, harg3.read_unread, harg4.read_unread]
  rfl

theorem outA7 (z : Fin 1) (a : Fin 16) (d : Fin 64) (s : Fin 512) :
    out0_A_7 c i arg2 harg2 arg3 harg3 arg4 harg4 arg5 harg5 arg6 harg6 arg7 harg7 arg8 harg8 arg9 harg9 arg10 harg10 arg11 harg11 hA x0 x1 x2 x3 x4 x5 (ix4 z a d s) = addK x0 x1 x2 x3 x4 x5 a d s := by
  obtain rfl : z = 0 := Subsingleton.elim _ _
  unfold out0_A_7
  rw [View.read_writes_of_cover VO0_7 VO0_7.junk arg9.view arg9.view.junk _ (cover0_A_7 c i arg2 harg2 arg3 harg3 arg4 harg4 arg5 harg5 arg6 harg6 arg7 harg7 arg8 harg8 arg9 harg9 arg10 harg10 arg11 harg11 hA x0 x1 x2 x3 x4 x5), listA7, View.writes_append]
  refine (loop9 _ _ _ _ _ _ _ _ _ _ _ _ _ _ _ _ _ _ _ _ _ _ _ _ _ _ _ _ _ _ _ _ _ _ _ _).trans ?_
  refine (congrArg (· + _) ((congrFun (View.read_writes_full arg9.view _ inb_S1x16x64x512_S1x16x64x512_0_0_0_0 _ []) _).trans (pay1_at _))).trans ?_
  simp only [Memref.IsWhole.read_unread, zero_add]
  rfl

theorem outA8 (z : Fin 1) (a : Fin 16) (d : Fin 64) (s : Fin 512) :
    out0_A_8 c i arg2 harg2 arg3 harg3 arg4 harg4 arg5 harg5 arg6 harg6 arg7 harg7 arg8 harg8 arg9 harg9 arg10 harg10 arg11 harg11 hA x0 x1 x2 x3 x4 x5 (ix4 z a d s) = addV x0 x1 x3 x4 a d s := by
  obtain rfl : z = 0 := Subsingleton.elim _ _
  unfold out0_A_8
  rw [View.read_writes_of_cover VO0_8 VO0_8.junk arg10.view arg10.view.junk _ (cover0_A_8 c i arg2 harg2 arg3 harg3 arg4 harg4 arg5 harg5 arg6 harg6 arg7 harg7 arg8 harg8 arg9 harg9 arg10 harg10 arg11 harg11 hA x0 x1 x2 x3 x4 x5), listA8, View.writes_append]
  refine (loop10 _ _ _ _ _ _ _ _ _ _ _ _ _ _ _ _ _ _ _ _ _ _ _ _ _ _ _ _ _ _ _ _ _ _ _ _).trans ?_
  refine (congrArg (· + _) ((congrFun (View.read_writes_full arg10.view _ inb_S1x16x64x512_S1x16x64x512_0_0_0_0 _ []) _).trans (pay2_at _))).trans ?_
  simp only [Memref.IsWhole.read_unread, zero_add]
  rfl

end point

end Cert.FaIdeal.Val

end
-- ==== Proof.Val.FaMath.lean ====
/-
  Softmax attention and its derivative over the reals: the scores, the weights, and the three gradients that both the
  kernel `Fa` and its reference are read as. `mx` is whatever is subtracted from a row of scores before the exponential.
-/
module

public import proofs.«01_k».proof.Proof.Val.Real

@[expose] public section

noncomputable section

open Idealize.ShloMosaic

namespace Cert.Val.Fa

variable (q o : Fin 2 → Fin 4 → Fin 8192 → Fin 64 → ℝ) (k v : Fin 2 → Fin 8192 → Fin 64 → ℝ)
  (mx : Fin 2 → Fin 4 → Fin 8192 → ℝ)

/-- The scaled score of query `i` of head `(h, g)` at key `j`. -/
def S (h : Fin 2) (g : Fin 4) (i j : Fin 8192) : ℝ := (∑ d, q h g i d * k h j d) * 8⁻¹

/-- Its exponential after the row's shift, the row sum, and the softmax weight. -/
def E (h : Fin 2) (g : Fin 4) (i j : Fin 8192) : ℝ := Real.exp (S q k h g i j - mx h g i)
def L (h : Fin 2) (g : Fin 4) (i : Fin 8192) : ℝ := ∑ j, E q k mx h g i j
def P (h : Fin 2) (g : Fin 4) (i j : Fin 8192) : ℝ := E q k mx h g i j / L q k mx h g i

/-- The gradient of a weight, and a row's `do · output`. -/
def DP (h : Fin 2) (g : Fin 4) (i j : Fin 8192) : ℝ := ∑ d, o h g i d * v h j d
def D (h : Fin 2) (g : Fin 4) (i : Fin 8192) : ℝ := ∑ d, o h g i d * ∑ j, P q k mx h g i j * v h j d

/-- The gradient of a score. -/
def dS (h : Fin 2) (g : Fin 4) (i j : Fin 8192) : ℝ := P q k mx h g i j * (DP o v h g i j - D q o k v mx h g i)

theorem L_pos (h : Fin 2) (g : Fin 4) (i : Fin 8192) : 0 < L q k mx h g i :=
  Finset.sum_pos (fun _ _ => Real.exp_pos _) ⟨0, Finset.mem_univ _⟩

theorem L_ne (h : Fin 2) (g : Fin 4) (i : Fin 8192) : L q k mx h g i ≠ 0 := (L_pos q k mx h g i).ne'

/-- The row's `do · output` is the weighted sum of the weights' gradients. -/
theorem D_eq (h : Fin 2) (g : Fin 4) (i : Fin 8192) : D q o k v mx h g i = ∑ j, P q k mx h g i j * DP o v h g i j := by
  unfold D DP
  simp only [Finset.mul_sum]
  rw [Finset.sum_comm]
  exact Finset.sum_congr rfl fun j _ => Finset.sum_congr rfl fun d _ => by ring

/-- The weight as the kernel computes it: a base-two exponential of scores and row log-sums in units of `log 2`. -/
theorem weight (h : Fin 2) (g : Fin 4) (i j : Fin 8192) :
    Real.rpow 2 ((∑ d, k h j d * (q h g i d * (8⁻¹ * (Real.log 2)⁻¹)))
      - (mx h g i + Real.log (L q k mx h g i)) * (Real.log 2)⁻¹) = P q k mx h g i j := by
  have h2 : Real.log 2 ≠ 0 := (Real.log_pos (by norm_num)).ne'
  have e : (∑ d, k h j d * (q h g i d * (8⁻¹ * (Real.log 2)⁻¹))) = S q k h g i j * (Real.log 2)⁻¹ := by
    unfold S
    rw [mul_assoc, Finset.sum_mul]
    exact Finset.sum_congr rfl fun d _ => by ring
  show (2 : ℝ) ^ (_ : ℝ) = _
  rw [e, ← sub_mul, Real.rpow_def_of_pos (by norm_num)]
  rw [show Real.log 2 * ((S q k h g i j - (mx h g i + Real.log (L q k mx h g i))) * (Real.log 2)⁻¹)
    = (S q k h g i j - mx h g i) - Real.log (L q k mx h g i) by field_simp; ring]
  rw [Real.exp_sub, Real.exp_log (L_pos q k mx h g i)]
  rfl

/-- The shift both programs take: the largest score of the row. -/
def top (h : Fin 2) (g : Fin 4) (i : Fin 8192) : ℝ := Finset.univ.sup' ⟨0, Finset.mem_univ _⟩ (S q k h g i)

/-- The maximum of finitely many reals, folded over the extended reals from `-∞`. -/
theorem fold_max (f : Fin 8192 → ℝ) :
    (Finset.univ.fold max (⊥ : EReal) fun j => (f j : EReal)) = ((Finset.univ.sup' ⟨0, Finset.mem_univ _⟩ f : ℝ) : EReal) := by
  show Finset.univ.sup (fun j => (f j : EReal)) = _
  obtain ⟨i, _, hi⟩ := Finset.exists_mem_eq_sup' (s := Finset.univ) ⟨(0 : Fin 8192), Finset.mem_univ _⟩ f
  refine le_antisymm (Finset.sup_le fun j _ => EReal.coe_le_coe_iff.2 (Finset.le_sup' f (Finset.mem_univ j))) ?_
  rw [hi]
  exact Finset.le_sup (f := fun j => (f j : EReal)) (Finset.mem_univ i)

/-- The gradient of a score in the form the softmax's derivative takes it. -/
theorem dS_eq (h : Fin 2) (g : Fin 4) (i j : Fin 8192) :
    (DP o v h g i j / L q k mx h g i + -∑ j', DP o v h g i j' * (1 / (L q k mx h g i * L q k mx h g i)) * E q k mx h g i j')
      * E q k mx h g i j = dS q o k v mx h g i j := by
  have hL := L_ne q k mx h g i
  have e : (∑ j', DP o v h g i j' * (1 / (L q k mx h g i * L q k mx h g i)) * E q k mx h g i j')
      = D q o k v mx h g i / L q k mx h g i := by
    rw [D_eq, Finset.sum_div]
    refine Finset.sum_congr rfl fun j' _ => ?_
    unfold P
    field_simp
  rw [e]
  unfold dS P
  field_simp
  ring

end Cert.Val.Fa

end
-- ==== Proof.Val.FaRef.lean ====
/-
  The reference of the attention gradient (`FaRef`): the results its run states, read index by index over finite
  arguments as the three gradients of `FaMath`.
-/
module

public import proofs.«01_k».proof.Defs
public import proofs.«01_k».proof.Proof.Gen.FaRefIdeal.Run
public import proofs.«01_k».proof.Proof.Val.FaMath
public import Idealize.ShloMosaic.Lib.Quiescent

@[expose] public section

set_option maxRecDepth 16384

noncomputable section

open Idealize.ShloMosaic Idealize.ShloMosaic.TcCoe Idealize.SL.Sem

namespace Cert.Val.Fa

abbrev SQ : Shape := ⟨4, ![2, 4, 8192, 64]⟩
abbrev SK : Shape := ⟨3, ![2, 8192, 64]⟩
abbrev SB : Shape := ⟨4, ![2, 16, 64, 2048]⟩
abbrev SJ : Shape := ⟨4, ![2, 16, 64, 512]⟩

/-- A four-axis and a three-axis array as functions of their coordinates. -/
def at4 (x : SQ.Idx → ℝ) (h : Fin 2) (g : Fin 4) (i : Fin 8192) (d : Fin 64) : ℝ := x (ix4 h g i d)
def at3 (x : SK.Idx → ℝ) (h : Fin 2) (j : Fin 8192) (d : Fin 64) : ℝ := x (ix3 h j d)

/-- Row `a` of block `b`, and the head of a block's column. -/
def row (b : Fin 16) (r : Fin 512) : Fin 8192 := ⟨b.val * 512 + r.val, by omega⟩
def grp (r : Fin 2048) : Fin 4 := ⟨r.val / 512, by omega⟩
def low (r : Fin 2048) : Fin 512 := ⟨r.val % 512, by omega⟩

variable (q o : SQ.Idx → ℝ) (k v : SK.Idx → ℝ)

/-- The shift of the exponentials, the weights and the scores' gradients at the arrays. -/
abbrev tp := top (at4 q) (at3 k)
abbrev Pw := P (at4 q) (at3 k) (tp q k)
abbrev dSw := dS (at4 q) (at4 o) (at3 k) (at3 v) (tp q k)

/-- The three results. -/
def resQ : FVec Ideal SB .f32 := fun j =>
  ((∑ s, dSw q o k v (j 0) (grp (j 3)) (row (j 1) (low (j 3))) s * at3 k (j 0) s (j 2) : ℝ) : EReal)
def resK : FVec Ideal SJ .f32 := fun j =>
  (((∑ g, ∑ i, dSw q o k v (j 0) g i (row (j 1) (j 3)) * at4 q (j 0) g i (j 2)) * (8⁻¹ * (Real.log 2)⁻¹) : ℝ) : EReal)
def resV : FVec Ideal SJ .f32 := fun j =>
  ((∑ g, ∑ i, Pw q k (j 0) g i (row (j 1) (j 3)) * at4 o (j 0) g i (j 2) : ℝ) : EReal)

/-- A real array as an array of extended reals. -/
def up {s : Shape} {φ : FTy} (x : s.Idx → ℝ) : FVec Ideal s φ := fun i => (x i : EReal)

theorem up_apply {s : Shape} {φ : FTy} (x : s.Idx → ℝ) (i : s.Idx) : up (φ := φ) x i = (x i : EReal) := rfl

theorem eighth : Ideal.ofBits .f32 0x3E000000#32 = ((8⁻¹ : ℝ) : EReal) := by
  simp [Ideal.ofBits, Ideal.ieee, ← EReal.coe_mul]; norm_num [← EReal.coe_mul]
theorem eight : Ideal.ofBits .f32 0x41000000#32 = ((8 : ℝ) : EReal) := by
  simp [Ideal.ofBits, Ideal.ieee, ← EReal.coe_mul]; norm_num [← EReal.coe_mul]
theorem two : Ideal.ofBits .f32 0x40000000#32 = ((2 : ℝ) : EReal) := by
  simp [Ideal.ofBits, Ideal.ieee, ← EReal.coe_mul]; norm_num [← EReal.coe_mul]
theorem bot32 : Ideal.ofBits .f32 0xFF800000#32 = ⊥ := by simp [Ideal.ofBits, Ideal.ieee]

end Cert.Val.Fa

namespace Cert.FaRefIdeal.Val

open Cert.FaRefIdeal Cert.FaRefIdeal.Gen Cert.Val Cert.Val.Fa

/-! The reference's steps, each over arrays of its own. -/

section steps

variable (X : FVec Ideal S2x4x8192x64 .f32) (Y : FVec Ideal S2x8192x64 .f32)
variable (A B : FVec Ideal S2x4x8192x8192 .f32) (M : FVec Ideal S2x4x8192 .f32) (Z : FVec Ideal S2x4x8192x1 .f32)

/-- Products of rows of `X` and `Y`. -/
def Dp : FVec Ideal S2x4x8192x8192 .f32 :=
  Host.dotGeneral dot_S2x4x8192x64_S2x8192x64_S2x4x8192x8192_3_2_12_1_0_0 none X Y
/-- An eighth of an array. -/
def Oct : FVec Ideal S2x4x8192x8192 .f32 :=
  mulf A (broadcastInDim S2x4x8192x8192 ![] bcast_S_S2x4x8192x8192 (constant S_ .f32 0x3E000000#32))
/-- Row maxima. -/
def Mx : FVec Ideal S2x4x8192 .f32 :=
  maximumf (broadcastInDim S2x4x8192 ![] bcast_S_S2x4x8192 (constant S_ .f32 0xFF800000#32)) (Host.reduce FloatOps.maximumf A (constant S_ .f32 0xFF800000#32) reducesTo_S2x4x8192x8192_S2x4x8192_d3 h_S_)
/-- Exponentials of shifted rows. -/
def Ex : FVec Ideal S2x4x8192x8192 .f32 :=
  Host.exp (subf A (broadcastInDim S2x4x8192x8192 ![0, 1, 2, 3] bcast_S2x4x8192x1_S2x4x8192x8192_0_1_2_3 (broadcastInDim S2x4x8192x1 ![0, 1, 2] bcast_S2x4x8192_S2x4x8192x1_0_1_2 M)))
/-- Row sums. -/
def L1 : FVec Ideal S2x4x8192x1 .f32 :=
  broadcastInDim S2x4x8192x1 ![0, 1, 2] bcast_S2x4x8192_S2x4x8192x1_0_1_2 (Host.reduceAdd A (constant S_ .f32 0x00000000#32) reducesTo_S2x4x8192x8192_S2x4x8192_d3 h_S_)
/-- A column spread over the rows. -/
def Lb : FVec Ideal S2x4x8192x8192 .f32 :=
  broadcastInDim S2x4x8192x8192 ![0, 1, 2, 3] bcast_S2x4x8192x1_S2x4x8192x8192_0_1_2_3 Z
/-- Row sums of `A` over the square of `Z` times `B`. -/
def Dm : FVec Ideal S2x4x8192 .f32 :=
  Host.reduceAdd (mulf (mulf A (broadcastInDim S2x4x8192x8192 ![0, 1, 2, 3] bcast_S2x4x8192x1_S2x4x8192x8192_0_1_2_3 (Host.divf (broadcastInDim S2x4x8192x1 ![] bcast_S_S2x4x8192x1 (constant S_ .f32 0x3F800000#32)) (mulf Z Z)))) B) (constant S_ .f32 0x00000000#32) reducesTo_S2x4x8192x8192_S2x4x8192_d3 h_S_
/-- Minus `M`, spread over the rows. -/
def Ng : FVec Ideal S2x4x8192x8192 .f32 :=
  broadcastInDim S2x4x8192x8192 ![0, 1, 2] bcast_S2x4x8192_S2x4x8192x8192_0_1_2 (Host.reduceAdd (Host.negf (shapeCast _ M shapeCasts_S2x4x8192_S2x4x8192x1)) (constant S_ .f32 0x00000000#32) reducesTo_S2x4x8192x1_S2x4x8192_d3 h_S_)

theorem Dp_at (h : Fin 2) (g : Fin 4) (i j : Fin 8192) : Dp X Y (ix4 h g i j) = ∑ d : Fin 64, X (ix4 h g i d) * Y (ix3 h j d) := by
  pointwise [Dp]
theorem Oct_at (h : Fin 2) (g : Fin 4) (i j : Fin 8192) : Oct A (ix4 h g i j) = A (ix4 h g i j) * ((8⁻¹ : ℝ) : EReal) := by
  rw [← eighth]
  pointwise [Oct]
/-- A row maximum, at any extents. -/
theorem reduce_at {n0 n1 n2 n3 : ℕ} (A : FVec Ideal ⟨4, ![n0, n1, n2, n3]⟩ .f32) (init : FVec Ideal S_ .f32)
    (h' : (⟨4, ![n0, n1, n2, n3]⟩ : Shape).ReducesTo [3] ⟨3, ![n0, n1, n2]⟩) (hu : 0 < S_.numel) (b : EReal) (hb : init (Shape.Idx.first hu) = b) (h : Fin n0) (g : Fin n1) (i : Fin n2) :
    Host.reduce (FloatOps.maximumf (F := Ideal) (φ := .f32)) A init h' hu (ix3 h g i)
      = Finset.univ.fold max b fun j : Fin n3 => A (ix4 h g i j) := by
  subst hb
  rw [Host.reduce_eq_fold, Shape.ReducesTo.fold_fiber_r4_a3]
  rfl
theorem lift_at (V : FVec Ideal S2x4x8192 .f32) (h : Fin 2) (g : Fin 4) (i : Fin 8192) :
    maximumf (broadcastInDim S2x4x8192 ![] bcast_S_S2x4x8192 (constant S_ .f32 0xFF800000#32)) V (ix3 h g i) = max (Ideal.ofBits .f32 0xFF800000#32) (V (ix3 h g i)) := by
  pointwise
theorem Mx_at (h : Fin 2) (g : Fin 4) (i : Fin 8192) : Mx A (ix3 h g i) = max ⊥ (Finset.univ.fold max ⊥ fun j : Fin 8192 => A (ix4 h g i j)) := by
  rw [← bot32]
  have e := reduce_at A (constant S_ .f32 0xFF800000#32) reducesTo_S2x4x8192x8192_S2x4x8192_d3 h_S_ (Ideal.ofBits .f32 0xFF800000#32) rfl h g i
  rw [← e]
  exact lift_at _ h g i
theorem Ex_at (h : Fin 2) (g : Fin 4) (i j : Fin 8192) : Ex A M (ix4 h g i j) = Ideal.exp (A (ix4 h g i j) - M (ix3 h g i)) := by
  pointwise [Ex]
theorem L1_at (h : Fin 2) (g : Fin 4) (i : Fin 8192) (z : Fin 1) : L1 A (ix4 h g i z) = ∑ j : Fin 8192, A (ix4 h g i j) := by
  pointwise [L1]
theorem Lb_at (h : Fin 2) (g : Fin 4) (i j : Fin 8192) : Lb Z (ix4 h g i j) = Z (ix4 h g i 0) := by
  pointwise [Lb]
theorem Dm_at (h : Fin 2) (g : Fin 4) (i : Fin 8192) : Dm A B Z (ix3 h g i) = ∑ j : Fin 8192, A (ix4 h g i j) * Ideal.div 1 (Z (ix4 h g i 0) * Z (ix4 h g i 0)) * B (ix4 h g i j) := by
  pointwise [Dm]
theorem Ng_at (h : Fin 2) (g : Fin 4) (i j : Fin 8192) : Ng M (ix4 h g i j) = - M (ix3 h g i) := by
  pointwise [Ng]
  exact Fin.sum_univ_one _

/-- The three gradients' products and the blocks they are laid out in. -/
def Gq : FVec Ideal S2x16x64x2048 .f32 :=
  mulf (shapeCast _ (transpose S2x16x64x4x512 [0, 2, 4, 1, 3] (shapeCast _ (Host.dotGeneral dot_S2x4x8192x8192_S2x8192x64_S2x4x8192x64_3_1_12_2_0_0 none A Y) shapeCasts_S2x4x8192x64_S2x4x16x512x64) transposes_S2x4x16x512x64_S2x16x64x4x512_0_2_4_1_3) shapeCasts_S2x16x64x4x512_S2x16x64x2048) (broadcastInDim S2x16x64x2048 ![] bcast_S_S2x16x64x2048 (constant S_ .f32 0x41000000#32))
def Gk : FVec Ideal S2x16x64x512 .f32 :=
  mulf (transpose S2x16x64x512 [0, 1, 3, 2] (shapeCast _ (Host.dotGeneral dot_S2x4x8192x8192_S2x4x8192x64_S2x8192x64_12_12_3_3_0_0 none A X) shapeCasts_S2x8192x64_S2x16x512x64) transposes_S2x16x512x64_S2x16x64x512_0_1_3_2) (broadcastInDim S2x16x64x512 ![] bcast_S_S2x16x64x512 (Host.divf (constant S_ .f32 0x3F800000#32) (Host.log (constant S_ .f32 0x40000000#32))))
def Gv : FVec Ideal S2x16x64x512 .f32 :=
  transpose S2x16x64x512 [0, 1, 3, 2] (shapeCast _ (transpose S2x8192x64 [0, 2, 1] (Host.dotGeneral dot_S2x4x8192x64_S2x4x8192x8192_S2x64x8192_12_12_3_3_0_0 none X A) transposes_S2x64x8192_S2x8192x64_0_2_1) shapeCasts_S2x8192x64_S2x16x512x64) transposes_S2x16x512x64_S2x16x64x512_0_1_3_2

theorem Gq_at (h : Fin 2) (b : Fin 16) (d : Fin 64) (r : Fin 2048) :
    Gq Y A (ix4 h b d r) = (∑ s : Fin 8192, A (ix4 h (grp r) (row b (low r)) s) * Y (ix3 h s d)) * ((8 : ℝ) : EReal) := by
  rw [← eight]
  unfold row grp low
  pointwise [Gq]
theorem Gk_at (h : Fin 2) (b : Fin 16) (d : Fin 64) (r : Fin 512) :
    Gk X A (ix4 h b d r) = (∑ g : Fin 4, ∑ i : Fin 8192, A (ix4 h g i (row b r)) * X (ix4 h g i d)) * Ideal.div 1 (Ideal.log ((2 : ℝ) : EReal)) := by
  rw [← two]
  unfold row
  pointwise [Gk]
theorem Gv_at (h : Fin 2) (b : Fin 16) (d : Fin 64) (r : Fin 512) :
    Gv X A (ix4 h b d r) = ∑ g : Fin 4, ∑ i : Fin 8192, X (ix4 h g i d) * A (ix4 h g i (row b r)) := by
  unfold row
  pointwise [Gv]

end steps

section whole

variable (X0 X3 : FVec Ideal S2x4x8192x64 .f32) (X1 X2 : FVec Ideal S2x8192x64 .f32)

/-- The reference's scores, exponentials, row sums and scores' gradients. -/
def sc := Oct (Dp X0 X1)
def ex := Ex (sc X0 X1) (Mx (sc X0 X1))
def ls := L1 (ex X0 X1)
def ds := Oct (mulf (addf (Host.divf (Dp X3 X2) (Lb (ls X0 X1))) (Ng (Dm (Dp X3 X2) (ex X0 X1) (ls X0 X1)))) (ex X0 X1))

end whole

variable (q o : SQ.Idx → ℝ) (k v : SK.Idx → ℝ)

theorem Dp_real (h : Fin 2) (g : Fin 4) (i j : Fin 8192) : Dp (up o) (up v) (ix4 h g i j) = ((DP (at4 o) (at3 v) h g i j : ℝ) : EReal) := by
  rw [Dp_at]
  simp only [up_apply, ← EReal.coe_mul, sum_real]
  rfl

theorem sc_real (h : Fin 2) (g : Fin 4) (i j : Fin 8192) : sc (up q) (up k) (ix4 h g i j) = ((S (at4 q) (at3 k) h g i j : ℝ) : EReal) := by
  unfold sc S
  rw [Oct_at, Dp_real, ← EReal.coe_mul]
  rfl

theorem ex_real (h : Fin 2) (g : Fin 4) (i j : Fin 8192) : ex (up q) (up k) (ix4 h g i j) = ((E (at4 q) (at3 k) (tp q k) h g i j : ℝ) : EReal) := by
  unfold ex E
  rw [Ex_at, sc_real, Mx_at]
  simp only [sc_real]
  rw [fold_max, max_eq_right bot_le, ← EReal.coe_sub, Ideal.exp_coe]
  unfold tp top
  rfl

theorem ls_real (h : Fin 2) (g : Fin 4) (i : Fin 8192) (z : Fin 1) : ls (up q) (up k) (ix4 h g i z) = ((L (at4 q) (at3 k) (tp q k) h g i : ℝ) : EReal) := by
  unfold ls
  rw [L1_at]
  simp only [ex_real, sum_real]
  rfl

theorem ds_real (h : Fin 2) (g : Fin 4) (i j : Fin 8192) :
    ds (up q) (up o) (up k) (up v) (ix4 h g i j) = ((dSw q o k v h g i j * 8⁻¹ : ℝ) : EReal) := by
  unfold ds
  rw [Oct_at, EReal.coe_mul]
  refine congrArg (· * ((8⁻¹ : ℝ) : EReal)) ?_
  show (Ideal.div (Dp (up o) (up v) (ix4 h g i j)) (Lb (ls (up q) (up k)) (ix4 h g i j)) + Ng (Dm (Dp (up o) (up v)) (ex (up q) (up k)) (ls (up q) (up k))) (ix4 h g i j))
    * ex (up q) (up k) (ix4 h g i j) = _
  have hL := L_ne (at4 q) (at3 k) (tp q k) h g i
  rw [Lb_at, Ng_at, Dm_at]
  simp only [Dp_real, ls_real, ex_real]
  rw [← EReal.coe_mul (L _ _ _ _ _ _), ← EReal.coe_one, div_real _ _ hL, div_real _ _ (mul_ne_zero hL hL)]
  simp only [← EReal.coe_mul, sum_real]
  rw [← EReal.coe_neg, ← EReal.coe_add, ← EReal.coe_mul, dS_eq]

theorem out_q : Gq (up k) (ds (up q) (up o) (up k) (up v)) = resQ q o k v := by
  funext j
  idx_vars j
  rw [Gq_at]
  simp only [ds_real, up_apply, ← EReal.coe_mul, sum_real]
  unfold resQ
  refine congrArg _ ?_
  rw [Finset.sum_mul]
  refine Finset.sum_congr rfl fun s _ => ?_
  unfold at3
  ring_nf
  rfl

theorem out_k : Gk (up q) (ds (up q) (up o) (up k) (up v)) = resK q o k v := by
  funext j
  idx_vars j
  rw [Gk_at, Ideal.log_coe, if_neg (by norm_num), ← EReal.coe_one, div_real _ _ (Real.log_pos (by norm_num)).ne']
  simp only [ds_real, up_apply, ← EReal.coe_mul, sum_real]
  unfold resK at4
  refine congrArg _ ?_
  simp only [Finset.sum_mul]
  refine Finset.sum_congr rfl fun g _ => Finset.sum_congr rfl fun i _ => ?_
  show dSw q o k v j0 g i (row j1 j3) * 8⁻¹ * q (ix4 j0 g i j2) * (1 / Real.log 2) = dSw q o k v j0 g i (row j1 j3) * q (ix4 j0 g i j2) * (8⁻¹ * (Real.log 2)⁻¹)
  rw [one_div]
  ring

theorem out_v : Gv (up o) (Host.divf (ex (up q) (up k)) (Lb (ls (up q) (up k)))) = resV q o k := by
  funext j
  idx_vars j
  rw [Gv_at]
  have e : ∀ (h : Fin 2) (g : Fin 4) (i s : Fin 8192), Host.divf (ex (up q) (up k)) (Lb (ls (up q) (up k))) (ix4 h g i s) = ((Pw q k h g i s : ℝ) : EReal) := by
    intro h g i s
    show Ideal.div _ _ = _
    rw [Lb_at, ex_real, ls_real, div_real _ _ (L_ne (at4 q) (at3 k) (tp q k) h g i)]
    rfl
  simp only [e, up_apply, ← EReal.coe_mul, sum_real]
  unfold resV at4
  refine congrArg _ ?_
  refine Finset.sum_congr rfl fun g _ => Finset.sum_congr rfl fun i _ => ?_
  exact mul_comm _ _

/-- The reference's run over finite arguments ends with the three gradients. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (q o : SQ.Idx → ℝ) (k v : SK.Idx → ℝ),
        m ((c.tc : Thread nD τ).loc main_arg0) = (up q : FVec Ideal SQ .f32) → m ((c.tc : Thread nD τ).loc main_arg1) = (up k : FVec Ideal SK .f32) →
        m ((c.tc : Thread nD τ).loc main_arg2) = (up v : FVec Ideal SK .f32) → m ((c.tc : Thread nD τ).loc main_arg3) = (up o : FVec Ideal SQ .f32) →
        r.2.mem ((c.tc : Thread nD τ).loc main_v55) = resQ q o k v
        ∧ r.2.mem ((c.tc : Thread nD τ).loc main_v61) = resK q o k v
        ∧ r.2.mem ((c.tc : Thread nD τ).loc main_v63) = resV q o k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono ?_ (Value.run m ρ)
  intro r h c
  refine ⟨fun q o k v h0 h1 h2 h3 => ⟨(h c).1.trans ?_, (h c).2.1.trans ?_, (h c).2.2.1.trans ?_⟩, (h c).2.2.2⟩
  · rw [← out_q, ← h0, ← h1, ← h2, ← h3]
    rfl
  · rw [← out_k, ← h0, ← h1, ← h2, ← h3]
    rfl
  · rw [← out_v, ← h0, ← h1, ← h3]
    rfl

end Cert.FaRefIdeal.Val

end
-- ==== Proof.Val.FaHost.lean ====
/-
  The attention gradient's kernel (`Fa`), the host operations before its region: the arrays its windows read, each step
  over arrays of its own, then at finite arguments.
-/
module

public import proofs.«01_k».proof.Proof.Val.FaPoint
public import proofs.«01_k».proof.Proof.Val.FaRef
public import Idealize.ShloMosaic.Lib.Pipeline.ValueKit

@[expose] public section

set_option maxRecDepth 16384

noncomputable section

open Idealize.ShloMosaic Idealize.ShloMosaic.TcCoe Idealize.SL.Sem

namespace Cert.FaIdeal.Val

open Cert.FaIdeal Cert.FaIdeal.Gen Cert.Val Cert.Val.Fa

/-! ## The steps -/

section steps

variable (X W : FVec Ideal S2x4x8192x64 .f32) (Y : FVec Ideal S2x8192x64 .f32)
variable (A : FVec Ideal S2x4x8192x8192 .f32) (M : FVec Ideal S2x4x8192 .f32) (Z N : FVec Ideal S2x4x8192x1 .f32)

/-- Scores; row maxima; a row's number as a column; exponentials of shifted rows; row sums; weights; the weighted sum. -/
def Sc : FVec Ideal S2x4x8192x8192 .f32 :=
  mulf (Host.dotGeneral dot_S2x4x8192x64_S2x8192x64_S2x4x8192x8192_3_2_12_1_0_0 none X Y) (broadcastInDim S2x4x8192x8192 ![] bcast_S_S2x4x8192x8192 (constant S_ .f32 0x3E000000#32))
def Mx : FVec Ideal S2x4x8192 .f32 := Host.reduce FloatOps.maximumf A (constant S_ .f32 0xFF800000#32) reducesTo_S2x4x8192x8192_S2x4x8192_d3 h_S_
def Col : FVec Ideal S2x4x8192x1 .f32 := broadcastInDim S2x4x8192x1 ![0, 1, 2] bcast_S2x4x8192_S2x4x8192x1_0_1_2 M
def Ex : FVec Ideal S2x4x8192x8192 .f32 := Host.exp (subf A (broadcastInDim S2x4x8192x8192 ![0, 1, 2, 3] bcast_S2x4x8192x1_S2x4x8192x8192_0_1_2_3 Z))
def Rs : FVec Ideal S2x4x8192 .f32 := Host.reduceAdd A (constant S_ .f32 0x00000000#32) reducesTo_S2x4x8192x8192_S2x4x8192_d3 h_S_
def Wt : FVec Ideal S2x4x8192x8192 .f32 := Host.divf A (broadcastInDim S2x4x8192x8192 ![0, 1, 2, 3] bcast_S2x4x8192x1_S2x4x8192x8192_0_1_2_3 Z)
def Ov : FVec Ideal S2x4x8192x64 .f32 := Host.dotGeneral dot_S2x4x8192x8192_S2x8192x64_S2x4x8192x64_3_1_12_2_0_0 none A Y
/-- One over the logarithm of two; the rows' logarithms of sums in that unit; the rows' `do · output`. -/
def C2 : FVec Ideal S_ .f32 := Host.divf (constant S_ .f32 0x3F800000#32) (Host.log (constant S_ .f32 0x40000000#32))
def Ls : FVec Ideal S2x4x8192x1 .f32 := mulf (addf Z (Host.log N)) (broadcastInDim S2x4x8192x1 ![] bcast_S_S2x4x8192x1 C2)
def Dl : FVec Ideal S2x4x8192 .f32 := Host.reduceAdd (mulf X W) (constant S_ .f32 0x00000000#32) reducesTo_S2x4x8192x64_S2x4x8192_d3 h_S_
/-- The layouts the windows read: queries (scaled and not), keys, and a number per row (twice). -/
def Qm : FVec Ideal S2x4x8192x64 .f32 := mulf X (broadcastInDim S2x4x8192x64 ![] bcast_S_S2x4x8192x64 (mulf (constant S_ .f32 0x3E000000#32) C2))
def Qb : FVec Ideal S2x16x64x2048 .bf16 :=
  truncf .bf16 (shapeCast S2x16x64x2048 (transpose S2x16x64x4x512 [0, 2, 4, 1, 3] (shapeCast S2x4x16x512x64 X shapeCasts_S2x4x8192x64_S2x4x16x512x64) transposes_S2x4x16x512x64_S2x16x64x4x512_0_2_4_1_3) shapeCasts_S2x16x64x4x512_S2x16x64x2048) bitsLt_bf16_f32
def Kb : FVec Ideal S2x16x64x512 .bf16 :=
  truncf .bf16 (transpose S2x16x64x512 [0, 1, 3, 2] (shapeCast S2x16x512x64 Y shapeCasts_S2x8192x64_S2x16x512x64) transposes_S2x16x512x64_S2x16x64x512_0_1_3_2) bitsLt_bf16_f32
def Rz : FVec Ideal S2x16x1x2048 .f32 :=
  shapeCast S2x16x1x2048 (transpose S2x16x4x512 [0, 2, 1, 3] (shapeCast S2x4x16x512 Z shapeCasts_S2x4x8192x1_S2x4x16x512) transposes_S2x4x16x512_S2x16x4x512_0_2_1_3) shapeCasts_S2x16x4x512_S2x16x1x2048
def Rm : FVec Ideal S2x16x1x2048 .f32 :=
  shapeCast S2x16x1x2048 (transpose S2x16x4x512 [0, 2, 1, 3] (shapeCast S2x4x16x512 M shapeCasts_S2x4x8192_S2x4x16x512) transposes_S2x4x16x512_S2x16x4x512_0_2_1_3) shapeCasts_S2x16x4x512_S2x16x1x2048

theorem Sc_at (h : Fin 2) (g : Fin 4) (i j : Fin 8192) : Sc X Y (ix4 h g i j) = (∑ d : Fin 64, X (ix4 h g i d) * Y (ix3 h j d)) * ((8⁻¹ : ℝ) : EReal) := by
  rw [← eighth]
  pointwise [Sc]
theorem Mx_at (h : Fin 2) (g : Fin 4) (i : Fin 8192) : Mx A (ix3 h g i) = Finset.univ.fold max ⊥ fun j : Fin 8192 => A (ix4 h g i j) :=
  Cert.FaRefIdeal.Val.reduce_at A (constant S_ .f32 0xFF800000#32) reducesTo_S2x4x8192x8192_S2x4x8192_d3 h_S_ ⊥ bot32 h g i
theorem Col_at (h : Fin 2) (g : Fin 4) (i : Fin 8192) (z : Fin 1) : Col M (ix4 h g i z) = M (ix3 h g i) := by
  pointwise [Col]
theorem Ex_at (h : Fin 2) (g : Fin 4) (i j : Fin 8192) : Ex A Z (ix4 h g i j) = Ideal.exp (A (ix4 h g i j) - Z (ix4 h g i 0)) := by
  pointwise [Ex]
theorem Rs_at (h : Fin 2) (g : Fin 4) (i : Fin 8192) : Rs A (ix3 h g i) = ∑ j : Fin 8192, A (ix4 h g i j) := by
  pointwise [Rs]
theorem Wt_at (h : Fin 2) (g : Fin 4) (i j : Fin 8192) : Wt A Z (ix4 h g i j) = Ideal.div (A (ix4 h g i j)) (Z (ix4 h g i 0)) := by
  pointwise [Wt]
theorem Ov_at (h : Fin 2) (g : Fin 4) (i : Fin 8192) (d : Fin 64) : Ov Y A (ix4 h g i d) = ∑ j : Fin 8192, A (ix4 h g i j) * Y (ix3 h j d) := by
  pointwise [Ov]
theorem C2_at (y : S_.Idx) : C2 y = (((Real.log 2)⁻¹ : ℝ) : EReal) := by
  have e : C2 y = Ideal.div 1 (Ideal.log (Ideal.ofBits .f32 0x40000000#32)) := by
    pointwise [C2]
  rw [e, two, Ideal.log_coe, if_neg (by norm_num), ← EReal.coe_one, div_real _ _ (Real.log_pos (by norm_num)).ne', one_div]
theorem Ls_at (h : Fin 2) (g : Fin 4) (i : Fin 8192) (z : Fin 1) :
    Ls Z N (ix4 h g i z) = (Z (ix4 h g i 0) + Ideal.log (N (ix4 h g i 0))) * (((Real.log 2)⁻¹ : ℝ) : EReal) := by
  obtain rfl : z = 0 := Subsingleton.elim _ _
  rw [← C2_at ix0]
  generalize hC : C2 = C
  unfold Ls
  rw [hC]
  pointwise
theorem Dl_at (h : Fin 2) (g : Fin 4) (i : Fin 8192) : Dl X W (ix3 h g i) = ∑ d : Fin 64, X (ix4 h g i d) * W (ix4 h g i d) := by
  pointwise [Dl]
theorem Qm_at (h : Fin 2) (g : Fin 4) (i : Fin 8192) (d : Fin 64) : Qm X (ix4 h g i d) = X (ix4 h g i d) * (((8⁻¹ : ℝ) : EReal) * (((Real.log 2)⁻¹ : ℝ) : EReal)) := by
  rw [← C2_at ix0, ← eighth]
  generalize hC : C2 = C
  unfold Qm
  rw [hC]
  pointwise
theorem Qb_at (h : Fin 2) (b : Fin 16) (d : Fin 64) (r : Fin 2048) : Qb X (ix4 h b d r) = X (ix4 h (grp r) (row b (low r)) d) := by
  unfold row grp low
  pointwise [Qb]
theorem Kb_at (h : Fin 2) (b : Fin 16) (d : Fin 64) (s : Fin 512) : Kb Y (ix4 h b d s) = Y (ix3 h (row b s) d) := by
  unfold row
  pointwise [Kb]
theorem Rz_at (h : Fin 2) (b : Fin 16) (z : Fin 1) (r : Fin 2048) : Rz Z (ix4 h b z r) = Z (ix4 h (grp r) (row b (low r)) 0) := by
  unfold row grp low
  pointwise [Rz]
theorem Rm_at (h : Fin 2) (b : Fin 16) (z : Fin 1) (r : Fin 2048) : Rm M (ix4 h b z r) = M (ix3 h (grp r) (row b (low r))) := by
  unfold row grp low
  pointwise [Rm]

end steps

/-! ## The windows' arrays -/

variable (m : (ℓ : Loc nD τ sig) → Buf (Elt Ideal) ℓ) (ρ : Dev nD → PrngReg)

abbrev A0 (c : Dev nD) : FVec Ideal SQ .f32 := m ((c : Thread nD τ).loc main_arg0)
abbrev A1 (c : Dev nD) : FVec Ideal SK .f32 := m ((c : Thread nD τ).loc main_arg1)
abbrev A2 (c : Dev nD) : FVec Ideal SK .f32 := m ((c : Thread nD τ).loc main_arg2)
abbrev A3 (c : Dev nD) : FVec Ideal SQ .f32 := m ((c : Thread nD τ).loc main_arg3)

section whole

variable (X : FVec Ideal SQ .f32) (Y V : FVec Ideal SK .f32) (O : FVec Ideal SQ .f32)

/-- The rows' maxima and sums, their logarithms of sums, and their `do · output`. -/
def mc := Col (Mx (Sc X Y))
def pe := Ex (Sc X Y) (mc X Y)
def sm := Col (Rs (pe X Y))
def le := Ls (mc X Y) (sm X Y)
def de := Dl O (Ov V (Wt (pe X Y) (sm X Y)))

end whole

/-! ## At finite arguments -/

section real

variable (q o : SQ.Idx → ℝ) (k v : SK.Idx → ℝ)

theorem Sc_real (h : Fin 2) (g : Fin 4) (i j : Fin 8192) : Sc (up q) (up k) (ix4 h g i j) = ((S (at4 q) (at3 k) h g i j : ℝ) : EReal) := by
  unfold S
  rw [Sc_at]
  simp only [up_apply, ← EReal.coe_mul, sum_real]
  rfl

theorem mc_real (h : Fin 2) (g : Fin 4) (i : Fin 8192) (z : Fin 1) : mc (up q) (up k) (ix4 h g i z) = ((tp q k h g i : ℝ) : EReal) := by
  unfold mc
  rw [Col_at, Mx_at]
  simp only [Sc_real]
  rw [fold_max]
  rfl

theorem pe_real (h : Fin 2) (g : Fin 4) (i j : Fin 8192) : pe (up q) (up k) (ix4 h g i j) = ((E (at4 q) (at3 k) (tp q k) h g i j : ℝ) : EReal) := by
  unfold pe E
  rw [Ex_at, Sc_real, mc_real, ← EReal.coe_sub, Ideal.exp_coe]

theorem sm_real (h : Fin 2) (g : Fin 4) (i : Fin 8192) (z : Fin 1) : sm (up q) (up k) (ix4 h g i z) = ((L (at4 q) (at3 k) (tp q k) h g i : ℝ) : EReal) := by
  unfold sm
  rw [Col_at, Rs_at]
  simp only [pe_real, sum_real]
  rfl

theorem le_real (h : Fin 2) (g : Fin 4) (i : Fin 8192) (z : Fin 1) :
    le (up q) (up k) (ix4 h g i z) = (((tp q k h g i + Real.log (L (at4 q) (at3 k) (tp q k) h g i)) * (Real.log 2)⁻¹ : ℝ) : EReal) := by
  unfold le
  rw [Ls_at, mc_real, sm_real, Ideal.log_coe, if_neg (not_le.2 (L_pos _ _ _ h g i)), ← EReal.coe_add, ← EReal.coe_mul]

theorem de_real (h : Fin 2) (g : Fin 4) (i : Fin 8192) :
    de (up q) (up k) (up v) (up o) (ix3 h g i) = ((D (at4 q) (at4 o) (at3 k) (at3 v) (tp q k) h g i : ℝ) : EReal) := by
  unfold de D
  rw [Dl_at]
  simp only [Ov_at, Wt_at, pe_real, sm_real]
  simp only [div_real _ _ (L_ne (at4 q) (at3 k) (tp q k) h g i), up_apply, ← EReal.coe_mul, sum_real]
  rfl

end real

/-! ## The windows' blocks -/

theorem V0 (c : Dev nD) : V m c main_v29 = Qb (Qm (A0 m c)) := by
  entry_read
  rfl
theorem V1 (c : Dev nD) : V m c main_v32 = Kb (A1 m c) := by
  entry_read
  rfl
theorem V2 (c : Dev nD) : V m c main_v35 = Kb (A2 m c) := by
  entry_read
  rfl
theorem V3 (c : Dev nD) : V m c main_v39 = Qb (A3 m c) := by
  entry_read
  rfl
theorem V4 (c : Dev nD) : V m c main_v42 = Rz (le (A0 m c) (A1 m c)) := by
  entry_read
  rfl
theorem V5 (c : Dev nD) : V m c main_v45 = Rm (de (A0 m c) (A1 m c) (A2 m c) (A3 m c)) := by
  entry_read
  rfl

/-- Where the windows stand at a grid point. -/
theorem idx : ∀ t : Fin cfg0.N, win0_0.index t = ![t.val / 16, t.val % 16, 0, 0] ∧ win0_1.index t = ![t.val / 16, 0, 0, 0]
    ∧ win0_2.index t = ![t.val / 16, 0, 0, 0] ∧ win0_3.index t = ![t.val / 16, t.val % 16, 0, 0]
    ∧ win0_4.index t = ![t.val / 16, t.val % 16, 0, 0] ∧ win0_5.index t = ![t.val / 16, t.val % 16, 0, 0]
    ∧ win0_6.index t = ![t.val / 16, t.val % 16, 0, 0] ∧ win0_7.index t = ![t.val / 16, 0, 0, 0]
    ∧ win0_8.index t = ![t.val / 16, 0, 0, 0] :=
  (by decide +kernel : ∀ t : Fin grid0.N, _)

/-- A grid point's head and block. -/
def hd (t : Fin cfg0.N) : Fin 2 := ⟨t.val / 16, by have h : t.val < 32 := t.isLt; omega⟩
def bk (t : Fin cfg0.N) : Fin 16 := ⟨t.val % 16, by omega⟩

theorem rd0 (X : FVec Ideal S2x16x64x2048 .bf16) (t : Fin cfg0.N) (d : Fin 64) (r : Fin 2048) :
    ((cfg0.win 0).blk t).view.read (Elt Ideal) X (ix4 0 0 d r) = X (ix4 (hd t) (bk t) d r) := by
  unfold hd bk
  blk_ext [idx t]
theorem blk0 (c : Dev nD) (t : Fin cfg0.N) (d : Fin 64) (r : Fin 2048) : iblk m c 0 t (ix4 0 0 d r) = V m c main_v29 (ix4 (hd t) (bk t) d r) :=
  rd0 (V m c main_v29) t d r
theorem rd1 (X : FVec Ideal S2x16x64x512 .bf16) (t : Fin cfg0.N) (a : Fin 16) (d : Fin 64) (s : Fin 512) :
    ((cfg0.win 1).blk t).view.read (Elt Ideal) X (ix4 0 a d s) = X (ix4 (hd t) a d s) := by
  unfold hd
  blk_ext [idx t]
theorem blk1 (c : Dev nD) (t : Fin cfg0.N) (a : Fin 16) (d : Fin 64) (s : Fin 512) : iblk m c 1 t (ix4 0 a d s) = V m c main_v32 (ix4 (hd t) a d s) :=
  rd1 (V m c main_v32) t a d s
theorem rd2 (X : FVec Ideal S2x16x64x512 .bf16) (t : Fin cfg0.N) (a : Fin 16) (d : Fin 64) (s : Fin 512) :
    ((cfg0.win 2).blk t).view.read (Elt Ideal) X (ix4 0 a d s) = X (ix4 (hd t) a d s) := by
  unfold hd
  blk_ext [idx t]
theorem blk2 (c : Dev nD) (t : Fin cfg0.N) (a : Fin 16) (d : Fin 64) (s : Fin 512) : iblk m c 2 t (ix4 0 a d s) = V m c main_v35 (ix4 (hd t) a d s) :=
  rd2 (V m c main_v35) t a d s
theorem rd3 (X : FVec Ideal S2x16x64x2048 .bf16) (t : Fin cfg0.N) (d : Fin 64) (r : Fin 2048) :
    ((cfg0.win 3).blk t).view.read (Elt Ideal) X (ix4 0 0 d r) = X (ix4 (hd t) (bk t) d r) := by
  unfold hd bk
  blk_ext [idx t]
theorem blk3 (c : Dev nD) (t : Fin cfg0.N) (d : Fin 64) (r : Fin 2048) : iblk m c 3 t (ix4 0 0 d r) = V m c main_v39 (ix4 (hd t) (bk t) d r) :=
  rd3 (V m c main_v39) t d r
theorem rd4 (X : FVec Ideal S2x16x1x2048 .f32) (t : Fin cfg0.N) (r : Fin 2048) :
    ((cfg0.win 4).blk t).view.read (Elt Ideal) X (ix4 0 0 0 r) = X (ix4 (hd t) (bk t) 0 r) := by
  unfold hd bk
  blk_ext [idx t]
theorem blk4 (c : Dev nD) (t : Fin cfg0.N) (r : Fin 2048) : iblk m c 4 t (ix4 0 0 0 r) = V m c main_v42 (ix4 (hd t) (bk t) 0 r) :=
  rd4 (V m c main_v42) t r
theorem rd5 (X : FVec Ideal S2x16x1x2048 .f32) (t : Fin cfg0.N) (r : Fin 2048) :
    ((cfg0.win 5).blk t).view.read (Elt Ideal) X (ix4 0 0 0 r) = X (ix4 (hd t) (bk t) 0 r) := by
  unfold hd bk
  blk_ext [idx t]
theorem blk5 (c : Dev nD) (t : Fin cfg0.N) (r : Fin 2048) : iblk m c 5 t (ix4 0 0 0 r) = V m c main_v45 (ix4 (hd t) (bk t) 0 r) :=
  rd5 (V m c main_v45) t r

end Cert.FaIdeal.Val

end
-- ==== Proof.Val.FaKer.lean ====
/-
  The attention gradient (`Fa`), the kernel's three results: each point's blocks at finite arguments, the sums over a
  head's points, and the claims.
-/
module

public import proofs.«01_k».proof.Proof.Val.FaHost
public import proofs.«01_k».proof.Proof.Gen.Pre_finite_fa

@[expose] public section

set_option maxRecDepth 16384

noncomputable section

open Idealize.ShloMosaic Idealize.ShloMosaic.TcCoe Idealize.SL.Sem

namespace Cert.FaIdeal.Val

open Cert.FaIdeal Cert.FaIdeal.Gen Cert.Val Cert.Val.Fa

/-! ## Sums over blocks -/

/-- A sum over the rows is the sum over the blocks of the sums over their rows. -/
theorem sum_rows (f : Fin 8192 → ℝ) : ∑ j, f j = ∑ a : Fin 16, ∑ s : Fin 512, f (row a s) :=
  Fin.sum_univ_tiles 16 512 rfl f

/-- A sum over a block's columns is the sum over the heads of the sums over a block's rows. -/
theorem sum_cols (f : Fin 4 → Fin 512 → ℝ) : ∑ r : Fin 2048, f (grp r) (low r) = ∑ g, ∑ s, f g s := by
  refine (Fin.sum_univ_tiles 4 512 rfl fun r => f (grp r) (low r)).trans ?_
  refine Finset.sum_congr rfl fun g _ => Finset.sum_congr rfl fun s _ => ?_
  refine congrArg₂ f (Fin.ext ?_) (Fin.ext ?_)
  · show (g.val * 512 + s.val) / 512 = g.val
    omega
  · show (g.val * 512 + s.val) % 512 = s.val
    omega

variable (m : (ℓ : Loc nD τ sig) → Buf (Elt Ideal) ℓ) (ρ : Dev nD → PrngReg) (c : Dev nD)

section real

variable (q o : SQ.Idx → ℝ) (k v : SK.Idx → ℝ)

/-- Device `c`'s arguments are the real arrays. -/
def Args : Prop := A0 m c = (up q : FVec Ideal SQ .f32) ∧ A1 m c = (up k : FVec Ideal SK .f32) ∧ A2 m c = (up v : FVec Ideal SK .f32) ∧ A3 m c = (up o : FVec Ideal SQ .f32)

variable (H : Args m c q o k v) (t : Fin cfg0.N)
include H

theorem b0 (d : Fin 64) (r : Fin 2048) :
    iblk m c 0 t (ix4 0 0 d r) = ((at4 q (hd t) (grp r) (row (bk t) (low r)) d * (8⁻¹ * (Real.log 2)⁻¹) : ℝ) : EReal) := by
  rw [blk0, V0, Qb_at, Qm_at, H.1, up_apply, ← EReal.coe_mul, ← EReal.coe_mul]
  rfl
theorem b1 (a : Fin 16) (d : Fin 64) (s : Fin 512) : iblk m c 1 t (ix4 0 a d s) = ((at3 k (hd t) (row a s) d : ℝ) : EReal) := by
  rw [blk1, V1, Kb_at, H.2.1, up_apply]
  rfl
theorem b2 (a : Fin 16) (d : Fin 64) (s : Fin 512) : iblk m c 2 t (ix4 0 a d s) = ((at3 v (hd t) (row a s) d : ℝ) : EReal) := by
  rw [blk2, V2, Kb_at, H.2.2.1, up_apply]
  rfl
theorem b3 (d : Fin 64) (r : Fin 2048) :
    iblk m c 3 t (ix4 0 0 d r) = ((at4 o (hd t) (grp r) (row (bk t) (low r)) d : ℝ) : EReal) := by
  rw [blk3, V3, Qb_at, H.2.2.2, up_apply]
  rfl
theorem b4 (r : Fin 2048) : iblk m c 4 t (ix4 0 0 0 r) = (((tp q k (hd t) (grp r) (row (bk t) (low r))
    + Real.log (L (at4 q) (at3 k) (tp q k) (hd t) (grp r) (row (bk t) (low r)))) * (Real.log 2)⁻¹ : ℝ) : EReal) := by
  rw [blk4, V4, Rz_at, H.1, H.2.1, le_real]
theorem b5 (r : Fin 2048) : iblk m c 5 t (ix4 0 0 0 r) = ((D (at4 q) (at4 o) (at3 k) (at3 v) (tp q k) (hd t) (grp r) (row (bk t) (low r)) : ℝ) : EReal) := by
  rw [blk5, V5, Rm_at, H.1, H.2.1, H.2.2.1, H.2.2.2, de_real]

/-- A point's weights and scores' gradients. -/
theorem pw_real (a : Fin 16) (s : Fin 512) (r : Fin 2048) :
    pw (iblk m c 0 t) (iblk m c 1 t) (iblk m c 4 t) a s r = ((Pw q k (hd t) (grp r) (row (bk t) (low r)) (row a s) : ℝ) : EReal) := by
  unfold pw
  simp only [b0 m c q o k v H, b1 m c q o k v H, b4 m c q o k v H]
  simp only [← EReal.coe_mul, sum_real]
  rw [← EReal.coe_sub, Ideal.exp2_coe, weight]

theorem sw_real (a : Fin 16) (s : Fin 512) (r : Fin 2048) :
    sw (iblk m c 0 t) (iblk m c 3 t) (iblk m c 1 t) (iblk m c 2 t) (iblk m c 4 t) (iblk m c 5 t) a s r
      = ((dSw q o k v (hd t) (grp r) (row (bk t) (low r)) (row a s) : ℝ) : EReal) := by
  unfold sw
  rw [pw_real m c q o k v H]
  simp only [b2 m c q o k v H, b3 m c q o k v H, b5 m c q o k v H]
  simp only [← EReal.coe_mul, sum_real]
  rw [← EReal.coe_sub, ← EReal.coe_mul]
  unfold dSw dS DP
  refine congrArg _ (congrArg _ (congrArg (· - _) (Finset.sum_congr rfl fun d _ => mul_comm _ _)))

theorem addK_real (a : Fin 16) (d : Fin 64) (s : Fin 512) :
    addK (iblk m c 0 t) (iblk m c 1 t) (iblk m c 2 t) (iblk m c 3 t) (iblk m c 4 t) (iblk m c 5 t) a d s
      = ((∑ g, ∑ i : Fin 512, dSw q o k v (hd t) g (row (bk t) i) (row a s) * at4 q (hd t) g (row (bk t) i) d * (8⁻¹ * (Real.log 2)⁻¹) : ℝ) : EReal) := by
  unfold addK
  simp only [b0 m c q o k v H, sw_real m c q o k v H, ← EReal.coe_mul, sum_real]
  refine congrArg _ (Eq.trans (Finset.sum_congr rfl fun r _ => ?_) (sum_cols fun g i => dSw q o k v (hd t) g (row (bk t) i) (row a s) * at4 q (hd t) g (row (bk t) i) d * (8⁻¹ * (Real.log 2)⁻¹)))
  ring

theorem addV_real (a : Fin 16) (d : Fin 64) (s : Fin 512) :
    addV (iblk m c 0 t) (iblk m c 1 t) (iblk m c 3 t) (iblk m c 4 t) a d s
      = ((∑ g, ∑ i : Fin 512, Pw q k (hd t) g (row (bk t) i) (row a s) * at4 o (hd t) g (row (bk t) i) d : ℝ) : EReal) := by
  unfold addV
  simp only [b3 m c q o k v H, pw_real m c q o k v H, ← EReal.coe_mul, sum_real]
  refine congrArg _ (Eq.trans (Finset.sum_congr rfl fun r _ => mul_comm _ _) (sum_cols fun g i => Pw q k (hd t) g (row (bk t) i) (row a s) * at4 o (hd t) g (row (bk t) i) d))

theorem putQ_real (d : Fin 64) (r : Fin 2048) :
    putQ (iblk m c 0 t) (iblk m c 1 t) (iblk m c 2 t) (iblk m c 3 t) (iblk m c 4 t) (iblk m c 5 t) d r
      = ((∑ s, dSw q o k v (hd t) (grp r) (row (bk t) (low r)) s * at3 k (hd t) s d : ℝ) : EReal) := by
  unfold putQ
  simp only [b1 m c q o k v H, sw_real m c q o k v H, ← EReal.coe_mul, sum_real]
  refine congrArg _ (Eq.trans (Finset.sum_congr rfl fun a _ => Finset.sum_congr rfl fun s _ => mul_comm _ _) (sum_rows fun s => dSw q o k v (hd t) (grp r) (row (bk t) (low r)) s * at3 k (hd t) s d).symm)

end real

/-! ## The final arrays -/

/-- What a point leaves in the three blocks. -/
theorem at6 (t : Fin cfg0.N) (z z' : Fin 1) (d : Fin 64) (r : Fin 2048) : (outsAt0 m c t.val t.isLt).1 (ix4 z z' d r) = putQ (iblk m c 0 t) (iblk m c 1 t) (iblk m c 2 t) (iblk m c 3 t) (iblk m c 4 t) (iblk m c 5 t) d r := by
  by_cases h : t.val % 16 = 0
  · rw [outsAt0_A m c t h]
    dsimp only
    rw [outA6]
  · rw [outsAt0_B m c t h]
    dsimp only
    rw [outB6]
theorem at7_A (t : Fin cfg0.N) (h : t.val % 16 = 0) (z : Fin 1) (a : Fin 16) (d : Fin 64) (s : Fin 512) :
    (outsAt0 m c t.val t.isLt).2.1 (ix4 z a d s) = 0 + addK (iblk m c 0 t) (iblk m c 1 t) (iblk m c 2 t) (iblk m c 3 t) (iblk m c 4 t) (iblk m c 5 t) a d s := by
  rw [outsAt0_A m c t h, zero_add]
  dsimp only
  rw [outA7]
theorem at7_B (t : Fin cfg0.N) (h : ¬ t.val % 16 = 0) (z : Fin 1) (a : Fin 16) (d : Fin 64) (s : Fin 512) :
    (outsAt0 m c t.val t.isLt).2.1 (ix4 z a d s)
      = (outsAt0 m c (t.val - 1) (Nat.lt_of_le_of_lt (Nat.sub_le _ _) t.isLt)).2.1 (ix4 z a d s) + addK (iblk m c 0 t) (iblk m c 1 t) (iblk m c 2 t) (iblk m c 3 t) (iblk m c 4 t) (iblk m c 5 t) a d s := by
  rw [outsAt0_B m c t h]
  dsimp only
  rw [outB7]
theorem at8_A (t : Fin cfg0.N) (h : t.val % 16 = 0) (z : Fin 1) (a : Fin 16) (d : Fin 64) (s : Fin 512) :
    (outsAt0 m c t.val t.isLt).2.2 (ix4 z a d s) = 0 + addV (iblk m c 0 t) (iblk m c 1 t) (iblk m c 3 t) (iblk m c 4 t) a d s := by
  rw [outsAt0_A m c t h, zero_add]
  dsimp only
  rw [outA8]
theorem at8_B (t : Fin cfg0.N) (h : ¬ t.val % 16 = 0) (z : Fin 1) (a : Fin 16) (d : Fin 64) (s : Fin 512) :
    (outsAt0 m c t.val t.isLt).2.2 (ix4 z a d s)
      = (outsAt0 m c (t.val - 1) (Nat.lt_of_le_of_lt (Nat.sub_le _ _) t.isLt)).2.2 (ix4 z a d s) + addV (iblk m c 0 t) (iblk m c 1 t) (iblk m c 3 t) (iblk m c 4 t) a d s := by
  rw [outsAt0_B m c t h]
  dsimp only
  rw [outB8]

/-- The sums over a head's sixteen points. -/
theorem sum7 (t : Fin cfg0.N) (h : t.val % 16 = 15) (y : S1x16x64x512.Idx) : (outsAt0 m c t.val t.isLt).2.1 y
    = 0 + ∑ b : Fin 16, (fun (t : Fin cfg0.N) (y : S1x16x64x512.Idx) => addK (iblk m c 0 t) (iblk m c 1 t) (iblk m c 2 t) (iblk m c 3 t) (iblk m c 4 t) (iblk m c 5 t) (y 1) (y 2) (y 3)) ⟨16 * (t.val / 16) + b.val, Pipeline.run_point_lt_of_flush t h b⟩ y :=
  Pipeline.eq_sum_fin_of_reset_step_apply_of_flush (fun n h => (outsAt0 m c n h).2.1) 16 (fun _ => 0)
    (fun (t : Fin cfg0.N) (y : S1x16x64x512.Idx) => addK (iblk m c 0 t) (iblk m c 1 t) (iblk m c 2 t) (iblk m c 3 t) (iblk m c 4 t) (iblk m c 5 t) (y 1) (y 2) (y 3))
    (fun t h y => by idx_vars y; exact at7_A m c t h _ _ _ _) (fun t h y => by idx_vars y; exact at7_B m c t h _ _ _ _) t h y
theorem sum8 (t : Fin cfg0.N) (h : t.val % 16 = 15) (y : S1x16x64x512.Idx) : (outsAt0 m c t.val t.isLt).2.2 y
    = 0 + ∑ b : Fin 16, (fun (t : Fin cfg0.N) (y : S1x16x64x512.Idx) => addV (iblk m c 0 t) (iblk m c 1 t) (iblk m c 3 t) (iblk m c 4 t) (y 1) (y 2) (y 3)) ⟨16 * (t.val / 16) + b.val, Pipeline.run_point_lt_of_flush t h b⟩ y :=
  Pipeline.eq_sum_fin_of_reset_step_apply_of_flush (fun n h => (outsAt0 m c n h).2.2) 16 (fun _ => 0)
    (fun (t : Fin cfg0.N) (y : S1x16x64x512.Idx) => addV (iblk m c 0 t) (iblk m c 1 t) (iblk m c 3 t) (iblk m c 4 t) (y 1) (y 2) (y 3))
    (fun t h y => by idx_vars y; exact at8_A m c t h _ _ _ _) (fun t h y => by idx_vars y; exact at8_B m c t h _ _ _ _) t h y

section finals

variable (q o : SQ.Idx → ℝ) (k v : SK.Idx → ℝ) (H : Args m c q o k v)
include H

theorem final6 : (dats m 0 c).arrAt 6 (cfgs 0).N = resQ q o k v := by
  refine (dats m 0 c).arrAt_eq_of_covers 6 _ (by decide +kernel) fun t _ y => ?_
  blk_simp
  rw [after0_6]
  have he : (win0_6.blk t).view.emb y = ix4 (hd t) (bk t) (y 2) (y 3) := by
    unfold hd bk
    blk_ext [idx t]
  rw [he]
  refine Eq.trans ?_ ((at6 m c t (y 0) (y 1) (y 2) (y 3)).trans (putQ_real m c q o k v H t (y 2) (y 3)))
  refine congrArg _ (funext fun a => ?_)
  fin_cases a <;> rfl

omit H in
/-- The point of a head's run. -/
theorem hd_run (t : Fin cfg0.N) (b : Fin 16) (h : 16 * (t.val / 16) + b.val < cfg0.N) : hd ⟨16 * (t.val / 16) + b.val, h⟩ = hd t :=
  Fin.ext (show (16 * (t.val / 16) + b.val) / 16 = t.val / 16 by omega)
omit H in
theorem bk_run (t : Fin cfg0.N) (b : Fin 16) (h : 16 * (t.val / 16) + b.val < cfg0.N) : bk ⟨16 * (t.val / 16) + b.val, h⟩ = b :=
  Fin.ext (show (16 * (t.val / 16) + b.val) % 16 = b.val by omega)

omit H in
theorem blocks_sum (f : Fin 4 → Fin 8192 → ℝ) : ∑ b : Fin 16, ∑ g, ∑ i : Fin 512, f g (row b i) = ∑ g, ∑ i, f g i := by
  rw [Finset.sum_comm]
  exact Finset.sum_congr rfl fun g _ => (sum_rows (f g)).symm

theorem final7 : (dats m 0 c).arrAt 7 (cfgs 0).N = resK q o k v := by
  refine (dats m 0 c).arrAt_eq_of_covers 7 _ (by decide +kernel) fun t hf y => ?_
  blk_simp
  rw [after0_7]
  have he : (win0_7.blk t).view.emb y = ix4 (hd t) (y 1) (y 2) (y 3) := by
    unfold hd
    blk_ext [idx t]
  rw [he]
  refine (sum7 m c t ((flush0_7 t).mp hf) y).trans ?_
  refine (zero_add _).trans ((Finset.sum_congr rfl fun b _ => (addK_real m c q o k v H _ (y 1) (y 2) (y 3)).trans ?_).trans
    ((sum_real Finset.univ fun b : Fin 16 => ∑ g, ∑ i : Fin 512, dSw q o k v (hd t) g (row b i) (row (y 1) (y 3)) * at4 q (hd t) g (row b i) (y 2) * (8⁻¹ * (Real.log 2)⁻¹)).trans ?_))
  · rw [hd_run, bk_run]
  · refine congrArg _ ((blocks_sum fun g i => dSw q o k v (hd t) g i (row (y 1) (y 3)) * at4 q (hd t) g i (y 2) * (8⁻¹ * (Real.log 2)⁻¹)).trans ?_)
    show _ = (∑ g, ∑ i, dSw q o k v (hd t) g i (row (y 1) (y 3)) * at4 q (hd t) g i (y 2)) * (8⁻¹ * (Real.log 2)⁻¹)
    simp only [Finset.sum_mul]

theorem final8 : (dats m 0 c).arrAt 8 (cfgs 0).N = resV q o k := by
  refine (dats m 0 c).arrAt_eq_of_covers 8 _ (by decide +kernel) fun t hf y => ?_
  blk_simp
  rw [after0_8]
  have he : (win0_8.blk t).view.emb y = ix4 (hd t) (y 1) (y 2) (y 3) := by
    unfold hd
    blk_ext [idx t]
  rw [he]
  refine (sum8 m c t ((flush0_8 t).mp hf) y).trans ?_
  refine (zero_add _).trans ((Finset.sum_congr rfl fun b _ => (addV_real m c q o k v H _ (y 1) (y 2) (y 3)).trans ?_).trans
    ((sum_real Finset.univ fun b : Fin 16 => ∑ g, ∑ i : Fin 512, Pw q k (hd t) g (row b i) (row (y 1) (y 3)) * at4 o (hd t) g (row b i) (y 2)).trans ?_))
  · rw [hd_run, bk_run]
  · exact congrArg _ (blocks_sum fun g i => Pw q k (hd t) g i (row (y 1) (y 3)) * at4 o (hd t) g i (y 2))

end finals

/-- The precondition read: the arguments are real arrays. -/
theorem args_of_pre (h : Cert.Pre_FaIdeal_finite_fa m) (c : Dev nD) : ∃ (q o : SQ.Idx → ℝ) (k v : SK.Idx → ℝ), Args m c q o k v := by
  obtain ⟨h0, h1, h2, h3⟩ := h c
  choose q hq using fun i => real_of_cmp _ _ ofBits_inf_f32 (congrFun h0 i)
  choose k hk using fun i => real_of_cmp _ _ ofBits_inf_f32 (congrFun h1 i)
  choose v hv using fun i => real_of_cmp _ _ ofBits_inf_f32 (congrFun h2 i)
  choose o ho using fun i => real_of_cmp _ _ ofBits_inf_f32 (congrFun h3 i)
  exact ⟨q, o, k, v, funext hq, funext hk, funext hv, funext ho⟩

end Cert.FaIdeal.Val

/-! ## The claims -/

namespace Cert.Val.Fa

/-- The reference's frame: its run read at the arguments; it has no semaphore. -/
theorem frame_ref : Cert.quiescent_FaRefIdeal := fun m ρ _ =>
  (θ_run Cert.FaRefIdeal.defs _ _).mono (fun r h => ⟨fun c => (h c).2,
      Idealize.ShloMosaic.sem_eq_zero_of_no_sems (by decide) r.2⟩) (Cert.FaRefIdeal.Val.run m ρ)

/-- Both programs end with the three gradients of the same finite arguments. -/
theorem algebraic : Cert.algebraic_FaIdeal_FaRefIdeal_pre_finite_fa := by
  intro m ρ m' ρ' hpre hagree
  choose q o k v H using Cert.FaIdeal.Val.args_of_pre m hpre
  refine ⟨fun c => resQ (q c) (o c) (k c) (v c), fun c => resK (q c) (o c) (k c) (v c), fun c => resV (q c) (o c) (k c), ?_, ?_⟩
  · exact (θ_run Cert.FaIdeal.defs _ _).mono (fun _ h c => ⟨(h c).1.trans (Cert.FaIdeal.Val.final6 m c _ _ _ _ (H c)),
      (h c).2.1.trans (Cert.FaIdeal.Val.final7 m c _ _ _ _ (H c)), (h c).2.2.1.trans (Cert.FaIdeal.Val.final8 m c _ _ _ _ (H c)), (h c).2.2.2⟩) (Cert.FaIdeal.Value.run_blocks m ρ)
  · refine (θ_run Cert.FaRefIdeal.defs _ _).mono (fun _ h c => ?_) (Cert.FaRefIdeal.Val.run m' ρ')
    have e := (h c).1 (q c) (o c) (k c) (v c) ((hagree c).1.trans (H c).1) ((hagree c).2.1.trans (H c).2.1) ((hagree c).2.2.1.trans (H c).2.2.1) ((hagree c).2.2.2.trans (H c).2.2.2)
    exact ⟨e.1, e.2.1, e.2.2, (h c).2⟩

end Cert.Val.Fa

end
-- ==== Proof.Val.Post.lean ====
/-
  The gradient through the attention's output norm, laid out by query blocks, with the row sums and the scale's
  gradient (`Post`): the kernel's three result arrays after the run, and the reference's, as the same functions of the
  three arguments, all arguments being finite.
-/
module

public import proofs.«01_k».proof.Defs
public import proofs.«01_k».proof.Proof.Gen.PostIdeal.Value
public import proofs.«01_k».proof.Proof.Gen.PostRefIdeal.Run
public import proofs.«01_k».proof.Proof.Gen.Pre_finite_post
public import proofs.«01_k».proof.Proof.Val.Rms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.Post

open Cert.Val.Rms

abbrev SM : Shape := ⟨2, ![8192, 1024]⟩
abbrev SO : Shape := ⟨2, ![8192, 512]⟩
abbrev SW : Shape := ⟨2, ![1, 512]⟩
abbrev SQ : Shape := ⟨4, ![2, 16, 64, 2048]⟩
abbrev SE : Shape := ⟨4, ![2, 16, 1, 2048]⟩

/-- The width of a row as the programs write it. -/
abbrev nn : EReal := Ideal.ofBits .f32 0x44000000#32

variable (e : FVec Ideal SM .f32) (o : FVec Ideal SO .f32) (w : FVec Ideal SW .f32)

/-- Column `k` of the gradient's right half. -/
def rt (k : Fin 512) : Fin 1024 := ⟨512 + k.val, by omega⟩
/-- The row and the column a block layout's index stands for. -/
def tok (b : Fin 16) (r : Fin 2048) : Fin 8192 := ⟨b.val * 512 + r.val % 512, by omega⟩
def col (a : Fin 2) (d : Fin 64) (r : Fin 2048) : Fin 512 := ⟨a.val * 256 + r.val / 512 * 64 + d.val, by omega⟩

/-- The gradient of the attention's output. -/
def dO (i : Fin 8192) (k : Fin 512) : EReal := back nn ee (fun q => o (ix2 i q)) (fun q => e (ix2 i (rt q)) * w (ix2 0 q)) k

/-- It by query blocks, its row sums against the output, and the gradient of the scale. -/
def dQ : FVec Ideal SQ .bf16 := fun j => dO e o w (tok (j 1) (j 3)) (col (j 0) (j 2) (j 3))
def dE : FVec Ideal SE .f32 := fun j => ∑ d : Fin 64, dO e o w (tok (j 1) (j 3)) (col (j 0) d (j 3)) * o (ix2 (tok (j 1) (j 3)) (col (j 0) d (j 3)))
def dW : FVec Ideal SW .f32 := fun j => ∑ i : Fin 8192, e (ix2 i (rt (j 1))) * (o (ix2 i (j 1)) * rs nn ee (fun q => o (ix2 i q)))

/-- The arguments are finite. -/
structure Fin3 : Prop where
  h0 : ∀ i, ∃ r : ℝ, e i = (r : EReal)
  h1 : ∀ i, ∃ r : ℝ, o i = (r : EReal)
  h2 : ∀ i, ∃ r : ℝ, w i = (r : EReal)

end Cert.Val.Post

/-! ## The reference -/

namespace Cert.PostRefIdeal.Val

open Cert.PostRefIdeal Cert.PostRefIdeal.Gen Cert.PostRefIdeal.Value Cert.Val Cert.Val.Post Cert.Val.Rms

variable (m : (ℓ : Loc nD τ sig) → Buf (Elt Ideal) ℓ)

abbrev A0 (c : Dev nD) : FVec Ideal SM .f32 := m ((c.tc : Thread nD τ).loc main_arg0)
abbrev A1 (c : Dev nD) : FVec Ideal SO .f32 := m ((c.tc : Thread nD τ).loc main_arg1)
abbrev A2 (c : Dev nD) : FVec Ideal SW .f32 := m ((c.tc : Thread nD τ).loc main_arg2)

/-- The gradient of a normed row times its scale, at the arguments. -/
abbrev G (c : Dev nD) (i : Fin 8192) (k : Fin 512) : EReal := A0 m c (ix2 i (rt k)) * A2 m c (ix2 0 k)
abbrev O (c : Dev nD) (i : Fin 8192) (k : Fin 512) : EReal := A1 m c (ix2 i k)
/-- The gradient of the output as the derivative writes it. -/
def raw (c : Dev nD) (i : Fin 8192) (k : Fin 512) : EReal :=
  G m c i k * rs nn ee (O m c i) + O m c i k * (∑ _ : Fin 1, thru nn ee hh (O m c i) (G m c i)) + (∑ _ : Fin 1, thru nn ee hh (O m c i) (G m c i)) * O m c i k

theorem raw_eq (c : Dev nD) (h : Fin3 (A0 m c) (A1 m c) (A2 m c)) (i : Fin 8192) (k : Fin 512) : raw m c i k = dO (A0 m c) (A1 m c) (A2 m c) i k := by
  unfold raw
  simp only [Fin.sum_univ_one]
  exact back_of nn 512 (by norm_num) w512 (O m c i) (G m c i) (fun k => h.h1 _) (fun k => mul_real (h.h0 _) (h.h2 _)) _

theorem r38 (c : Dev nD) (a : Fin 2) (b : Fin 16) (d : Fin 64) (r : Fin 2048) : res_main_v38 m c (ix4 a b d r) = raw m c (tok b r) (col a d r) := by
  unfold res_main_v38 raw G O thru rs ms tok col rt
  pointwise
theorem r44 (c : Dev nD) (a : Fin 2) (b : Fin 16) (r : Fin 2048) : (res_main_v44 m c (ix4 a b 0 r) : EReal)
    = ∑ d : Fin 64, raw m c (tok b r) (col a d r) * A1 m c (ix2 (tok b r) (col a d r)) := by
  unfold res_main_v44 raw G O thru rs ms tok col rt
  pointwise

theorem res38 (c : Dev nD) (h : Fin3 (A0 m c) (A1 m c) (A2 m c)) : res_main_v38 m c = dQ (A0 m c) (A1 m c) (A2 m c) := by
  funext j
  idx_vars j
  rw [r38, raw_eq m c h]
  rfl
theorem res44 (c : Dev nD) (h : Fin3 (A0 m c) (A1 m c) (A2 m c)) : res_main_v44 m c = dE (A0 m c) (A1 m c) (A2 m c) := by
  funext j
  idx_vars j
  obtain rfl : j2 = 0 := Subsingleton.elim _ _
  refine (r44 m c j0 j1 j3).trans ?_
  simp only [raw_eq m c h]
  rfl

/-- The reference's run, its results read index by index. -/
theorem run (ρ : Dev nD → PrngReg) (h : ∀ c, Fin3 (A0 m c) (A1 m c) (A2 m c)) :
    θ_run defs (onTc (τ := τ) (main (F := Ideal))) ⟨m, fun _ => 0, ρ⟩ fun r => ∀ c : Dev nD,
      r.2.mem ((c.tc : Thread nD τ).loc main_v38) = dQ (A0 m c) (A1 m c) (A2 m c)
      ∧ r.2.mem ((c.tc : Thread nD τ).loc main_v44) = dE (A0 m c) (A1 m c) (A2 m c)
      ∧ r.2.mem ((c.tc : Thread nD τ).loc main_v18) = dW (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h' c => ⟨(h' c).1.trans (res38 m c (h c)), (h' c).2.1.trans (res44 m c (h c)), (h' c).2.2.1.trans ?_, (h' c).2.2.2⟩) (Value.run m ρ)
  clear h'
  funext j
  idx_vars j
  unfold dW rs ms rt
  pointwise
  exact Finset.sum_congr rfl fun i _ => mul_comm _ _

end Cert.PostRefIdeal.Val

/-! ## The kernel -/

namespace Cert.PostIdeal.Val

open Cert.PostIdeal Cert.PostIdeal.Gen Cert.Val Cert.Val.Post Cert.Val.Rms

section pay

variable (x0 : Vec Ideal S512x512 .f32) (x1 : Vec Ideal S512x512 .f32) (x2 : Vec Ideal S1x512 .f32)
  (e : FVec Ideal SM .f32) (o : FVec Ideal SO .f32) (w : FVec Ideal SW .f32) (i : Fin 512) (r : Fin 8192)

/-- The row's blocks are rows of the arrays. -/
structure Row : Prop where
  h0 : ∀ k, x0 (ix2 i k) = e (ix2 r (rt k))
  h1 : ∀ k, x1 (ix2 i k) = o (ix2 r k)
  h2 : ∀ k, x2 (ix2 0 k) = w (ix2 0 k)

variable (H : Row x0 x1 x2 e o w i r)
include H

theorem pay3 : k0_pay3 (F := Ideal) x1 (ix2 i 0) = rs nn ee (fun q => o (ix2 r q)) := by
  unfold rs ms
  simp only [← H.h1]
  pointwise [k0_pay3]
theorem pay4 (k : Fin 512) : k0_pay4 (F := Ideal) x1 (ix2 i k) = o (ix2 r k) * rs nn ee (fun q => o (ix2 r q)) := by
  rw [← pay3 x0 x1 x2 e o w i r H, ← H.h1]
  pointwise [k0_pay4]
omit H in
theorem pay5' (k : Fin 512) : k0_pay5 (F := Ideal) x1 x0 x2 (ix2 i k) = k0_pay3 (F := Ideal) x1 (ix2 i 0) * (x0 (ix2 i k) * x2 (ix2 0 k)
    - k0_pay4 (F := Ideal) x1 (ix2 i k) * Ideal.div (∑ q : Fin 512, x0 (ix2 i q) * x2 (ix2 0 q) * k0_pay4 (F := Ideal) x1 (ix2 i q)) nn) := by
  pointwise [k0_pay5]
/-- A row of the output's gradient. -/
theorem pay5 (k : Fin 512) : k0_pay5 (F := Ideal) x1 x0 x2 (ix2 i k) = dO e o w r k := by
  rw [pay5']
  simp only [pay3 x0 x1 x2 e o w i r H, pay4 x0 x1 x2 e o w i r H, H.h0, H.h2]
  rfl

end pay

/-! The two stores of a block and of its row sums: the columns' heads side by side, over the tokens. -/
theorem pay6 (x0 x1 : Vec Ideal S512x512 .f32) (x2 : Vec Ideal S1x512 .f32) (d : Fin 64) (r : Fin 2048) :
    k0_pay6 (F := Ideal) x1 x0 x2 (ix4 0 0 d r) = k0_pay5 (F := Ideal) x1 x0 x2 (ix2 ⟨r.val % 512, by omega⟩ (col 0 d r)) := by
  unfold col
  pointwise [k0_pay6]
  split_ifs <;> exact congrArg₂ (fun a b => k0_pay5 (F := Ideal) x1 x0 x2 (ix2 a b)) (Fin.ext (by dsimp only; omega)) (Fin.ext (by dsimp only; omega))
theorem pay8 (x0 x1 : Vec Ideal S512x512 .f32) (x2 : Vec Ideal S1x512 .f32) (d : Fin 64) (r : Fin 2048) :
    k0_pay8 (F := Ideal) (k0_pay7 (F := Ideal) x1 x0 x2) (ix4 0 0 d r) = k0_pay5 (F := Ideal) x1 x0 x2 (ix2 ⟨r.val % 512, by omega⟩ (col 1 d r)) := by
  unfold col
  pointwise [k0_pay8, k0_pay7]
  split_ifs <;> exact congrArg₂ (fun a b => k0_pay5 (F := Ideal) x1 x0 x2 (ix2 a b)) (Fin.ext (by dsimp only; omega)) (Fin.ext (by dsimp only; omega))
theorem pay10 (x1 v : FVec Ideal S512x512 .f32) (r : Fin 2048) :
    k0_pay10 (F := Ideal) x1 v (ix4 0 0 0 r) = ∑ d : Fin 64, v (ix2 ⟨r.val % 512, by omega⟩ (col 0 d r)) * x1 (ix2 ⟨r.val % 512, by omega⟩ (col 0 d r)) := by
  unfold col
  pointwise [k0_pay10, k0_pay9]
  refine Finset.sum_congr rfl fun d _ => ?_
  split_ifs <;> exact congrArg₂ (fun a b : Fin 512 => (v (ix2 a b) * x1 (ix2 a b) : EReal)) (Fin.ext (by dsimp only; omega)) (Fin.ext (by dsimp only; omega))
theorem pay11 (x1 v : FVec Ideal S512x512 .f32) (r : Fin 2048) :
    k0_pay11 (F := Ideal) x1 v (ix4 0 0 0 r) = ∑ d : Fin 64, v (ix2 ⟨r.val % 512, by omega⟩ (col 1 d r)) * x1 (ix2 ⟨r.val % 512, by omega⟩ (col 1 d r)) := by
  unfold col
  pointwise [k0_pay11, k0_pay9]
  refine Finset.sum_congr rfl fun d _ => ?_
  split_ifs <;> exact congrArg₂ (fun a b : Fin 512 => (v (ix2 a b) * x1 (ix2 a b) : EReal)) (Fin.ext (by dsimp only; omega)) (Fin.ext (by dsimp only; omega))
theorem pay1 (x0 x4 : FVec Ideal S512x512 .f32) (z : FVec Ideal S1x512 .f32) (k : Fin 512) :
    k0_pay1 (F := Ideal) (k0_pay12 z) (k0_pay13 x4 x0) (ix2 0 k) = z (ix2 0 k) + ∑ i : Fin 512, x0 (ix2 i k) * x4 (ix2 i k) := by
  pointwise [k0_pay1, k0_pay12, k0_pay13]
theorem pay2 (k : Fin 512) : k0_pay2 (F := Ideal) (ix2 0 k) = 0 := by
  pointwise [k0_pay2]

variable (m : (ℓ : Loc nD τ sig) → Buf (Elt Ideal) ℓ)

abbrev A0 (c : Dev nD) : FVec Ideal SM .f32 := m ((c.tc : Thread nD τ).loc main_arg0)
abbrev A1 (c : Dev nD) : FVec Ideal SO .f32 := m ((c.tc : Thread nD τ).loc main_arg1)
abbrev A2 (c : Dev nD) : FVec Ideal SW .f32 := m ((c.tc : Thread nD τ).loc main_arg2)

/-- The row of the array that is row `i` of block `t`. -/
def row (t : Fin cfg0.N) (i : Fin 512) : Fin 8192 := ⟨t.val * 512 + i.val, by have := t.isLt; have : cfg0.N = 16 := N_0; omega⟩

theorem idx : ∀ t : Fin cfg0.N, win0_0.index t = ![t.val, 1] ∧ win0_1.index t = ![t.val, 0] ∧ win0_2.index t = ![0, 0]
    ∧ win0_3.index t = ![0, t.val, 0, 0] ∧ win0_4.index t = ![0, t.val, 0, 0] ∧ win0_5.index t = ![0, 0] :=
  (by decide +kernel : ∀ t : Fin grid0.N, _)

/-! Each window's block, read off the array it is a block of. -/
theorem rd0 (X : FVec Ideal SM .f32) (t : Fin cfg0.N) (i : Fin 512) (k : Fin 512) : ((cfg0.win 0).blk t).view.read (Elt Ideal) X (ix2 i k) = X (ix2 (row t i) (rt k)) := by blk_ext [idx t, row, rt]
theorem rd1 (X : FVec Ideal SO .f32) (t : Fin cfg0.N) (i : Fin 512) (k : Fin 512) : ((cfg0.win 1).blk t).view.read (Elt Ideal) X (ix2 i k) = X (ix2 (row t i) k) := by blk_ext [idx t, row]
theorem rd2 (X : FVec Ideal SW .f32) (t : Fin cfg0.N) (k : Fin 512) : ((cfg0.win 2).blk t).view.read (Elt Ideal) X (ix2 0 k) = X (ix2 0 k) := by blk_ext [idx t]

theorem rows (c : Dev nD) (t : Fin cfg0.N) (i : Fin 512) :
    Row (iblk m c 0 t) (iblk m c 1 t) (iblk m c 2 t) (A0 m c) (A1 m c) (A2 m c) i (row t i) where
  h0 k := rd0 _ t i k
  h1 k := rd1 _ t i k
  h2 k := rd2 _ t k

/-- What the stored blocks hold at an index. -/
def out3 (c : Dev nD) (t : Fin cfg0.N) (a : Fin 2) (d : Fin 64) (r : Fin 2048) : EReal :=
  dO (A0 m c) (A1 m c) (A2 m c) (row t ⟨r.val % 512, by omega⟩) (col a d r)
def out4 (c : Dev nD) (t : Fin cfg0.N) (a : Fin 2) (r : Fin 2048) : EReal :=
  ∑ d : Fin 64, out3 m c t a d r * A1 m c (ix2 (row t ⟨r.val % 512, by omega⟩) (col a d r))

theorem at6 (c : Dev nD) (t : Fin cfg0.N) (d : Fin 64) (r : Fin 2048) : k0_pay6 (F := Ideal) (iblk m c 1 t) (iblk m c 0 t) (iblk m c 2 t) (ix4 0 0 d r) = out3 m c t 0 d r :=
  (pay6 _ _ _ d r).trans (pay5 _ _ _ _ _ _ _ _ (rows m c t _) _)
theorem at8 (c : Dev nD) (t : Fin cfg0.N) (d : Fin 64) (r : Fin 2048) : k0_pay8 (F := Ideal) (k0_pay7 (iblk m c 1 t) (iblk m c 0 t) (iblk m c 2 t)) (ix4 0 0 d r) = out3 m c t 1 d r :=
  (pay8 _ _ _ d r).trans (pay5 _ _ _ _ _ _ _ _ (rows m c t _) _)
theorem at10 (c : Dev nD) (t : Fin cfg0.N) (r : Fin 2048) : k0_pay10 (F := Ideal) (iblk m c 1 t) (k0_pay5 (iblk m c 1 t) (iblk m c 0 t) (iblk m c 2 t)) (ix4 0 0 0 r) = out4 m c t 0 r :=
  (pay10 _ _ r).trans (Finset.sum_congr rfl fun _ _ => congrArg₂ (fun u v : EReal => u * v) (pay5 _ _ _ _ _ _ _ _ (rows m c t _) _) ((rows m c t _).h1 _))
theorem at11 (c : Dev nD) (t : Fin cfg0.N) (r : Fin 2048) : k0_pay11 (F := Ideal) (iblk m c 1 t) (k0_pay5 (iblk m c 1 t) (iblk m c 0 t) (iblk m c 2 t)) (ix4 0 0 0 r) = out4 m c t 1 r :=
  (pay11 _ _ r).trans (Finset.sum_congr rfl fun _ _ => congrArg₂ (fun u v : EReal => u * v) (pay5 _ _ _ _ _ _ _ _ (rows m c t _) _) ((rows m c t _).h1 _))

/-- Two stores side by side hold what their indices say. -/
theorem canon3 (c : Dev nD) (t : Fin cfg0.N) (j : S2x1x64x2048.Idx) : View.canon (Val := Elt Ideal) (s := S2x1x64x2048) (e := .bf16)
      [⟨Rect.unit ![1, 0, 0, 0] ![1, 1, 64, 2048] inb_S2x1x64x2048_S1x1x64x2048_1_0_0_0, k0_pay8 (F := Ideal) (k0_pay7 (iblk m c 1 t) (iblk m c 0 t) (iblk m c 2 t))⟩,
        ⟨Rect.unit ![0, 0, 0, 0] ![1, 1, 64, 2048] inb_S2x1x64x2048_S1x1x64x2048_0_0_0_0, k0_pay6 (F := Ideal) (iblk m c 1 t) (iblk m c 0 t) (iblk m c 2 t)⟩] j
      = out3 m c t (j 0) (j 2) (j 3) := by
  canon_tiles x h
  all_goals
    idx_vars x
    obtain rfl : x0 = 0 := Subsingleton.elim _ _
    obtain rfl : x1 = 0 := Subsingleton.elim _ _
  · rw [at8, (Fin.ext h0 : j 0 = (1 : Fin 2)), (Fin.ext h2 : j 2 = x2), (Fin.ext h3 : j 3 = x3)]
  · rw [at6, (Fin.ext h0 : j 0 = (0 : Fin 2)), (Fin.ext h2 : j 2 = x2), (Fin.ext h3 : j 3 = x3)]
theorem canon4 (c : Dev nD) (t : Fin cfg0.N) (j : S2x1x1x2048.Idx) : View.canon (Val := Elt Ideal) (s := S2x1x1x2048) (e := .f32)
      [⟨Rect.unit ![1, 0, 0, 0] ![1, 1, 1, 2048] inb_S2x1x1x2048_S1x1x1x2048_1_0_0_0, k0_pay11 (F := Ideal) (iblk m c 1 t) (k0_pay5 (iblk m c 1 t) (iblk m c 0 t) (iblk m c 2 t))⟩,
        ⟨Rect.unit ![0, 0, 0, 0] ![1, 1, 1, 2048] inb_S2x1x1x2048_S1x1x1x2048_0_0_0_0, k0_pay10 (F := Ideal) (iblk m c 1 t) (k0_pay5 (iblk m c 1 t) (iblk m c 0 t) (iblk m c 2 t))⟩] j
      = out4 m c t (j 0) (j 3) := by
  canon_tiles x h
  all_goals
    idx_vars x
    obtain rfl : x0 = 0 := Subsingleton.elim _ _
    obtain rfl : x1 = 0 := Subsingleton.elim _ _
    obtain rfl : x2 = 0 := Subsingleton.elim _ _
  · rw [at11, (Fin.ext h0 : j 0 = (1 : Fin 2)), (Fin.ext h3 : j 3 = x3)]
  · rw [at10, (Fin.ext h0 : j 0 = (0 : Fin 2)), (Fin.ext h3 : j 3 = x3)]

theorem outs3 (c : Dev nD) (t : Fin cfg0.N) (j : S2x1x64x2048.Idx) : (outsAt0 m c t.val t.isLt).1 j = out3 m c t (j 0) (j 2) (j 3) := by
  by_cases h : t.val % 16 = 0
  · rw [outsAt0_A m c t h]
    frame_out
    exact canon3 m c t j
  · rw [outsAt0_B m c t h]
    frame_out
    exact canon3 m c t j
theorem outs4 (c : Dev nD) (t : Fin cfg0.N) (j : S2x1x1x2048.Idx) : (outsAt0 m c t.val t.isLt).2.1 j = out4 m c t (j 0) (j 3) := by
  by_cases h : t.val % 16 = 0
  · rw [outsAt0_A m c t h]
    frame_out
    exact canon4 m c t j
  · rw [outsAt0_B m c t h]
    frame_out
    exact canon4 m c t j

/-- A block's part of the scale's gradient. -/
def part (c : Dev nD) (t : Fin cfg0.N) (y : S1x512.Idx) : EReal :=
  ∑ i : Fin 512, A0 m c (ix2 (row t i) (rt (y 1))) * (A1 m c (ix2 (row t i) (y 1)) * rs nn ee (fun q => A1 m c (ix2 (row t i) q)))
theorem w_add (c : Dev nD) (t : Fin cfg0.N) (z : FVec Ideal S1x512 .f32) (y : S1x512.Idx) :
    k0_pay1 (F := Ideal) (k0_pay12 z) (k0_pay13 (k0_pay4 (iblk m c 1 t)) (iblk m c 0 t)) y = z y + part m c t y := by
  idx_vars y
  obtain rfl : y0 = 0 := Subsingleton.elim _ _
  refine (pay1 _ _ z y1).trans (congrArg (fun u : EReal => z (ix2 0 y1) + u) (Finset.sum_congr rfl fun i _ => ?_))
  exact congrArg₂ (fun u v : EReal => u * v) ((rows m c t i).h0 y1) (pay4 _ _ _ _ _ _ i (row t i) (rows m c t i) y1)
theorem w_zero (y : S1x512.Idx) : k0_pay2 (F := Ideal) y = 0 := by
  idx_vars y
  obtain rfl : y0 = 0 := Subsingleton.elim _ _
  exact pay2 y1

theorem outs5A (c : Dev nD) (t : Fin cfg0.N) (h : t.val % 16 = 0) (j : S1x512.Idx) : (outsAt0 m c t.val t.isLt).2.2 j = 0 + part m c t j := by
  rw [outsAt0_A m c t h]
  frame_out
  rw [w_add, w_zero]
theorem outs5B (c : Dev nD) (t : Fin cfg0.N) (h : ¬ t.val % 16 = 0) (j : S1x512.Idx) : (outsAt0 m c t.val t.isLt).2.2 j
    = (outsAt0 m c (t.val - 1) (lt_of_le_of_lt (Nat.sub_le _ _) t.isLt)).2.2 j + part m c t j := by
  rw [outsAt0_B m c t h]
  frame_out
  rw [w_add]

/-- The blocks' parts together. -/
theorem parts (c : Dev nD) (t : Fin cfg0.N) (h : ∀ s : Fin 16, 16 * (t.val / 16) + s.val < cfg0.N) (y : S1x512.Idx) :
    ∑ s : Fin 16, part m c ⟨16 * (t.val / 16) + s.val, h s⟩ y = dW (A0 m c) (A1 m c) y := by
  have ht : t.val < 16 := lt_of_lt_of_eq t.isLt N_0
  unfold part dW
  refine Fin.sum_mul_add_congr fun s k hl => ?_
  have e : row ⟨16 * (t.val / 16) + s.val, h s⟩ k = ⟨s.val * 512 + k.val, hl⟩ := Fin.ext (by unfold row; dsimp only; omega)
  rw [e]

theorem final3 (c : Dev nD) : (dats m 0 c).arrAt 3 cfg0.N = dQ (A0 m c) (A1 m c) (A2 m c) := by
  refine (dats m 0 c).arrAt_eq_of_covers 3 _ (by decide +kernel) fun t hf y => ?_
  blk_simp
  rw [after0_3, outs3]
  idx_vars y
  refine Eq.trans (b := dQ (A0 m c) (A1 m c) (A2 m c) (ix4 y0 ⟨t.val, lt_of_lt_of_eq t.isLt N_0⟩ y2 y3)) rfl (congrArg (dQ (A0 m c) (A1 m c) (A2 m c)) ?_)
  blk_ext [idx t]
theorem final4 (c : Dev nD) : (dats m 0 c).arrAt 4 cfg0.N = dE (A0 m c) (A1 m c) (A2 m c) := by
  refine (dats m 0 c).arrAt_eq_of_covers 4 _ (by decide +kernel) fun t hf y => ?_
  blk_simp
  rw [after0_4, outs4]
  idx_vars y
  refine Eq.trans (b := dE (A0 m c) (A1 m c) (A2 m c) (ix4 y0 ⟨t.val, lt_of_lt_of_eq t.isLt N_0⟩ y2 y3)) rfl (congrArg (dE (A0 m c) (A1 m c) (A2 m c)) ?_)
  blk_ext [idx t]
theorem final5 (c : Dev nD) : (dats m 0 c).arrAt 5 cfg0.N = dW (A0 m c) (A1 m c) := by
  refine (dats m 0 c).arrAt_eq_of_covers 5 _ (by decide +kernel) fun t hf y => ?_
  blk_simp
  rw [after0_5, Pipeline.eq_sum_fin_of_reset_step_apply_of_flush (fun n h => (outsAt0 m c n h).2.2) 16 (fun _ => 0)
    (part m c) (outs5A m c) (outs5B m c) t ((flush0_5 t).mp hf) _, zero_add]
  refine (parts m c t _ _).trans ?_
  idx_vars y
  blk_ext [idx t]

end Cert.PostIdeal.Val

/-! ## The claims -/

namespace Cert.Val.Post

open Cert.PostIdeal.Val (A0 A1 A2)

/-- The reference's frame: its run read at the arguments; it has no semaphore. -/
theorem frame_ref : Cert.quiescent_PostRefIdeal := fun m ρ _ =>
  (θ_run Cert.PostRefIdeal.defs _ _).mono (fun r h => ⟨fun c => (h c).2.2.2,
      Idealize.ShloMosaic.sem_eq_zero_of_no_sems (by decide) r.2⟩) (Cert.PostRefIdeal.Value.run m ρ)

/-- Both programs end with the same gradients of the same arguments. -/
theorem algebraic : Cert.algebraic_PostIdeal_PostRefIdeal_pre_finite_post := by
  intro m ρ m' ρ' hpre hagree
  refine ⟨fun c => dQ (A0 m c) (A1 m c) (A2 m c), fun c => dE (A0 m c) (A1 m c) (A2 m c), fun c => dW (A0 m c) (A1 m c), ?_, ?_⟩
  · exact (θ_run Cert.PostIdeal.defs _ _).mono (fun _ h c => ⟨(h c).1.trans (Cert.PostIdeal.Val.final3 m c),
      (h c).2.1.trans (Cert.PostIdeal.Val.final4 m c), (h c).2.2.1.trans (Cert.PostIdeal.Val.final5 m c), (h c).2.2.2⟩) (Cert.PostIdeal.Value.run_blocks m ρ)
  · have hfin (c : Dev Cert.PostIdeal.nD) : Fin3 (A0 m c) (A1 m c) (A2 m c) := by
      obtain ⟨h0, h1, h2⟩ := hpre c
      exact ⟨fun i => real_of_cmp _ _ ofBits_inf_f32 (congrFun h0 i), fun i => real_of_cmp _ _ ofBits_inf_f32 (congrFun h1 i), fun i => real_of_cmp _ _ ofBits_inf_f32 (congrFun h2 i)⟩
    have e (c : Dev Cert.PostIdeal.nD) : Cert.PostRefIdeal.Val.A0 m' c = A0 m c ∧ Cert.PostRefIdeal.Val.A1 m' c = A1 m c ∧ Cert.PostRefIdeal.Val.A2 m' c = A2 m c := hagree c
    have hfin' (c : Dev Cert.PostIdeal.nD) : Fin3 (Cert.PostRefIdeal.Val.A0 m' c) (Cert.PostRefIdeal.Val.A1 m' c) (Cert.PostRefIdeal.Val.A2 m' c) := by
      obtain ⟨e0, e1, e2⟩ := e c
      rw [e0, e1, e2]
      exact hfin c
    refine (θ_run Cert.PostRefIdeal.defs _ _).mono (fun _ h c => ⟨(h c).1.trans ?_, (h c).2.1.trans ?_, (h c).2.2.1.trans ?_, (h c).2.2.2⟩) (Cert.PostRefIdeal.Val.run m' ρ' hfin')
    all_goals
      obtain ⟨e0, e1, e2⟩ := e c
      simp only [e0, e1, e2]

end Cert.Val.Post

end
-- ==== Proof.Val.Hg.lean ====
/-
  The gradient through the gated norm of the linear attention's output (`Hg`): the kernel's three result arrays after
  the run, and the reference's, as the same functions of the four arguments, all arguments being finite.
-/
module

public import proofs.«01_k».proof.Defs
public import proofs.«01_k».proof.Proof.Gen.HgIdeal.Value
public import proofs.«01_k».proof.Proof.Gen.HgRefIdeal.Run
public import proofs.«01_k».proof.Proof.Gen.Pre_finite_hg
public import proofs.«01_k».proof.Proof.Val.Rms
public import proofs.«01_k».proof.Proof.Val.Act
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.Hg

open Cert.Val.Rms Cert.Val.Act

abbrev SM : Shape := ⟨2, ![8192, 1024]⟩
abbrev SO : Shape := ⟨2, ![8192, 512]⟩
abbrev SU : Shape := ⟨2, ![8192, 3328]⟩
abbrev SV : Shape := ⟨2, ![1, 128]⟩
abbrev SW : Shape := ⟨2, ![1, 512]⟩

/-- A head's width as the programs write it. -/
abbrev nn : EReal := Ideal.ofBits .f32 0x43000000#32

section row

variable (f g d v : Fin 128 → EReal) (k : Fin 128)

/-- One head of one row: the gradient of the normed output times its scale, … -/
def dn : EReal := d k * (g k * sgm (g k))
/-- … of the output, … -/
def hO : EReal := back nn ee f (fun q => dn g d q * v q) k
/-- … of the gate's input, … -/
def hU : EReal := d k * (f k * rs nn ee f * v k) * (sgm (g k) * (1 + g k * (1 - sgm (g k))))
/-- … and the row's part of the scale's. -/
def hW : EReal := dn g d k * (f k * rs nn ee f)

end row

/-- Column `k` of the head that column `b` lies in, the column within the head, and the columns of the wider arrays. -/
def hb (b : Fin 512) (k : Fin 128) : Fin 512 := ⟨b.val / 128 * 128 + k.val, by omega⟩
def hk (b : Fin 512) : Fin 128 := ⟨b.val % 128, by omega⟩
def cd (b : Fin 512) : Fin 1024 := ⟨b.val, by omega⟩
def cu (b : Fin 512) : Fin 3328 := ⟨2048 + b.val, by omega⟩

theorem hb_hk (b : Fin 512) : hb b (hk b) = b := Fin.ext (by unfold hb hk; dsimp only; omega)

variable (e : FVec Ideal SM .f32) (o : FVec Ideal SO .f32) (u : FVec Ideal SU .f32) (w : FVec Ideal SV .f32)

/-- A head's row of each argument. -/
def oR (i : Fin 8192) (b : Fin 512) (k : Fin 128) : EReal := o (ix2 i (hb b k))
def uR (i : Fin 8192) (b : Fin 512) (k : Fin 128) : EReal := u (ix2 i (cu (hb b k)))
def eR (i : Fin 8192) (b : Fin 512) (k : Fin 128) : EReal := e (ix2 i (cd (hb b k)))
def wR (k : Fin 128) : EReal := w (ix2 0 k)

def dO : FVec Ideal SO .f32 := fun j => hO (oR o (j 0) (j 1)) (uR u (j 0) (j 1)) (eR e (j 0) (j 1)) (wR w) (hk (j 1))
def dU : FVec Ideal SO .bf16 := fun j => hU (oR o (j 0) (j 1)) (uR u (j 0) (j 1)) (eR e (j 0) (j 1)) (wR w) (hk (j 1))
def dW : FVec Ideal SW .f32 := fun j => ∑ i : Fin 8192, hW (oR o i (j 1)) (uR u i (j 1)) (eR e i (j 1)) (hk (j 1))

/-- The arguments are finite. -/
structure Fin4 : Prop where
  h0 : ∀ i, ∃ r : ℝ, e i = (r : EReal)
  h1 : ∀ i, ∃ r : ℝ, o i = (r : EReal)
  h2 : ∀ i, ∃ r : ℝ, u i = (r : EReal)
  h3 : ∀ i, ∃ r : ℝ, w i = (r : EReal)

theorem sgm_real {g : EReal} (h : ∃ r : ℝ, g = (r : EReal)) : ∃ r : ℝ, sgm g = (r : EReal) := by
  obtain ⟨r, rfl⟩ := h
  refine ⟨1 / (1 + Real.exp (-r)), ?_⟩
  unfold sgm
  rw [← EReal.coe_neg, Ideal.exp_coe, ← EReal.coe_one, ← EReal.coe_add, div_real _ _ (by positivity)]

/-- The gate's derivative, factored. -/
theorem gate_eq (a d g : ℝ) : (a : EReal) * d * sgm g + g * (a * d) * (sgm g * (1 - sgm g)) = d * a * (sgm g * (1 + g * (1 - sgm g))) := by
  obtain ⟨s, hs⟩ := sgm_real ⟨g, rfl⟩
  rw [hs, ← EReal.coe_one]
  simp only [← EReal.coe_mul, ← EReal.coe_add, ← EReal.coe_sub]
  congr 1
  ring

end Cert.Val.Hg

/-! ## The reference -/

namespace Cert.HgRefIdeal.Val

open Cert.HgRefIdeal Cert.HgRefIdeal.Gen Cert.HgRefIdeal.Value Cert.Val Cert.Val.Hg Cert.Val.Rms Cert.Val.Act

variable (m : (ℓ : Loc nD τ sig) → Buf (Elt Ideal) ℓ)

abbrev A0 (c : Dev nD) : FVec Ideal SM .f32 := m ((c.tc : Thread nD τ).loc main_arg0)
abbrev A1 (c : Dev nD) : FVec Ideal SO .f32 := m ((c.tc : Thread nD τ).loc main_arg1)
abbrev A2 (c : Dev nD) : FVec Ideal SU .f32 := m ((c.tc : Thread nD τ).loc main_arg2)
abbrev A3 (c : Dev nD) : FVec Ideal SV .f32 := m ((c.tc : Thread nD τ).loc main_arg3)

/-- The gradient of a normed head times its scale, at the arguments. -/
abbrev G (c : Dev nD) (i : Fin 8192) (b : Fin 512) (k : Fin 128) : EReal := dn (uR (A2 m c) i b) (eR (A0 m c) i b) k * wR (A3 m c) k

theorem r52 (c : Dev nD) (a : Fin 8192) (b : Fin 512) : (res_main_v52 m c (ix2 a b) : EReal) =
    G m c a b (hk b) * rs nn ee (oR (A1 m c) a b) + oR (A1 m c) a b (hk b) * (∑ _ : Fin 1, thru nn ee hh (oR (A1 m c) a b) (G m c a b))
      + (∑ _ : Fin 1, thru nn ee hh (oR (A1 m c) a b) (G m c a b)) * oR (A1 m c) a b (hk b) := by
  unfold res_main_v52 G oR uR eR wR dn thru rs ms sgm
  simp only [hb_hk]
  unfold cu cd hk hb
  pointwise
theorem r53 (c : Dev nD) (a : Fin 8192) (b : Fin 512) : (res_main_v53 m c (ix2 a b) : EReal) =
    oR (A1 m c) a b (hk b) * rs nn ee (oR (A1 m c) a b) * wR (A3 m c) (hk b) * eR (A0 m c) a b (hk b) * sgm (uR (A2 m c) a b (hk b))
      + uR (A2 m c) a b (hk b) * (oR (A1 m c) a b (hk b) * rs nn ee (oR (A1 m c) a b) * wR (A3 m c) (hk b) * eR (A0 m c) a b (hk b))
        * (sgm (uR (A2 m c) a b (hk b)) * (1 - sgm (uR (A2 m c) a b (hk b)))) := by
  unfold res_main_v53 oR uR eR wR rs ms sgm
  rw [hb_hk]
  unfold cu cd hk hb
  pointwise

theorem res52 (c : Dev nD) (h : Fin4 (A0 m c) (A1 m c) (A2 m c) (A3 m c)) : res_main_v52 m c = dO (A0 m c) (A1 m c) (A2 m c) (A3 m c) := by
  funext j
  idx_vars j
  refine (r52 m c j0 j1).trans ?_
  simp only [Fin.sum_univ_one]
  exact back_of nn 128 (by norm_num) w128 (oR (A1 m c) j0 j1) (G m c j0 j1) (fun k => h.h1 _)
    (fun k => mul_real (mul_real (h.h0 _) (mul_real (h.h2 _) (sgm_real (h.h2 _)))) (h.h3 _)) _
theorem res53 (c : Dev nD) (h : Fin4 (A0 m c) (A1 m c) (A2 m c) (A3 m c)) : res_main_v53 m c = dU (A0 m c) (A1 m c) (A2 m c) (A3 m c) := by
  funext j
  idx_vars j
  refine (r53 m c j0 j1).trans ?_
  obtain ⟨a, ha⟩ : ∃ r : ℝ, oR (A1 m c) j0 j1 (hk j1) * rs nn ee (oR (A1 m c) j0 j1) * wR (A3 m c) (hk j1) = (r : EReal) :=
    mul_real (mul_real (h.h1 _) (rs_real nn 128 (by norm_num) w128 _ fun _ => h.h1 _)) (h.h3 _)
  obtain ⟨d, hd⟩ : ∃ r : ℝ, eR (A0 m c) j0 j1 (hk j1) = (r : EReal) := h.h0 _
  obtain ⟨g, hg⟩ : ∃ r : ℝ, uR (A2 m c) j0 j1 (hk j1) = (r : EReal) := h.h2 _
  show _ = hU (oR (A1 m c) j0 j1) (uR (A2 m c) j0 j1) (eR (A0 m c) j0 j1) (wR (A3 m c)) (hk j1)
  unfold hU
  rw [ha, hd, hg]
  exact gate_eq a d g

set_option maxHeartbeats 1000000 in
/-- The reference's run, its results read index by index. -/
theorem run (ρ : Dev nD → PrngReg) (h : ∀ c, Fin4 (A0 m c) (A1 m c) (A2 m c) (A3 m c)) :
    θ_run defs (onTc (τ := τ) (main (F := Ideal))) ⟨m, fun _ => 0, ρ⟩ fun r => ∀ c : Dev nD,
      r.2.mem ((c.tc : Thread nD τ).loc main_v52) = dO (A0 m c) (A1 m c) (A2 m c) (A3 m c)
      ∧ r.2.mem ((c.tc : Thread nD τ).loc main_v53) = dU (A0 m c) (A1 m c) (A2 m c) (A3 m c)
      ∧ r.2.mem ((c.tc : Thread nD τ).loc main_v54) = dW (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h' c => ⟨(h' c).1.trans (res52 m c (h c)), (h' c).2.1.trans (res53 m c (h c)), (h' c).2.2.1.trans ?_, (h' c).2.2.2⟩) (Value.run m ρ)
  clear h'
  funext j
  idx_vars j
  show _ = ∑ i : Fin 8192, hW (oR (A1 m c) i j1) (uR (A2 m c) i j1) (eR (A0 m c) i j1) (hk j1)
  unfold hW dn oR uR eR rs ms sgm
  simp only [hb_hk]
  unfold cu cd hb
  pointwise
  simp only [Fin.sum_univ_one]
  exact (Finset.sum_congr rfl fun i _ => mul_comm _ _ : (_ : EReal) = _)

end Cert.HgRefIdeal.Val

/-! ## The kernel -/

namespace Cert.HgIdeal.Val

open Cert.HgIdeal Cert.HgIdeal.Gen Cert.Val Cert.Val.Hg Cert.Val.Rms Cert.Val.Act

/-! Each head's stores, at an index of the block. -/
section pay

variable (xo xu xe : FVec Ideal S512x128 .f32) (xw z : FVec Ideal S1x128 .f32) (i : Fin 512) (k : Fin 128)

/-- A row of a block. -/
abbrev R (x : FVec Ideal S512x128 .f32) (i : Fin 512) (k : Fin 128) : EReal := x (ix2 i k)
abbrev Rw (x : FVec Ideal S1x128 .f32) (k : Fin 128) : EReal := x (ix2 0 k)

theorem o0 : k0_pay10 (F := Ideal) xw (k0_pay5 xo) (k0_pay6 xo) (k0_pay8 xu xe) (ix2 i k) = hO (R xo i) (R xu i) (R xe i) (Rw xw) k := by
  unfold hO dn back rs ms sgm
  pointwise [k0_pay10, k0_pay5, k0_pay6, k0_pay8, k0_pay7]
  simp only [zero_sub]
theorem o1 : k0_pay19 (F := Ideal) xw (k0_pay12 xo) (k0_pay13 xo) xu (k0_pay14 xu) k0_pay15 xe (ix2 i k) = hO (R xo i) (R xu i) (R xe i) (Rw xw) k := by
  unfold hO dn back rs ms sgm
  pointwise [k0_pay19, k0_pay12, k0_pay13, k0_pay17, k0_pay16, k0_pay14, k0_pay15]
  simp only [zero_sub]
theorem o2 : k0_pay27 (F := Ideal) xw xo (k0_pay21 xo) xu xe (ix2 i k) = hO (R xo i) (R xu i) (R xe i) (Rw xw) k := by
  unfold hO dn back rs ms sgm
  pointwise [k0_pay27, k0_pay21, k0_pay22, k0_pay23, k0_pay25, k0_pay24]
  simp only [zero_sub]
theorem o3 : k0_pay2 (F := Ideal) xw (k0_pay29 xo) (k0_pay30 xo) (k0_pay32 xu xe) (ix2 i k) = hO (R xo i) (R xu i) (R xe i) (Rw xw) k := by
  unfold hO dn back rs ms sgm
  pointwise [k0_pay2, k0_pay29, k0_pay30, k0_pay32, k0_pay31]
  simp only [zero_sub]

theorem u0 : k0_pay9 (F := Ideal) xw xo xu xe (ix2 i k) = hU (R xo i) (R xu i) (R xe i) (Rw xw) k := by
  unfold hU rs ms sgm
  pointwise [k0_pay9, k0_pay6, k0_pay5, k0_pay7]
  simp only [zero_sub]
theorem u1 : k0_pay18 (F := Ideal) xw (k0_pay13 xo) xu (k0_pay14 xu) k0_pay15 xe (ix2 i k) = hU (R xo i) (R xu i) (R xe i) (Rw xw) k := by
  unfold hU rs ms sgm
  pointwise [k0_pay18, k0_pay12, k0_pay13, k0_pay16, k0_pay14, k0_pay15]
  simp only [zero_sub]
theorem u2 : k0_pay26 (F := Ideal) xw xo (k0_pay21 xo) xu xe (ix2 i k) = hU (R xo i) (R xu i) (R xe i) (Rw xw) k := by
  unfold hU rs ms sgm
  pointwise [k0_pay26, k0_pay21, k0_pay22, k0_pay23, k0_pay24]
  simp only [zero_sub]
theorem u3 : k0_pay1 (F := Ideal) (k0_pay31 xu) (k0_pay33 xw xo xe) (k0_pay34 xu) (ix2 i k) = hU (R xo i) (R xu i) (R xe i) (Rw xw) k := by
  unfold hU rs ms sgm
  pointwise [k0_pay1, k0_pay29, k0_pay30, k0_pay31, k0_pay33, k0_pay34]
  simp only [zero_sub]

theorem w0 : k0_pay11 (F := Ideal) (k0_pay6 xo) (k0_pay8 xu xe) z (ix2 0 k) = z (ix2 0 k) + ∑ i : Fin 512, hW (R xo i) (R xu i) (R xe i) k := by
  unfold hW dn rs ms sgm
  pointwise [k0_pay11, k0_pay5, k0_pay6, k0_pay8, k0_pay7]
  simp only [zero_sub]
theorem w1 : k0_pay20 (F := Ideal) (k0_pay13 xo) xu (k0_pay14 xu) k0_pay15 xe z (ix2 0 k) = z (ix2 0 k) + ∑ i : Fin 512, hW (R xo i) (R xu i) (R xe i) k := by
  unfold hW dn rs ms sgm
  pointwise [k0_pay20, k0_pay12, k0_pay13, k0_pay17, k0_pay16, k0_pay14, k0_pay15]
  simp only [zero_sub]
theorem w2 : k0_pay28 (F := Ideal) (k0_pay23 xo (k0_pay21 xo)) (k0_pay25 xu xe) z (ix2 0 k) = z (ix2 0 k) + ∑ i : Fin 512, hW (R xo i) (R xu i) (R xe i) k := by
  unfold hW dn rs ms sgm
  pointwise [k0_pay28, k0_pay21, k0_pay22, k0_pay23, k0_pay25, k0_pay24]
  simp only [zero_sub]
theorem w3 : k0_pay3 (F := Ideal) (k0_pay30 xo) (k0_pay32 xu xe) z (ix2 0 k) = z (ix2 0 k) + ∑ i : Fin 512, hW (R xo i) (R xu i) (R xe i) k := by
  unfold hW dn rs ms sgm
  pointwise [k0_pay3, k0_pay29, k0_pay30, k0_pay32, k0_pay31]
  simp only [zero_sub]

end pay

/-! The four stores together. -/

/-- A head's row of a block. -/
def bR (X : FVec Ideal S512x512 .f32) (i : Fin 512) (b : Fin 512) (k : Fin 128) : EReal := X (ix2 i (hb b k))

/-- It is the row of the columns loaded. -/
theorem row_at (X : FVec Ideal S512x512 .f32) (a : ℕ) (ha : a % 128 = 0) (i b : Fin 512) (x : Fin 128) (hx : b.val = a + x.val) (h) :
    R (View.ld (Val := Elt Ideal) (S := S512x512) (e' := .f32) X (Rect.unit (s := S512x512) ![0, a] ![512, 128] h)) i = bR X i b := by
  funext k
  refine View.ld_unit_apply_of (Val := Elt Ideal) (e := .f32) X _ _ h (ix2 i k) (ix2 i (hb b k)) fun q => ?_
  match q with
  | ⟨0, _⟩ => exact (Nat.zero_add _).symm
  | ⟨1, _⟩ =>
    show b.val / 128 * 128 + k.val = a + k.val
    omega

theorem tile (F : (Fin 128 → EReal) → (Fin 128 → EReal) → (Fin 128 → EReal) → (Fin 128 → EReal) → Fin 128 → EReal) (xo xu xe : FVec Ideal S512x512 .f32) (v : Fin 128 → EReal)
    (a : ℕ) (ha : a % 128 = 0) (h h' h'') (i b : Fin 512) (x0 : Fin 512) (x1 : Fin 128) (h0 : i.val = x0.val) (h1 : b.val = a + x1.val) :
    F (R (View.ld (Val := Elt Ideal) (S := S512x512) (e' := .f32) xo (Rect.unit (s := S512x512) ![0, a] ![512, 128] h)) x0)
      (R (View.ld (Val := Elt Ideal) (S := S512x512) (e' := .f32) xu (Rect.unit (s := S512x512) ![0, a] ![512, 128] h')) x0)
      (R (View.ld (Val := Elt Ideal) (S := S512x512) (e' := .f32) xe (Rect.unit (s := S512x512) ![0, a] ![512, 128] h'')) x0) v x1
      = F (bR xo i b) (bR xu i b) (bR xe i b) v (hk b) := by
  obtain rfl : x0 = i := Fin.ext h0.symm
  have e : x1 = hk b := Fin.ext (by unfold hk; dsimp only; omega)
  rw [row_at xo a ha _ _ x1 h1, row_at xu a ha _ _ x1 h1, row_at xe a ha _ _ x1 h1, e]
theorem tileW (xo xu xe : FVec Ideal S512x512 .f32) (a : ℕ) (ha : a % 128 = 0) (h h' h'') (b : Fin 512) (x1 : Fin 128) (h1 : b.val = a + x1.val) :
    ∑ i : Fin 512, hW (R (View.ld (Val := Elt Ideal) (S := S512x512) (e' := .f32) xo (Rect.unit (s := S512x512) ![0, a] ![512, 128] h)) i)
      (R (View.ld (Val := Elt Ideal) (S := S512x512) (e' := .f32) xu (Rect.unit (s := S512x512) ![0, a] ![512, 128] h')) i)
      (R (View.ld (Val := Elt Ideal) (S := S512x512) (e' := .f32) xe (Rect.unit (s := S512x512) ![0, a] ![512, 128] h'')) i) x1
      = ∑ i : Fin 512, hW (bR xo i b) (bR xu i b) (bR xe i b) (hk b) := by
  have e : x1 = hk b := Fin.ext (by unfold hk; dsimp only; omega)
  refine Finset.sum_congr rfl fun i _ => ?_
  rw [row_at xo a ha _ _ x1 h1, row_at xu a ha _ _ x1 h1, row_at xe a ha _ _ x1 h1, e]

variable (m : (ℓ : Loc nD τ sig) → Buf (Elt Ideal) ℓ)

abbrev B0 (c : Dev nD) (t : Fin cfg0.N) : FVec Ideal S512x512 .f32 := iblk m c 0 t
abbrev B1 (c : Dev nD) (t : Fin cfg0.N) : FVec Ideal S512x512 .f32 := iblk m c 1 t
abbrev B2 (c : Dev nD) (t : Fin cfg0.N) : FVec Ideal S512x512 .f32 := X0_2 m c t
abbrev B3 (c : Dev nD) (t : Fin cfg0.N) : FVec Ideal S1x128 .f32 := iblk m c 3 t

theorem outs4 (c : Dev nD) (t : Fin cfg0.N) (j : S512x512.Idx) : (outsAt0 m c t.val t.isLt).1 j =
    hO (bR (B1 m c t) (j 0) (j 1)) (bR (B2 m c t) (j 0) (j 1)) (bR (B0 m c t) (j 0) (j 1)) (Rw (B3 m c t)) (hk (j 1)) := by
  by_cases h : t.val % 16 = 0
  on_goal 1 => rw [outsAt0_A m c t h]
  on_goal 2 => rw [outsAt0_B m c t h]
  all_goals
    frame_out
    canon_tiles x h
    all_goals idx_vars x
    · exact (o3 _ _ _ _ x0 x1).trans (tile hO _ _ _ _ 384 rfl _ _ _ (j 0) (j 1) x0 x1 h0 h1)
    · exact (o2 _ _ _ _ x0 x1).trans (tile hO _ _ _ _ 256 rfl _ _ _ (j 0) (j 1) x0 x1 h0 h1)
    · exact (o1 _ _ _ _ x0 x1).trans (tile hO _ _ _ _ 128 rfl _ _ _ (j 0) (j 1) x0 x1 h0 h1)
    · exact (o0 _ _ _ _ x0 x1).trans (tile hO _ _ _ _ 0 rfl _ _ _ (j 0) (j 1) x0 x1 h0 (h1.trans (Nat.zero_add _).symm))
theorem outs5 (c : Dev nD) (t : Fin cfg0.N) (j : S512x512.Idx) : (outsAt0 m c t.val t.isLt).2.1 j =
    hU (bR (B1 m c t) (j 0) (j 1)) (bR (B2 m c t) (j 0) (j 1)) (bR (B0 m c t) (j 0) (j 1)) (Rw (B3 m c t)) (hk (j 1)) := by
  by_cases h : t.val % 16 = 0
  on_goal 1 => rw [outsAt0_A m c t h]
  on_goal 2 => rw [outsAt0_B m c t h]
  all_goals
    frame_out
    canon_tiles x h
    all_goals idx_vars x
    · exact (u3 _ _ _ _ x0 x1).trans (tile hU _ _ _ _ 384 rfl _ _ _ (j 0) (j 1) x0 x1 h0 h1)
    · exact (u2 _ _ _ _ x0 x1).trans (tile hU _ _ _ _ 256 rfl _ _ _ (j 0) (j 1) x0 x1 h0 h1)
    · exact (u1 _ _ _ _ x0 x1).trans (tile hU _ _ _ _ 128 rfl _ _ _ (j 0) (j 1) x0 x1 h0 h1)
    · exact (u0 _ _ _ _ x0 x1).trans (tile hU _ _ _ _ 0 rfl _ _ _ (j 0) (j 1) x0 x1 h0 (h1.trans (Nat.zero_add _).symm))

/-- A block's part of the scale's gradient. -/
def part (c : Dev nD) (t : Fin cfg0.N) (j : S1x512.Idx) : EReal :=
  ∑ i : Fin 512, hW (bR (B1 m c t) i (j 1)) (bR (B2 m c t) i (j 1)) (bR (B0 m c t) i (j 1)) (hk (j 1))

/-- A load of one head's columns passes over a store to another's. -/
theorem cov_skip {κ : Kind} {sp : Space} (v : View sig κ sp S1x512 .f32) (a b : ℕ) (h : a + 128 ≤ b ∨ b + 128 ≤ a) (ha hb) (w : FVec Ideal S1x128 .f32) (L) :
    v.readCov (Val := Elt Ideal) (⟨Rect.unit (s := S1x512) ![0, a] ![1, 128] ha, w⟩ :: L) (Rect.unit (s := S1x512) ![0, b] ![1, 128] hb).toLoadRect
      = v.readCov (Val := Elt Ideal) L (Rect.unit (s := S1x512) ![0, b] ![1, 128] hb).toLoadRect :=
  View.readCov_cons_of_disjoint _ _ _ _ (Rect.unit_disjoint (inb := ha) (inb' := hb) 1 h)
/-- What the first store left is zero. -/
theorem cov_zero {κ : Kind} {sp : Space} (v : View sig κ sp S1x512 .f32) (b : ℕ) (h hb) (y) :
    (v.readCov (Val := Elt Ideal) [⟨Rect.unit (s := S1x512) ![0, 0] ![1, 512] h, k0_pay4 (F := Ideal)⟩] (Rect.unit (s := S1x512) ![0, b] ![1, 128] hb).toLoadRect y : EReal) = 0 := by
  rw [View.readCov_eq_canon']
  have e : View.canon (Val := Elt Ideal) (s := S1x512) (e := .f32) [⟨Rect.unit (s := S1x512) ![0, 0] ![1, 512] h, k0_pay4 (F := Ideal)⟩] = k0_pay4 (F := Ideal) :=
    View.canon_cons_unit_lit h _ _ (by decide)
  show View.canon (Val := Elt Ideal) (s := S1x512) (e := .f32) [⟨Rect.unit (s := S1x512) ![0, 0] ![1, 512] h, k0_pay4 (F := Ideal)⟩] _ = (0 : EReal)
  rw [e]
  have z (q : S1x512.Idx) : k0_pay4 (F := Ideal) q = 0 := by
    idx_vars q
    pointwise [k0_pay4]
  exact z _
/-- What a load of one head's columns reads of the contents before. -/
theorem prev_at (X : FVec Ideal S1x512 .f32) (a : ℕ) (h) (j : S1x512.Idx) (x : Fin 128) (hx : (j 1).val = a + x.val) :
    View.ld (Val := Elt Ideal) (S := S1x512) (e' := .f32) X (Rect.unit (s := S1x512) ![0, a] ![1, 128] h) (ix2 0 x) = X j := by
  refine View.ld_unit_apply_of (Val := Elt Ideal) (e := .f32) X _ _ h (ix2 0 x) j fun q => ?_
  match q with
  | ⟨0, _⟩ => exact Nat.lt_one_iff.mp (j 0).isLt
  | ⟨1, _⟩ => exact hx

theorem outs6B (c : Dev nD) (t : Fin cfg0.N) (h : ¬ t.val % 16 = 0) (j : S1x512.Idx) : (outsAt0 m c t.val t.isLt).2.2 j
    = (outsAt0 m c (t.val - 1) (lt_of_le_of_lt (Nat.sub_le _ _) t.isLt)).2.2 j + part m c t j := by
  rw [outsAt0_B m c t h]
  frame_out
  canon_tiles x h
  all_goals
    idx_vars x
    obtain rfl : x0 = 0 := Subsingleton.elim _ _
  · exact (w3 _ _ _ _ x1).trans (congrArg₂ (fun u v : EReal => u + v) (prev_at _ 384 _ j x1 h1) (tileW _ _ _ 384 rfl _ _ _ (j 1) x1 h1))
  · exact (w2 _ _ _ _ x1).trans (congrArg₂ (fun u v : EReal => u + v) (prev_at _ 256 _ j x1 h1) (tileW _ _ _ 256 rfl _ _ _ (j 1) x1 h1))
  · exact (w1 _ _ _ _ x1).trans (congrArg₂ (fun u v : EReal => u + v) (prev_at _ 128 _ j x1 h1) (tileW _ _ _ 128 rfl _ _ _ (j 1) x1 h1))
  · exact (w0 _ _ _ _ x1).trans (congrArg₂ (fun u v : EReal => u + v) (prev_at _ 0 _ j x1 (h1.trans (Nat.zero_add _).symm)) (tileW _ _ _ 0 rfl _ _ _ (j 1) x1 (h1.trans (Nat.zero_add _).symm)))
theorem outs6A (c : Dev nD) (t : Fin cfg0.N) (h : t.val % 16 = 0) (j : S1x512.Idx) : (outsAt0 m c t.val t.isLt).2.2 j = 0 + part m c t j := by
  rw [outsAt0_A m c t h]
  frame_out
  refine View.canon_append_of_piecesOf (Val := Elt Ideal) (s := S1x512) (e := .f32) (fun j => 0 + part m c t j) [_] [_, _, _, _] ⟨fun x => ?_, fun x => ?_, fun x => ?_, fun x => ?_, trivial⟩ j
    (View.cover_of_tiledL (s := S1x512) _ ![1, 128] (by sl_kernel_rfl) j)
  all_goals
    idx_vars x
    obtain rfl : x0 = 0 := Subsingleton.elim _ _
  · refine (w3 _ _ _ _ x1).trans (congrArg₂ (fun u v : EReal => u + v) ?_ (tileW _ _ _ 384 rfl _ _ _ _ x1 (by show 384 + 1 * x1.val = _; omega)))
    rw [cov_skip _ 256 384 (by norm_num), cov_skip _ 128 384 (by norm_num), cov_skip _ 0 384 (by norm_num), cov_zero]
  · refine (w2 _ _ _ _ x1).trans (congrArg₂ (fun u v : EReal => u + v) ?_ (tileW _ _ _ 256 rfl _ _ _ _ x1 (by show 256 + 1 * x1.val = _; omega)))
    rw [cov_skip _ 128 256 (by norm_num), cov_skip _ 0 256 (by norm_num), cov_zero]
  · refine (w1 _ _ _ _ x1).trans (congrArg₂ (fun u v : EReal => u + v) ?_ (tileW _ _ _ 128 rfl _ _ _ _ x1 (by show 128 + 1 * x1.val = _; omega)))
    rw [cov_skip _ 0 128 (by norm_num), cov_zero]
  · refine (w0 _ _ _ _ x1).trans (congrArg₂ (fun u v : EReal => u + v) ?_ (tileW _ _ _ 0 rfl _ _ _ _ x1 (by show 0 + 1 * x1.val = _; omega)))
    rw [cov_zero]

/-! The blocks are rows of the arrays. -/

abbrev A0 (c : Dev nD) : FVec Ideal SM .f32 := m ((c.tc : Thread nD τ).loc main_arg0)
abbrev A1 (c : Dev nD) : FVec Ideal SO .f32 := m ((c.tc : Thread nD τ).loc main_arg1)
abbrev A2 (c : Dev nD) : FVec Ideal SU .f32 := m ((c.tc : Thread nD τ).loc main_arg2)
abbrev A3 (c : Dev nD) : FVec Ideal SV .f32 := m ((c.tc : Thread nD τ).loc main_arg3)

/-- The row of the array that is row `i` of block `t`. -/
def row (t : Fin cfg0.N) (i : Fin 512) : Fin 8192 := ⟨t.val * 512 + i.val, by have := t.isLt; have : cfg0.N = 16 := N_0; omega⟩

theorem idx : ∀ t : Fin cfg0.N, win0_0.index t = ![t.val, 0] ∧ win0_1.index t = ![t.val, 0] ∧ win0_2.index t = ![t.val, 4] ∧ win0_3.index t = ![0, 0]
    ∧ win0_4.index t = ![t.val, 0] ∧ win0_5.index t = ![t.val, 0] ∧ win0_6.index t = ![0, 0] :=
  (by decide +kernel : ∀ t : Fin grid0.N, _)

theorem rd0 (X : FVec Ideal SM .f32) (t : Fin cfg0.N) (i b : Fin 512) : ((cfg0.win 0).blk t).view.read (Elt Ideal) X (ix2 i b) = X (ix2 (row t i) (cd b)) := by blk_ext [idx t, row, cd]
theorem rd1 (X : FVec Ideal SO .f32) (t : Fin cfg0.N) (i b : Fin 512) : ((cfg0.win 1).blk t).view.read (Elt Ideal) X (ix2 i b) = X (ix2 (row t i) b) := by blk_ext [idx t, row]
theorem rd3 (X : FVec Ideal SV .f32) (t : Fin cfg0.N) (k : Fin 128) : ((cfg0.win 3).blk t).view.read (Elt Ideal) X (ix2 0 k) = X (ix2 0 k) := by blk_ext [idx t]
theorem rd2 (c : Dev nD) (t : Fin cfg0.N) (i b : Fin 512) : B2 m c t (ix2 i b) = A2 m c (ix2 (row t i) (cu b)) := by
  unfold B2 X0_2 Pipeline.Window.fill
  rw [dif_pos (moved0_2 t _)]
  show ((cfg0.win 2).blk t).view.read (Elt Ideal) (A2 m c) _ = _
  blk_ext [idx t, row, cu]

theorem r0 (c : Dev nD) (t : Fin cfg0.N) (i b : Fin 512) : bR (B0 m c t) i b = eR (A0 m c) (row t i) b := funext fun _ => rd0 _ t i _
theorem r1 (c : Dev nD) (t : Fin cfg0.N) (i b : Fin 512) : bR (B1 m c t) i b = oR (A1 m c) (row t i) b := funext fun _ => rd1 _ t i _
theorem r2 (c : Dev nD) (t : Fin cfg0.N) (i b : Fin 512) : bR (B2 m c t) i b = uR (A2 m c) (row t i) b := funext fun _ => rd2 m c t i _
theorem r3 (c : Dev nD) (t : Fin cfg0.N) : Rw (B3 m c t) = wR (A3 m c) := funext fun _ => rd3 _ t _

theorem outs4r (c : Dev nD) (t : Fin cfg0.N) (i b : Fin 512) : (outsAt0 m c t.val t.isLt).1 (ix2 i b) = dO (A0 m c) (A1 m c) (A2 m c) (A3 m c) (ix2 (row t i) b) := by
  refine (outs4 m c t _).trans ?_
  show hO (bR (B1 m c t) i b) (bR (B2 m c t) i b) (bR (B0 m c t) i b) (Rw (B3 m c t)) (hk b) = _
  rw [r0, r1, r2, r3]
  rfl
theorem final4 (c : Dev nD) : (dats m 0 c).arrAt 4 cfg0.N = dO (A0 m c) (A1 m c) (A2 m c) (A3 m c) := by
  refine (dats m 0 c).arrAt_eq_of_covers 4 _ (by decide +kernel) fun t hf y => ?_
  blk_simp
  idx_vars y
  rw [after0_4]
  refine (outs4r m c t y0 y1).trans (congrArg (dO (A0 m c) (A1 m c) (A2 m c) (A3 m c)) ?_)
  blk_ext [idx t, row]
theorem outs5r (c : Dev nD) (t : Fin cfg0.N) (i b : Fin 512) : (outsAt0 m c t.val t.isLt).2.1 (ix2 i b) = dU (A0 m c) (A1 m c) (A2 m c) (A3 m c) (ix2 (row t i) b) := by
  refine (outs5 m c t _).trans ?_
  show hU (bR (B1 m c t) i b) (bR (B2 m c t) i b) (bR (B0 m c t) i b) (Rw (B3 m c t)) (hk b) = _
  rw [r0, r1, r2, r3]
  rfl
theorem final5 (c : Dev nD) : (dats m 0 c).arrAt 5 cfg0.N = dU (A0 m c) (A1 m c) (A2 m c) (A3 m c) := by
  refine (dats m 0 c).arrAt_eq_of_covers 5 _ (by decide +kernel) fun t hf y => ?_
  blk_simp
  idx_vars y
  rw [after0_5]
  refine (outs5r m c t y0 y1).trans (congrArg (dU (A0 m c) (A1 m c) (A2 m c) (A3 m c)) ?_)
  blk_ext [idx t, row]

/-- The blocks' parts together. -/
theorem parts (c : Dev nD) (t : Fin cfg0.N) (h : ∀ s : Fin 16, 16 * (t.val / 16) + s.val < cfg0.N) (y : S1x512.Idx) :
    ∑ s : Fin 16, part m c ⟨16 * (t.val / 16) + s.val, h s⟩ y = dW (A0 m c) (A1 m c) (A2 m c) y := by
  have ht : t.val < 16 := lt_of_lt_of_eq t.isLt N_0
  idx_vars y
  show ∑ s : Fin 16, ∑ i : Fin 512, hW (bR (B1 m c ⟨16 * (t.val / 16) + s.val, h s⟩) i y1) (bR (B2 m c ⟨16 * (t.val / 16) + s.val, h s⟩) i y1) (bR (B0 m c ⟨16 * (t.val / 16) + s.val, h s⟩) i y1) (hk y1)
    = ∑ i : Fin 8192, hW (oR (A1 m c) i y1) (uR (A2 m c) i y1) (eR (A0 m c) i y1) (hk y1)
  refine Fin.sum_mul_add_congr fun s k hl => ?_
  have e : row ⟨16 * (t.val / 16) + s.val, h s⟩ k = ⟨s.val * 512 + k.val, hl⟩ := Fin.ext (by unfold row; dsimp only; omega)
  rw [r0, r1, r2, e]
theorem final6 (c : Dev nD) : (dats m 0 c).arrAt 6 cfg0.N = dW (A0 m c) (A1 m c) (A2 m c) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0)
    (part m c) (outs6A m c) (outs6B m c) t ((flush0_6 t).mp hf) _, zero_add]
  refine (parts m c t _ _).trans ?_
  idx_vars y
  blk_ext [idx t]

end Cert.HgIdeal.Val

/-! ## The claims -/

namespace Cert.Val.Hg

open Cert.HgIdeal.Val (A0 A1 A2 A3)

/-- The reference's frame: its run read at the arguments; it has no semaphore. -/
theorem frame_ref : Cert.quiescent_HgRefIdeal := fun m ρ _ =>
  (θ_run Cert.HgRefIdeal.defs _ _).mono (fun r h => ⟨fun c => (h c).2.2.2,
      Idealize.ShloMosaic.sem_eq_zero_of_no_sems (by decide) r.2⟩) (Cert.HgRefIdeal.Value.run m ρ)

/-- Both programs end with the same gradients of the same arguments. -/
theorem algebraic : Cert.algebraic_HgIdeal_HgRefIdeal_pre_finite_hg := by
  intro m ρ m' ρ' hpre hagree
  refine ⟨fun c => dO (A0 m c) (A1 m c) (A2 m c) (A3 m c), fun c => dU (A0 m c) (A1 m c) (A2 m c) (A3 m c), fun c => dW (A0 m c) (A1 m c) (A2 m c), ?_, ?_⟩
  · exact (θ_run Cert.HgIdeal.defs _ _).mono (fun _ h c => ⟨(h c).1.trans (Cert.HgIdeal.Val.final4 m c),
      (h c).2.1.trans (Cert.HgIdeal.Val.final5 m c), (h c).2.2.1.trans (Cert.HgIdeal.Val.final6 m c), (h c).2.2.2⟩) (Cert.HgIdeal.Value.run_blocks m ρ)
  · have hfin (c : Dev Cert.HgIdeal.nD) : Fin4 (A0 m c) (A1 m c) (A2 m c) (A3 m c) := by
      obtain ⟨h0, h1, h2, h3⟩ := hpre c
      exact ⟨fun i => real_of_cmp _ _ ofBits_inf_f32 (congrFun h0 i), fun i => real_of_cmp _ _ ofBits_inf_f32 (congrFun h1 i), fun i => real_of_cmp _ _ ofBits_inf_f32 (congrFun h2 i),
        fun i => real_of_cmp _ _ ofBits_inf_f32 (congrFun h3 i)⟩
    have e (c : Dev Cert.HgIdeal.nD) : Cert.HgRefIdeal.Val.A0 m' c = A0 m c ∧ Cert.HgRefIdeal.Val.A1 m' c = A1 m c ∧ Cert.HgRefIdeal.Val.A2 m' c = A2 m c ∧ Cert.HgRefIdeal.Val.A3 m' c = A3 m c := hagree c
    have hfin' (c : Dev Cert.HgIdeal.nD) : Fin4 (Cert.HgRefIdeal.Val.A0 m' c) (Cert.HgRefIdeal.Val.A1 m' c) (Cert.HgRefIdeal.Val.A2 m' c) (Cert.HgRefIdeal.Val.A3 m' c) := by
      obtain ⟨e0, e1, e2, e3⟩ := e c
      rw [e0, e1, e2, e3]
      exact hfin c
    refine (θ_run Cert.HgRefIdeal.defs _ _).mono (fun _ h c => ⟨(h c).1.trans ?_, (h c).2.1.trans ?_, (h c).2.2.1.trans ?_, (h c).2.2.2⟩) (Cert.HgRefIdeal.Val.run m' ρ' hfin')
    all_goals
      obtain ⟨e0, e1, e2, e3⟩ := e c
      simp only [e0, e1, e2, e3]

end Cert.Val.Hg

end
-- ==== Proof.Val.Up.lean ====
/-
  The gradient through the second norm and the up products (`UpBwd`): the kernel's three result arrays after the run,
  and the reference's, as the same functions of the seven arguments, all arguments being finite.
-/
module

public import proofs.«01_k».proof.Defs
public import proofs.«01_k».proof.Proof.Gen.UpBwdIdeal.Value
public import proofs.«01_k».proof.Proof.Gen.UpBwdRefIdeal.Run
public import proofs.«01_k».proof.Proof.Gen.Pre_finite_upbwd
public import proofs.«01_k».proof.Proof.Val.Rms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The gradients as functions of the arguments -/

namespace Cert.Val.Up

open Cert.Val.Rms

abbrev SG : Shape := ⟨2, ![8192, 2816]⟩
abbrev SP : Shape := ⟨2, ![2816, 1024]⟩
abbrev SX : Shape := ⟨2, ![8192, 1024]⟩
abbrev SW : Shape := ⟨2, ![1, 1024]⟩

/-- The width of a row as the programs write it. -/
abbrev nn : EReal := Ideal.ofBits .f32 0x44800000#32

variable (a b : FVec Ideal SG .bf16) (p q : FVec Ideal SP .bf16) (x : FVec Ideal SX .f32) (w : FVec Ideal SW .f32) (d : FVec Ideal SX .f32)

/-- The gradient of the normed and scaled row: the two products with the transposed weights. -/
def dh (i : Fin 8192) (k : Fin 1024) : EReal := (∑ l : Fin 2816, b (ix2 i l) * q (ix2 l k)) + ∑ l : Fin 2816, a (ix2 i l) * p (ix2 l k)

/-- The gradient of the rows, with the residual's added. -/
def dX : FVec Ideal SX .f32 := fun j =>
  d j + back nn ee (fun k => x (ix2 (j 0) k)) (fun k => dh a b p q (j 0) k * w (ix2 0 k)) (j 1)

/-- The gradient of the norm's scale. -/
def dW : FVec Ideal SW .f32 := fun j =>
  ∑ i : Fin 8192, dh a b p q i (j 1) * (x (ix2 i (j 1)) * rs nn ee (fun k => x (ix2 i k)))

/-- The arguments are finite. -/
structure Fin7 : Prop where
  h0 : ∀ i, ∃ r : ℝ, a i = (r : EReal)
  h1 : ∀ i, ∃ r : ℝ, b i = (r : EReal)
  h2 : ∀ i, ∃ r : ℝ, p i = (r : EReal)
  h3 : ∀ i, ∃ r : ℝ, q i = (r : EReal)
  h4 : ∀ i, ∃ r : ℝ, x i = (r : EReal)
  h5 : ∀ i, ∃ r : ℝ, w i = (r : EReal)

end Cert.Val.Up

/-! ## The reference -/

namespace Cert.UpBwdRefIdeal.Val

open Cert.UpBwdRefIdeal Cert.UpBwdRefIdeal.Gen Cert.UpBwdRefIdeal.Value Cert.Val Cert.Val.Up Cert.Val.Rms

variable (m : (ℓ : Loc nD τ sig) → Buf (Elt Ideal) ℓ)

abbrev A0 (c : Dev nD) : FVec Ideal SG .bf16 := m ((c.tc : Thread nD τ).loc main_arg0)
abbrev A1 (c : Dev nD) : FVec Ideal SG .bf16 := m ((c.tc : Thread nD τ).loc main_arg1)
abbrev A2 (c : Dev nD) : FVec Ideal SP .bf16 := m ((c.tc : Thread nD τ).loc main_arg2)
abbrev A3 (c : Dev nD) : FVec Ideal SP .bf16 := m ((c.tc : Thread nD τ).loc main_arg3)
abbrev A4 (c : Dev nD) : FVec Ideal SX .f32 := m ((c.tc : Thread nD τ).loc main_arg4)
abbrev A5 (c : Dev nD) : FVec Ideal SW .f32 := m ((c.tc : Thread nD τ).loc main_arg5)
abbrev A6 (c : Dev nD) : FVec Ideal SX .f32 := m ((c.tc : Thread nD τ).loc main_arg6)

/-- The gradient of a normed row times its scale, at the arguments. -/
abbrev G (c : Dev nD) (i : Fin 8192) (k : Fin 1024) : EReal := dh (A0 m c) (A1 m c) (A2 m c) (A3 m c) i k * A5 m c (ix2 0 k)

theorem r45 (c : Dev nD) (i : Fin 8192) (k : Fin 1024) : res_main_v45 m c (ix2 i k) =
    A6 m c (ix2 i k) + G m c i k * rs nn ee (fun k => A4 m c (ix2 i k))
      + A4 m c (ix2 i k) * (∑ _ : Fin 1, thru nn ee hh (fun k => A4 m c (ix2 i k)) (G m c i))
      + (∑ _ : Fin 1, thru nn ee hh (fun k => A4 m c (ix2 i k)) (G m c i)) * A4 m c (ix2 i k) := by
  unfold res_main_v45 G thru rs ms dh
  pointwise

theorem res45 (c : Dev nD) (h : Fin7 (A0 m c) (A1 m c) (A2 m c) (A3 m c) (A4 m c) (A5 m c)) : res_main_v45 m c = dX (A0 m c) (A1 m c) (A2 m c) (A3 m c) (A4 m c) (A5 m c) (A6 m c) := by
  funext j
  idx_vars j
  rw [r45]
  simp only [Fin.sum_univ_one]
  exact add_back_of nn 1024 (by norm_num) w1024 _ (G m c _) (fun k => h.h4 _)
    (fun k => mul_real (add_real (dot_real _ _ (fun _ => h.h1 _) fun _ => h.h3 _) (dot_real _ _ (fun _ => h.h0 _) fun _ => h.h2 _)) (h.h5 _)) _ _

theorem res46 (c : Dev nD) (h : Fin7 (A0 m c) (A1 m c) (A2 m c) (A3 m c) (A4 m c) (A5 m c)) : res_main_v46 m c = dX (A0 m c) (A1 m c) (A2 m c) (A3 m c) (A4 m c) (A5 m c) (A6 m c) :=
  Eq.trans (b := res_main_v45 m c) rfl (res45 m c h)

/-- The reference's run, its results read index by index. -/
theorem run (ρ : Dev nD → PrngReg) (h : ∀ c, Fin7 (A0 m c) (A1 m c) (A2 m c) (A3 m c) (A4 m c) (A5 m c)) :
    θ_run defs (onTc (τ := τ) (main (F := Ideal))) ⟨m, fun _ => 0, ρ⟩ fun r => ∀ c : Dev nD,
      r.2.mem ((c.tc : Thread nD τ).loc main_v45) = dX (A0 m c) (A1 m c) (A2 m c) (A3 m c) (A4 m c) (A5 m c) (A6 m c)
      ∧ r.2.mem ((c.tc : Thread nD τ).loc main_v46) = dX (A0 m c) (A1 m c) (A2 m c) (A3 m c) (A4 m c) (A5 m c) (A6 m c)
      ∧ r.2.mem ((c.tc : Thread nD τ).loc main_v28) = dW (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h' c => ⟨(h' c).1.trans (res45 m c (h c)), (h' c).2.1.trans (res46 m c (h c)), (h' c).2.2.1.trans ?_, (h' c).2.2.2⟩) (Value.run m ρ)
  funext j
  idx_vars j
  unfold dW dh rs ms
  pointwise
  exact Finset.sum_congr rfl fun i _ => mul_comm _ _

end Cert.UpBwdRefIdeal.Val

/-! ## The kernel -/

namespace Cert.UpBwdIdeal.Val

open Cert.UpBwdIdeal Cert.UpBwdIdeal.Gen Cert.Val Cert.Val.Up Cert.Val.Rms

/-- What the body stores for the rows' gradient, at an index of the block. -/
theorem pay6 (x0 : Vec Ideal S256x2816 .bf16) (x1 : Vec Ideal S2816x1024 .bf16) (x2 : Vec Ideal S256x2816 .bf16) (x3 : Vec Ideal S2816x1024 .bf16)
    (x4 : Vec Ideal S256x1 .f32) (x5 : Vec Ideal S256x1024 .f32) (x6 : Vec Ideal S1x1024 .f32) (x7 : Vec Ideal S256x1024 .f32) (i : Fin 256) (k : Fin 1024) :
    k0_pay6 (F := Ideal) x0 x1 x2 x3 x4 x5 x6 x7 (ix2 i k) = x7 (ix2 i k) + x4 (ix2 i 0) *
      (((∑ l : Fin 2816, x0 (ix2 i l) * x1 (ix2 l k)) + ∑ l : Fin 2816, x2 (ix2 i l) * x3 (ix2 l k)) * x6 (ix2 0 k) - x5 (ix2 i k) * x4 (ix2 i 0) *
        Ideal.div (∑ q : Fin 1024, ((∑ l : Fin 2816, x0 (ix2 i l) * x1 (ix2 l q)) + ∑ l : Fin 2816, x2 (ix2 i l) * x3 (ix2 l q)) * x6 (ix2 0 q) *
          (x5 (ix2 i q) * x4 (ix2 i 0))) nn) := by
  pointwise [k0_pay6, k0_pay5, k0_pay4, k0_pay2]

theorem pay1 (v6 v14 : FVec Ideal S256x1024 .f32) (z : FVec Ideal S1x1024 .f32) (k : Fin 1024) :
    k0_pay1 (F := Ideal) v6 v14 z (ix2 0 k) = z (ix2 0 k) + ∑ i : Fin 256, v6 (ix2 i k) * v14 (ix2 i k) := by
  pointwise [k0_pay1]
theorem pay2 (x0 : Vec Ideal S256x2816 .bf16) (x1 : Vec Ideal S2816x1024 .bf16) (x2 : Vec Ideal S256x2816 .bf16) (x3 : Vec Ideal S2816x1024 .bf16) (i : Fin 256) (k : Fin 1024) :
    k0_pay2 (F := Ideal) x0 x1 x2 x3 (ix2 i k) = (∑ l : Fin 2816, x0 (ix2 i l) * x1 (ix2 l k)) + ∑ l : Fin 2816, x2 (ix2 i l) * x3 (ix2 l k) := by
  pointwise [k0_pay2]
theorem pay5 (x4 : Vec Ideal S256x1 .f32) (x5 : Vec Ideal S256x1024 .f32) (i : Fin 256) (k : Fin 1024) :
    k0_pay5 (F := Ideal) x4 x5 (ix2 i k) = x5 (ix2 i k) * x4 (ix2 i 0) := by
  pointwise [k0_pay5, k0_pay4]
theorem pay3 (k : Fin 1024) : k0_pay3 (F := Ideal) (ix2 0 k) = 0 := by
  pointwise [k0_pay3]

variable (m : (ℓ : Loc nD τ sig) → Buf (Elt Ideal) ℓ)

abbrev A0 (c : Dev nD) : FVec Ideal SG .bf16 := m ((c.tc : Thread nD τ).loc main_arg0)
abbrev A1 (c : Dev nD) : FVec Ideal SG .bf16 := m ((c.tc : Thread nD τ).loc main_arg1)
abbrev A2 (c : Dev nD) : FVec Ideal SP .bf16 := m ((c.tc : Thread nD τ).loc main_arg2)
abbrev A3 (c : Dev nD) : FVec Ideal SP .bf16 := m ((c.tc : Thread nD τ).loc main_arg3)
abbrev A4 (c : Dev nD) : FVec Ideal SX .f32 := m ((c.tc : Thread nD τ).loc main_arg4)
abbrev A5 (c : Dev nD) : FVec Ideal SW .f32 := m ((c.tc : Thread nD τ).loc main_arg5)
abbrev A6 (c : Dev nD) : FVec Ideal SX .f32 := m ((c.tc : Thread nD τ).loc main_arg6)

/-- The row of the array that is row `i` of block `t`. -/
def row (t : Fin cfg0.N) (i : Fin 256) : Fin 8192 := ⟨t.val * 256 + i.val, by have := t.isLt; have : cfg0.N = 32 := N_0; omega⟩

theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, 0] ∧ win0_7.index t = ![t.val, 0] ∧ win0_8.index t = ![t.val, 0] ∧ win0_9.index t = ![t.val, 0] ∧ win0_10.index t = ![0, 0] :=
  (by decide +kernel : ∀ t : Fin grid0.N, _)

/-! Each window's block, read off the array it is a block of. -/
theorem rd0 (X : FVec Ideal SG .bf16) (t : Fin cfg0.N) (i : Fin 256) (l : Fin 2816) : ((cfg0.win 0).blk t).view.read (Elt Ideal) X (ix2 i l) = X (ix2 (row t i) l) := by blk_ext [idx t, row]
theorem rd1 (X : FVec Ideal SP .bf16) (t : Fin cfg0.N) (l : Fin 2816) (k : Fin 1024) : ((cfg0.win 1).blk t).view.read (Elt Ideal) X (ix2 l k) = X (ix2 l k) := by blk_ext [idx t]
theorem rd2 (X : FVec Ideal SG .bf16) (t : Fin cfg0.N) (i : Fin 256) (l : Fin 2816) : ((cfg0.win 2).blk t).view.read (Elt Ideal) X (ix2 i l) = X (ix2 (row t i) l) := by blk_ext [idx t, row]
theorem rd3 (X : FVec Ideal SP .bf16) (t : Fin cfg0.N) (l : Fin 2816) (k : Fin 1024) : ((cfg0.win 3).blk t).view.read (Elt Ideal) X (ix2 l k) = X (ix2 l k) := by blk_ext [idx t]
theorem rd4 (X : FVec Ideal SX .f32) (t : Fin cfg0.N) (i : Fin 256) (k : Fin 1024) : ((cfg0.win 4).blk t).view.read (Elt Ideal) X (ix2 i k) = X (ix2 (row t i) k) := by blk_ext [idx t, row]
theorem rd5 (X : (⟨2, ![8192, 1]⟩ : Shape).Idx → EReal) (t : Fin cfg0.N) (i : Fin 256) : ((cfg0.win 5).blk t).view.read (Elt Ideal) X (ix2 i 0) = X (ix2 (row t i) 0) := by blk_ext [idx t, row]
theorem rd6 (X : FVec Ideal SW .f32) (t : Fin cfg0.N) (k : Fin 1024) : ((cfg0.win 6).blk t).view.read (Elt Ideal) X (ix2 0 k) = X (ix2 0 k) := by blk_ext [idx t]
theorem rd7 (X : FVec Ideal SX .f32) (t : Fin cfg0.N) (i : Fin 256) (k : Fin 1024) : ((cfg0.win 7).blk t).view.read (Elt Ideal) X (ix2 i k) = X (ix2 (row t i) k) := by blk_ext [idx t, row]

/-- What the host computes before the kernel: a row's norm factor. -/
theorem norm_at (c : Dev nD) (i : Fin 8192) : V m c main_v7 (ix2 i 0) = rs nn ee (fun k => A4 m c (ix2 i k)) := by
  entry_read
  unfold rs ms
  pointwise

theorem b0 (c : Dev nD) (t : Fin cfg0.N) (i : Fin 256) (l : Fin 2816) : iblk m c 0 t (ix2 i l) = A0 m c (ix2 (row t i) l) := (rd0 _ t i l).trans (congrFun (V_main_arg0 m c) _)
theorem b1 (c : Dev nD) (t : Fin cfg0.N) (l : Fin 2816) (k : Fin 1024) : iblk m c 1 t (ix2 l k) = A2 m c (ix2 l k) := (rd1 _ t l k).trans (congrFun (V_main_arg2 m c) _)
theorem b2 (c : Dev nD) (t : Fin cfg0.N) (i : Fin 256) (l : Fin 2816) : iblk m c 2 t (ix2 i l) = A1 m c (ix2 (row t i) l) := (rd2 _ t i l).trans (congrFun (V_main_arg1 m c) _)
theorem b3 (c : Dev nD) (t : Fin cfg0.N) (l : Fin 2816) (k : Fin 1024) : iblk m c 3 t (ix2 l k) = A3 m c (ix2 l k) := (rd3 _ t l k).trans (congrFun (V_main_arg3 m c) _)
theorem b4 (c : Dev nD) (t : Fin cfg0.N) (i : Fin 256) (k : Fin 1024) : iblk m c 4 t (ix2 i k) = A4 m c (ix2 (row t i) k) := (rd4 _ t i k).trans (congrFun (V_main_arg4 m c) _)
theorem b5 (c : Dev nD) (t : Fin cfg0.N) (i : Fin 256) : iblk m c 5 t (ix2 i 0) = rs nn ee (fun k => A4 m c (ix2 (row t i) k)) := (rd5 _ t i).trans (norm_at m c _)
theorem b6 (c : Dev nD) (t : Fin cfg0.N) (k : Fin 1024) : iblk m c 6 t (ix2 0 k) = A5 m c (ix2 0 k) := (rd6 _ t k).trans (congrFun (V_main_arg5 m c) _)
theorem b7 (c : Dev nD) (t : Fin cfg0.N) (i : Fin 256) (k : Fin 1024) : iblk m c 7 t (ix2 i k) = A6 m c (ix2 (row t i) k) := (rd7 _ t i k).trans (congrFun (V_main_arg6 m c) _)

section block

variable (x0 : Vec Ideal S256x2816 .bf16) (x1 : Vec Ideal S2816x1024 .bf16) (x2 : Vec Ideal S256x2816 .bf16) (x3 : Vec Ideal S2816x1024 .bf16)
  (x4 : Vec Ideal S256x1 .f32) (x5 : Vec Ideal S256x1024 .f32) (x6 : Vec Ideal S1x1024 .f32) (x7 : Vec Ideal S256x1024 .f32)
  (a b : FVec Ideal SG .bf16) (p q : FVec Ideal SP .bf16) (x : FVec Ideal SX .f32) (w : FVec Ideal SW .f32) (d : FVec Ideal SX .f32) (i : Fin 256) (r : Fin 8192)
  (h0 : ∀ l, x0 (ix2 i l) = a (ix2 r l)) (h1 : ∀ l k, x1 (ix2 l k) = p (ix2 l k)) (h2 : ∀ l, x2 (ix2 i l) = b (ix2 r l)) (h3 : ∀ l k, x3 (ix2 l k) = q (ix2 l k))
  (h4 : x4 (ix2 i 0) = rs nn ee (fun k => x (ix2 r k))) (h5 : ∀ k, x5 (ix2 i k) = x (ix2 r k)) (h6 : ∀ k, x6 (ix2 0 k) = w (ix2 0 k)) (h7 : ∀ k, x7 (ix2 i k) = d (ix2 r k))

include h0 h1 h2 h3 in
/-- The two products of a block are the rows' gradient. -/
theorem dh_of (k : Fin 1024) : (∑ l : Fin 2816, x0 (ix2 i l) * x1 (ix2 l k)) + ∑ l : Fin 2816, x2 (ix2 i l) * x3 (ix2 l k) = dh a b p q r k := by
  simp only [h0, h1, h2, h3]
  exact add_comm _ _

include h0 h1 h2 h3 h4 h5 h6 h7 in
/-- A block of the rows' gradient, as stored. -/
theorem dx_of (k : Fin 1024) : k0_pay6 (F := Ideal) x0 x1 x2 x3 x4 x5 x6 x7 (ix2 i k) = dX a b p q x w d (ix2 r k) := by
  rw [pay6]
  simp only [dh_of x0 x1 x2 x3 a b p q i r h0 h1 h2 h3, h4, h5, h6, h7]
  rfl

include h0 h1 h2 h3 h4 h5 in
/-- A row's part of the scale's gradient. -/
theorem dw_of (k : Fin 1024) : k0_pay2 (F := Ideal) x0 x1 x2 x3 (ix2 i k) * k0_pay5 (F := Ideal) x4 x5 (ix2 i k)
    = dh a b p q r k * (x (ix2 r k) * rs nn ee (fun q => x (ix2 r q))) := by
  rw [pay2, pay5, dh_of x0 x1 x2 x3 a b p q i r h0 h1 h2 h3, h4, h5]

end block

theorem dx_blk (c : Dev nD) (t : Fin cfg0.N) (i : Fin 256) (k : Fin 1024) :
    k0_pay6 (F := Ideal) (iblk m c 0 t) (iblk m c 1 t) (iblk m c 2 t) (iblk m c 3 t) (iblk m c 5 t) (iblk m c 4 t) (iblk m c 6 t) (iblk m c 7 t) (ix2 i k)
      = dX (A0 m c) (A1 m c) (A2 m c) (A3 m c) (A4 m c) (A5 m c) (A6 m c) (ix2 (row t i) k) :=
  dx_of _ _ _ _ _ _ _ _ _ _ _ _ _ _ _ i (row t i) (b0 m c t i) (b1 m c t) (b2 m c t i) (b3 m c t) (b5 m c t i) (b4 m c t i) (b6 m c t) (b7 m c t i) k

/-- A block's part of the scale's gradient. -/
def part (c : Dev nD) (t : Fin cfg0.N) (y : S1x1024.Idx) : EReal :=
  ∑ i : Fin 256, dh (A0 m c) (A1 m c) (A2 m c) (A3 m c) (row t i) (y 1) * (A4 m c (ix2 (row t i) (y 1)) * rs nn ee (fun q => A4 m c (ix2 (row t i) q)))
theorem dw_blk (c : Dev nD) (t : Fin cfg0.N) (z : FVec Ideal S1x1024 .f32) (k : Fin 1024) :
    k0_pay1 (F := Ideal) (k0_pay2 (iblk m c 0 t) (iblk m c 1 t) (iblk m c 2 t) (iblk m c 3 t)) (k0_pay5 (iblk m c 5 t) (iblk m c 4 t)) z (ix2 0 k)
      = z (ix2 0 k) + part m c t (ix2 0 k) :=
  (pay1 _ _ z k).trans (congrArg (fun u : EReal => z (ix2 0 k) + u) (Finset.sum_congr rfl fun i _ =>
    dw_of _ _ _ _ _ _ _ _ _ _ _ i (row t i) (b0 m c t i) (b1 m c t) (b2 m c t i) (b3 m c t) (b5 m c t i) (b4 m c t i) k))

theorem outs8 (c : Dev nD) (t : Fin cfg0.N) : (outsAt0 m c t.val t.isLt).1 =
    k0_pay6 (F := Ideal) (iblk m c 0 t) (iblk m c 1 t) (iblk m c 2 t) (iblk m c 3 t) (iblk m c 5 t) (iblk m c 4 t) (iblk m c 6 t) (iblk m c 7 t) := by
  funext y
  by_cases h : t.val % 32 = 0
  · rw [outsAt0_A m c t h]; frame_out
  · rw [outsAt0_B m c t h]; frame_out
theorem outs9 (c : Dev nD) (t : Fin cfg0.N) (y : S256x1024.Idx) : (outsAt0 m c t.val t.isLt).2.1 y =
    k0_pay6 (F := Ideal) (iblk m c 0 t) (iblk m c 1 t) (iblk m c 2 t) (iblk m c 3 t) (iblk m c 5 t) (iblk m c 4 t) (iblk m c 6 t) (iblk m c 7 t) y := by
  by_cases h : t.val % 32 = 0
  · rw [outsAt0_A m c t h]; frame_out; rfl
  · rw [outsAt0_B m c t h]; frame_out; rfl

theorem final8 (c : Dev nD) : (dats m 0 c).arrAt 8 cfg0.N = dX (A0 m c) (A1 m c) (A2 m c) (A3 m c) (A4 m c) (A5 m c) (A6 m c) := by
  refine (dats m 0 c).arrAt_eq_of_covers 8 _ (by decide +kernel) fun t hf y => ?_
  blk_simp
  rw [after0_8, outs8]
  idx_vars y
  refine (dx_blk m c t _ _).trans ?_
  blk_ext [idx t, row]
theorem final9 (c : Dev nD) : (dats m 0 c).arrAt 9 cfg0.N = dX (A0 m c) (A1 m c) (A2 m c) (A3 m c) (A4 m c) (A5 m c) (A6 m c) := by
  refine (dats m 0 c).arrAt_eq_of_covers 9 _ (by decide +kernel) fun t hf y => ?_
  blk_simp
  rw [after0_9, outs9]
  idx_vars y
  refine (dx_blk m c t _ _).trans ?_
  blk_ext [idx t, row]
theorem dw_at (c : Dev nD) (t : Fin cfg0.N) (z : FVec Ideal S1x1024 .f32) (y : S1x1024.Idx) :
    k0_pay1 (F := Ideal) (k0_pay2 (iblk m c 0 t) (iblk m c 1 t) (iblk m c 2 t) (iblk m c 3 t)) (k0_pay5 (iblk m c 5 t) (iblk m c 4 t)) z y = z y + part m c t y := by
  idx_vars y
  obtain rfl : y0 = 0 := Subsingleton.elim _ _
  exact dw_blk m c t z y1
theorem zero_at (y : S1x1024.Idx) : k0_pay3 (F := Ideal) y = 0 := by
  idx_vars y
  obtain rfl : y0 = 0 := Subsingleton.elim _ _
  exact pay3 y1

theorem outs10A (c : Dev nD) (t : Fin cfg0.N) (h : t.val % 32 = 0) (j : S1x1024.Idx) : (outsAt0 m c t.val t.isLt).2.2 j = 0 + part m c t j := by
  rw [outsAt0_A m c t h]
  frame_out
  rw [dw_at, zero_at]
theorem outs10B (c : Dev nD) (t : Fin cfg0.N) (h : ¬ t.val % 32 = 0) (j : S1x1024.Idx) : (outsAt0 m c t.val t.isLt).2.2 j
    = (outsAt0 m c (t.val - 1) (lt_of_le_of_lt (Nat.sub_le _ _) t.isLt)).2.2 j + part m c t j := by
  rw [outsAt0_B m c t h]
  frame_out
  rw [dw_at]

/-- The blocks' parts together. -/
theorem parts (c : Dev nD) (t : Fin cfg0.N) (h : ∀ s : Fin 32, 32 * (t.val / 32) + s.val < cfg0.N) (y : S1x1024.Idx) :
    ∑ s : Fin 32, part m c ⟨32 * (t.val / 32) + s.val, h s⟩ y = dW (A0 m c) (A1 m c) (A2 m c) (A3 m c) (A4 m c) y := by
  have ht : t.val < 32 := lt_of_lt_of_eq t.isLt N_0
  unfold part dW
  refine Fin.sum_mul_add_congr fun s k hl => ?_
  have e : row ⟨32 * (t.val / 32) + s.val, h s⟩ k = ⟨s.val * 256 + k.val, hl⟩ := Fin.ext (by unfold row; dsimp only; omega)
  rw [e]

theorem final10 (c : Dev nD) : (dats m 0 c).arrAt 10 cfg0.N = dW (A0 m c) (A1 m c) (A2 m c) (A3 m c) (A4 m c) := by
  refine (dats m 0 c).arrAt_eq_of_covers 10 _ (by decide +kernel) fun t hf y => ?_
  blk_simp
  rw [after0_10, Pipeline.eq_sum_fin_of_reset_step_apply_of_flush (fun n h => (outsAt0 m c n h).2.2) 32 (fun _ => 0)
    (part m c) (outs10A m c) (outs10B m c) t ((flush0_10 t).mp hf) _, zero_add]
  refine (parts m c t _ _).trans ?_
  idx_vars y
  blk_ext [idx t]

end Cert.UpBwdIdeal.Val

/-! ## The claims -/

namespace Cert.Val.Up

open Cert.UpBwdIdeal.Val (A0 A1 A2 A3 A4 A5 A6)

/-- The reference's frame: its run read at the arguments; it has no semaphore. -/
theorem frame_ref : Cert.quiescent_UpBwdRefIdeal := fun m ρ _ =>
  (θ_run Cert.UpBwdRefIdeal.defs _ _).mono (fun r h => ⟨fun c => (h c).2.2.2,
      Idealize.ShloMosaic.sem_eq_zero_of_no_sems (by decide) r.2⟩) (Cert.UpBwdRefIdeal.Value.run m ρ)

/-- Both programs end with the same gradients of the same arguments. -/
theorem algebraic : Cert.algebraic_UpBwdIdeal_UpBwdRefIdeal_pre_finite_upbwd := by
  intro m ρ m' ρ' hpre hagree
  refine ⟨fun c => dX (A0 m c) (A1 m c) (A2 m c) (A3 m c) (A4 m c) (A5 m c) (A6 m c), fun c => dX (A0 m c) (A1 m c) (A2 m c) (A3 m c) (A4 m c) (A5 m c) (A6 m c),
    fun c => dW (A0 m c) (A1 m c) (A2 m c) (A3 m c) (A4 m c), ?_, ?_⟩
  · exact (θ_run Cert.UpBwdIdeal.defs _ _).mono (fun _ h c => ⟨(h c).1.trans (Cert.UpBwdIdeal.Val.final8 m c),
      (h c).2.1.trans (Cert.UpBwdIdeal.Val.final9 m c), (h c).2.2.1.trans (Cert.UpBwdIdeal.Val.final10 m c), (h c).2.2.2⟩) (Cert.UpBwdIdeal.Value.run_blocks m ρ)
  · have hfin (c : Dev Cert.UpBwdIdeal.nD) : Fin7 (A0 m c) (A1 m c) (A2 m c) (A3 m c) (A4 m c) (A5 m c) := by
      obtain ⟨h0, h1, h2, h3, h4, h5, h6⟩ := hpre c
      exact ⟨fun i => real_of_cmp _ _ ofBits_inf_bf16 (congrFun h0 i), fun i => real_of_cmp _ _ ofBits_inf_bf16 (congrFun h1 i), fun i => real_of_cmp _ _ ofBits_inf_bf16 (congrFun h2 i),
        fun i => real_of_cmp _ _ ofBits_inf_bf16 (congrFun h3 i), fun i => real_of_cmp _ _ ofBits_inf_f32 (congrFun h4 i), fun i => real_of_cmp _ _ ofBits_inf_f32 (congrFun h5 i)⟩
    have e (c : Dev Cert.UpBwdIdeal.nD) : Cert.UpBwdRefIdeal.Val.A0 m' c = A0 m c ∧ Cert.UpBwdRefIdeal.Val.A1 m' c = A1 m c ∧ Cert.UpBwdRefIdeal.Val.A2 m' c = A2 m c
      ∧ Cert.UpBwdRefIdeal.Val.A3 m' c = A3 m c ∧ Cert.UpBwdRefIdeal.Val.A4 m' c = A4 m c ∧ Cert.UpBwdRefIdeal.Val.A5 m' c = A5 m c ∧ Cert.UpBwdRefIdeal.Val.A6 m' c = A6 m c := hagree c
    refine (θ_run Cert.UpBwdRefIdeal.defs _ _).mono (fun _ h c => ⟨(h c).1.trans ?_, (h c).2.1.trans ?_, (h c).2.2.1.trans ?_, (h c).2.2.2⟩) (Cert.UpBwdRefIdeal.Val.run m' ρ' fun c => ?_)
    all_goals
      obtain ⟨e0, e1, e2, e3, e4, e5, e6⟩ := e c
      rw [e0, e1, e2, e3, e4]
    · rw [e5]
      exact hfin c
    · rw [e5, e6]
    · rw [e5, e6]

end Cert.Val.Up

end
-- ==== Proof.Val.Inp.lean ====
/-
  The gradient through the first norm and the input projection (`InBwd`): the kernel's two result arrays after the run,
  and the reference's, as the same functions of the six arguments, all arguments being finite.
-/
module

public import proofs.«01_k».proof.Defs
public import proofs.«01_k».proof.Proof.Gen.InBwdIdeal.Value
public import proofs.«01_k».proof.Proof.Gen.InBwdRefIdeal.Run
public import proofs.«01_k».proof.Proof.Gen.Pre_finite_inbwd
public import proofs.«01_k».proof.Proof.Val.Rms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The gradients as functions of the arguments -/

namespace Cert.Val.Inp

open Cert.Val.Rms

abbrev SG : Shape := ⟨2, ![8192, 2560]⟩
abbrev SH : Shape := ⟨2, ![8192, 768]⟩
abbrev SP : Shape := ⟨2, ![3328, 1024]⟩
abbrev SX : Shape := ⟨2, ![8192, 1024]⟩
abbrev SW : Shape := ⟨2, ![1, 1024]⟩

/-- The width of a row as the programs write it. -/
abbrev nn : EReal := Ideal.ofBits .f32 0x44800000#32

/-- Row `l` of the upper part of the transposed weight, and of its lower part. -/
def up (l : Fin 2560) : Fin 3328 := ⟨l.val, by omega⟩
def lo (l : Fin 768) : Fin 3328 := ⟨2560 + l.val, by omega⟩

variable (a : FVec Ideal SG .bf16) (b : FVec Ideal SH .bf16) (p : FVec Ideal SP .bf16) (x : FVec Ideal SX .f32) (w : FVec Ideal SW .f32) (d : FVec Ideal SX .f32)

/-- The gradient of the normed and scaled row: the product with the transposed weight, the columns in two parts. -/
def dh (i : Fin 8192) (k : Fin 1024) : EReal := (∑ l : Fin 2560, a (ix2 i l) * p (ix2 (up l) k)) + ∑ l : Fin 768, b (ix2 i l) * p (ix2 (lo l) k)

/-- The gradient of the rows, with the residual's added. -/
def dX : FVec Ideal SX .f32 := fun j =>
  d j + back nn ee (fun k => x (ix2 (j 0) k)) (fun k => dh a b p (j 0) k * w (ix2 0 k)) (j 1)

/-- The gradient of the norm's scale. -/
def dW : FVec Ideal SW .f32 := fun j =>
  ∑ i : Fin 8192, dh a b p i (j 1) * (x (ix2 i (j 1)) * rs nn ee (fun k => x (ix2 i k)))

/-- The arguments are finite. -/
structure Fin6 : Prop where
  h0 : ∀ i, ∃ r : ℝ, a i = (r : EReal)
  h1 : ∀ i, ∃ r : ℝ, b i = (r : EReal)
  h2 : ∀ i, ∃ r : ℝ, p i = (r : EReal)
  h3 : ∀ i, ∃ r : ℝ, x i = (r : EReal)
  h4 : ∀ i, ∃ r : ℝ, w i = (r : EReal)

end Cert.Val.Inp

/-! ## The reference -/

namespace Cert.InBwdRefIdeal.Val

open Cert.InBwdRefIdeal Cert.InBwdRefIdeal.Gen Cert.InBwdRefIdeal.Value Cert.Val Cert.Val.Inp Cert.Val.Rms

variable (m : (ℓ : Loc nD τ sig) → Buf (Elt Ideal) ℓ)

abbrev A0 (c : Dev nD) : FVec Ideal SG .bf16 := m ((c.tc : Thread nD τ).loc main_arg0)
abbrev A1 (c : Dev nD) : FVec Ideal SH .bf16 := m ((c.tc : Thread nD τ).loc main_arg1)
abbrev A2 (c : Dev nD) : FVec Ideal SP .bf16 := m ((c.tc : Thread nD τ).loc main_arg2)
abbrev A3 (c : Dev nD) : FVec Ideal SX .f32 := m ((c.tc : Thread nD τ).loc main_arg3)
abbrev A4 (c : Dev nD) : FVec Ideal SW .f32 := m ((c.tc : Thread nD τ).loc main_arg4)
abbrev A5 (c : Dev nD) : FVec Ideal SX .f32 := m ((c.tc : Thread nD τ).loc main_arg5)

/-- The gradient of a normed row times its scale, at the arguments. -/
abbrev G (c : Dev nD) (i : Fin 8192) (k : Fin 1024) : EReal := dh (A0 m c) (A1 m c) (A2 m c) i k * A4 m c (ix2 0 k)

theorem r41 (c : Dev nD) (i : Fin 8192) (k : Fin 1024) : res_main_v41 m c (ix2 i k) =
    A5 m c (ix2 i k) + G m c i k * rs nn ee (fun k => A3 m c (ix2 i k))
      + A3 m c (ix2 i k) * (∑ _ : Fin 1, thru nn ee hh (fun k => A3 m c (ix2 i k)) (G m c i))
      + (∑ _ : Fin 1, thru nn ee hh (fun k => A3 m c (ix2 i k)) (G m c i)) * A3 m c (ix2 i k) := by
  unfold res_main_v41 G thru rs ms dh
  pointwise
  rfl

theorem res41 (c : Dev nD) (h : Fin6 (A0 m c) (A1 m c) (A2 m c) (A3 m c) (A4 m c)) : res_main_v41 m c = dX (A0 m c) (A1 m c) (A2 m c) (A3 m c) (A4 m c) (A5 m c) := by
  funext j
  idx_vars j
  rw [r41]
  simp only [Fin.sum_univ_one]
  exact add_back_of nn 1024 (by norm_num) w1024 _ (G m c _) (fun k => h.h3 _)
    (fun k => mul_real (add_real (dot_real _ _ (fun _ => h.h0 _) fun _ => h.h2 _) (dot_real _ _ (fun _ => h.h1 _) fun _ => h.h2 _)) (h.h4 _)) _ _

/-- The reference's run, its results read index by index. -/
theorem run (ρ : Dev nD → PrngReg) (h : ∀ c, Fin6 (A0 m c) (A1 m c) (A2 m c) (A3 m c) (A4 m c)) :
    θ_run defs (onTc (τ := τ) (main (F := Ideal))) ⟨m, fun _ => 0, ρ⟩ fun r => ∀ c : Dev nD,
      r.2.mem ((c.tc : Thread nD τ).loc main_v41) = dX (A0 m c) (A1 m c) (A2 m c) (A3 m c) (A4 m c) (A5 m c)
      ∧ r.2.mem ((c.tc : Thread nD τ).loc main_v24) = dW (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h' c => ⟨(h' c).1.trans (res41 m c (h c)), (h' c).2.1.trans ?_, (h' c).2.2⟩) (Value.run m ρ)
  funext j
  idx_vars j
  unfold dW dh rs ms
  pointwise
  exact Finset.sum_congr rfl fun i _ => mul_comm _ _

end Cert.InBwdRefIdeal.Val

/-! ## The kernel -/

namespace Cert.InBwdIdeal.Val

open Cert.InBwdIdeal Cert.InBwdIdeal.Gen Cert.Val Cert.Val.Inp Cert.Val.Rms

/-- What the body stores for the rows' gradient, at an index of the block. -/
theorem pay6 (x0 : Vec Ideal S512x2560 .bf16) (x1 : Vec Ideal S2560x1024 .bf16) (x2 : Vec Ideal S512x768 .bf16) (x3 : Vec Ideal S768x1024 .bf16)
    (x4 : Vec Ideal S512x1 .f32) (x5 : Vec Ideal S512x1024 .f32) (x6 : Vec Ideal S1x1024 .f32) (x7 : Vec Ideal S512x1024 .f32) (i : Fin 512) (k : Fin 1024) :
    k0_pay6 (F := Ideal) x0 x1 x2 x3 x4 x5 x6 x7 (ix2 i k) = x7 (ix2 i k) + x4 (ix2 i 0) *
      (((∑ l : Fin 2560, x0 (ix2 i l) * x1 (ix2 l k)) + ∑ l : Fin 768, x2 (ix2 i l) * x3 (ix2 l k)) * x6 (ix2 0 k) - x5 (ix2 i k) * x4 (ix2 i 0) *
        Ideal.div (∑ q : Fin 1024, ((∑ l : Fin 2560, x0 (ix2 i l) * x1 (ix2 l q)) + ∑ l : Fin 768, x2 (ix2 i l) * x3 (ix2 l q)) * x6 (ix2 0 q) *
          (x5 (ix2 i q) * x4 (ix2 i 0))) nn) := by
  pointwise [k0_pay6, k0_pay5, k0_pay4, k0_pay2]

theorem pay1 (v6 v14 : FVec Ideal S512x1024 .f32) (z : FVec Ideal S1x1024 .f32) (k : Fin 1024) :
    k0_pay1 (F := Ideal) v6 v14 z (ix2 0 k) = z (ix2 0 k) + ∑ i : Fin 512, v6 (ix2 i k) * v14 (ix2 i k) := by
  pointwise [k0_pay1]
theorem pay2 (x0 : Vec Ideal S512x2560 .bf16) (x1 : Vec Ideal S2560x1024 .bf16) (x2 : Vec Ideal S512x768 .bf16) (x3 : Vec Ideal S768x1024 .bf16) (i : Fin 512) (k : Fin 1024) :
    k0_pay2 (F := Ideal) x0 x1 x2 x3 (ix2 i k) = (∑ l : Fin 2560, x0 (ix2 i l) * x1 (ix2 l k)) + ∑ l : Fin 768, x2 (ix2 i l) * x3 (ix2 l k) := by
  pointwise [k0_pay2]
theorem pay5 (x4 : Vec Ideal S512x1 .f32) (x5 : Vec Ideal S512x1024 .f32) (i : Fin 512) (k : Fin 1024) :
    k0_pay5 (F := Ideal) x4 x5 (ix2 i k) = x5 (ix2 i k) * x4 (ix2 i 0) := by
  pointwise [k0_pay5, k0_pay4]
theorem pay3 (k : Fin 1024) : k0_pay3 (F := Ideal) (ix2 0 k) = 0 := by
  pointwise [k0_pay3]

variable (m : (ℓ : Loc nD τ sig) → Buf (Elt Ideal) ℓ)

abbrev A0 (c : Dev nD) : FVec Ideal SG .bf16 := m ((c.tc : Thread nD τ).loc main_arg0)
abbrev A1 (c : Dev nD) : FVec Ideal SH .bf16 := m ((c.tc : Thread nD τ).loc main_arg1)
abbrev A2 (c : Dev nD) : FVec Ideal SP .bf16 := m ((c.tc : Thread nD τ).loc main_arg2)
abbrev A3 (c : Dev nD) : FVec Ideal SX .f32 := m ((c.tc : Thread nD τ).loc main_arg3)
abbrev A4 (c : Dev nD) : FVec Ideal SW .f32 := m ((c.tc : Thread nD τ).loc main_arg4)
abbrev A5 (c : Dev nD) : FVec Ideal SX .f32 := m ((c.tc : Thread nD τ).loc main_arg5)

/-- The row of the array that is row `i` of block `t`. -/
def row (t : Fin cfg0.N) (i : Fin 512) : Fin 8192 := ⟨t.val * 512 + i.val, by have := t.isLt; have : cfg0.N = 16 := N_0; omega⟩

theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, 0] ∧ win0_7.index t = ![t.val, 0] ∧ win0_8.index t = ![t.val, 0] ∧ win0_9.index t = ![0, 0] :=
  (by decide +kernel : ∀ t : Fin grid0.N, _)

/-! Each window's block, read off the array it is a block of. -/
theorem rd0 (X : FVec Ideal SG .bf16) (t : Fin cfg0.N) (i : Fin 512) (l : Fin 2560) : ((cfg0.win 0).blk t).view.read (Elt Ideal) X (ix2 i l) = X (ix2 (row t i) l) := by blk_ext [idx t, row]
theorem rd1 (X : (⟨2, ![2560, 1024]⟩ : Shape).Idx → EReal) (t : Fin cfg0.N) (l : Fin 2560) (k : Fin 1024) : ((cfg0.win 1).blk t).view.read (Elt Ideal) X (ix2 l k) = X (ix2 l k) := by blk_ext [idx t]
theorem rd2 (X : FVec Ideal SH .bf16) (t : Fin cfg0.N) (i : Fin 512) (l : Fin 768) : ((cfg0.win 2).blk t).view.read (Elt Ideal) X (ix2 i l) = X (ix2 (row t i) l) := by blk_ext [idx t, row]
theorem rd3 (X : (⟨2, ![768, 1024]⟩ : Shape).Idx → EReal) (t : Fin cfg0.N) (l : Fin 768) (k : Fin 1024) : ((cfg0.win 3).blk t).view.read (Elt Ideal) X (ix2 l k) = X (ix2 l k) := by blk_ext [idx t]
theorem rd4 (X : FVec Ideal SX .f32) (t : Fin cfg0.N) (i : Fin 512) (k : Fin 1024) : ((cfg0.win 4).blk t).view.read (Elt Ideal) X (ix2 i k) = X (ix2 (row t i) k) := by blk_ext [idx t, row]
theorem rd5 (X : (⟨2, ![8192, 1]⟩ : Shape).Idx → EReal) (t : Fin cfg0.N) (i : Fin 512) : ((cfg0.win 5).blk t).view.read (Elt Ideal) X (ix2 i 0) = X (ix2 (row t i) 0) := by blk_ext [idx t, row]
theorem rd6 (X : FVec Ideal SW .f32) (t : Fin cfg0.N) (k : Fin 1024) : ((cfg0.win 6).blk t).view.read (Elt Ideal) X (ix2 0 k) = X (ix2 0 k) := by blk_ext [idx t]
theorem rd7 (X : FVec Ideal SX .f32) (t : Fin cfg0.N) (i : Fin 512) (k : Fin 1024) : ((cfg0.win 7).blk t).view.read (Elt Ideal) X (ix2 i k) = X (ix2 (row t i) k) := by blk_ext [idx t, row]

/-- What the host computes before the kernel: a row's norm factor. -/
theorem norm_at (c : Dev nD) (i : Fin 8192) : V m c main_v7 (ix2 i 0) = rs nn ee (fun k => A3 m c (ix2 i k)) := by
  entry_read
  unfold rs ms
  pointwise

/-- The two parts of the transposed weight. -/
theorem up_at (c : Dev nD) (l : Fin 2560) (k : Fin 1024) : V m c main_v8 (ix2 l k) = A2 m c (ix2 (up l) k) := by
  entry_read
  unfold up
  pointwise
theorem lo_at (c : Dev nD) (l : Fin 768) (k : Fin 1024) : V m c main_v9 (ix2 l k) = A2 m c (ix2 (lo l) k) := by
  entry_read
  unfold lo
  pointwise

theorem b0 (c : Dev nD) (t : Fin cfg0.N) (i : Fin 512) (l : Fin 2560) : iblk m c 0 t (ix2 i l) = A0 m c (ix2 (row t i) l) := (rd0 _ t i l).trans (congrFun (V_main_arg0 m c) _)
theorem b1 (c : Dev nD) (t : Fin cfg0.N) (l : Fin 2560) (k : Fin 1024) : iblk m c 1 t (ix2 l k) = A2 m c (ix2 (up l) k) := (rd1 _ t l k).trans (up_at m c l k)
theorem b2 (c : Dev nD) (t : Fin cfg0.N) (i : Fin 512) (l : Fin 768) : iblk m c 2 t (ix2 i l) = A1 m c (ix2 (row t i) l) := (rd2 _ t i l).trans (congrFun (V_main_arg1 m c) _)
theorem b3 (c : Dev nD) (t : Fin cfg0.N) (l : Fin 768) (k : Fin 1024) : iblk m c 3 t (ix2 l k) = A2 m c (ix2 (lo l) k) := (rd3 _ t l k).trans (lo_at m c l k)
theorem b4 (c : Dev nD) (t : Fin cfg0.N) (i : Fin 512) (k : Fin 1024) : iblk m c 4 t (ix2 i k) = A3 m c (ix2 (row t i) k) := (rd4 _ t i k).trans (congrFun (V_main_arg3 m c) _)
theorem b5 (c : Dev nD) (t : Fin cfg0.N) (i : Fin 512) : iblk m c 5 t (ix2 i 0) = rs nn ee (fun k => A3 m c (ix2 (row t i) k)) := (rd5 _ t i).trans (norm_at m c _)
theorem b6 (c : Dev nD) (t : Fin cfg0.N) (k : Fin 1024) : iblk m c 6 t (ix2 0 k) = A4 m c (ix2 0 k) := (rd6 _ t k).trans (congrFun (V_main_arg4 m c) _)
theorem b7 (c : Dev nD) (t : Fin cfg0.N) (i : Fin 512) (k : Fin 1024) : iblk m c 7 t (ix2 i k) = A5 m c (ix2 (row t i) k) := (rd7 _ t i k).trans (congrFun (V_main_arg5 m c) _)

section block

variable (x0 : Vec Ideal S512x2560 .bf16) (x1 : Vec Ideal S2560x1024 .bf16) (x2 : Vec Ideal S512x768 .bf16) (x3 : Vec Ideal S768x1024 .bf16)
  (x4 : Vec Ideal S512x1 .f32) (x5 : Vec Ideal S512x1024 .f32) (x6 : Vec Ideal S1x1024 .f32) (x7 : Vec Ideal S512x1024 .f32)
  (a : FVec Ideal SG .bf16) (b : FVec Ideal SH .bf16) (p : FVec Ideal SP .bf16) (x : FVec Ideal SX .f32) (w : FVec Ideal SW .f32) (d : FVec Ideal SX .f32) (i : Fin 512) (r : Fin 8192)
  (h0 : ∀ l, x0 (ix2 i l) = a (ix2 r l)) (h1 : ∀ l k, x1 (ix2 l k) = p (ix2 (up l) k)) (h2 : ∀ l, x2 (ix2 i l) = b (ix2 r l)) (h3 : ∀ l k, x3 (ix2 l k) = p (ix2 (lo l) k))
  (h4 : x4 (ix2 i 0) = rs nn ee (fun k => x (ix2 r k))) (h5 : ∀ k, x5 (ix2 i k) = x (ix2 r k)) (h6 : ∀ k, x6 (ix2 0 k) = w (ix2 0 k)) (h7 : ∀ k, x7 (ix2 i k) = d (ix2 r k))

include h0 h1 h2 h3 in
/-- The two products of a block are the rows' gradient. -/
theorem dh_of (k : Fin 1024) : (∑ l : Fin 2560, x0 (ix2 i l) * x1 (ix2 l k)) + ∑ l : Fin 768, x2 (ix2 i l) * x3 (ix2 l k) = dh a b p r k := by
  simp only [h0, h1, h2, h3]
  rfl

include h0 h1 h2 h3 h4 h5 h6 h7 in
/-- A block of the rows' gradient, as stored. -/
theorem dx_of (k : Fin 1024) : k0_pay6 (F := Ideal) x0 x1 x2 x3 x4 x5 x6 x7 (ix2 i k) = dX a b p x w d (ix2 r k) := by
  rw [pay6]
  simp only [dh_of x0 x1 x2 x3 a b p i r h0 h1 h2 h3, h4, h5, h6, h7]
  rfl

include h0 h1 h2 h3 h4 h5 in
/-- A row's part of the scale's gradient. -/
theorem dw_of (k : Fin 1024) : k0_pay2 (F := Ideal) x0 x1 x2 x3 (ix2 i k) * k0_pay5 (F := Ideal) x4 x5 (ix2 i k)
    = dh a b p r k * (x (ix2 r k) * rs nn ee (fun q => x (ix2 r q))) := by
  rw [pay2, pay5, dh_of x0 x1 x2 x3 a b p i r h0 h1 h2 h3, h4, h5]

end block

theorem dx_blk (c : Dev nD) (t : Fin cfg0.N) (i : Fin 512) (k : Fin 1024) :
    k0_pay6 (F := Ideal) (iblk m c 0 t) (iblk m c 1 t) (iblk m c 2 t) (iblk m c 3 t) (iblk m c 5 t) (iblk m c 4 t) (iblk m c 6 t) (iblk m c 7 t) (ix2 i k)
      = dX (A0 m c) (A1 m c) (A2 m c) (A3 m c) (A4 m c) (A5 m c) (ix2 (row t i) k) :=
  dx_of _ _ _ _ _ _ _ _ _ _ _ _ _ _ i (row t i) (b0 m c t i) (b1 m c t) (b2 m c t i) (b3 m c t) (b5 m c t i) (b4 m c t i) (b6 m c t) (b7 m c t i) k

/-- A block's part of the scale's gradient. -/
def part (c : Dev nD) (t : Fin cfg0.N) (y : S1x1024.Idx) : EReal :=
  ∑ i : Fin 512, dh (A0 m c) (A1 m c) (A2 m c) (row t i) (y 1) * (A3 m c (ix2 (row t i) (y 1)) * rs nn ee (fun q => A3 m c (ix2 (row t i) q)))
theorem dw_blk (c : Dev nD) (t : Fin cfg0.N) (z : FVec Ideal S1x1024 .f32) (k : Fin 1024) :
    k0_pay1 (F := Ideal) (k0_pay2 (iblk m c 0 t) (iblk m c 1 t) (iblk m c 2 t) (iblk m c 3 t)) (k0_pay5 (iblk m c 5 t) (iblk m c 4 t)) z (ix2 0 k)
      = z (ix2 0 k) + part m c t (ix2 0 k) :=
  (pay1 _ _ z k).trans (congrArg (fun u : EReal => z (ix2 0 k) + u) (Finset.sum_congr rfl fun i _ =>
    dw_of _ _ _ _ _ _ _ _ _ _ i (row t i) (b0 m c t i) (b1 m c t) (b2 m c t i) (b3 m c t) (b5 m c t i) (b4 m c t i) k))

theorem outs8 (c : Dev nD) (t : Fin cfg0.N) : (outsAt0 m c t.val t.isLt).1 =
    k0_pay6 (F := Ideal) (iblk m c 0 t) (iblk m c 1 t) (iblk m c 2 t) (iblk m c 3 t) (iblk m c 5 t) (iblk m c 4 t) (iblk m c 6 t) (iblk m c 7 t) := by
  funext y
  by_cases h : t.val % 16 = 0
  · rw [outsAt0_A m c t h]; frame_out
  · rw [outsAt0_B m c t h]; frame_out
theorem final8 (c : Dev nD) : (dats m 0 c).arrAt 8 cfg0.N = dX (A0 m c) (A1 m c) (A2 m c) (A3 m c) (A4 m c) (A5 m c) := by
  refine (dats m 0 c).arrAt_eq_of_covers 8 _ (by decide +kernel) fun t hf y => ?_
  blk_simp
  rw [after0_8, outs8]
  idx_vars y
  refine (dx_blk m c t _ _).trans ?_
  blk_ext [idx t, row]
theorem dw_at (c : Dev nD) (t : Fin cfg0.N) (z : FVec Ideal S1x1024 .f32) (y : S1x1024.Idx) :
    k0_pay1 (F := Ideal) (k0_pay2 (iblk m c 0 t) (iblk m c 1 t) (iblk m c 2 t) (iblk m c 3 t)) (k0_pay5 (iblk m c 5 t) (iblk m c 4 t)) z y = z y + part m c t y := by
  idx_vars y
  obtain rfl : y0 = 0 := Subsingleton.elim _ _
  exact dw_blk m c t z y1
theorem zero_at (y : S1x1024.Idx) : k0_pay3 (F := Ideal) y = 0 := by
  idx_vars y
  obtain rfl : y0 = 0 := Subsingleton.elim _ _
  exact pay3 y1

theorem outs9A (c : Dev nD) (t : Fin cfg0.N) (h : t.val % 16 = 0) (j : S1x1024.Idx) : (outsAt0 m c t.val t.isLt).2 j = 0 + part m c t j := by
  rw [outsAt0_A m c t h]
  frame_out
  rw [dw_at, zero_at]
theorem outs9B (c : Dev nD) (t : Fin cfg0.N) (h : ¬ t.val % 16 = 0) (j : S1x1024.Idx) : (outsAt0 m c t.val t.isLt).2 j
    = (outsAt0 m c (t.val - 1) (lt_of_le_of_lt (Nat.sub_le _ _) t.isLt)).2 j + part m c t j := by
  rw [outsAt0_B m c t h]
  frame_out
  rw [dw_at]

/-- The blocks' parts together. -/
theorem parts (c : Dev nD) (t : Fin cfg0.N) (h : ∀ s : Fin 16, 16 * (t.val / 16) + s.val < cfg0.N) (y : S1x1024.Idx) :
    ∑ s : Fin 16, part m c ⟨16 * (t.val / 16) + s.val, h s⟩ y = dW (A0 m c) (A1 m c) (A2 m c) (A3 m c) y := by
  have ht : t.val < 16 := lt_of_lt_of_eq t.isLt N_0
  unfold part dW
  refine Fin.sum_mul_add_congr fun s k hl => ?_
  have e : row ⟨16 * (t.val / 16) + s.val, h s⟩ k = ⟨s.val * 512 + k.val, hl⟩ := Fin.ext (by unfold row; dsimp only; omega)
  rw [e]

theorem final9 (c : Dev nD) : (dats m 0 c).arrAt 9 cfg0.N = dW (A0 m c) (A1 m c) (A2 m c) (A3 m c) := by
  refine (dats m 0 c).arrAt_eq_of_covers 9 _ (by decide +kernel) fun t hf y => ?_
  blk_simp
  rw [after0_9, Pipeline.eq_sum_fin_of_reset_step_apply_of_flush (fun n h => (outsAt0 m c n h).2) 16 (fun _ => 0)
    (part m c) (outs9A m c) (outs9B m c) t ((flush0_9 t).mp hf) _, zero_add]
  refine (parts m c t _ _).trans ?_
  idx_vars y
  blk_ext [idx t]

end Cert.InBwdIdeal.Val

/-! ## The claims -/

namespace Cert.Val.Inp

open Cert.InBwdIdeal.Val (A0 A1 A2 A3 A4 A5)

/-- The reference's frame: its run read at the arguments; it has no semaphore. -/
theorem frame_ref : Cert.quiescent_InBwdRefIdeal := fun m ρ _ =>
  (θ_run Cert.InBwdRefIdeal.defs _ _).mono (fun r h => ⟨fun c => (h c).2.2,
      Idealize.ShloMosaic.sem_eq_zero_of_no_sems (by decide) r.2⟩) (Cert.InBwdRefIdeal.Value.run m ρ)

/-- Both programs end with the same gradients of the same arguments. -/
theorem algebraic : Cert.algebraic_InBwdIdeal_InBwdRefIdeal_pre_finite_inbwd := by
  intro m ρ m' ρ' hpre hagree
  refine ⟨fun c => dX (A0 m c) (A1 m c) (A2 m c) (A3 m c) (A4 m c) (A5 m c),
    fun c => dW (A0 m c) (A1 m c) (A2 m c) (A3 m c), ?_, ?_⟩
  · exact (θ_run Cert.InBwdIdeal.defs _ _).mono (fun _ h c => ⟨(h c).1.trans (Cert.InBwdIdeal.Val.final8 m c),
      (h c).2.1.trans (Cert.InBwdIdeal.Val.final9 m c), (h c).2.2⟩) (Cert.InBwdIdeal.Value.run_blocks m ρ)
  · have hfin (c : Dev Cert.InBwdIdeal.nD) : Fin6 (A0 m c) (A1 m c) (A2 m c) (A3 m c) (A4 m c) := by
      obtain ⟨h0, h1, h2, h3, h4, h5⟩ := hpre c
      exact ⟨fun i => real_of_cmp _ _ ofBits_inf_bf16 (congrFun h0 i), fun i => real_of_cmp _ _ ofBits_inf_bf16 (congrFun h1 i), fun i => real_of_cmp _ _ ofBits_inf_bf16 (congrFun h2 i),
        fun i => real_of_cmp _ _ ofBits_inf_f32 (congrFun h3 i), fun i => real_of_cmp _ _ ofBits_inf_f32 (congrFun h4 i)⟩
    have e (c : Dev Cert.InBwdIdeal.nD) : Cert.InBwdRefIdeal.Val.A0 m' c = A0 m c ∧ Cert.InBwdRefIdeal.Val.A1 m' c = A1 m c ∧ Cert.InBwdRefIdeal.Val.A2 m' c = A2 m c
      ∧ Cert.InBwdRefIdeal.Val.A3 m' c = A3 m c ∧ Cert.InBwdRefIdeal.Val.A4 m' c = A4 m c ∧ Cert.InBwdRefIdeal.Val.A5 m' c = A5 m c := hagree c
    refine (θ_run Cert.InBwdRefIdeal.defs _ _).mono (fun _ h c => ⟨(h c).1.trans ?_, (h c).2.1.trans ?_, (h c).2.2⟩) (Cert.InBwdRefIdeal.Val.run m' ρ' fun c => ?_)
    all_goals
      obtain ⟨e0, e1, e2, e3, e4, e5⟩ := e c
      rw [e0, e1, e2, e3]
    · rw [e4]
      exact hfin c
    · rw [e4, e5]

end Cert.Val.Inp

end
-- ==== Proof.Val.Loss.lean ====
/-
  The last product with its norm, the loss and the gradient through the norm (`Loss`): the kernel's four result arrays
  after the run, and the reference's, as the same functions of the five arguments, all arguments being finite.
-/
module

public import proofs.«01_k».proof.Defs
public import proofs.«01_k».proof.Proof.Gen.LossIdeal.Value
public import proofs.«01_k».proof.Proof.Gen.LossRefIdeal.Run
public import proofs.«01_k».proof.Proof.Gen.Pre_finite_loss
public import proofs.«01_k».proof.Proof.Val.Rms
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.Loss

open Cert.Val.Rms

abbrev SA : Shape := ⟨2, ![8192, 2816]⟩
abbrev SP : Shape := ⟨2, ![2816, 1024]⟩
abbrev SX : Shape := ⟨2, ![8192, 1024]⟩
abbrev SW : Shape := ⟨1, ![1024]⟩
abbrev SD : Shape := ⟨2, ![1, 1024]⟩
abbrev SL : Shape := ⟨2, ![1, 1]⟩

/-- The width of a row as the programs write it. -/
abbrev nn : EReal := Ideal.ofBits .f32 0x44800000#32

variable (a : FVec Ideal SA .bf16) (p : FVec Ideal SP .bf16) (x : FVec Ideal SX .f32) (y : FVec Ideal SX .f32) (w : FVec Ideal SW .f32)

/-- The residual stream's last rows. -/
def hm (i : Fin 8192) (k : Fin 1024) : EReal := x (ix2 i k) + ∑ l : Fin 2816, a (ix2 i l) * p (ix2 l k)

/-- A row's error: normed, scaled, less the target. -/
def er (i : Fin 8192) (k : Fin 1024) : EReal := hm a p x i k * rs nn ee (hm a p x i) * w (ix1 k) - y (ix2 i k)

/-- The gradient at the scaled row. -/
def dg (i : Fin 8192) (k : Fin 1024) : EReal := er a p x y w i k * Ideal.ofBits .f32 0x3A800000#32

/-- The derivative of half the mean square at an error, as the reference has it. -/
def seed (e : EReal) : EReal := Ideal.div (Ideal.ofBits .f32 0x3F000000#32) nn * (Ideal.ofBits .f32 0x40000000#32 * e)
theorem seed_eq (e : EReal) : seed e = e * Ideal.ofBits .f32 0x3A800000#32 := by
  have h1 : Ideal.ofBits .f32 0x3F000000#32 = ((1 / 2 : ℝ) : EReal) := by
    simp [Ideal.ofBits, Ideal.ieee, ← EReal.coe_mul]; norm_num [← EReal.coe_mul]
  have h2 : Ideal.ofBits .f32 0x40000000#32 = ((2 : ℝ) : EReal) := by
    simp [Ideal.ofBits, Ideal.ieee, ← EReal.coe_mul]; norm_num [← EReal.coe_mul]
  have h3 : Ideal.ofBits .f32 0x3A800000#32 = ((1 / 1024 : ℝ) : EReal) := by
    simp [Ideal.ofBits, Ideal.ieee, ← EReal.coe_mul]; norm_num [← EReal.coe_mul]
  unfold seed nn
  rw [w1024, h1, h2, h3, div_real _ _ (by norm_num), ← mul_assoc, ← EReal.coe_mul, mul_comm]
  norm_num

/-- The loss. -/
def lo : FVec Ideal SL .f32 := fun _ => Ideal.ofBits .f32 0x3F000000#32 * ∑ i : Fin 8192, Ideal.div (∑ k : Fin 1024, er a p x y w i k * er a p x y w i k) nn

/-- The gradient of the rows. -/
def dX : FVec Ideal SX .f32 := fun j => back nn ee (hm a p x (j 0)) (fun k => dg a p x y w (j 0) k * w (ix1 k)) (j 1)

/-- The gradient of the norm's scale. -/
def dW : FVec Ideal SD .f32 := fun j => ∑ i : Fin 8192, dg a p x y w i (j 1) * (hm a p x i (j 1) * rs nn ee (hm a p x i))

/-- The arguments are finite. -/
structure Fin5 : Prop where
  h0 : ∀ i, ∃ r : ℝ, a i = (r : EReal)
  h1 : ∀ i, ∃ r : ℝ, p i = (r : EReal)
  h2 : ∀ i, ∃ r : ℝ, x i = (r : EReal)
  h3 : ∀ i, ∃ r : ℝ, y i = (r : EReal)
  h4 : ∀ i, ∃ r : ℝ, w i = (r : EReal)

theorem hm_real (h : Fin5 a p x y w) (i : Fin 8192) (k : Fin 1024) : ∃ r : ℝ, hm a p x i k = (r : EReal) :=
  add_real (h.h2 _) (dot_real _ _ (fun _ => h.h0 _) fun _ => h.h1 _)

theorem er_real (h : Fin5 a p x y w) (i : Fin 8192) (k : Fin 1024) : ∃ r : ℝ, er a p x y w i k = (r : EReal) :=
  sub_real (mul_real (mul_real (hm_real a p x y w h i k) (rs_real nn 1024 (by norm_num) w1024 _ (hm_real a p x y w h i))) (h.h4 _)) (h.h3 _)
theorem dg_real (h : Fin5 a p x y w) (i : Fin 8192) (k : Fin 1024) : ∃ r : ℝ, dg a p x y w i k = (r : EReal) :=
  mul_real (er_real a p x y w h i k) ⟨1 / 1024, by simp [Ideal.ofBits, Ideal.ieee, ← EReal.coe_mul]; norm_num [← EReal.coe_mul]⟩

end Cert.Val.Loss

/-! ## The reference -/

namespace Cert.LossRefIdeal.Val

open Cert.LossRefIdeal Cert.LossRefIdeal.Gen Cert.LossRefIdeal.Value Cert.Val Cert.Val.Loss Cert.Val.Rms

variable (m : (ℓ : Loc nD τ sig) → Buf (Elt Ideal) ℓ)

abbrev A0 (c : Dev nD) : FVec Ideal SA .bf16 := m ((c.tc : Thread nD τ).loc main_arg0)
abbrev A1 (c : Dev nD) : FVec Ideal SP .bf16 := m ((c.tc : Thread nD τ).loc main_arg1)
abbrev A2 (c : Dev nD) : FVec Ideal SX .f32 := m ((c.tc : Thread nD τ).loc main_arg2)
abbrev A3 (c : Dev nD) : FVec Ideal SX .f32 := m ((c.tc : Thread nD τ).loc main_arg3)
abbrev A4 (c : Dev nD) : FVec Ideal SW .f32 := m ((c.tc : Thread nD τ).loc main_arg4)

/-- The gradient of a normed row times its scale, at the arguments. -/
abbrev G (c : Dev nD) (i : Fin 8192) (k : Fin 1024) : EReal := seed (er (A0 m c) (A1 m c) (A2 m c) (A3 m c) (A4 m c) i k) * A4 m c (ix1 k)
abbrev H (c : Dev nD) : Fin 8192 → Fin 1024 → EReal := hm (A0 m c) (A1 m c) (A2 m c)

theorem r53 (c : Dev nD) (i : Fin 8192) (k : Fin 1024) : res_main_v53 m c (ix2 i k) =
    G m c i k * rs nn ee (H m c i)
      + H m c i k * (∑ _ : Fin 1, thru nn ee hh (H m c i) (G m c i))
      + (∑ _ : Fin 1, thru nn ee hh (H m c i) (G m c i)) * H m c i k := by
  unfold res_main_v53 G H seed er thru rs ms hm
  pointwise

theorem res53 (c : Dev nD) (h : Fin5 (A0 m c) (A1 m c) (A2 m c) (A3 m c) (A4 m c)) : res_main_v53 m c = dX (A0 m c) (A1 m c) (A2 m c) (A3 m c) (A4 m c) := by
  funext j
  idx_vars j
  rw [r53]
  simp only [Fin.sum_univ_one]
  refine (back_of nn 1024 (by norm_num) w1024 (H m c _) (G m c _) (fun k => hm_real _ _ _ _ _ h _ k)
    (fun k => ?_) _).trans ?_
  · unfold G
    rw [seed_eq]
    exact mul_real (dg_real _ _ _ _ _ h _ k) (h.h4 _)
  · unfold dX dg G H
    simp only [seed_eq]
    rfl

theorem res55 (c : Dev nD) (h : Fin5 (A0 m c) (A1 m c) (A2 m c) (A3 m c) (A4 m c)) : res_main_v55 m c = dX (A0 m c) (A1 m c) (A2 m c) (A3 m c) (A4 m c) :=
  Eq.trans (b := res_main_v53 m c) rfl (res53 m c h)

/-- The reference's run, its results read index by index. -/
theorem run (ρ : Dev nD → PrngReg) (h : ∀ c, Fin5 (A0 m c) (A1 m c) (A2 m c) (A3 m c) (A4 m c)) :
    θ_run defs (onTc (τ := τ) (main (F := Ideal))) ⟨m, fun _ => 0, ρ⟩ fun r => ∀ c : Dev nD,
      r.2.mem ((c.tc : Thread nD τ).loc main_v54) = lo (A0 m c) (A1 m c) (A2 m c) (A3 m c) (A4 m c)
      ∧ r.2.mem ((c.tc : Thread nD τ).loc main_v53) = dX (A0 m c) (A1 m c) (A2 m c) (A3 m c) (A4 m c)
      ∧ r.2.mem ((c.tc : Thread nD τ).loc main_v55) = dX (A0 m c) (A1 m c) (A2 m c) (A3 m c) (A4 m c)
      ∧ r.2.mem ((c.tc : Thread nD τ).loc main_v37) = dW (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h' c => ⟨(h' c).1.trans ?_, (h' c).2.1.trans (res53 m c (h c)), (h' c).2.2.1.trans (res55 m c (h c)), (h' c).2.2.2.1.trans ?_, (h' c).2.2.2.2⟩) (Value.run m ρ)
  · clear h'
    funext j
    idx_vars j
    unfold lo er rs ms hm
    pointwise
  · clear h'
    funext j
    idx_vars j
    unfold dW dg
    simp only [← seed_eq]
    unfold seed er rs ms hm
    pointwise
    exact Finset.sum_congr rfl fun i _ => mul_comm _ _

end Cert.LossRefIdeal.Val

/-! ## The kernel -/

namespace Cert.LossIdeal.Val

open Cert.LossIdeal Cert.LossIdeal.Gen Cert.Val Cert.Val.Loss Cert.Val.Rms

section pay

variable (x0 : Vec Ideal S512x2816 .bf16) (x1 : Vec Ideal S2816x1024 .bf16) (x2 : Vec Ideal S512x1024 .f32) (x3 : Vec Ideal S512x1024 .f32) (x4 : Vec Ideal S1x1024 .f32)
  (a : FVec Ideal SA .bf16) (p : FVec Ideal SP .bf16) (x : FVec Ideal SX .f32) (y : FVec Ideal SX .f32) (w : FVec Ideal SW .f32) (i : Fin 512) (r : Fin 8192)

theorem pay6 (h0 : ∀ l, x0 (ix2 i l) = a (ix2 r l)) (h1 : ∀ l k, x1 (ix2 l k) = p (ix2 l k)) (h2 : ∀ k, x2 (ix2 i k) = x (ix2 r k)) (k : Fin 1024) :
    k0_pay6 (F := Ideal) x0 x1 x2 (ix2 i k) = hm a p x r k := by
  pointwise [k0_pay6]
  simp only [h0, h1, h2]
  exact add_comm _ _

/-- The row's blocks are rows of the arrays. -/
structure Row : Prop where
  h0 : ∀ l, x0 (ix2 i l) = a (ix2 r l)
  h1 : ∀ l k, x1 (ix2 l k) = p (ix2 l k)
  h2 : ∀ k, x2 (ix2 i k) = x (ix2 r k)
  h3 : ∀ k, x3 (ix2 i k) = y (ix2 r k)
  h4 : ∀ k, x4 (ix2 0 k) = w (ix1 k)

variable (H : Row x0 x1 x2 x3 x4 a p x y w i r)

include H
theorem pay6' (k : Fin 1024) : k0_pay6 (F := Ideal) x0 x1 x2 (ix2 i k) = hm a p x r k := pay6 _ _ _ _ _ _ _ _ H.h0 H.h1 H.h2 k
theorem pay9 : k0_pay9 (F := Ideal) x0 x1 x2 (ix2 i 0) = rs nn ee (hm a p x r) := by
  unfold rs ms
  simp only [← pay6' x0 x1 x2 x3 x4 a p x y w i r H]
  pointwise [k0_pay9]
theorem pay10 (k : Fin 1024) : k0_pay10 (F := Ideal) x0 x1 x2 (ix2 i k) = hm a p x r k * rs nn ee (hm a p x r) := by
  rw [← pay6' x0 x1 x2 x3 x4 a p x y w i r H, ← pay9 x0 x1 x2 x3 x4 a p x y w i r H]
  pointwise [k0_pay10]
theorem pay12 (k : Fin 1024) : k0_pay12 (F := Ideal) x0 x1 x2 x4 x3 (ix2 i k) = er a p x y w r k := by
  unfold er
  rw [← pay10 x0 x1 x2 x3 x4 a p x y w i r H, ← H.h3, ← H.h4]
  pointwise [k0_pay12, k0_pay11]
theorem pay2 (k : Fin 1024) : k0_pay2 (F := Ideal) (k0_pay12 (F := Ideal) x0 x1 x2 x4 x3) (ix2 i k) = dg a p x y w r k := by
  unfold dg
  rw [← pay12 x0 x1 x2 x3 x4 a p x y w i r H]
  pointwise [k0_pay2]
/-- A row's gradient, as stored. -/
theorem pay3 (k : Fin 1024) : k0_pay3 (F := Ideal) (k0_pay9 (F := Ideal) x0 x1 x2) (k0_pay10 (F := Ideal) x0 x1 x2) (k0_pay11 (F := Ideal) x4)
    (k0_pay12 (F := Ideal) x0 x1 x2 x4 x3) (ix2 i k) = dX a p x y w (ix2 r k) := by
  have e : ∀ g n : FVec Ideal S512x1024 .f32, ∀ s : FVec Ideal S512x1 .f32, ∀ z : FVec Ideal S1x1024 .f32,
      k0_pay3 (F := Ideal) s n z g (ix2 i k) = s (ix2 i 0) * (k0_pay2 (F := Ideal) g (ix2 i k) * z (ix2 0 k) - n (ix2 i k) *
        Ideal.div (∑ q : Fin 1024, k0_pay2 (F := Ideal) g (ix2 i q) * z (ix2 0 q) * n (ix2 i q)) nn) := by
    intro g n s z
    pointwise [k0_pay3]
  have e11 (q : Fin 1024) : k0_pay11 (F := Ideal) x4 (ix2 0 q) = w (ix1 q) := by
    rw [← H.h4]
    pointwise [k0_pay11]
  rw [e]
  simp only [pay2 x0 x1 x2 x3 x4 a p x y w i r H, pay10 x0 x1 x2 x3 x4 a p x y w i r H, pay9 x0 x1 x2 x3 x4 a p x y w i r H, e11]
  rfl

end pay

/-- A block's part of the loss. -/
theorem pay14 (x0 : Vec Ideal S512x2816 .bf16) (x1 : Vec Ideal S2816x1024 .bf16) (x2 : Vec Ideal S512x1024 .f32) (x3 : Vec Ideal S512x1024 .f32) (x4 : Vec Ideal S1x1024 .f32) (z : FVec Ideal S1x1 .f32) :
    k0_pay1 (F := Ideal) (k0_pay13 z) (k0_pay14 (F := Ideal) x0 x1 x2 x4 x3) (ix2 0 0) = z (ix2 0 0) + Ideal.ofBits .f32 0x3F000000#32 *
      ∑ i : Fin 512, Ideal.div (∑ k : Fin 1024, k0_pay12 (F := Ideal) x0 x1 x2 x4 x3 (ix2 i k) * k0_pay12 (F := Ideal) x0 x1 x2 x4 x3 (ix2 i k)) nn := by
  pointwise [k0_pay1, k0_pay13, k0_pay14]
theorem pay7 : k0_pay7 (F := Ideal) (ix2 0 0) = 0 := by
  pointwise [k0_pay7]
theorem pay8 (k : Fin 1024) : k0_pay8 (F := Ideal) (ix2 0 k) = 0 := by
  pointwise [k0_pay8]

theorem pay5 (v17 v23 : FVec Ideal S512x1024 .f32) (z : FVec Ideal S1x1024 .f32) (k : Fin 1024) :
    k0_pay5 (F := Ideal) v17 v23 z (ix2 0 k) = z (ix2 0 k) + ∑ i : Fin 512, k0_pay2 (F := Ideal) v23 (ix2 i k) * v17 (ix2 i k) := by
  pointwise [k0_pay5]

variable (m : (ℓ : Loc nD τ sig) → Buf (Elt Ideal) ℓ)

abbrev A0 (c : Dev nD) : FVec Ideal SA .bf16 := m ((c.tc : Thread nD τ).loc main_arg0)
abbrev A1 (c : Dev nD) : FVec Ideal SP .bf16 := m ((c.tc : Thread nD τ).loc main_arg1)
abbrev A2 (c : Dev nD) : FVec Ideal SX .f32 := m ((c.tc : Thread nD τ).loc main_arg2)
abbrev A3 (c : Dev nD) : FVec Ideal SX .f32 := m ((c.tc : Thread nD τ).loc main_arg3)
abbrev A4 (c : Dev nD) : FVec Ideal SW .f32 := m ((c.tc : Thread nD τ).loc main_arg4)

/-- The row of the array that is row `i` of block `t`. -/
def row (t : Fin cfg0.N) (i : Fin 512) : Fin 8192 := ⟨t.val * 512 + i.val, by have := t.isLt; have : cfg0.N = 16 := N_0; omega⟩

theorem idx : ∀ t : Fin cfg0.N, win0_0.index t = ![t.val, 0] ∧ win0_1.index t = ![0, 0] ∧ win0_2.index t = ![t.val, 0] ∧ win0_3.index t = ![t.val, 0] ∧ win0_4.index t = ![0, 0]
    ∧ win0_5.index t = ![0, 0] ∧ win0_6.index t = ![t.val, 0] ∧ win0_7.index t = ![t.val, 0] ∧ win0_8.index t = ![0, 0] :=
  (by decide +kernel : ∀ t : Fin grid0.N, _)

/-! Each window's block, read off the array it is a block of. -/
theorem rd0 (X : FVec Ideal SA .bf16) (t : Fin cfg0.N) (i : Fin 512) (l : Fin 2816) : ((cfg0.win 0).blk t).view.read (Elt Ideal) X (ix2 i l) = X (ix2 (row t i) l) := by blk_ext [idx t, row]
theorem rd1 (X : FVec Ideal SP .bf16) (t : Fin cfg0.N) (l : Fin 2816) (k : Fin 1024) : ((cfg0.win 1).blk t).view.read (Elt Ideal) X (ix2 l k) = X (ix2 l k) := by blk_ext [idx t]
theorem rd2 (X : FVec Ideal SX .f32) (t : Fin cfg0.N) (i : Fin 512) (k : Fin 1024) : ((cfg0.win 2).blk t).view.read (Elt Ideal) X (ix2 i k) = X (ix2 (row t i) k) := by blk_ext [idx t, row]
theorem rd3 (X : FVec Ideal SX .f32) (t : Fin cfg0.N) (i : Fin 512) (k : Fin 1024) : ((cfg0.win 3).blk t).view.read (Elt Ideal) X (ix2 i k) = X (ix2 (row t i) k) := by blk_ext [idx t, row]
theorem rd4 (X : FVec Ideal SD .f32) (t : Fin cfg0.N) (k : Fin 1024) : ((cfg0.win 4).blk t).view.read (Elt Ideal) X (ix2 0 k) = X (ix2 0 k) := by blk_ext [idx t]

theorem w_at (c : Dev nD) (k : Fin 1024) : V m c main_v0 (ix2 0 k) = A4 m c (ix1 k) := by
  entry_read
  pointwise

theorem rows (c : Dev nD) (t : Fin cfg0.N) (i : Fin 512) :
    Row (iblk m c 0 t) (iblk m c 1 t) (iblk m c 2 t) (iblk m c 3 t) (iblk m c 4 t) (A0 m c) (A1 m c) (A2 m c) (A3 m c) (A4 m c) i (row t i) where
  h0 l := (rd0 _ t i l).trans (congrFun (V_main_arg0 m c) _)
  h1 l k := (rd1 _ t l k).trans (congrFun (V_main_arg1 m c) _)
  h2 k := (rd2 _ t i k).trans (congrFun (V_main_arg2 m c) _)
  h3 k := (rd3 _ t i k).trans (congrFun (V_main_arg3 m c) _)
  h4 k := (rd4 _ t k).trans (w_at m c k)

/-! The loss and the scale's gradient are added up over the blocks. -/

/-- A row's mean square error. -/
def sq (c : Dev nD) (i : Fin 8192) : EReal :=
  Ideal.div (∑ k : Fin 1024, er (A0 m c) (A1 m c) (A2 m c) (A3 m c) (A4 m c) i k * er (A0 m c) (A1 m c) (A2 m c) (A3 m c) (A4 m c) i k) nn
def partL (c : Dev nD) (t : Fin cfg0.N) (_ : S1x1.Idx) : EReal := Ideal.ofBits .f32 0x3F000000#32 * ∑ i : Fin 512, sq m c (row t i)
def partW (c : Dev nD) (t : Fin cfg0.N) (y : S1x1024.Idx) : EReal :=
  ∑ i : Fin 512, dg (A0 m c) (A1 m c) (A2 m c) (A3 m c) (A4 m c) (row t i) (y 1) * (hm (A0 m c) (A1 m c) (A2 m c) (row t i) (y 1) * rs nn ee (hm (A0 m c) (A1 m c) (A2 m c) (row t i)))

theorem l_at (c : Dev nD) (t : Fin cfg0.N) (z : FVec Ideal S1x1 .f32) (y : S1x1.Idx) :
    k0_pay1 (F := Ideal) (k0_pay13 z) (k0_pay14 (F := Ideal) (iblk m c 0 t) (iblk m c 1 t) (iblk m c 2 t) (iblk m c 4 t) (iblk m c 3 t)) y = z y + partL m c t y := by
  idx_vars y
  obtain rfl : y0 = 0 := Subsingleton.elim _ _
  obtain rfl : y1 = 0 := Subsingleton.elim _ _
  refine (pay14 _ _ _ _ _ z).trans (congrArg (fun u : EReal => z (ix2 0 0) + Ideal.ofBits .f32 0x3F000000#32 * u) (Finset.sum_congr rfl fun i _ => ?_))
  exact congrArg (fun u : EReal => Ideal.div u nn) (Finset.sum_congr rfl fun k _ => congrArg₂ (fun u v : EReal => u * v)
    (pay12 _ _ _ _ _ _ _ _ _ _ i (row t i) (rows m c t i) k) (pay12 _ _ _ _ _ _ _ _ _ _ i (row t i) (rows m c t i) k))
theorem l_zero (y : S1x1.Idx) : k0_pay7 (F := Ideal) y = 0 := by
  idx_vars y
  obtain rfl : y0 = 0 := Subsingleton.elim _ _
  obtain rfl : y1 = 0 := Subsingleton.elim _ _
  exact pay7
theorem w_add (c : Dev nD) (t : Fin cfg0.N) (z : FVec Ideal S1x1024 .f32) (y : S1x1024.Idx) :
    k0_pay5 (F := Ideal) (k0_pay10 (iblk m c 0 t) (iblk m c 1 t) (iblk m c 2 t)) (k0_pay12 (iblk m c 0 t) (iblk m c 1 t) (iblk m c 2 t) (iblk m c 4 t) (iblk m c 3 t)) z y = z y + partW m c t y := by
  idx_vars y
  obtain rfl : y0 = 0 := Subsingleton.elim _ _
  refine (pay5 _ _ z y1).trans (congrArg (fun u : EReal => z (ix2 0 y1) + u) (Finset.sum_congr rfl fun i _ => ?_))
  exact congrArg₂ (fun u v : EReal => u * v) (pay2 _ _ _ _ _ _ _ _ _ _ i (row t i) (rows m c t i) y1) (pay10 _ _ _ _ _ _ _ _ _ _ i (row t i) (rows m c t i) y1)
theorem w_zero (y : S1x1024.Idx) : k0_pay8 (F := Ideal) y = 0 := by
  idx_vars y
  obtain rfl : y0 = 0 := Subsingleton.elim _ _
  exact pay8 y1

theorem outs5A (c : Dev nD) (t : Fin cfg0.N) (h : t.val % 16 = 0) (j : S1x1.Idx) : (outsAt0 m c t.val t.isLt).1 j = 0 + partL m c t j := by
  rw [outsAt0_A m c t h]
  frame_out
  rw [l_at, l_zero]
theorem outs5B (c : Dev nD) (t : Fin cfg0.N) (h : ¬ t.val % 16 = 0) (j : S1x1.Idx) : (outsAt0 m c t.val t.isLt).1 j
    = (outsAt0 m c (t.val - 1) (lt_of_le_of_lt (Nat.sub_le _ _) t.isLt)).1 j + partL m c t j := by
  rw [outsAt0_B m c t h]
  frame_out
  rw [l_at]
theorem outs8A (c : Dev nD) (t : Fin cfg0.N) (h : t.val % 16 = 0) (j : S1x1024.Idx) : (outsAt0 m c t.val t.isLt).2.2.2 j = 0 + partW m c t j := by
  rw [outsAt0_A m c t h]
  frame_out
  rw [w_add, w_zero]
theorem outs8B (c : Dev nD) (t : Fin cfg0.N) (h : ¬ t.val % 16 = 0) (j : S1x1024.Idx) : (outsAt0 m c t.val t.isLt).2.2.2 j
    = (outsAt0 m c (t.val - 1) (lt_of_le_of_lt (Nat.sub_le _ _) t.isLt)).2.2.2 j + partW m c t j := by
  rw [outsAt0_B m c t h]
  frame_out
  rw [w_add]

/-- A row's gradient, as the two windows hold it. -/
theorem dx_at (c : Dev nD) (t : Fin cfg0.N) (i : Fin 512) (k : Fin 1024) :
    k0_pay3 (F := Ideal) (k0_pay9 (iblk m c 0 t) (iblk m c 1 t) (iblk m c 2 t)) (k0_pay10 (iblk m c 0 t) (iblk m c 1 t) (iblk m c 2 t))
      (k0_pay11 (iblk m c 4 t)) (k0_pay12 (iblk m c 0 t) (iblk m c 1 t) (iblk m c 2 t) (iblk m c 4 t) (iblk m c 3 t)) (ix2 i k)
      = dX (A0 m c) (A1 m c) (A2 m c) (A3 m c) (A4 m c) (ix2 (row t i) k) :=
  pay3 _ _ _ _ _ _ _ _ _ _ i (row t i) (rows m c t i) k
theorem outs6 (c : Dev nD) (t : Fin cfg0.N) (y : S512x1024.Idx) : (outsAt0 m c t.val t.isLt).2.1 y =
    k0_pay3 (F := Ideal) (k0_pay9 (iblk m c 0 t) (iblk m c 1 t) (iblk m c 2 t)) (k0_pay10 (iblk m c 0 t) (iblk m c 1 t) (iblk m c 2 t))
      (k0_pay11 (iblk m c 4 t)) (k0_pay12 (iblk m c 0 t) (iblk m c 1 t) (iblk m c 2 t) (iblk m c 4 t) (iblk m c 3 t)) y := by
  by_cases h : t.val % 16 = 0
  · rw [outsAt0_A m c t h]; frame_out
  · rw [outsAt0_B m c t h]; frame_out
theorem outs7 (c : Dev nD) (t : Fin cfg0.N) (y : S512x1024.Idx) : (outsAt0 m c t.val t.isLt).2.2.1 y =
    k0_pay3 (F := Ideal) (k0_pay9 (iblk m c 0 t) (iblk m c 1 t) (iblk m c 2 t)) (k0_pay10 (iblk m c 0 t) (iblk m c 1 t) (iblk m c 2 t))
      (k0_pay11 (iblk m c 4 t)) (k0_pay12 (iblk m c 0 t) (iblk m c 1 t) (iblk m c 2 t) (iblk m c 4 t) (iblk m c 3 t)) y := by
  by_cases h : t.val % 16 = 0
  · rw [outsAt0_A m c t h]; frame_out; rfl
  · rw [outsAt0_B m c t h]; frame_out; rfl

theorem final6 (c : Dev nD) : (dats m 0 c).arrAt 6 cfg0.N = dX (A0 m c) (A1 m c) (A2 m c) (A3 m c) (A4 m c) := by
  refine (dats m 0 c).arrAt_eq_of_covers 6 _ (by decide +kernel) fun t hf y => ?_
  blk_simp
  rw [after0_6, outs6]
  idx_vars y
  refine (dx_at m c t _ _).trans ?_
  blk_ext [idx t, row]
theorem final7 (c : Dev nD) : (dats m 0 c).arrAt 7 cfg0.N = dX (A0 m c) (A1 m c) (A2 m c) (A3 m c) (A4 m c) := by
  refine (dats m 0 c).arrAt_eq_of_covers 7 _ (by decide +kernel) fun t hf y => ?_
  blk_simp
  rw [after0_7, outs7]
  idx_vars y
  refine (dx_at m c t _ _).trans ?_
  blk_ext [idx t, row]

/-- The blocks' parts together. -/
theorem partsL (c : Dev nD) (hf : Fin5 (A0 m c) (A1 m c) (A2 m c) (A3 m c) (A4 m c)) (t : Fin cfg0.N) (h : ∀ s : Fin 16, 16 * (t.val / 16) + s.val < cfg0.N) (y : S1x1.Idx) (y' : SL.Idx) :
    ∑ s : Fin 16, partL m c ⟨16 * (t.val / 16) + s.val, h s⟩ y = lo (A0 m c) (A1 m c) (A2 m c) (A3 m c) (A4 m c) y' := by
  have ht : t.val < 16 := lt_of_lt_of_eq t.isLt N_0
  have hq (i : Fin 8192) : ∃ r : ℝ, sq m c i = (r : EReal) :=
    div_real_of nn 1024 (by norm_num) w1024 (dot_real _ _ (fun k => er_real _ _ _ _ _ hf i k) fun k => er_real _ _ _ _ _ hf i k)
  unfold partL
  rw [mul_sum_real _ _ ⟨1 / 2, by simp [Ideal.ofBits, Ideal.ieee, ← EReal.coe_mul]; norm_num [← EReal.coe_mul]⟩ fun s => sum_real_of _ fun k => hq _]
  refine congrArg (fun u : EReal => Ideal.ofBits .f32 0x3F000000#32 * u) (?_ : _ = ∑ i : Fin 8192, sq m c i)
  refine Fin.sum_mul_add_congr fun s k hl => ?_
  have e : row ⟨16 * (t.val / 16) + s.val, h s⟩ k = ⟨s.val * 512 + k.val, hl⟩ := Fin.ext (by unfold row; dsimp only; omega)
  rw [e]
theorem partsW (c : Dev nD) (t : Fin cfg0.N) (h : ∀ s : Fin 16, 16 * (t.val / 16) + s.val < cfg0.N) (y : S1x1024.Idx) :
    ∑ s : Fin 16, partW m c ⟨16 * (t.val / 16) + s.val, h s⟩ y = dW (A0 m c) (A1 m c) (A2 m c) (A3 m c) (A4 m c) y := by
  have ht : t.val < 16 := lt_of_lt_of_eq t.isLt N_0
  unfold partW dW
  refine Fin.sum_mul_add_congr fun s k hl => ?_
  have e : row ⟨16 * (t.val / 16) + s.val, h s⟩ k = ⟨s.val * 512 + k.val, hl⟩ := Fin.ext (by unfold row; dsimp only; omega)
  rw [e]

theorem final5 (c : Dev nD) (h : Fin5 (A0 m c) (A1 m c) (A2 m c) (A3 m c) (A4 m c)) : (dats m 0 c).arrAt 5 cfg0.N = lo (A0 m c) (A1 m c) (A2 m c) (A3 m c) (A4 m c) := by
  refine (dats m 0 c).arrAt_eq_of_covers 5 _ (by decide +kernel) fun t hf y => ?_
  blk_simp
  rw [after0_5, Pipeline.eq_sum_fin_of_reset_step_apply_of_flush (fun n h => (outsAt0 m c n h).1) 16 (fun _ => 0)
    (partL m c) (outs5A m c) (outs5B m c) t ((flush0_5 t).mp hf) _, zero_add]
  exact partsL m c h t _ _ _
theorem final8 (c : Dev nD) : (dats m 0 c).arrAt 8 cfg0.N = dW (A0 m c) (A1 m c) (A2 m c) (A3 m c) (A4 m c) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0)
    (partW m c) (outs8A m c) (outs8B m c) t ((flush0_8 t).mp hf) _, zero_add]
  refine (partsW m c t _ _).trans ?_
  idx_vars y
  blk_ext [idx t]

end Cert.LossIdeal.Val

/-! ## The claims -/

namespace Cert.Val.Loss

open Cert.LossIdeal.Val (A0 A1 A2 A3 A4)

/-- The reference's frame: its run read at the arguments; it has no semaphore. -/
theorem frame_ref : Cert.quiescent_LossRefIdeal := fun m ρ _ =>
  (θ_run Cert.LossRefIdeal.defs _ _).mono (fun r h => ⟨fun c => (h c).2.2.2.2,
      Idealize.ShloMosaic.sem_eq_zero_of_no_sems (by decide) r.2⟩) (Cert.LossRefIdeal.Value.run m ρ)

/-- Both programs end with the same loss and gradients of the same arguments. -/
theorem algebraic : Cert.algebraic_LossIdeal_LossRefIdeal_pre_finite_loss := by
  intro m ρ m' ρ' hpre hagree
  have hfin (c : Dev Cert.LossIdeal.nD) : Fin5 (A0 m c) (A1 m c) (A2 m c) (A3 m c) (A4 m c) := by
    obtain ⟨h0, h1, h2, h3, h4⟩ := hpre c
    exact ⟨fun i => real_of_cmp _ _ ofBits_inf_bf16 (congrFun h0 i), fun i => real_of_cmp _ _ ofBits_inf_bf16 (congrFun h1 i),
      fun i => real_of_cmp _ _ ofBits_inf_f32 (congrFun h2 i), fun i => real_of_cmp _ _ ofBits_inf_f32 (congrFun h3 i), fun i => real_of_cmp _ _ ofBits_inf_f32 (congrFun h4 i)⟩
  refine ⟨fun c => lo (A0 m c) (A1 m c) (A2 m c) (A3 m c) (A4 m c), fun c => dX (A0 m c) (A1 m c) (A2 m c) (A3 m c) (A4 m c),
    fun c => dX (A0 m c) (A1 m c) (A2 m c) (A3 m c) (A4 m c), fun c => dW (A0 m c) (A1 m c) (A2 m c) (A3 m c) (A4 m c), ?_, ?_⟩
  · exact (θ_run Cert.LossIdeal.defs _ _).mono (fun _ h c => ⟨(h c).1.trans (Cert.LossIdeal.Val.final5 m c (hfin c)), (h c).2.1.trans (Cert.LossIdeal.Val.final6 m c),
      (h c).2.2.1.trans (Cert.LossIdeal.Val.final7 m c), (h c).2.2.2.1.trans (Cert.LossIdeal.Val.final8 m c), (h c).2.2.2.2⟩) (Cert.LossIdeal.Value.run_blocks m ρ)
  · have e (c : Dev Cert.LossIdeal.nD) : Cert.LossRefIdeal.Val.A0 m' c = A0 m c ∧ Cert.LossRefIdeal.Val.A1 m' c = A1 m c ∧ Cert.LossRefIdeal.Val.A2 m' c = A2 m c
      ∧ Cert.LossRefIdeal.Val.A3 m' c = A3 m c ∧ Cert.LossRefIdeal.Val.A4 m' c = A4 m c := hagree c
    refine (θ_run Cert.LossRefIdeal.defs _ _).mono (fun _ h c => ⟨(h c).1.trans ?_, (h c).2.1.trans ?_, (h c).2.2.1.trans ?_, (h c).2.2.2.1.trans ?_, (h c).2.2.2.2⟩) (Cert.LossRefIdeal.Val.run m' ρ' fun c => ?_)
    all_goals
      obtain ⟨e0, e1, e2, e3, e4⟩ := e c
      rw [e0, e1, e2, e3, e4]
    exact hfin c

end Cert.Val.Loss

end
-- ==== Proof.Val.Prep.lean ====
/-
  The gradient through the head norms and the rotary before the attention (`Prep`): the kernel's three result arrays
  after the run, and the reference's, as the same functions of the eight arguments, all arguments being finite.
-/
module

public import proofs.«01_k».proof.Defs
public import proofs.«01_k».proof.Proof.Gen.PrepIdeal.Value
public import proofs.«01_k».proof.Proof.Gen.PrepRefIdeal.Run
public import proofs.«01_k».proof.Proof.Gen.Pre_finite_prep
public import proofs.«01_k».proof.Proof.Val.Rms
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

/-! ## The results as functions of the arguments -/

namespace Cert.Val.Prep

open Cert.Val.Rms

abbrev SU : Shape := ⟨2, ![8192, 3328]⟩
abbrev SQ : Shape := ⟨4, ![2, 16, 64, 2048]⟩
abbrev SK : Shape := ⟨4, ![2, 16, 64, 512]⟩
abbrev SC : Shape := ⟨2, ![8192, 32]⟩
abbrev SW : Shape := ⟨2, ![1, 64]⟩
abbrev SO : Shape := ⟨2, ![8192, 768]⟩
abbrev SG : Shape := ⟨2, ![1, 512]⟩
abbrev SH : Shape := ⟨2, ![1, 128]⟩

/-- A head's width, its inverse, and the two scales, as the programs write them. -/
abbrev nn : EReal := Ideal.ofBits .f32 0x42800000#32
abbrev ii : EReal := Ideal.ofBits .f32 0x3C800000#32
abbrev cc : EReal := Ideal.ofBits .f32 0x3E000000#32
abbrev ll : EReal := Ideal.ofBits .f32 0x3F317218#32

theorem ii_eq : Ideal.ofBits .f32 0x3C800000#32 = ((1 / 64 : ℝ) : EReal) := by
  simp [Ideal.ofBits, Ideal.ieee, ← EReal.coe_mul]; norm_num [← EReal.coe_mul]
theorem cc_real : ∃ r : ℝ, cc = (r : EReal) := by
  refine ⟨1 / 8, ?_⟩
  simp [Ideal.ofBits, Ideal.ieee, ← EReal.coe_mul]; norm_num [← EReal.coe_mul]
theorem ll_real : ∃ r : ℝ, ll = (r : EReal) := by
  refine ⟨11629080 * (2 : ℝ) ^ (-24 : ℤ), ?_⟩
  simp [Ideal.ofBits, Ideal.ieee, ← EReal.coe_mul]

/-! One head of one row. -/
section row

/-- The other entry of the pair that entry `k` is rotated with, and the pair. -/
def pr (k : Fin 64) : Fin 64 := if h : k.val % 2 = 0 then ⟨k.val + 1, by omega⟩ else ⟨k.val - 1, by omega⟩
def hf (k : Fin 64) : Fin 32 := ⟨k.val / 2, by omega⟩

variable (x d w : Fin 64 → EReal) (co si : Fin 32 → EReal) (k : Fin 64)

/-- The gradient turned back, … -/
def dn : EReal := d k * co (hf k) + (if k.val % 2 = 0 then d (pr k) * si (hf k) else -d (pr k) * si (hf k))
/-- … the gradient of the head before its norm, … -/
def gx : EReal := back nn ee x (fun q => dn d co si q * w q) k
/-- … and the row's part of the gradient of the scale. -/
def gw : EReal := dn d co si k * (x k * rs nn ee x)

theorem neg_real {u : EReal} (hu : ∃ r : ℝ, u = (r : EReal)) : ∃ r : ℝ, -u = (r : EReal) := by
  obtain ⟨r, rfl⟩ := hu
  exact ⟨-r, (EReal.coe_neg r).symm⟩
theorem dn_real (hd : ∀ k, ∃ r : ℝ, d k = (r : EReal)) (hc : ∀ k, ∃ r : ℝ, co k = (r : EReal)) (hs : ∀ k, ∃ r : ℝ, si k = (r : EReal)) :
    ∃ r : ℝ, dn d co si k = (r : EReal) := by
  unfold dn
  split_ifs
  · exact add_real (mul_real (hd _) (hc _)) (mul_real (hd _) (hs _))
  · exact add_real (mul_real (hd _) (hc _)) (mul_real (neg_real (hd _)) (hs _))

end row

/-! A row of several heads side by side. -/
section cols

variable {W : ℕ} (hW : W % 64 = 0)

/-- Column `k` of the head that column `b` lies in, and the column within the head. -/
def hb (b : Fin W) (k : Fin 64) : Fin W := ⟨b.val / 64 * 64 + k.val, by have := b.isLt; omega⟩
def hk (b : Fin W) : Fin 64 := ⟨b.val % 64, by omega⟩

theorem hb_hk (b : Fin W) : hb hW b (hk b) = b := Fin.ext (by unfold hb hk; dsimp only; omega)
theorem hk_hb (b : Fin W) (k : Fin 64) : hk (hb hW b k) = k := Fin.ext (by unfold hb hk; dsimp only; omega)
theorem hb_hb (b : Fin W) (k q : Fin 64) : hb hW (hb hW b k) q = hb hW b q := Fin.ext (by unfold hb; dsimp only; omega)

/-- One where two columns lie in the same head. -/
def bd (a b : Fin W) : EReal := if a.val / 64 = b.val / 64 then 1 else 0

theorem sum_bd (f : Fin W → EReal) (b : Fin W) : ∑ a, f a * bd a b = ∑ k, f (hb hW b k) := by
  have e (a : Fin W) : f a * bd a b = if a.val / 64 = b.val / 64 then f a else 0 := by
    unfold bd
    split_ifs <;> simp
  simp only [e]
  rw [← Finset.sum_filter]
  refine Finset.sum_nbij' hk (hb hW b) (fun a _ => Finset.mem_univ _) (fun k _ => Finset.mem_filter.mpr ⟨Finset.mem_univ _, ?_⟩) (fun a ha => ?_) (fun k _ => ?_) (fun a ha => ?_)
  · unfold hb
    dsimp only
    omega
  · have := (Finset.mem_filter.mp ha).2
    exact Fin.ext (by unfold hb hk; dsimp only; omega)
  · exact Fin.ext (by unfold hb hk; dsimp only; omega)
  · have := (Finset.mem_filter.mp ha).2
    exact congrArg f (Fin.ext (by unfold hb hk; dsimp only; omega))

/-- The mean over a head, summed in two pieces of which the second is zero. -/
theorem mean_bd (f : Fin W → EReal) (hf : ∀ a, ∃ r : ℝ, f a = (r : EReal)) (b : Fin W) :
    (∑ a, f a * bd a b + ∑ a, (f a - f a) * bd a b) * ii = Ideal.div (∑ k, f (hb hW b k)) nn := by
  have z (a : Fin W) : (f a - f a) * bd a b = 0 := by
    obtain ⟨r, hr⟩ := hf a
    rw [hr, ← EReal.coe_sub, sub_self, EReal.coe_zero, zero_mul]
  simp only [z, Finset.sum_const_zero, add_zero]
  rw [sum_bd hW]
  obtain ⟨s, hs⟩ := sum_real_of (fun k => f (hb hW b k)) fun k => hf _
  unfold nn ii
  rw [hs, w64, div_real _ _ (by norm_num), ii_eq, ← EReal.coe_mul]
  congr 1
  ring

variable (X D w : Fin W → EReal)

/-- The factor of a head's norm as the kernel computes it. -/
def kr (b : Fin W) : EReal := Ideal.rsqrt ((∑ a, X a * X a * bd a b + ∑ a, (X a * X a - X a * X a) * bd a b) * ii + ee)
theorem kr_eq (hX : ∀ a, ∃ r : ℝ, X a = (r : EReal)) (b : Fin W) : kr X b = rs nn ee fun k => X (hb hW b k) := by
  unfold kr rs ms
  rw [mean_bd hW (fun a => X a * X a) fun a => mul_real (hX a) (hX a)]

/-- A head's gradient as the kernel computes it. -/
def kx (b : Fin W) : EReal := kr X b * (D b * w b - X b * kr X b
  * ((∑ a, D a * w a * (X a * kr X a) * bd a b + ∑ a, (D a * w a * (X a * kr X a) - D a * w a * (X a * kr X a)) * bd a b) * ii))
theorem kx_eq (hX : ∀ a, ∃ r : ℝ, X a = (r : EReal)) (hD : ∀ a, ∃ r : ℝ, D a = (r : EReal)) (hw : ∀ a, ∃ r : ℝ, w a = (r : EReal)) (b : Fin W) :
    kx X D w b = back nn ee (fun k => X (hb hW b k)) (fun k => D (hb hW b k) * w (hb hW b k)) (hk b) := by
  have hr (a : Fin W) : ∃ r : ℝ, kr X a = (r : EReal) := by
    rw [kr_eq hW X hX]
    exact rs_real nn 64 (by norm_num) w64 _ fun _ => hX _
  unfold kx
  rw [mean_bd hW (fun a => D a * w a * (X a * kr X a)) fun a => mul_real (mul_real (hD a) (hw a)) (mul_real (hX a) (hr a))]
  simp only [kr_eq hW X hX, hb_hb]
  unfold back
  simp only [hb_hk]

/-- The gradient turned back as the kernel computes it: the neighbour's on the pair's other side. -/
def nx (b : Fin W) : Fin W := if h : b.val % 2 = 0 then ⟨b.val + 1, by omega⟩ else ⟨b.val - 1, by omega⟩
def kd (b : Fin W) : EReal := D b * X b - D (nx hW b) * w b

theorem turned (b p q : Fin W) (hp : b.val % 2 = 0 → p.val = b.val + 1) (hq : b.val % 2 ≠ 0 → q.val = b.val - 1) :
    D b * X b - (if b.val % 2 = 0 then D p else D q) * w b = kd hW X D w b := by
  unfold kd nx
  split_ifs with h
  · rw [show p = ⟨b.val + 1, by omega⟩ from Fin.ext (hp h)]
  · rw [show q = ⟨b.val - 1, by omega⟩ from Fin.ext (hq h)]
theorem kd_eq (co si : Fin 32 → EReal) (hX : ∀ b, X b = co (hf (hk b))) (hw : ∀ b : Fin W, w b = if b.val % 2 = 0 then -si (hf (hk b)) else si (hf (hk b))) (b : Fin W)
    (hD : ∀ a, ∃ r : ℝ, D a = (r : EReal)) (hs : ∀ q, ∃ r : ℝ, si q = (r : EReal)) :
    kd hW X D w b = dn (fun k => D (hb hW b k)) co si (hk b) := by
  obtain ⟨u, hu⟩ := hD (nx hW b)
  obtain ⟨v, hv⟩ := hs (hf (hk b))
  have e : D (hb hW b (pr (hk b))) = D (nx hW b) := congrArg D (by
    unfold nx pr hb hk
    apply Fin.ext
    dsimp only
    split_ifs <;> dsimp only <;> omega)
  have e2 : (hk b).val % 2 = b.val % 2 := by unfold hk; dsimp only; omega
  unfold kd dn
  dsimp only
  rw [e, hX, hw, hb_hk, e2, hu, hv, sub_eq_add_neg]
  split_ifs
  · rw [← EReal.coe_neg, ← EReal.coe_mul, ← EReal.coe_neg, ← EReal.coe_mul]
    congr 2
    ring
  · rw [← EReal.coe_mul, ← EReal.coe_neg, ← EReal.coe_neg, ← EReal.coe_mul]
    congr 2
    ring

end cols

/-! The arguments' rows, head by head. -/

variable (U : FVec Ideal SU .f32) (Dq : FVec Ideal SQ .f32) (Dk Dv : FVec Ideal SK .f32) (C S : FVec Ideal SC .f32) (Wq Wk : FVec Ideal SW .f32)

def xq (i : Fin 8192) (h : Fin 8) (k : Fin 64) : EReal := U (ix2 i ⟨2560 + (h.val * 64 + k.val), by omega⟩)
def xk (i : Fin 8192) (h : Fin 2) (k : Fin 64) : EReal := U (ix2 i ⟨3072 + (h.val * 64 + k.val), by omega⟩)
def dq (i : Fin 8192) (h : Fin 8) (k : Fin 64) : EReal := Dq (ix4 ⟨h.val / 4, by omega⟩ ⟨i.val / 512, by omega⟩ k ⟨h.val % 4 * 512 + i.val % 512, by omega⟩) * cc
def dk (i : Fin 8192) (h : Fin 2) (k : Fin 64) : EReal := Dk (ix4 h ⟨i.val / 512, by omega⟩ k ⟨i.val % 512, by omega⟩) * ll
def dv (i : Fin 8192) (b : Fin 128) : EReal := Dv (ix4 ⟨b.val / 64, by omega⟩ ⟨i.val / 512, by omega⟩ ⟨b.val % 64, by omega⟩ ⟨i.val % 512, by omega⟩)
def cR (i : Fin 8192) (q : Fin 32) : EReal := C (ix2 i q)
def wR (k : Fin 64) : EReal := Wq (ix2 0 k)

/-- The head of a column. -/
def h8 (b : Fin 512) : Fin 8 := ⟨b.val / 64, by omega⟩
def h2 (b : Fin 128) : Fin 2 := ⟨b.val / 64, by omega⟩

/-- The gradients of the projected queries and keys, … -/
def uq (i : Fin 8192) (b : Fin 512) : EReal := gx (xq U i (h8 b)) (dq Dq i (h8 b)) (wR Wq) (cR C i) (cR S i) (hk b)
def uk (i : Fin 8192) (b : Fin 128) : EReal := gx (xk U i (h2 b)) (dk Dk i (h2 b)) (wR Wk) (cR C i) (cR S i) (hk b)
/-- … side by side with the values', … -/
def dU : FVec Ideal SO .bf16 := fun j => if h : (j 1).val < 512 then uq U Dq C S Wq (j 0) ⟨(j 1).val, h⟩
  else if h' : (j 1).val < 640 then uk U Dk C S Wk (j 0) ⟨(j 1).val - 512, by omega⟩
  else dv Dv (j 0) ⟨(j 1).val - 640, by have : (j 1).val < 768 := (j 1).isLt; omega⟩
/-- … and of the two scales. -/
def dWq : FVec Ideal SG .f32 := fun j => ∑ i : Fin 8192, gw (xq U i (h8 (j 1))) (dq Dq i (h8 (j 1))) (cR C i) (cR S i) (hk (W := 512) (j 1))
def dWk : FVec Ideal SH .f32 := fun j => ∑ i : Fin 8192, gw (xk U i (h2 (j 1))) (dk Dk i (h2 (j 1))) (cR C i) (cR S i) (hk (W := 128) (j 1))

/-- The arguments are finite. -/
structure Fin8 : Prop where
  h0 : ∀ i, ∃ r : ℝ, U i = (r : EReal)
  h1 : ∀ i, ∃ r : ℝ, Dq i = (r : EReal)
  h2 : ∀ i, ∃ r : ℝ, Dk i = (r : EReal)
  h3 : ∀ i, ∃ r : ℝ, Dv i = (r : EReal)
  h4 : ∀ i, ∃ r : ℝ, C i = (r : EReal)
  h5 : ∀ i, ∃ r : ℝ, S i = (r : EReal)
  h6 : ∀ i, ∃ r : ℝ, Wq i = (r : EReal)
  h7 : ∀ i, ∃ r : ℝ, Wk i = (r : EReal)

variable {U Dq Dk Dv C S Wq Wk}

theorem Fin8.dq_real (h : Fin8 U Dq Dk Dv C S Wq Wk) (i : Fin 8192) (a : Fin 8) (k : Fin 64) : ∃ r : ℝ, dq Dq i a k = (r : EReal) := mul_real (h.h1 _) cc_real
theorem Fin8.dk_real (h : Fin8 U Dq Dk Dv C S Wq Wk) (i : Fin 8192) (a : Fin 2) (k : Fin 64) : ∃ r : ℝ, dk Dk i a k = (r : EReal) := mul_real (h.h2 _) ll_real
theorem Fin8.nq_real (h : Fin8 U Dq Dk Dv C S Wq Wk) (i : Fin 8192) (a : Fin 8) (k : Fin 64) : ∃ r : ℝ, dn (dq Dq i a) (cR C i) (cR S i) k = (r : EReal) :=
  dn_real _ _ _ _ (h.dq_real i a) (fun _ => h.h4 _) fun _ => h.h5 _
theorem Fin8.nk_real (h : Fin8 U Dq Dk Dv C S Wq Wk) (i : Fin 8192) (a : Fin 2) (k : Fin 64) : ∃ r : ℝ, dn (dk Dk i a) (cR C i) (cR S i) k = (r : EReal) :=
  dn_real _ _ _ _ (h.dk_real i a) (fun _ => h.h4 _) fun _ => h.h5 _

end Cert.Val.Prep

/-! ## The reference -/

namespace Cert.PrepRefIdeal.Val

open Cert.PrepRefIdeal Cert.PrepRefIdeal.Gen Cert.PrepRefIdeal.Value Cert.Val Cert.Val.Prep Cert.Val.Rms Idealize.ShloMosaic.StableHlo

variable (m : (ℓ : Loc nD τ sig) → Buf (Elt Ideal) ℓ) {c : Dev nD}

abbrev A0 (c : Dev nD) : FVec Ideal SU .f32 := m ((c.tc : Thread nD τ).loc main_arg0)
abbrev A1 (c : Dev nD) : FVec Ideal SQ .f32 := m ((c.tc : Thread nD τ).loc main_arg1)
abbrev A2 (c : Dev nD) : FVec Ideal SK .f32 := m ((c.tc : Thread nD τ).loc main_arg2)
abbrev A3 (c : Dev nD) : FVec Ideal SK .f32 := m ((c.tc : Thread nD τ).loc main_arg3)
abbrev A4 (c : Dev nD) : FVec Ideal SC .f32 := m ((c.tc : Thread nD τ).loc main_arg4)
abbrev A5 (c : Dev nD) : FVec Ideal SC .f32 := m ((c.tc : Thread nD τ).loc main_arg5)
abbrev A6 (c : Dev nD) : FVec Ideal SW .f32 := m ((c.tc : Thread nD τ).loc main_arg6)
abbrev A7 (c : Dev nD) : FVec Ideal SW .f32 := m ((c.tc : Thread nD τ).loc main_arg7)

/-- A head's row of the queries and of the keys, and its gradient turned back. -/
abbrev XQ (c : Dev nD) (i : Fin 8192) (h : Fin 8) (k : Fin 64) : EReal := xq (A0 m c) i h k
abbrev XK (c : Dev nD) (i : Fin 8192) (h : Fin 2) (k : Fin 64) : EReal := xk (A0 m c) i h k
abbrev NQ (c : Dev nD) (i : Fin 8192) (h : Fin 8) (k : Fin 64) : EReal := dn (dq (A1 m c) i h) (cR (A4 m c) i) (cR (A5 m c) i) k
abbrev NK (c : Dev nD) (i : Fin 8192) (h : Fin 2) (k : Fin 64) : EReal := dn (dk (A2 m c) i h) (cR (A4 m c) i) (cR (A5 m c) i) k

/-- The padded sum of the two halves' gradients is the gradient turned back. -/
theorem pads {P Q : Prop} {_ : Decidable P} {_ : Decidable Q} (k : Fin 64) (hP : P ↔ k.val % 2 = 1) (hQ : Q ↔ k.val % 2 = 0) (a : P → EReal) (b : Q → EReal)
    (x y : EReal) (ha : ∀ h, k.val % 2 = 1 → a h = x) (hb : ∀ h, k.val % 2 = 0 → b h = y) :
    (if h : P then a h else 0) + (if h : Q then b h else 0) = if k.val % 2 = 0 then y else x := by
  rcases Nat.mod_two_eq_zero_or_one k.val with h | h
  · rw [dif_neg fun h' => absurd (hP.mp h') (by omega), dif_pos (hQ.mpr h), if_pos h, hb _ h, zero_add]
  · rw [dif_pos (hP.mpr h), dif_neg fun h' => absurd (hQ.mp h') (by omega), if_neg (show ¬k.val % 2 = 0 by omega), ha _ h, add_zero]

/-- An entry at an odd place and at an even one. -/
theorem turn (k p q p' q' : Fin 64) (r r' : Fin 32) (d : Fin 64 → EReal) (co si : Fin 32 → EReal) (hk : (k.val % 2 = 1 → p = k ∧ q = pr k ∧ r = hf k) ∧ (k.val % 2 = 0 → p' = pr k ∧ q' = k ∧ r' = hf k)) :
    (if k.val % 2 = 0 then d p' * si r' + d q' * co r' else d p * co r + -d q * si r) = dn d co si k := by
  unfold dn
  split_ifs with h
  · obtain ⟨rfl, rfl, rfl⟩ := hk.2 h
    exact add_comm _ _
  · obtain ⟨rfl, rfl, rfl⟩ := hk.1 (by omega)
    rfl

/-- The places as the padding names them. -/
theorem places (k : Fin 64) (h1 : (k.val - 1) / 2 * 2 + 1 < 64) (h2 : (k.val - 1) / 2 * 2 < 64) (h3 : k.val / 2 * 2 + 1 < 64) (h4 : k.val / 2 * 2 < 64) (h5 : (k.val - 1) / 2 < 32) (h6 : k.val / 2 < 32) :
    (k.val % 2 = 1 → (⟨(k.val - 1) / 2 * 2 + 1, h1⟩ : Fin 64) = k ∧ (⟨(k.val - 1) / 2 * 2, h2⟩ : Fin 64) = pr k ∧ (⟨(k.val - 1) / 2, h5⟩ : Fin 32) = hf k)
      ∧ (k.val % 2 = 0 → (⟨k.val / 2 * 2 + 1, h3⟩ : Fin 64) = pr k ∧ (⟨k.val / 2 * 2, h4⟩ : Fin 64) = k ∧ (⟨k.val / 2, h6⟩ : Fin 32) = hf k) := by
  refine ⟨fun h => ⟨Fin.ext (by dsimp only; omega), ?_, Fin.ext (by unfold hf; dsimp only; omega)⟩, fun h => ⟨?_, Fin.ext (by dsimp only; omega), Fin.ext (by unfold hf; dsimp only)⟩⟩
  · unfold pr
    rw [dif_neg (by omega)]
    exact Fin.ext (by dsimp only; omega)
  · unfold pr
    rw [dif_pos h]
    exact Fin.ext (by dsimp only; omega)

abbrev FinM (c : Dev nD) : Prop := Fin8 (A0 m c) (A1 m c) (A2 m c) (A3 m c) (A4 m c) (A5 m c) (A6 m c) (A7 m c)

theorem at_odd (n : ℕ) (i : Fin 8192) (h : Fin n) (k : Fin 64) : (∀ a : Fin 3, ![0, 0, 1] a ≤ (ix3 i h k a).val ∧ ((ix3 i h k a).val - ![0, 0, 1] a) % (![0, 0, 1] a + 1) = 0
    ∧ ((ix3 i h k a).val - ![0, 0, 1] a) / (![0, 0, 1] a + 1) < ![8192, n, 32] a) ↔ k.val % 2 = 1 := by
  have := k.isLt
  refine ⟨fun h => ?_, fun _ a => ?_⟩
  · have : 1 ≤ k.val ∧ (k.val - 1) % 2 = 0 ∧ (k.val - 1) / 2 < 32 := h 2
    omega
  · match a with
    | 0 => exact ⟨Nat.zero_le _, Nat.mod_one _, (Nat.div_one i.val).trans_lt i.isLt⟩
    | 1 => exact ⟨Nat.zero_le _, Nat.mod_one _, (Nat.div_one h.val).trans_lt h.isLt⟩
    | 2 => exact (by omega : 1 ≤ k.val ∧ (k.val - 1) % 2 = 0 ∧ (k.val - 1) / 2 < 32)
theorem at_even (n : ℕ) (i : Fin 8192) (h : Fin n) (k : Fin 64) : (∀ a : Fin 3, ![0, 0, 0] a ≤ (ix3 i h k a).val ∧ ((ix3 i h k a).val - ![0, 0, 0] a) % (![0, 0, 1] a + 1) = 0
    ∧ ((ix3 i h k a).val - ![0, 0, 0] a) / (![0, 0, 1] a + 1) < ![8192, n, 32] a) ↔ k.val % 2 = 0 := by
  have := k.isLt
  refine ⟨fun h => ?_, fun _ a => ?_⟩
  · have : 0 ≤ k.val ∧ k.val % 2 = 0 ∧ k.val / 2 < 32 := h 2
    omega
  · match a with
    | 0 => exact ⟨Nat.zero_le _, Nat.mod_one _, (Nat.div_one i.val).trans_lt i.isLt⟩
    | 1 => exact ⟨Nat.zero_le _, Nat.mod_one _, (Nat.div_one h.val).trans_lt h.isLt⟩
    | 2 => exact (by omega : 0 ≤ k.val ∧ k.val % 2 = 0 ∧ k.val / 2 < 32)

theorem r66 (c : Dev nD) (i : Fin 8192) (h : Fin 8) (k : Fin 64) : (res_main_v66 (launchContents m c) (ix3 i h k) : EReal) = NQ m c i h k := by
  pointwise [res_main_v66, res_main_v52, res_main_v50, res_main_v48, res_main_v30, res_main_v31]
  exact (pads k (at_odd 8 i h k) (at_even 8 i h k) _ _ _ _ (fun _ _ => rfl) fun _ _ => rfl).trans
    (turn k ⟨(k.val - 1) / 2 * 2 + 1, by omega⟩ ⟨(k.val - 1) / 2 * 2, by omega⟩ ⟨k.val / 2 * 2 + 1, by omega⟩ ⟨k.val / 2 * 2, by omega⟩ ⟨(k.val - 1) / 2, by omega⟩ ⟨k.val / 2, by omega⟩
      (dq (A1 m c) i h) (cR (A4 m c) i) (cR (A5 m c) i) (places k _ _ _ _ _ _))

theorem r71 (c : Dev nD) (i : Fin 8192) (h : Fin 8) (k : Fin 64) : (res_main_v71 (launchContents m c) (ix3 i h k) : EReal) = NQ m c i h k * wR (A6 m c) k := by
  pointwise [res_main_v71, res_main_v25]
  rw [r66]
  rfl
theorem r8 (c : Dev nD) (i : Fin 8192) (h : Fin 8) (k : Fin 64) : (res_main_v8 (launchContents m c) (ix3 i h k) : EReal) = XQ m c i h k := by
  pointwise [res_main_v8]
  rfl
theorem r18 (c : Dev nD) (i : Fin 8192) (h : Fin 8) : (res_main_v18 (launchContents m c) (ix3 i h 0) : EReal) = ms nn ee (XQ m c i h) := by
  pointwise [res_main_v18]
  simp only [r8]
  rfl
theorem r19 (c : Dev nD) (i : Fin 8192) (h : Fin 8) : (res_main_v19 (launchContents m c) (ix3 i h 0) : EReal) = rs nn ee (XQ m c i h) := by
  pointwise [res_main_v19]
  rw [r18]
  rfl
theorem r82 (c : Dev nD) (i : Fin 8192) (h : Fin 8) (k : Fin 64) : (res_main_v82 (launchContents m c) (ix3 i h k) : EReal)
    = thru nn ee hh (XQ m c i h) fun k => NQ m c i h k * wR (A6 m c) k := by
  pointwise [res_main_v82]
  simp only [r8, r71, Fin.sum_univ_one]
  rw [r19, r18]
  rfl
theorem rG71 (H : FinM m c) (i : Fin 8192) (h : Fin 8) (k : Fin 64) :
    HAdd.hAdd (α := EReal) (HAdd.hAdd (α := EReal) (HMul.hMul (α := EReal) (β := EReal) (res_main_v71 (launchContents m c) (ix3 i h k)) (res_main_v19 (launchContents m c) (ix3 i h 0)))
      (HMul.hMul (α := EReal) (β := EReal) (res_main_v8 (launchContents m c) (ix3 i h k)) (res_main_v82 (launchContents m c) (ix3 i h k))))
      (HMul.hMul (α := EReal) (β := EReal) (res_main_v82 (launchContents m c) (ix3 i h k)) (res_main_v8 (launchContents m c) (ix3 i h k)))
    = gx (XQ m c i h) (dq (A1 m c) i h) (wR (A6 m c)) (cR (A4 m c) i) (cR (A5 m c) i) k := by
  rw [r71, r19, r8, r82]
  exact back_of nn 64 (by norm_num) w64 _ _ (fun _ => H.h0 _) (fun q => mul_real (H.nq_real i h q) (H.h6 _)) k
theorem rW24 (c : Dev nD) (i : Fin 8192) (h : Fin 8) (k : Fin 64) :
    HMul.hMul (α := EReal) (β := EReal) (res_main_v24 (launchContents m c) (ix3 i h k)) (res_main_v66 (launchContents m c) (ix3 i h k))
    = gw (XQ m c i h) (dq (A1 m c) i h) (cR (A4 m c) i) (cR (A5 m c) i) k := by
  pointwise [res_main_v24]
  rw [r66, r8, r19]
  exact mul_comm _ _

theorem r146 (c : Dev nD) (i : Fin 8192) (h : Fin 2) (k : Fin 64) : (res_main_v146 (launchContents m c) (ix3 i h k) : EReal) = NK m c i h k := by
  pointwise [res_main_v146, res_main_v132, res_main_v130, res_main_v128, res_main_v110, res_main_v111]
  exact (pads k (at_odd 2 i h k) (at_even 2 i h k) _ _ _ _ (fun _ _ => rfl) fun _ _ => rfl).trans
    (turn k ⟨(k.val - 1) / 2 * 2 + 1, by omega⟩ ⟨(k.val - 1) / 2 * 2, by omega⟩ ⟨k.val / 2 * 2 + 1, by omega⟩ ⟨k.val / 2 * 2, by omega⟩ ⟨(k.val - 1) / 2, by omega⟩ ⟨k.val / 2, by omega⟩
      (dk (A2 m c) i h) (cR (A4 m c) i) (cR (A5 m c) i) (places k _ _ _ _ _ _))

theorem r151 (c : Dev nD) (i : Fin 8192) (h : Fin 2) (k : Fin 64) : (res_main_v151 (launchContents m c) (ix3 i h k) : EReal) = NK m c i h k * wR (A7 m c) k := by
  pointwise [res_main_v151, res_main_v105]
  rw [r146]
  rfl
theorem r88 (c : Dev nD) (i : Fin 8192) (h : Fin 2) (k : Fin 64) : (res_main_v88 (launchContents m c) (ix3 i h k) : EReal) = XK m c i h k := by
  pointwise [res_main_v88]
  rfl
theorem r98 (c : Dev nD) (i : Fin 8192) (h : Fin 2) : (res_main_v98 (launchContents m c) (ix3 i h 0) : EReal) = ms nn ee (XK m c i h) := by
  pointwise [res_main_v98]
  simp only [r88]
  rfl
theorem r99 (c : Dev nD) (i : Fin 8192) (h : Fin 2) : (res_main_v99 (launchContents m c) (ix3 i h 0) : EReal) = rs nn ee (XK m c i h) := by
  pointwise [res_main_v99]
  rw [r98]
  rfl
theorem r162 (c : Dev nD) (i : Fin 8192) (h : Fin 2) (k : Fin 64) : (res_main_v162 (launchContents m c) (ix3 i h k) : EReal)
    = thru nn ee hh (XK m c i h) fun k => NK m c i h k * wR (A7 m c) k := by
  pointwise [res_main_v162]
  simp only [r88, r151, Fin.sum_univ_one]
  rw [r99, r98]
  rfl
theorem rG151 (H : FinM m c) (i : Fin 8192) (h : Fin 2) (k : Fin 64) :
    HAdd.hAdd (α := EReal) (HAdd.hAdd (α := EReal) (HMul.hMul (α := EReal) (β := EReal) (res_main_v151 (launchContents m c) (ix3 i h k)) (res_main_v99 (launchContents m c) (ix3 i h 0)))
      (HMul.hMul (α := EReal) (β := EReal) (res_main_v88 (launchContents m c) (ix3 i h k)) (res_main_v162 (launchContents m c) (ix3 i h k))))
      (HMul.hMul (α := EReal) (β := EReal) (res_main_v162 (launchContents m c) (ix3 i h k)) (res_main_v88 (launchContents m c) (ix3 i h k)))
    = gx (XK m c i h) (dk (A2 m c) i h) (wR (A7 m c)) (cR (A4 m c) i) (cR (A5 m c) i) k := by
  rw [r151, r99, r88, r162]
  exact back_of nn 64 (by norm_num) w64 _ _ (fun _ => H.h0 _) (fun q => mul_real (H.nk_real i h q) (H.h7 _)) k
theorem rW104 (c : Dev nD) (i : Fin 8192) (h : Fin 2) (k : Fin 64) :
    HMul.hMul (α := EReal) (β := EReal) (res_main_v104 (launchContents m c) (ix3 i h k)) (res_main_v146 (launchContents m c) (ix3 i h k))
    = gw (XK m c i h) (dk (A2 m c) i h) (cR (A4 m c) i) (cR (A5 m c) i) k := by
  pointwise [res_main_v104]
  rw [r146, r88, r99]
  exact mul_comm _ _

/-- The reference's results. -/
theorem run (ρ : Dev nD → PrngReg) (h : ∀ c, FinM m c) :
    θ_run defs (onTc (τ := τ) (main (F := Ideal))) ⟨m, fun _ => 0, ρ⟩ fun r => ∀ c : Dev nD,
      r.2.mem ((c.tc : Thread nD τ).loc main_v170) = dU (A0 m c) (A1 m c) (A2 m c) (A3 m c) (A4 m c) (A5 m c) (A6 m c) (A7 m c)
      ∧ r.2.mem ((c.tc : Thread nD τ).loc main_v171) = dWq (A0 m c) (A1 m c) (A4 m c) (A5 m c)
      ∧ r.2.mem ((c.tc : Thread nD τ).loc main_v172) = dWk (A0 m c) (A2 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h' c => ⟨(h' c).1.trans ?_, (h' c).2.1.trans ?_, (h' c).2.2.1.trans ?_, (h' c).2.2.2⟩) (Value.run m ρ)
  · clear h'
    funext j
    idx_vars j
    pointwise
    by_cases a : j1.val < 512
    · rw [dif_pos a]
      exact (rG71 m (h c) j0 _ _).trans (Eq.symm (dif_pos a))
    · rw [dif_neg a]
      by_cases b : j1.val - 512 < 128
      · rw [dif_pos b]
        exact (rG151 m (h c) j0 _ _).trans (Eq.symm ((dif_neg a).trans (dif_pos (show j1.val < 640 by omega))))
      · rw [dif_neg b]
        refine Eq.trans ?_ (Eq.symm ((dif_neg a).trans (dif_neg (show ¬j1.val < 640 by omega))))
        show A3 m c _ = A3 m c _
        exact congrArg (A3 m c) (congrArg₂ (fun p q => ix4 p _ q _) (Fin.ext (by show (j1.val - 512 - 128) / 64 = (j1.val - 640) / 64; omega)) (Fin.ext (by show (j1.val - 512 - 128) % 64 = (j1.val - 640) % 64; omega)))
  · clear h'
    funext j
    idx_vars j
    pointwise
    simp only [Fin.sum_univ_one]
    exact Finset.sum_congr rfl fun i _ => rW24 m c i _ _
  · clear h'
    funext j
    idx_vars j
    pointwise
    simp only [Fin.sum_univ_one]
    exact Finset.sum_congr rfl fun i _ => rW104 m c i _ _

end Cert.PrepRefIdeal.Val

/-! ## The kernel -/

namespace Cert.PrepIdeal.Val

open Cert.PrepIdeal Cert.PrepIdeal.Gen Cert.Val Cert.Val.Prep Cert.Val.Rms

/-! The stores, at an index of the block. -/
section pay

/-- Rows. -/
abbrev R (x : FVec Ideal S512x512 .f32) (i b : Fin 512) : EReal := x (ix2 i b)
abbrev R' (x : FVec Ideal S512x128 .f32) (i : Fin 512) (b : Fin 128) : EReal := x (ix2 i b)
abbrev Rw (x : FVec Ideal S1x512 .f32) (b : Fin 512) : EReal := x (ix2 0 b)
abbrev Rw' (x : FVec Ideal S1x128 .f32) (b : Fin 128) : EReal := x (ix2 0 b)

theorem shr6 : ∀ a : Fin 512, IntOp.shrsi .vector (BitVec.ofNat 32 a.val) 6#32 = BitVec.ofNat 32 (a.val / 64) := by decide +kernel
theorem and1 : ∀ a : Fin 512, IntOp.cmpi .eq (IntOp.andi (BitVec.ofNat 32 a.val) 1#32) 0#32 = if a.val % 2 = 0 then 1#1 else 0#1 := by decide +kernel
theorem eq8 : ∀ a b : Fin 8, IntOp.cmpi .eq (BitVec.ofNat 32 a.val) (BitVec.ofNat 32 b.val) = if a.val = b.val then 1#1 else 0#1 := by decide +kernel

theorem sel (P : Prop) {_ : Decidable P} (x y : EReal) : Scalar.select (if P then 1#1 else 0#1) x y = if P then x else y := by split_ifs <;> rfl

theorem p4 (a b : Fin 512) : (k0_pay4 (F := Ideal) (ix2 a b) : EReal) = bd a b := by
  pointwise [k0_pay4]
  rw [shr6, shr6]
  have := eq8 ⟨a.val / 64, by omega⟩ ⟨b.val / 64, by omega⟩
  dsimp only at this
  rw [this]
  exact sel _ _ _

theorem p17 (v : FVec Ideal S512x512 .bf16) (hv : ∀ a b, v (ix2 a b) = bd a b) (a b : Fin 128) : (k0_pay17 (F := Ideal) v (ix2 a b) : EReal) = bd a b := by
  pointwise [k0_pay17]
  exact hv _ _

variable (v13 : FVec Ideal S512x512 .bf16) (v18 v19 v36 v37 : FVec Ideal S512x512 .f32) (v40 v86 : FVec Ideal S1x512 .f32) (i b : Fin 512)

theorem p10 : k0_pay10 (F := Ideal) v18 v19 v36 (ix2 i b) = kd rfl (R v18 i) (fun b => v36 (ix2 i b) * cc) (R v19 i) b := by
  pointwise [k0_pay10]
  rw [and1, sel]
  exact turned rfl (R v18 i) (fun b => v36 (ix2 i b) * cc) (R v19 i) b _ _ (fun h => by dsimp only; omega) fun h => by dsimp only; omega

theorem p13 (hv : ∀ a b, v13 (ix2 a b) = bd a b) : k0_pay13 (F := Ideal) v13 v18 v19 v36 v37 v40 (ix2 i b)
    = kx (R v37 i) (fun b => k0_pay10 (F := Ideal) v18 v19 v36 (ix2 i b)) (Rw v40) b := by
  unfold kx kr
  pointwise [k0_pay13, k0_pay12, k0_pay11]
  simp only [hv]

theorem p15 : (k0_pay15 (F := Ideal) v18 (ix2 i b) : EReal) = v18 (ix2 i b) := by
  pointwise [k0_pay15]
theorem p16 (hv : ∀ a b, v13 (ix2 a b) = bd a b) : k0_pay16 (F := Ideal) (k0_pay14 v13 v18 v19 v36 v37) v86 (ix2 0 b)
    = v86 (ix2 0 b) + ∑ i : Fin 512, k0_pay10 (F := Ideal) v18 v19 v36 (ix2 i b) * (v37 (ix2 i b) * kr (R v37 i) b) := by
  unfold kr
  pointwise [k0_pay16, k0_pay14, k0_pay12, k0_pay11]
  simp only [hv]

variable (c14 c16 : FVec Ideal S512x128 .f32) (v20 v28 : FVec Ideal S1x1x64x2048 .f32)

theorem p7 : k0_pay7 (F := Ideal) c14 (ix2 i b) = c14 (ix2 i ⟨b.val % 128, by omega⟩) := by
  pointwise [k0_pay7, k0_pay5]
  split_ifs <;> exact congrArg (fun q => c14 (ix2 i q)) (Fin.ext (by dsimp only; omega))
theorem p8 : k0_pay8 (F := Ideal) c16 (ix2 i b) = c16 (ix2 i ⟨b.val % 128, by omega⟩) := by
  pointwise [k0_pay8, k0_pay6]
  split_ifs <;> exact congrArg (fun q => c16 (ix2 i q)) (Fin.ext (by dsimp only; omega))
theorem p9 : k0_pay9 (F := Ideal) v20 v28 (ix2 i b) = if b.val < 256 then v20 (ix4 0 0 ⟨b.val % 64, by omega⟩ ⟨b.val / 64 % 4 * 512 + i.val, by omega⟩)
    else v28 (ix4 0 0 ⟨b.val % 64, by omega⟩ ⟨b.val / 64 % 4 * 512 + i.val, by omega⟩) := by
  pointwise [k0_pay9]
  split_ifs
  all_goals first
    | exact congrArg₂ (fun p q => v20 (ix4 0 0 p q)) (Fin.ext (by dsimp only; omega)) (Fin.ext (by dsimp only; omega))
    | exact congrArg₂ (fun p q => v28 (ix4 0 0 p q)) (Fin.ext (by dsimp only; omega)) (Fin.ext (by dsimp only; omega))

section keys

variable (w15 w17 w90 w111 : FVec Ideal S512x128 .f32) (w91 w93 : FVec Ideal S1x1x64x512 .f32) (w99 w146 : FVec Ideal S1x128 .f32) (w100 : FVec Ideal S128x128 .bf16) (b : Fin 128)

/-- Two heads' tokens side by side. -/
def pick (b : Fin 128) : EReal := if b.val < 64 then w91 (ix4 0 0 (hk b) i) else w93 (ix4 0 0 (hk b) i)
theorem pickd (n : ℕ) (hn : n < 128) (h1 : n < 64 → n < 64) (h2 : ¬n < 64 → n - 64 < 64) :
    (if h : n < 64 then w91 (ix4 0 0 ⟨n, h1 h⟩ i) else w93 (ix4 0 0 ⟨n - 64, h2 h⟩ i)) = pick i w91 w93 ⟨n, hn⟩ := by
  unfold pick hk
  dsimp only
  split_ifs
  · exact congrArg (fun q => w91 (ix4 0 0 q i)) (Fin.ext (by dsimp only; omega))
  · exact congrArg (fun q => w93 (ix4 0 0 q i)) (Fin.ext (by dsimp only; omega))
theorem p18 : k0_pay18 (F := Ideal) w15 w17 w91 w93 (ix2 i b) = kd rfl (R' w15 i) (fun b => pick i w91 w93 b * ll) (R' w17 i) b := by
  pointwise [k0_pay18]
  exact Eq.trans (congrArg₂ (fun x y : EReal => x * ll * w15 (ix2 i b) - y * w17 (ix2 i b)) (pickd i w91 w93 b.val b.isLt _ _)
      ((congrArg (fun z => Scalar.select z _ _) (and1 ⟨b.val, by omega⟩)).trans ((sel _ _ _).trans
        (congrArg₂ (fun x y : EReal => if b.val % 2 = 0 then x * ll else y * ll) (pickd i w91 w93 ((b.val + 128 - 127) % 128) (by omega) _ _)
          (pickd i w91 w93 ((b.val + 128 - 1) % 128) (by omega) _ _)))))
    (turned rfl (R' w15 i) (fun b => pick i w91 w93 b * ll) (R' w17 i) b _ _ (fun h => by dsimp only; omega) fun h => by dsimp only; omega)
theorem p24 (hv : ∀ a b, w100 (ix2 a b) = bd a b) : k0_pay24 (F := Ideal) w90 w99 w100 w111 (k0_pay20 w90) (k0_pay21 w90) (constant S512x128 .f32 0x00000000#32) (ix2 i b)
    = kx (R' w90 i) (R' w111 i) (Rw' w99) b := by
  unfold kx kr
  pointwise [k0_pay24, k0_pay23, k0_pay22, k0_pay21, k0_pay20, k0_pay19]
  simp only [hv]
theorem p25 (hv : ∀ a b, w100 (ix2 a b) = bd a b) : k0_pay25 (F := Ideal) w90 w100 w111 (k0_pay20 w90) (k0_pay21 w90) (constant S512x128 .f32 0x00000000#32) w146 (ix2 0 b)
    = w146 (ix2 0 b) + ∑ i : Fin 512, w111 (ix2 i b) * (w90 (ix2 i b) * kr (R' w90 i) b) := by
  unfold kr
  pointwise [k0_pay25, k0_pay23, k0_pay22, k0_pay21, k0_pay20, k0_pay19]
  simp only [hv]
theorem p1 : (k0_pay1 (F := Ideal) (k0_pay26 w91) (k0_pay27 w93) (ix2 i b) : EReal) = pick i w91 w93 b := by
  pointwise [k0_pay1, k0_pay26, k0_pay27]
  rw [pickd]

end keys

end pay

variable (m : (ℓ : Loc nD τ sig) → Buf (Elt Ideal) ℓ)

abbrev A0 (c : Dev nD) : FVec Ideal SU .f32 := m ((c.tc : Thread nD τ).loc main_arg0)
abbrev A1 (c : Dev nD) : FVec Ideal SQ .f32 := m ((c.tc : Thread nD τ).loc main_arg1)
abbrev A2 (c : Dev nD) : FVec Ideal SK .f32 := m ((c.tc : Thread nD τ).loc main_arg2)
abbrev A3 (c : Dev nD) : FVec Ideal SK .f32 := m ((c.tc : Thread nD τ).loc main_arg3)
abbrev A4 (c : Dev nD) : FVec Ideal SC .f32 := m ((c.tc : Thread nD τ).loc main_arg4)
abbrev A5 (c : Dev nD) : FVec Ideal SC .f32 := m ((c.tc : Thread nD τ).loc main_arg5)
abbrev A6 (c : Dev nD) : FVec Ideal SW .f32 := m ((c.tc : Thread nD τ).loc main_arg6)
abbrev A7 (c : Dev nD) : FVec Ideal SW .f32 := m ((c.tc : Thread nD τ).loc main_arg7)
abbrev FinM (c : Dev nD) : Prop := Fin8 (A0 m c) (A1 m c) (A2 m c) (A3 m c) (A4 m c) (A5 m c) (A6 m c) (A7 m c)

/-! The arrays prepared before the kernel: the angles widened to two heads, the sines signed, the scales repeated. -/

theorem v4 (c : Dev nD) (i : Fin 8192) (b : Fin 128) : V m c main_v4 (ix2 i b) = A4 m c (ix2 i (hf (hk b))) := by
  entry_read
  pointwise
  rfl
theorem v12 (c : Dev nD) (i : Fin 8192) (b : Fin 128) : V m c main_v12 (ix2 i b) = if b.val % 2 = 0 then -A5 m c (ix2 i (hf (hk b))) else A5 m c (ix2 i (hf (hk b))) := by
  entry_read
  pointwise
  by_cases h : b.val % 2 = 0
  · rw [dif_pos (show b.val % 64 % 2 < 1 by omega), if_pos h]
    rfl
  · rw [dif_neg (show ¬b.val % 64 % 2 < 1 by omega), if_neg h]
    rfl
theorem v15 (c : Dev nD) (b : Fin 512) : V m c main_v15 (ix2 0 b) = A6 m c (ix2 0 (hk b)) := by
  entry_read
  pointwise
  rfl
theorem v18 (c : Dev nD) (b : Fin 128) : V m c main_v18 (ix2 0 b) = A7 m c (ix2 0 (hk b)) := by
  entry_read
  pointwise
  rfl

/-! The blocks. -/

abbrev B0 (c : Dev nD) (t : Fin cfg0.N) : FVec Ideal S512x512 .f32 := X0_0 m c t
abbrev B1 (c : Dev nD) (t : Fin cfg0.N) : FVec Ideal S512x128 .f32 := iblk m c 1 t
abbrev B2 (c : Dev nD) (t : Fin cfg0.N) : FVec Ideal S2x1x64x2048 .f32 := iblk m c 2 t
abbrev B3 (c : Dev nD) (t : Fin cfg0.N) : FVec Ideal S2x1x64x512 .f32 := iblk m c 3 t
abbrev B4 (c : Dev nD) (t : Fin cfg0.N) : FVec Ideal S2x1x64x512 .f32 := iblk m c 4 t
abbrev B5 (c : Dev nD) (t : Fin cfg0.N) : FVec Ideal S512x128 .f32 := iblk m c 5 t
abbrev B6 (c : Dev nD) (t : Fin cfg0.N) : FVec Ideal S512x128 .f32 := iblk m c 6 t
abbrev B7 (c : Dev nD) (t : Fin cfg0.N) : FVec Ideal S1x512 .f32 := iblk m c 7 t
abbrev B8 (c : Dev nD) (t : Fin cfg0.N) : FVec Ideal S1x128 .f32 := iblk m c 8 t

/-- The row of the array that is row `i` of block `t`. -/
def row (t : Fin cfg0.N) (i : Fin 512) : Fin 8192 := ⟨t.val * 512 + i.val, by have := t.isLt; have : cfg0.N = 16 := N_0; omega⟩
def cq (b : Fin 512) : Fin 3328 := ⟨2560 + b.val, by omega⟩
def ck (b : Fin 128) : Fin 3328 := ⟨3072 + b.val, by omega⟩
def tt (t : Fin cfg0.N) : Fin 16 := ⟨t.val, lt_of_lt_of_eq t.isLt N_0⟩

theorem idx : ∀ t : Fin cfg0.N, win0_0.index t = ![t.val, 5] ∧ win0_1.index t = ![t.val, 24] ∧ win0_2.index t = ![0, t.val, 0, 0] ∧ win0_3.index t = ![0, t.val, 0, 0]
    ∧ win0_4.index t = ![0, t.val, 0, 0] ∧ win0_5.index t = ![t.val, 0] ∧ win0_6.index t = ![t.val, 0] ∧ win0_7.index t = ![0, 0] ∧ win0_8.index t = ![0, 0]
    ∧ win0_9.index t = ![t.val, 0] ∧ win0_10.index t = ![0, 0] ∧ win0_11.index t = ![0, 0] :=
  (by decide +kernel : ∀ t : Fin grid0.N, _)

theorem rd1 (X : FVec Ideal SU .f32) (t : Fin cfg0.N) (i : Fin 512) (b : Fin 128) : ((cfg0.win 1).blk t).view.read (Elt Ideal) X (ix2 i b) = X (ix2 (row t i) (ck b)) := by blk_ext [idx t, row, ck]
theorem rd2 (X : FVec Ideal SQ .f32) (t : Fin cfg0.N) (g : Fin 2) (k : Fin 64) (r : Fin 2048) : ((cfg0.win 2).blk t).view.read (Elt Ideal) X (ix4 g 0 k r) = X (ix4 g (tt t) k r) := by blk_ext [idx t, tt]
theorem rd3 (X : FVec Ideal SK .f32) (t : Fin cfg0.N) (g : Fin 2) (k : Fin 64) (r : Fin 512) : ((cfg0.win 3).blk t).view.read (Elt Ideal) X (ix4 g 0 k r) = X (ix4 g (tt t) k r) := by blk_ext [idx t, tt]
theorem rd4 (X : FVec Ideal SK .f32) (t : Fin cfg0.N) (g : Fin 2) (k : Fin 64) (r : Fin 512) : ((cfg0.win 4).blk t).view.read (Elt Ideal) X (ix4 g 0 k r) = X (ix4 g (tt t) k r) := by blk_ext [idx t, tt]
theorem rd5 (X : FVec Ideal S8192x128 .f32) (t : Fin cfg0.N) (i : Fin 512) (b : Fin 128) : ((cfg0.win 5).blk t).view.read (Elt Ideal) X (ix2 i b) = X (ix2 (row t i) b) := by blk_ext [idx t, row]
theorem rd6 (X : FVec Ideal S8192x128 .f32) (t : Fin cfg0.N) (i : Fin 512) (b : Fin 128) : ((cfg0.win 6).blk t).view.read (Elt Ideal) X (ix2 i b) = X (ix2 (row t i) b) := by blk_ext [idx t, row]
theorem rd7 (X : FVec Ideal S1x512 .f32) (t : Fin cfg0.N) (b : Fin 512) : ((cfg0.win 7).blk t).view.read (Elt Ideal) X (ix2 0 b) = X (ix2 0 b) := by blk_ext [idx t]
theorem rd8 (X : FVec Ideal S1x128 .f32) (t : Fin cfg0.N) (b : Fin 128) : ((cfg0.win 8).blk t).view.read (Elt Ideal) X (ix2 0 b) = X (ix2 0 b) := by blk_ext [idx t]

theorem b0 (c : Dev nD) (t : Fin cfg0.N) (i b : Fin 512) : B0 m c t (ix2 i b) = A0 m c (ix2 (row t i) (cq b)) := by
  unfold B0 X0_0 Pipeline.Window.fill
  rw [dif_pos (moved0_0 t _)]
  refine Eq.trans ?_ (congrFun (V_main_arg0 m c) _)
  show ((cfg0.win 0).blk t).view.read (Elt Ideal) (V m c main_arg0) _ = (V m c main_arg0 : FVec Ideal SU .f32) _
  blk_ext [idx t, row, cq]
theorem b1 (c : Dev nD) (t : Fin cfg0.N) (i : Fin 512) (b : Fin 128) : B1 m c t (ix2 i b) = A0 m c (ix2 (row t i) (ck b)) := (rd1 _ t i b).trans (congrFun (V_main_arg0 m c) _)
theorem b2 (c : Dev nD) (t : Fin cfg0.N) (g : Fin 2) (k : Fin 64) (r : Fin 2048) : B2 m c t (ix4 g 0 k r) = A1 m c (ix4 g (tt t) k r) := (rd2 _ t g k r).trans (congrFun (V_main_arg1 m c) _)
theorem b3 (c : Dev nD) (t : Fin cfg0.N) (g : Fin 2) (k : Fin 64) (r : Fin 512) : B3 m c t (ix4 g 0 k r) = A2 m c (ix4 g (tt t) k r) := (rd3 _ t g k r).trans (congrFun (V_main_arg2 m c) _)
theorem b4 (c : Dev nD) (t : Fin cfg0.N) (g : Fin 2) (k : Fin 64) (r : Fin 512) : B4 m c t (ix4 g 0 k r) = A3 m c (ix4 g (tt t) k r) := (rd4 _ t g k r).trans (congrFun (V_main_arg3 m c) _)
theorem b5 (c : Dev nD) (t : Fin cfg0.N) (i : Fin 512) (b : Fin 128) : B5 m c t (ix2 i b) = A4 m c (ix2 (row t i) (hf (hk b))) := (rd5 _ t i b).trans (v4 m c _ b)
theorem b6 (c : Dev nD) (t : Fin cfg0.N) (i : Fin 512) (b : Fin 128) : B6 m c t (ix2 i b) = if b.val % 2 = 0 then -A5 m c (ix2 (row t i) (hf (hk b))) else A5 m c (ix2 (row t i) (hf (hk b))) := (rd6 _ t i b).trans (v12 m c _ b)
theorem b7 (c : Dev nD) (t : Fin cfg0.N) (b : Fin 512) : B7 m c t (ix2 0 b) = A6 m c (ix2 0 (hk b)) := (rd7 _ t b).trans (v15 m c b)
theorem b8 (c : Dev nD) (t : Fin cfg0.N) (b : Fin 128) : B8 m c t (ix2 0 b) = A7 m c (ix2 0 (hk b)) := (rd8 _ t b).trans (v18 m c b)

/-! The loads of one group's tokens. -/

theorem ld2 (X : FVec Ideal S2x1x64x2048 .f32) (g : Fin 2) (a : ℕ) (ha : g.val = a) (h) (k : Fin 64) (r : Fin 2048) :
    View.ld (Val := Elt Ideal) (S := S2x1x64x2048) (e' := .f32) X (Rect.unit (s := S2x1x64x2048) ![a, 0, 0, 0] ![1, 1, 64, 2048] h) (ix4 0 0 k r) = X (ix4 g 0 k r) := by
  refine View.ld_unit_apply_of (Val := Elt Ideal) (e := .f32) X _ _ h (ix4 0 0 k r) (ix4 g 0 k r) fun q => ?_
  match q with
  | ⟨0, _⟩ => exact ha
  | ⟨1, _⟩ => rfl
  | ⟨2, _⟩ => exact (Nat.zero_add _).symm
  | ⟨3, _⟩ => exact (Nat.zero_add _).symm
theorem ld3 (X : FVec Ideal S2x1x64x512 .f32) (g : Fin 2) (a : ℕ) (ha : g.val = a) (h) (k : Fin 64) (r : Fin 512) :
    View.ld (Val := Elt Ideal) (S := S2x1x64x512) (e' := .f32) X (Rect.unit (s := S2x1x64x512) ![a, 0, 0, 0] ![1, 1, 64, 512] h) (ix4 0 0 k r) = X (ix4 g 0 k r) := by
  refine View.ld_unit_apply_of (Val := Elt Ideal) (e := .f32) X _ _ h (ix4 0 0 k r) (ix4 g 0 k r) fun q => ?_
  match q with
  | ⟨0, _⟩ => exact ha
  | ⟨1, _⟩ => rfl
  | ⟨2, _⟩ => exact (Nat.zero_add _).symm
  | ⟨3, _⟩ => exact (Nat.zero_add _).symm

/-! What the stores hold, in the arguments. -/
section terms

variable {m} {c : Dev nD} (H : FinM m c) (t : Fin cfg0.N) (i : Fin 512)

include H in
theorem nq (L0 L1 : FVec Ideal S1x1x64x2048 .f32) (h0 : ∀ k r, L0 (ix4 0 0 k r) = A1 m c (ix4 0 (tt t) k r)) (h1 : ∀ k r, L1 (ix4 0 0 k r) = A1 m c (ix4 1 (tt t) k r)) (b : Fin 512) :
    k0_pay10 (F := Ideal) (k0_pay7 (B5 m c t)) (k0_pay8 (B6 m c t)) (k0_pay9 L0 L1) (ix2 i b)
      = dn (dq (A1 m c) (row t i) (h8 b)) (cR (A4 m c) (row t i)) (cR (A5 m c) (row t i)) (hk b) := by
  have e (b : Fin 512) : k0_pay9 (F := Ideal) L0 L1 (ix2 i b) * cc = dq (A1 m c) (row t i) (h8 b) (hk b) := by
    rw [p9, h0, h1]
    unfold dq
    refine congrArg (fun q => q * cc) ?_
    have e3 : (⟨b.val / 64 % 4 * 512 + i.val, by omega⟩ : Fin 2048) = ⟨(h8 b).val % 4 * 512 + (row t i).val % 512, by omega⟩ := Fin.ext (by unfold row h8; dsimp only; omega)
    have e2 : tt t = ⟨(row t i).val / 512, by omega⟩ := Fin.ext (by unfold row tt; dsimp only; omega)
    have e0 : (⟨(h8 b).val / 4, by omega⟩ : Fin 2) = if b.val < 256 then 0 else 1 := by
      unfold h8
      split_ifs
      · exact Fin.ext (by show b.val / 64 / 4 = 0; omega)
      · exact Fin.ext (by show b.val / 64 / 4 = 1; omega)
    rw [e0, ← e2, ← e3]
    split_ifs <;> rfl
  refine (p10 _ _ _ i b).trans ?_
  rw [show (fun b => k0_pay9 (F := Ideal) L0 L1 (ix2 i b) * cc) = fun b => dq (A1 m c) (row t i) (h8 b) (hk b) from funext e]
  have hh (b : Fin 512) : hk (W := 128) ⟨b.val % 128, by omega⟩ = hk b := Fin.ext (by unfold hk; dsimp only; omega)
  refine (kd_eq rfl _ _ _ (cR (A4 m c) (row t i)) (cR (A5 m c) (row t i)) (fun b => ?_) (fun b => ?_) b (fun a => H.dq_real _ _ _) fun q => H.h5 _).trans ?_
  · exact (p7 i b _).trans ((b5 m c t i _).trans (by rw [hh]; rfl))
  · refine (p8 i b _).trans ((b6 m c t i _).trans ?_)
    rw [hh, show (⟨b.val % 128, by omega⟩ : Fin 128).val % 2 = b.val % 2 by dsimp only; omega]
    rfl
  · have hg (k : Fin 64) : h8 (hb rfl b k) = h8 b := Fin.ext (by unfold h8 hb; dsimp only; omega)
    simp only [hg, hk_hb]
include H in
theorem nk (L0 L1 : FVec Ideal S1x1x64x512 .f32) (h0 : ∀ k r, L0 (ix4 0 0 k r) = A2 m c (ix4 0 (tt t) k r)) (h1 : ∀ k r, L1 (ix4 0 0 k r) = A2 m c (ix4 1 (tt t) k r)) (b : Fin 128) :
    k0_pay18 (F := Ideal) (k0_pay5 (B5 m c t)) (k0_pay6 (B6 m c t)) L0 L1 (ix2 i b)
      = dn (dk (A2 m c) (row t i) (h2 b)) (cR (A4 m c) (row t i)) (cR (A5 m c) (row t i)) (hk b) := by
  have e (b : Fin 128) : pick i L0 L1 b * ll = dk (A2 m c) (row t i) (h2 b) (hk b) := by
    unfold pick dk
    rw [h0, h1]
    refine congrArg (fun q => q * ll) ?_
    have e3 : i = ⟨(row t i).val % 512, by omega⟩ := Fin.ext (by unfold row; dsimp only; omega)
    have e2 : tt t = ⟨(row t i).val / 512, by omega⟩ := Fin.ext (by unfold row tt; dsimp only; omega)
    rw [← e2, ← e3]
    have e0 : h2 b = if b.val < 64 then 0 else 1 := by
      unfold h2
      split_ifs
      · exact Fin.ext (by show b.val / 64 = 0; omega)
      · exact Fin.ext (by show b.val / 64 = 1; omega)
    rw [e0]
    split_ifs <;> rfl
  refine (p18 i _ _ _ _ b).trans ?_
  rw [show (fun b => pick i L0 L1 b * ll) = fun b => dk (A2 m c) (row t i) (h2 b) (hk b) from funext e]
  refine (kd_eq rfl _ _ _ (cR (A4 m c) (row t i)) (cR (A5 m c) (row t i)) (fun b => ?_) (fun b => ?_) b (fun a => H.dk_real _ _ _) fun q => H.h5 _).trans ?_
  · refine Eq.trans ?_ (b5 m c t i b)
    pointwise [k0_pay5]
  · refine Eq.trans ?_ (b6 m c t i b)
    pointwise [k0_pay6]
  · have hg (k : Fin 64) : h2 (hb rfl b k) = h2 b := Fin.ext (by unfold h2 hb; dsimp only; omega)
    simp only [hg, hk_hb]

theorem xq_at (b : Fin 512) (k : Fin 64) : R (B0 m c t) i (hb rfl b k) = xq (A0 m c) (row t i) (h8 b) k := by
  refine (b0 m c t i _).trans ?_
  rfl
theorem xk_at (b : Fin 128) (k : Fin 64) : R' (B1 m c t) i (hb rfl b k) = xk (A0 m c) (row t i) (h2 b) k := by
  refine (b1 m c t i _).trans ?_
  rfl

include H in
theorem gq (L0 L1 : FVec Ideal S1x1x64x2048 .f32) (h0 : ∀ k r, L0 (ix4 0 0 k r) = A1 m c (ix4 0 (tt t) k r)) (h1 : ∀ k r, L1 (ix4 0 0 k r) = A1 m c (ix4 1 (tt t) k r)) (b : Fin 512) :
    (k0_pay15 (F := Ideal) (k0_pay13 (F := Ideal) k0_pay4 (k0_pay7 (B5 m c t)) (k0_pay8 (B6 m c t)) (k0_pay9 L0 L1) (B0 m c t) (B7 m c t)) (ix2 i b) : EReal)
      = uq (A0 m c) (A1 m c) (A4 m c) (A5 m c) (A6 m c) (row t i) b := by
  have e (b : Fin 512) := nq H t i L0 L1 h0 h1 b
  refine (p15 _ i b).trans ((p13 _ _ _ _ _ _ i b p4).trans ?_)
  · rw [show (fun b => k0_pay10 (F := Ideal) (k0_pay7 (B5 m c t)) (k0_pay8 (B6 m c t)) (k0_pay9 L0 L1) (ix2 i b)) = _ from funext e]
    refine (kx_eq rfl _ _ _ (fun a => ?_) (fun a => H.nq_real _ _ _) (fun a => ?_) b).trans ?_
    · exact ⟨_, (b0 m c t i a).trans (H.h0 _).choose_spec⟩
    · exact ⟨_, (b7 m c t a).trans (H.h6 _).choose_spec⟩
    · have hg (k : Fin 64) : h8 (hb rfl b k) = h8 b := Fin.ext (by unfold h8 hb; dsimp only; omega)
      have hw (a : Fin 512) : Rw (B7 m c t) a = A6 m c (ix2 0 (hk a)) := b7 m c t a
      simp only [hw, xq_at, hg, hk_hb]
      rfl
include H in
theorem gk (L0 L1 : FVec Ideal S1x1x64x512 .f32) (h0 : ∀ k r, L0 (ix4 0 0 k r) = A2 m c (ix4 0 (tt t) k r)) (h1 : ∀ k r, L1 (ix4 0 0 k r) = A2 m c (ix4 1 (tt t) k r)) (b : Fin 128) :
    (k0_pay24 (F := Ideal) (B1 m c t) (B8 m c t) (k0_pay17 k0_pay4) (k0_pay18 (k0_pay5 (B5 m c t)) (k0_pay6 (B6 m c t)) L0 L1) (k0_pay20 (B1 m c t)) (k0_pay21 (B1 m c t))
        (constant S512x128 .f32 0x00000000#32) (ix2 i b) : EReal)
      = uk (A0 m c) (A2 m c) (A4 m c) (A5 m c) (A7 m c) (row t i) b := by
  have e (b : Fin 128) := nk H t i L0 L1 h0 h1 b
  refine (p24 i _ _ _ _ b (p17 _ p4)).trans ?_
  rw [show R' (k0_pay18 (k0_pay5 (B5 m c t)) (k0_pay6 (B6 m c t)) L0 L1) i = _ from funext e]
  refine (kx_eq rfl _ _ _ (fun a => ?_) (fun a => H.nk_real _ _ _) (fun a => ?_) b).trans ?_
  · exact ⟨_, (b1 m c t i a).trans (H.h0 _).choose_spec⟩
  · exact ⟨_, (b8 m c t a).trans (H.h7 _).choose_spec⟩
  · have hg (k : Fin 64) : h2 (hb rfl b k) = h2 b := Fin.ext (by unfold h2 hb; dsimp only; omega)
    have hw (a : Fin 128) : Rw' (B8 m c t) a = A7 m c (ix2 0 (hk a)) := b8 m c t a
    simp only [hw, xk_at, hg, hk_hb]
    rfl

theorem gv (L0 L1 : FVec Ideal S1x1x64x512 .f32) (h0 : ∀ k r, L0 (ix4 0 0 k r) = A3 m c (ix4 0 (tt t) k r)) (h1 : ∀ k r, L1 (ix4 0 0 k r) = A3 m c (ix4 1 (tt t) k r)) (b : Fin 128) :
    (k0_pay1 (F := Ideal) (k0_pay26 L0) (k0_pay27 L1) (ix2 i b) : EReal) = dv (A3 m c) (row t i) b := by
  refine (p1 i L0 L1 b).trans ?_
  unfold pick dv
  rw [h0, h1]
  have e3 : i = ⟨(row t i).val % 512, by omega⟩ := Fin.ext (by unfold row; dsimp only; omega)
  have e2 : tt t = ⟨(row t i).val / 512, by omega⟩ := Fin.ext (by unfold row tt; dsimp only; omega)
  rw [← e2, ← e3]
  have e0 : (⟨b.val / 64, by omega⟩ : Fin 2) = if b.val < 64 then 0 else 1 := by
    split_ifs
    · exact Fin.ext (by show b.val / 64 = 0; omega)
    · exact Fin.ext (by show b.val / 64 = 1; omega)
  rw [e0]
  split_ifs <;> rfl

/-- A block's parts of the scales' gradients. -/
def partq (c : Dev nD) (t : Fin cfg0.N) (j : S1x512.Idx) : EReal :=
  ∑ i : Fin 512, gw (xq (A0 m c) (row t i) (h8 (j 1))) (dq (A1 m c) (row t i) (h8 (j 1))) (cR (A4 m c) (row t i)) (cR (A5 m c) (row t i)) (hk (W := 512) (j 1))
def partk (c : Dev nD) (t : Fin cfg0.N) (j : S1x128.Idx) : EReal :=
  ∑ i : Fin 512, gw (xk (A0 m c) (row t i) (h2 (j 1))) (dk (A2 m c) (row t i) (h2 (j 1))) (cR (A4 m c) (row t i)) (cR (A5 m c) (row t i)) (hk (W := 128) (j 1))

include H in
theorem wq (L0 L1 : FVec Ideal S1x1x64x2048 .f32) (h0 : ∀ k r, L0 (ix4 0 0 k r) = A1 m c (ix4 0 (tt t) k r)) (h1 : ∀ k r, L1 (ix4 0 0 k r) = A1 m c (ix4 1 (tt t) k r))
    (z : FVec Ideal S1x512 .f32) (b : Fin 512) :
    k0_pay16 (F := Ideal) (k0_pay14 (F := Ideal) k0_pay4 (k0_pay7 (B5 m c t)) (k0_pay8 (B6 m c t)) (k0_pay9 L0 L1) (B0 m c t)) z (ix2 0 b) = z (ix2 0 b) + partq (m := m) c t (ix2 0 b) := by
  refine (p16 _ _ _ _ _ _ b p4).trans (congrArg (fun q : EReal => z (ix2 0 b) + q) (Finset.sum_congr rfl fun i _ => ?_))
  rw [nq H t i L0 L1 h0 h1, kr_eq rfl (R (B0 m c t) i) fun a => ⟨_, (b0 m c t i a).trans (H.h0 _).choose_spec⟩]
  simp only [xq_at]
  rw [show B0 m c t (ix2 i b) = xq (A0 m c) (row t i) (h8 b) (hk b) from (congrArg (R (B0 m c t) i) (hb_hk rfl b)).symm.trans (xq_at t i b (hk b))]
  rfl
include H in
theorem wk (L0 L1 : FVec Ideal S1x1x64x512 .f32) (h0 : ∀ k r, L0 (ix4 0 0 k r) = A2 m c (ix4 0 (tt t) k r)) (h1 : ∀ k r, L1 (ix4 0 0 k r) = A2 m c (ix4 1 (tt t) k r))
    (z : FVec Ideal S1x128 .f32) (b : Fin 128) :
    k0_pay25 (F := Ideal) (B1 m c t) (k0_pay17 k0_pay4) (k0_pay18 (k0_pay5 (B5 m c t)) (k0_pay6 (B6 m c t)) L0 L1) (k0_pay20 (B1 m c t)) (k0_pay21 (B1 m c t))
        (constant S512x128 .f32 0x00000000#32) z (ix2 0 b) = z (ix2 0 b) + partk (m := m) c t (ix2 0 b) := by
  refine (p25 _ _ _ _ b (p17 _ p4)).trans (congrArg (fun q : EReal => z (ix2 0 b) + q) (Finset.sum_congr rfl fun i _ => ?_))
  rw [nk H t i L0 L1 h0 h1, kr_eq rfl (R' (B1 m c t) i) fun a => ⟨_, (b1 m c t i a).trans (H.h0 _).choose_spec⟩]
  simp only [xk_at]
  rw [show B1 m c t (ix2 i b) = xk (A0 m c) (row t i) (h2 b) (hk b) from (congrArg (R' (B1 m c t) i) (hb_hk rfl b)).symm.trans (xk_at t i b (hk b))]
  rfl

/-- The first result by its column ranges. -/
abbrev dUm (m : (ℓ : Loc nD τ sig) → Buf (Elt Ideal) ℓ) (c : Dev nD) : FVec Ideal SO .bf16 := dU (A0 m c) (A1 m c) (A2 m c) (A3 m c) (A4 m c) (A5 m c) (A6 m c) (A7 m c)
theorem dU_q (i x0 : Fin 512) (b : Fin 768) (x : Fin 512) (h0 : i.val = x0.val) (h : b.val = x.val) :
    uq (A0 m c) (A1 m c) (A4 m c) (A5 m c) (A6 m c) (row t x0) x = dUm m c (ix2 (row t i) b) := by
  obtain rfl : i = x0 := Fin.ext h0
  rw [show x = (⟨b.val, by omega⟩ : Fin 512) from Fin.ext h.symm]
  exact Eq.symm (dif_pos (show b.val < 512 by omega))
theorem dU_k (i x0 : Fin 512) (b : Fin 768) (x : Fin 128) (h0 : i.val = x0.val) (h : b.val = 512 + x.val) :
    uk (A0 m c) (A2 m c) (A4 m c) (A5 m c) (A7 m c) (row t x0) x = dUm m c (ix2 (row t i) b) := by
  obtain rfl : i = x0 := Fin.ext h0
  rw [show x = (⟨b.val - 512, by omega⟩ : Fin 128) from Fin.ext (by dsimp only; omega)]
  exact Eq.symm ((dif_neg (show ¬b.val < 512 by omega)).trans (dif_pos (show b.val < 640 by omega)))
theorem dU_v (i x0 : Fin 512) (b : Fin 768) (x : Fin 128) (h0 : i.val = x0.val) (h : b.val = 640 + x.val) :
    dv (A3 m c) (row t x0) x = dUm m c (ix2 (row t i) b) := by
  obtain rfl : i = x0 := Fin.ext h0
  rw [show x = (⟨b.val - 640, by omega⟩ : Fin 128) from Fin.ext (by dsimp only; omega)]
  exact Eq.symm ((dif_neg (show ¬b.val < 512 by omega)).trans (dif_neg (show ¬b.val < 640 by omega)))

end terms

/-- The three stores cover the block. -/
theorem cover9 (j : S512x768.Idx) (h1 h2 h3) (a : FVec Ideal S512x128 .bf16) (b : FVec Ideal S512x128 .bf16) (d : FVec Ideal S512x512 .bf16) :
    ∃ p ∈ ([⟨Rect.unit (s := S512x768) ![0, 640] ![512, 128] h1, a⟩, ⟨Rect.unit (s := S512x768) ![0, 512] ![512, 128] h2, b⟩,
      ⟨Rect.unit (s := S512x768) ![0, 0] ![512, 512] h3, d⟩] : List (View.Piece (Elt Ideal) S512x768 .bf16)), j ∈ p.fst.set := by
  have i0 : (j 0).val < 512 := (j 0).isLt
  have i1 : (j 1).val < 768 := (j 1).isLt
  by_cases e : (j 1).val < 512
  · exact ⟨_, List.mem_cons_of_mem _ (List.mem_cons_of_mem _ List.mem_cons_self), (Rect.mem_set_unit (inb := h3)).mpr fun a => match a with
      | ⟨0, _⟩ => ⟨Nat.zero_le _, (Nat.zero_add 512).symm ▸ i0⟩
      | ⟨1, _⟩ => ⟨Nat.zero_le _, (Nat.zero_add 512).symm ▸ e⟩⟩
  by_cases e' : (j 1).val < 640
  · exact ⟨_, List.mem_cons_of_mem _ List.mem_cons_self, (Rect.mem_set_unit (inb := h2)).mpr fun a => match a with
      | ⟨0, _⟩ => ⟨Nat.zero_le _, (Nat.zero_add 512).symm ▸ i0⟩
      | ⟨1, _⟩ => ⟨not_lt.mp e, e'⟩⟩
  · exact ⟨_, List.mem_cons_self, (Rect.mem_set_unit (inb := h1)).mpr fun a => match a with
      | ⟨0, _⟩ => ⟨Nat.zero_le _, (Nat.zero_add 512).symm ▸ i0⟩
      | ⟨1, _⟩ => ⟨not_lt.mp e', i1⟩⟩

variable {m}

theorem outs9 {c : Dev nD} (H : FinM m c) (t : Fin cfg0.N) (i : Fin 512) (b : Fin 768) : (outsAt0 m c t.val t.isLt).1 (ix2 i b) = dUm m c (ix2 (row t i) b) := by
  by_cases h : t.val % 16 = 0
  on_goal 1 => rw [outsAt0_A m c t h]
  on_goal 2 => rw [outsAt0_B m c t h]
  all_goals
    frame_out
    refine View.canon_append_of_piecesOf (Val := Elt Ideal) (s := S512x768) (e := .bf16) (fun j => dUm m c (ix2 (row t (j 0)) (j 1))) [] [_, _, _] ⟨fun x => ?_, fun x => ?_, fun x => ?_, trivial⟩ (ix2 i b) (cover9 (ix2 i b) _ _ _ _ _ _)
    all_goals idx_vars x
    · exact (gv t x0 _ _ (fun k r => (ld3 _ 0 0 rfl _ k r).trans (b4 m c t 0 k r)) (fun k r => (ld3 _ 1 1 rfl _ k r).trans (b4 m c t 1 k r)) x1).trans
        (dU_v t _ x0 _ x1 (by show 0 + 1 * x0.val = _; omega) (by show 640 + 1 * x1.val = _; omega))
    · exact (gk H t x0 _ _ (fun k r => (ld3 _ 0 0 rfl _ k r).trans (b3 m c t 0 k r)) (fun k r => (ld3 _ 1 1 rfl _ k r).trans (b3 m c t 1 k r)) x1).trans
        (dU_k t _ x0 _ x1 (by show 0 + 1 * x0.val = _; omega) (by show 512 + 1 * x1.val = _; omega))
    · exact (gq H t x0 _ _ (fun k r => (ld2 _ 0 0 rfl _ k r).trans (b2 m c t 0 k r)) (fun k r => (ld2 _ 1 1 rfl _ k r).trans (b2 m c t 1 k r)) x1).trans
        (dU_q t _ x0 _ x1 (by show 0 + 1 * x0.val = _; omega) (by show 0 + 1 * x1.val = _; omega))
theorem final9 {c : Dev nD} (H : FinM m c) : (dats m 0 c).arrAt 9 cfg0.N = dUm m c := by
  refine (dats m 0 c).arrAt_eq_of_covers 9 _ (by decide +kernel) fun t hf y => ?_
  blk_simp
  idx_vars y
  rw [after0_9]
  refine (outs9 H t y0 y1).trans (congrArg (dUm m c) ?_)
  blk_ext [idx t, row]

theorem z2 (b : Fin 512) : (k0_pay2 (F := Ideal) (ix2 0 b) : EReal) = 0 := by pointwise [k0_pay2]
theorem z3 (b : Fin 128) : (k0_pay3 (F := Ideal) (ix2 0 b) : EReal) = 0 := by pointwise [k0_pay3]

theorem outs10B {c : Dev nD} (H : FinM m c) (t : Fin cfg0.N) (h : ¬ t.val % 16 = 0) (j : S1x512.Idx) : (outsAt0 m c t.val t.isLt).2.1 j
    = (outsAt0 m c (t.val - 1) (lt_of_le_of_lt (Nat.sub_le _ _) t.isLt)).2.1 j + partq (m := m) c t j := by
  rw [outsAt0_B m c t h]
  frame_out
  idx_vars j
  obtain rfl : j0 = 0 := Subsingleton.elim _ _
  exact wq H t _ _ (fun k r => (ld2 _ 0 0 rfl _ k r).trans (b2 m c t 0 k r)) (fun k r => (ld2 _ 1 1 rfl _ k r).trans (b2 m c t 1 k r)) _ j1
theorem outs10A {c : Dev nD} (H : FinM m c) (t : Fin cfg0.N) (h : t.val % 16 = 0) (j : S1x512.Idx) : (outsAt0 m c t.val t.isLt).2.1 j = 0 + partq (m := m) c t j := by
  rw [outsAt0_A m c t h]
  frame_out
  idx_vars j
  obtain rfl : j0 = 0 := Subsingleton.elim _ _
  exact (wq H t _ _ (fun k r => (ld2 _ 0 0 rfl _ k r).trans (b2 m c t 0 k r)) (fun k r => (ld2 _ 1 1 rfl _ k r).trans (b2 m c t 1 k r)) _ j1).trans (congrArg (fun q : EReal => q + _) (z2 j1))
theorem outs11B {c : Dev nD} (H : FinM m c) (t : Fin cfg0.N) (h : ¬ t.val % 16 = 0) (j : S1x128.Idx) : (outsAt0 m c t.val t.isLt).2.2 j
    = (outsAt0 m c (t.val - 1) (lt_of_le_of_lt (Nat.sub_le _ _) t.isLt)).2.2 j + partk (m := m) c t j := by
  rw [outsAt0_B m c t h]
  frame_out
  idx_vars j
  obtain rfl : j0 = 0 := Subsingleton.elim _ _
  exact wk H t _ _ (fun k r => (ld3 _ 0 0 rfl _ k r).trans (b3 m c t 0 k r)) (fun k r => (ld3 _ 1 1 rfl _ k r).trans (b3 m c t 1 k r)) _ j1
theorem outs11A {c : Dev nD} (H : FinM m c) (t : Fin cfg0.N) (h : t.val % 16 = 0) (j : S1x128.Idx) : (outsAt0 m c t.val t.isLt).2.2 j = 0 + partk (m := m) c t j := by
  rw [outsAt0_A m c t h]
  frame_out
  idx_vars j
  obtain rfl : j0 = 0 := Subsingleton.elim _ _
  exact (wk H t _ _ (fun k r => (ld3 _ 0 0 rfl _ k r).trans (b3 m c t 0 k r)) (fun k r => (ld3 _ 1 1 rfl _ k r).trans (b3 m c t 1 k r)) _ j1).trans (congrArg (fun q : EReal => q + _) (z3 j1))

/-- The blocks' parts together. -/
theorem partsq (c : Dev nD) (t : Fin cfg0.N) (h : ∀ s : Fin 16, 16 * (t.val / 16) + s.val < cfg0.N) (y : S1x512.Idx) :
    ∑ s : Fin 16, partq (m := m) c ⟨16 * (t.val / 16) + s.val, h s⟩ y = dWq (A0 m c) (A1 m c) (A4 m c) (A5 m c) y := by
  have ht : t.val < 16 := lt_of_lt_of_eq t.isLt N_0
  unfold partq dWq
  refine Fin.sum_mul_add_congr fun s k hl => ?_
  rw [show row ⟨16 * (t.val / 16) + s.val, h s⟩ k = ⟨s.val * 512 + k.val, hl⟩ from Fin.ext (by unfold row; dsimp only; omega)]
theorem partsk (c : Dev nD) (t : Fin cfg0.N) (h : ∀ s : Fin 16, 16 * (t.val / 16) + s.val < cfg0.N) (y : S1x128.Idx) :
    ∑ s : Fin 16, partk (m := m) c ⟨16 * (t.val / 16) + s.val, h s⟩ y = dWk (A0 m c) (A2 m c) (A4 m c) (A5 m c) y := by
  have ht : t.val < 16 := lt_of_lt_of_eq t.isLt N_0
  unfold partk dWk
  refine Fin.sum_mul_add_congr fun s k hl => ?_
  rw [show row ⟨16 * (t.val / 16) + s.val, h s⟩ k = ⟨s.val * 512 + k.val, hl⟩ from Fin.ext (by unfold row; dsimp only; omega)]
theorem final10 {c : Dev nD} (H : FinM m c) : (dats m 0 c).arrAt 10 cfg0.N = dWq (A0 m c) (A1 m c) (A4 m c) (A5 m c) := by
  refine (dats m 0 c).arrAt_eq_of_covers 10 _ (by decide +kernel) fun t hf y => ?_
  blk_simp
  rw [after0_10, Pipeline.eq_sum_fin_of_reset_step_apply_of_flush (fun n h => (outsAt0 m c n h).2.1) 16 (fun _ => 0)
    (partq (m := m) c) (outs10A H) (outs10B H) t ((flush0_10 t).mp hf) _, zero_add]
  refine (partsq c t _ _).trans ?_
  idx_vars y
  blk_ext [idx t]
theorem final11 {c : Dev nD} (H : FinM m c) : (dats m 0 c).arrAt 11 cfg0.N = dWk (A0 m c) (A2 m c) (A4 m c) (A5 m c) := by
  refine (dats m 0 c).arrAt_eq_of_covers 11 _ (by decide +kernel) fun t hf y => ?_
  blk_simp
  rw [after0_11, Pipeline.eq_sum_fin_of_reset_step_apply_of_flush (fun n h => (outsAt0 m c n h).2.2) 16 (fun _ => 0)
    (partk (m := m) c) (outs11A H) (outs11B H) t ((flush0_11 t).mp hf) _, zero_add]
  refine (partsk c t _ _).trans ?_
  idx_vars y
  blk_ext [idx t]

end Cert.PrepIdeal.Val

/-! ## The claims -/

namespace Cert.Val.Prep

open Cert.PrepIdeal.Val (A0 A1 A2 A3 A4 A5 A6 A7 dUm)

/-- The reference's frame: its run read at the arguments; it has no semaphore. -/
theorem frame_ref : Cert.quiescent_PrepRefIdeal := fun m ρ _ =>
  (θ_run Cert.PrepRefIdeal.defs _ _).mono (fun r h => ⟨fun c => (h c).2.2.2,
      Idealize.ShloMosaic.sem_eq_zero_of_no_sems (by decide) r.2⟩) (Cert.PrepRefIdeal.Value.run m ρ)

/-- Both programs end with the same gradients of the same arguments. -/
theorem algebraic : Cert.algebraic_PrepIdeal_PrepRefIdeal_pre_finite_prep := by
  intro m ρ m' ρ' hpre hagree
  have hfin (c : Dev Cert.PrepIdeal.nD) : Cert.PrepIdeal.Val.FinM m c := by
    obtain ⟨h0, h1, h2, h3, h4, h5, h6, h7⟩ := hpre c
    exact ⟨fun i => real_of_cmp _ _ ofBits_inf_f32 (congrFun h0 i), fun i => real_of_cmp _ _ ofBits_inf_f32 (congrFun h1 i), fun i => real_of_cmp _ _ ofBits_inf_f32 (congrFun h2 i),
      fun i => real_of_cmp _ _ ofBits_inf_f32 (congrFun h3 i), fun i => real_of_cmp _ _ ofBits_inf_f32 (congrFun h4 i), fun i => real_of_cmp _ _ ofBits_inf_f32 (congrFun h5 i),
      fun i => real_of_cmp _ _ ofBits_inf_f32 (congrFun h6 i), fun i => real_of_cmp _ _ ofBits_inf_f32 (congrFun h7 i)⟩
  refine ⟨fun c => dUm m c, fun c => dWq (A0 m c) (A1 m c) (A4 m c) (A5 m c), fun c => dWk (A0 m c) (A2 m c) (A4 m c) (A5 m c), ?_, ?_⟩
  · exact (θ_run Cert.PrepIdeal.defs _ _).mono (fun _ h c => ⟨(h c).1.trans (Cert.PrepIdeal.Val.final9 (hfin c)),
      (h c).2.1.trans (Cert.PrepIdeal.Val.final10 (hfin c)), (h c).2.2.1.trans (Cert.PrepIdeal.Val.final11 (hfin c)), (h c).2.2.2⟩) (Cert.PrepIdeal.Value.run_blocks m ρ)
  · have e (c : Dev Cert.PrepIdeal.nD) : Cert.PrepRefIdeal.Val.A0 m' c = A0 m c ∧ Cert.PrepRefIdeal.Val.A1 m' c = A1 m c ∧ Cert.PrepRefIdeal.Val.A2 m' c = A2 m c ∧ Cert.PrepRefIdeal.Val.A3 m' c = A3 m c
        ∧ Cert.PrepRefIdeal.Val.A4 m' c = A4 m c ∧ Cert.PrepRefIdeal.Val.A5 m' c = A5 m c ∧ Cert.PrepRefIdeal.Val.A6 m' c = A6 m c ∧ Cert.PrepRefIdeal.Val.A7 m' c = A7 m c := hagree c
    have hfin' (c : Dev Cert.PrepIdeal.nD) : Cert.PrepRefIdeal.Val.FinM m' c := by
      obtain ⟨e0, e1, e2, e3, e4, e5, e6, e7⟩ := e c
      unfold Cert.PrepRefIdeal.Val.FinM
      rw [e0, e1, e2, e3, e4, e5, e6, e7]
      exact hfin c
    refine (θ_run Cert.PrepRefIdeal.defs _ _).mono (fun _ h c => ⟨(h c).1.trans ?_, (h c).2.1.trans ?_, (h c).2.2.1.trans ?_, (h c).2.2.2⟩) (Cert.PrepRefIdeal.Val.run m' ρ' hfin')
    all_goals
      obtain ⟨e0, e1, e2, e3, e4, e5, e6, e7⟩ := e c
      simp only [e0, e1, e2, e3, e4, e5, e6, e7]

end Cert.Val.Prep

end
-- ==== Proof.Val.FwTrip.lean ====
/-
  The attention's forward kernel (`Fw`), one point of its grid: a trip of its loop handles eight blocks of keys; what the
  two trips leave in the row sums and in the accumulator, and what the point leaves in its two output blocks.
-/
module

public import proofs.«01_k».proof.Proof.Gen.FwIdeal.Value
public import proofs.«01_k».proof.Proof.Val.FaPoint

@[expose] public section

set_option maxRecDepth 16384

noncomputable section

open Idealize.ShloMosaic Idealize.ShloMosaic.TcCoe Idealize.SL.Sem

namespace Cert.FwIdeal.Val

open Cert.FwIdeal Cert.FwIdeal.Gen
open Cert.FaIdeal.Val (pw blk)

/-! ## A trip's values -/

section values

variable (x0 : Vec Ideal S1x1x64x2048 .bf16) (x1 x2 : Vec Ideal S1x16x64x512 .bf16) (x3 : Vec Ideal S1x1x1x2048 .f32)

/-- Eight sublanes of a block's rows. -/
def sub (x : Fin 64) (e : Fin 8) : Fin 512 := ⟨x.val * 8 + e.val, by omega⟩

/-- Block `a`'s weights summed over a sublane, and its weighted values summed over its keys. -/
def lw (a : Fin 16) (e : Fin 8) (r : Fin 2048) : EReal := ∑ x : Fin 64, pw x0 x1 x3 a (sub x e) r
def vw (a : Fin 16) (d : Fin 64) (r : Fin 2048) : EReal := ∑ s : Fin 512, x2 (ix4 0 a d s) * pw x0 x1 x3 a s r

theorem pay1_at (a : Fin 16) (s : Fin 512) (r : Fin 2048) :
    k0_pay1 (k0_pay17 x0) (k0_pay18 x3) (blk x1 a) (ix2 s r) = pw x0 x1 x3 a s r := by
  unfold pw blk
  pointwise [k0_pay1, k0_pay17, k0_pay18]
  rfl

/-- The weights are computed by one expression throughout. -/
theorem pay2_eq (u : FVec Ideal S64x2048 .bf16) (w : FVec Ideal S1x2048 .f32) (b : Vec Ideal S1x1x64x512 .bf16) : k0_pay2 u w b = k0_pay1 u w b := rfl
theorem pay5_eq (u : FVec Ideal S64x2048 .bf16) (w : FVec Ideal S1x2048 .f32) (b : Vec Ideal S1x1x64x512 .bf16) : k0_pay5 u w b = k0_pay1 u w b := rfl
theorem pay6_eq (u : FVec Ideal S64x2048 .bf16) (w : FVec Ideal S1x2048 .f32) (b : Vec Ideal S1x1x64x512 .bf16) : k0_pay6 u w b = k0_pay1 u w b := rfl

theorem pay3_at (a b : Fin 16) (acc : FVec Ideal S8x2048 .f32) (e : Fin 8) (r : Fin 2048) :
    k0_pay3 (k0_pay17 x0) (k0_pay18 x3) acc (blk x1 a) (blk x1 b) (ix2 e r) = acc (ix2 e r) + lw x0 x1 x3 a e r + lw x0 x1 x3 b e r := by
  unfold lw
  simp only [← pay1_at]
  unfold k0_pay3
  rw [pay2_eq]
  generalize k0_pay1 (k0_pay17 x0) (k0_pay18 x3) (blk x1 a) = A
  generalize k0_pay1 (k0_pay17 x0) (k0_pay18 x3) (blk x1 b) = B
  unfold sub
  pointwise

theorem pay4_at (a b : Fin 16) (d : Fin 64) (r : Fin 2048) :
    k0_pay4 (k0_pay17 x0) (k0_pay18 x3) (blk x1 a) (blk x2 a) (blk x1 b) (blk x2 b) (ix2 d r) = vw x0 x1 x2 x3 a d r + vw x0 x1 x2 x3 b d r := by
  unfold vw
  simp only [← pay1_at]
  unfold k0_pay4
  rw [pay2_eq]
  generalize k0_pay1 (k0_pay17 x0) (k0_pay18 x3) (blk x1 a) = A
  generalize k0_pay1 (k0_pay17 x0) (k0_pay18 x3) (blk x1 b) = B
  unfold blk
  pointwise

theorem pay8_at (a b : Fin 16) (acc : FVec Ideal S64x2048 .f32) (d : Fin 64) (r : Fin 2048) :
    k0_pay8 (k0_pay17 x0) (k0_pay18 x3) acc (blk x1 a) (blk x2 a) (blk x1 b) (blk x2 b) (ix2 d r)
      = acc (ix2 d r) + vw x0 x1 x2 x3 a d r + vw x0 x1 x2 x3 b d r := by
  unfold vw
  simp only [← pay1_at]
  unfold k0_pay8
  rw [pay5_eq, pay6_eq]
  generalize k0_pay1 (k0_pay17 x0) (k0_pay18 x3) (blk x1 a) = A
  generalize k0_pay1 (k0_pay17 x0) (k0_pay18 x3) (blk x1 b) = B
  unfold blk
  pointwise

theorem pay16_at (v133 old : FVec Ideal S64x2048 .f32) (b0 c0 b1 c1 : Vec Ideal S1x1x64x512 .bf16) (y : S64x2048.Idx) :
    k0_pay16 (k0_pay17 x0) (k0_pay18 x3) v133 b0 c0 b1 c1 old y = old y + k0_pay8 (k0_pay17 x0) (k0_pay18 x3) v133 b0 c0 b1 c1 y := rfl

theorem pay19_at (y : S64x2048.Idx) : k0_pay19 (F := Ideal) y = 0 := by
  idx_vars y
  pointwise [k0_pay19]
theorem pay20_at (y : S8x2048.Idx) : k0_pay20 (F := Ideal) y = 0 := by
  idx_vars y
  pointwise [k0_pay20]
theorem pay21_eq (v : FVec Ideal S64x2048 .f32) : k0_pay21 v = v := by
  funext y
  idx_vars y
  pointwise [k0_pay21]
theorem pay22_at (l : FVec Ideal S8x2048 .f32) (z : Fin 1) (r : Fin 2048) : k0_pay22 l (ix2 z r) = ∑ e : Fin 8, l (ix2 e r) := by
  pointwise [k0_pay22]
theorem pay23_at (l : FVec Ideal S8x2048 .f32) (acc : Vec Ideal S64x2048 .f32) (z z' : Fin 1) (d : Fin 64) (r : Fin 2048) :
    k0_pay23 l acc (ix4 z z' d r) = Ideal.div (acc (ix2 d r)) (∑ e : Fin 8, l (ix2 e r)) := by
  rw [← pay22_at l 0]
  generalize hA : k0_pay22 l = A
  unfold k0_pay23
  rw [hA]
  pointwise
theorem pay24_at (l : FVec Ideal S8x2048 .f32) (z z' z'' : Fin 1) (r : Fin 2048) :
    k0_pay24 x3 l (ix4 z z' z'' r) = x3 (ix4 0 0 0 r) + Ideal.div (Ideal.log (∑ e : Fin 8, l (ix2 e r))) (Ideal.log (Ideal.ofBits .f32 0x40000000#32)) := by
  rw [← pay22_at l 0]
  generalize hA : k0_pay22 l = A
  unfold k0_pay24
  rw [hA]
  pointwise [k0_pay18]

end values

/-! ## The loop -/

/-- A trip's eight blocks. -/
def nth (k : Fin k0_t1_loop.trips) (u : Fin 8) : Fin 16 :=
  ⟨k.val * 8 + u.val, by have h : k.val < 2 := Nat.lt_of_lt_of_le k.isLt k0_t1_abs.2.1; omega⟩

theorem le_two : 2 ≤ k0_t1_loop.trips := by decide +kernel
theorem off_eq : ∀ (k : Fin k0_t1_loop.trips) (u : Fin 8), k0_off1 k (BitVec.ofNat 32 u.val) = ![0, k.val * 8 + u.val, 0, 0] := by decide +kernel

/-- A load of a trip's `u`-th block reads it. -/
theorem load_at (x : View sig .tc .vmem S1x16x64x512 .bf16) (X : x.ty.Contents (Elt Ideal)) (k : Fin k0_t1_loop.trips) (u : Fin 8)
    (z z' : Fin 1) (d : Fin 64) (s : Fin 512) :
    x.readAt (Elt Ideal) (Rect.unit (s := S1x16x64x512) (k0_off1 k (BitVec.ofNat 32 u.val)) S1x1x64x512.size (k0_off1_inb k u)).toLoadRect X (ix4 z z' d s)
      = x.read (Elt Ideal) X (ix4 0 (nth k u) d s) := by
  refine congrArg (x.read (Elt Ideal) X) (funext fun a => Fin.ext ?_)
  have ho : k0_off1 k (BitVec.ofNat 32 u.val) a = ![0, k.val * 8 + u.val, 0, 0] a := congrFun (off_eq k u) a
  show k0_off1 k (BitVec.ofNat 32 u.val) a + 1 * (ix4 z z' d s a).val = _
  refine (congrArg (· + 1 * (ix4 z z' d s a).val) ho).trans ?_
  fin_cases a
  · show 0 + 1 * z.val = 0
    omega
  · show k.val * 8 + u.val + 1 * z'.val = k.val * 8 + u.val
    omega
  · show 0 + 1 * d.val = d.val
    omega
  · show 0 + 1 * s.val = s.val
    omega
theorem load_nth (x : View sig .tc .vmem S1x16x64x512 .bf16) (X : x.ty.Contents (Elt Ideal)) (k : Fin k0_t1_loop.trips) (u : Fin 8) :
    x.readAt (Elt Ideal) (Rect.unit (s := S1x16x64x512) (k0_off1 k (BitVec.ofNat 32 u.val)) S1x1x64x512.size (k0_off1_inb k u)).toLoadRect X
      = blk (x.read (Elt Ideal) X) (nth k u) := by
  funext y
  idx_vars y
  exact load_at x X k u _ _ _ _

theorem step_sum (n : ℕ) (x : EReal) (f : Fin (n + 1) → EReal) : x + ∑ k : Fin n, f k.castSucc + f (Fin.last n) = x + ∑ k, f k := by
  rw [Fin.sum_univ_castSucc, add_assoc]

section loop

variable (𝒱 : Variants) (c : Dev nD) (bd : Option 𝒱.V) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole) (arg5 : Memref sig .tc .vmem S1x1x1x2048 .f32) (harg5 : arg5.IsWhole) (arg6 : Memref sig .tc .vmem S1x1x64x2048 .f32) (harg6 : arg6.IsWhole) (arg7 : Memref sig .tc .vmem S1x1x1x2048 .f32) (harg7 : arg7.IsWhole) (arg8 : Memref sig .tc .vmem S64x2048 .f32) (harg8 : arg8.IsWhole)
  (v0 : Vec Ideal S1x1x64x2048 .bf16) (v2 : Vec Ideal S1x1x1x2048 .f32) (X3 : BufTy.Contents (Elt Ideal) arg3.view.ty) (X4 : BufTy.Contents (Elt Ideal) arg4.view.ty)
  (G : BufTy.Contents (Elt Ideal) arg8.view.ty)

/-- A trip's row sums, and its accumulator, of the blocks `B` of keys and `C` of values. -/
def sums (B : Fin 8 → Vec Ideal S1x1x64x512 .bf16) (acc : FVec Ideal S8x2048 .f32) : FVec Ideal S8x2048 .f32 :=
  k0_pay15 (k0_pay17 v0) (k0_pay18 v2) (k0_pay11 (k0_pay17 v0) (k0_pay18 v2) (k0_pay7 (k0_pay17 v0) (k0_pay18 v2) (k0_pay3 (k0_pay17 v0) (k0_pay18 v2) acc (B 0) (B 1)) (B 2) (B 3)) (B 4) (B 5)) (B 6) (B 7)
def accs (B C : Fin 8 → Vec Ideal S1x1x64x512 .bf16) (old : Vec Ideal S64x2048 .f32) : FVec Ideal S64x2048 .f32 :=
  k0_pay21 (k0_pay16 (k0_pay17 v0) (k0_pay18 v2) (k0_pay12 (k0_pay17 v0) (k0_pay18 v2) (k0_pay8 (k0_pay17 v0) (k0_pay18 v2) (k0_pay4 (k0_pay17 v0) (k0_pay18 v2) (B 0) (C 0) (B 1) (C 1))
    (B 2) (C 2) (B 3) (C 3)) (B 4) (C 4) (B 5) (C 5)) (B 6) (C 6) (B 7) (C 7) old)

theorem sums_at (x1 : Vec Ideal S1x16x64x512 .bf16) (n : Fin 8 → Fin 16) (acc : FVec Ideal S8x2048 .f32) (e : Fin 8) (r : Fin 2048) :
    sums v0 v2 (fun u => blk x1 (n u)) acc (ix2 e r) = acc (ix2 e r) + ∑ u : Fin 8, lw v0 x1 v2 (n u) e r := by
  rw [Fin.sum_univ_eight]
  refine ((pay3_at v0 x1 v2 (n 6) (n 7) _ e r).trans (congrArg (· + _ + _) ((pay3_at v0 x1 v2 (n 4) (n 5) _ e r).trans (congrArg (· + _ + _)
    ((pay3_at v0 x1 v2 (n 2) (n 3) _ e r).trans (congrArg (· + _ + _) (pay3_at v0 x1 v2 (n 0) (n 1) acc e r))))))).trans ?_
  simp only [add_assoc]

theorem accs_at (x1 x2 : Vec Ideal S1x16x64x512 .bf16) (n : Fin 8 → Fin 16) (old : Vec Ideal S64x2048 .f32) (d : Fin 64) (r : Fin 2048) :
    accs v0 v2 (fun u => blk x1 (n u)) (fun u => blk x2 (n u)) old (ix2 d r) = old (ix2 d r) + ∑ u : Fin 8, vw v0 x1 x2 v2 (n u) d r := by
  rw [Fin.sum_univ_eight]
  unfold accs
  rw [pay21_eq, pay16_at]
  refine congrArg _ ?_
  refine ((pay8_at v0 x1 x2 v2 (n 6) (n 7) _ d r).trans (congrArg (· + _ + _) ((pay8_at v0 x1 x2 v2 (n 4) (n 5) _ d r).trans (congrArg (· + _ + _)
    ((pay8_at v0 x1 x2 v2 (n 2) (n 3) _ d r).trans (congrArg (· + _ + _) (pay4_at v0 x1 x2 v2 (n 0) (n 1) d r))))))).trans ?_
  simp only [add_assoc]

/-- One trip's row sums and its store. -/
theorem tripR_eq (k : Fin k0_t1_loop.trips) (acc : FVec Ideal S8x2048 .f32) (f : BufTy.Contents (Elt Ideal) arg8.view.ty) :
    tripR_k0_t1 𝒱 c bd i arg2 harg2 arg3 harg3 arg4 harg4 arg5 harg5 arg6 harg6 arg7 harg7 arg8 harg8 v0 v2 X3 X4 k acc f = sums v0 v2 (fun u => blk (arg3.view.read (Elt Ideal) X3) (nth k u)) acc := by
  simp only [← load_nth arg3.view]
  unfold tripR_k0_t1 trip_k0_t1
  rfl
theorem tripL_eq (k : Fin k0_t1_loop.trips) (acc : FVec Ideal S8x2048 .f32) (f : BufTy.Contents (Elt Ideal) arg8.view.ty) :
    tripL_k0_t1 𝒱 c bd i arg2 harg2 arg3 harg3 arg4 harg4 arg5 harg5 arg6 harg6 arg7 harg7 arg8 harg8 v0 v2 X3 X4 k acc f
      = [⟨(Rect.unit (s := S64x2048) ![0, 0] S64x2048.size inb_S64x2048_S64x2048_0_0), accs v0 v2 (fun u => blk (arg3.view.read (Elt Ideal) X3) (nth k u)) (fun u => blk (arg4.view.read (Elt Ideal) X4) (nth k u)) (arg8.view.readAt (Elt Ideal) (Rect.unit (s := S64x2048) ![0, 0] S64x2048.size inb_S64x2048_S64x2048_0_0).toLoadRect f)⟩] := by
  simp only [← load_nth arg3.view, ← load_nth arg4.view]
  unfold tripL_k0_t1 trip_k0_t1
  rfl

/-- What the first `n` trips leave. -/
theorem loop_at (n : ℕ) (hn : n ≤ k0_t1_loop.trips) :
    (∀ e r, (st_k0_t1 𝒱 c bd i arg2 harg2 arg3 harg3 arg4 harg4 arg5 harg5 arg6 harg6 arg7 harg7 arg8 harg8 v0 v2 X3 X4 G k0_pay20 n).1 (ix2 e r)
      = ∑ k : Fin n, ∑ u : Fin 8, lw v0 (arg3.view.read (Elt Ideal) X3) v2 (nth ⟨k.val, Nat.lt_of_lt_of_le k.isLt hn⟩ u) e r)
    ∧ ∀ d r, arg8.view.read (Elt Ideal) (arg8.view.writes (Elt Ideal) G (st_k0_t1 𝒱 c bd i arg2 harg2 arg3 harg3 arg4 harg4 arg5 harg5 arg6 harg6 arg7 harg7 arg8 harg8 v0 v2 X3 X4 G k0_pay20 n).2) (ix2 d r)
      = arg8.view.read (Elt Ideal) G (ix2 d r)
        + ∑ k : Fin n, ∑ u : Fin 8, vw v0 (arg3.view.read (Elt Ideal) X3) (arg4.view.read (Elt Ideal) X4) v2 (nth ⟨k.val, Nat.lt_of_lt_of_le k.isLt hn⟩ u) d r := by
  induction n with
  | zero =>
    rw [st_k0_t1_zero]
    refine ⟨fun e r => ?_, fun d r => ?_⟩
    · exact (pay20_at _).trans (Fin.sum_univ_zero _).symm
    · rw [Fin.sum_univ_zero, add_zero]
      rfl
  | succ n ih =>
    obtain ⟨ih1, ih2⟩ := ih (Nat.le_of_succ_le hn)
    have e := st_k0_t1_succ 𝒱 c bd i arg2 harg2 arg3 harg3 arg4 harg4 arg5 harg5 arg6 harg6 arg7 harg7 arg8 harg8 v0 v2 X3 X4 G k0_pay20 ⟨n, hn⟩
    refine ⟨fun e' r => ?_, fun d r => ?_⟩
    · refine (congrFun (congrArg Prod.fst e) _).trans ?_
      dsimp only
      rw [tripR_eq, sums_at]
      rw [ih1 e' r]
      exact (Fin.sum_univ_castSucc fun k : Fin (n + 1) => ∑ u : Fin 8, lw v0 (arg3.view.read (Elt Ideal) X3) v2 (nth ⟨k.val, Nat.lt_of_lt_of_le k.isLt hn⟩ u) e' r).symm
    · refine (congrArg (fun z => arg8.view.read (Elt Ideal) (arg8.view.writes (Elt Ideal) G z.2) (ix2 d r)) e).trans ?_
      dsimp only
      rw [tripL_eq, List.singleton_append]
      refine (congrFun (View.read_writes_full arg8.view G _ _ _) _).trans ?_
      rw [accs_at]
      refine (congrArg (· + _) ((congrFun (View.readAt_full arg8.view _ _) _).trans (ih2 d r))).trans ?_
      exact step_sum n _ fun k => ∑ u : Fin 8, vw v0 (arg3.view.read (Elt Ideal) X3) (arg4.view.read (Elt Ideal) X4) v2 (nth ⟨k.val, Nat.lt_of_lt_of_le k.isLt hn⟩ u) d r

end loop

/-! ## A point -/

section point

variable (c : Dev nD) (i : grid0.Coords) (arg2 : Memref sig .tc .vmem S1x1x64x2048 .bf16) (harg2 : arg2.IsWhole) (arg3 : Memref sig .tc .vmem S1x16x64x512 .bf16) (harg3 : arg3.IsWhole) (arg4 : Memref sig .tc .vmem S1x16x64x512 .bf16) (harg4 : arg4.IsWhole) (arg5 : Memref sig .tc .vmem S1x1x1x2048 .f32) (harg5 : arg5.IsWhole) (arg6 : Memref sig .tc .vmem S1x1x64x2048 .f32) (harg6 : arg6.IsWhole) (arg7 : Memref sig .tc .vmem S1x1x1x2048 .f32) (harg7 : arg7.IsWhole) (arg8 : Memref sig .tc .vmem S64x2048 .f32) (harg8 : arg8.IsWhole)
  (x0 : Vec Ideal S1x1x64x2048 .bf16) (x1 : Vec Ideal S1x16x64x512 .bf16) (x2 : Vec Ideal S1x16x64x512 .bf16) (x3 : Vec Ideal S1x1x1x2048 .f32)

/-- A load of a whole block of a memref holding `X` reads `X`. -/
theorem ld {s : Shape} {e : EltTy} (a : Memref sig .tc .vmem s e) (h : a.IsWhole) (X : s.Idx → Elt Ideal e) (off : Fin s.rank → ℕ)
    (inb : ∀ b, off b + s.size b ≤ s.size b) :
    a.view.readAt (Elt Ideal) (Rect.unit (s := s) off s.size inb).toLoadRect (h.unread X) = X :=
  (View.readAt_full a.view _ inb).trans (h.read_unread X)

theorem list4 : (kernelRun0_A c i arg2 harg2 arg3 harg3 arg4 harg4 arg5 harg5 arg6 harg6 arg7 harg7 arg8 harg8 x0 x1 x2 x3).1 = [⟨(Rect.unit (s := S1x1x64x2048) ![0, 0, 0, 0] S1x1x64x2048.size inb_S1x1x64x2048_S1x1x64x2048_0_0_0_0), k0_pay23 (st_k0_t1 Variants.none c none i arg2 harg2 arg3 harg3 arg4 harg4 arg5 harg5 arg6 harg6 arg7 harg7 arg8 harg8 x0 x3 (harg3.unread x1) (harg4.unread x2) (arg8.view.writes (Elt Ideal) arg8.view.junk kernelRun0_A.sl.HS0_1) k0_pay20 2).1 (arg8.view.readCov ((st_k0_t1 Variants.none c none i arg2 harg2 arg3 harg3 arg4 harg4 arg5 harg5 arg6 harg6 arg7 harg7 arg8 harg8 x0 x3 (harg3.unread x1) (harg4.unread x2) (arg8.view.writes (Elt Ideal) arg8.view.junk kernelRun0_A.sl.HS0_1) k0_pay20 2).2 ++ kernelRun0_A.sl.HS0_1) (Rect.unit (s := S64x2048) ![0, 0] S64x2048.size inb_S64x2048_S64x2048_0_0).toLoadRect)⟩] := by
  refine Eq.trans (b := [⟨(Rect.unit (s := S1x1x64x2048) ![0, 0, 0, 0] S1x1x64x2048.size inb_S1x1x64x2048_S1x1x64x2048_0_0_0_0), k0_pay23 (st_k0_t1 Variants.none c none i arg2 harg2 arg3 harg3 arg4 harg4 arg5 harg5 arg6 harg6 arg7 harg7 arg8 harg8 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x1x2048) ![0, 0, 0, 0] S1x1x1x2048.size inb_S1x1x1x2048_S1x1x1x2048_0_0_0_0).toLoadRect (harg5.unread x3)) (harg3.unread x1) (harg4.unread x2) (arg8.view.writes (Elt Ideal) arg8.view.junk kernelRun0_A.sl.HS0_1) k0_pay20 2).1 (arg8.view.readCov ((st_k0_t1 Variants.none c none i arg2 harg2 arg3 harg3 arg4 harg4 arg5 harg5 arg6 harg6 arg7 harg7 arg8 harg8 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x1x2048) ![0, 0, 0, 0] S1x1x1x2048.size inb_S1x1x1x2048_S1x1x1x2048_0_0_0_0).toLoadRect (harg5.unread x3)) (harg3.unread x1) (harg4.unread x2) (arg8.view.writes (Elt Ideal) arg8.view.junk kernelRun0_A.sl.HS0_1) k0_pay20 2).2 ++ kernelRun0_A.sl.HS0_1) (Rect.unit (s := S64x2048) ![0, 0] S64x2048.size inb_S64x2048_S64x2048_0_0).toLoadRect)⟩]) ?_ (by rw [ld arg5 harg5, ld arg2 harg2])
  unfold kernelRun0_A
  rfl

theorem list5 : (kernelRun0_A c i arg2 harg2 arg3 harg3 arg4 harg4 arg5 harg5 arg6 harg6 arg7 harg7 arg8 harg8 x0 x1 x2 x3).2.1 = [⟨(Rect.unit (s := S1x1x1x2048) ![0, 0, 0, 0] S1x1x1x2048.size inb_S1x1x1x2048_S1x1x1x2048_0_0_0_0), k0_pay24 x3 (st_k0_t1 Variants.none c none i arg2 harg2 arg3 harg3 arg4 harg4 arg5 harg5 arg6 harg6 arg7 harg7 arg8 harg8 x0 x3 (harg3.unread x1) (harg4.unread x2) (arg8.view.writes (Elt Ideal) arg8.view.junk kernelRun0_A.sl.HS0_1) k0_pay20 2).1⟩] := by
  refine Eq.trans (b := [⟨(Rect.unit (s := S1x1x1x2048) ![0, 0, 0, 0] S1x1x1x2048.size inb_S1x1x1x2048_S1x1x1x2048_0_0_0_0), k0_pay24 (arg5.view.readAt (Elt Ideal) (Rect.unit (s := S1x1x1x2048) ![0, 0, 0, 0] S1x1x1x2048.size inb_S1x1x1x2048_S1x1x1x2048_0_0_0_0).toLoadRect (harg5.unread x3)) (st_k0_t1 Variants.none c none i arg2 harg2 arg3 harg3 arg4 harg4 arg5 harg5 arg6 harg6 arg7 harg7 arg8 harg8 (arg2.view.readAt (Elt Ideal) (Rect.unit (s := S1x1x64x2048) ![0, 0, 0, 0] S1x1x64x2048.size inb_S1x1x64x2048_S1x1x64x2048_0_0_0_0).toLoadRect (harg2.unread x0)) (arg5.view.readAt (Elt Ideal) (Rect.unit (s := S1x1x1x2048) ![0, 0, 0, 0] S1x1x1x2048.size inb_S1x1x1x2048_S1x1x1x2048_0_0_0_0).toLoadRect (harg5.unread x3)) (harg3.unread x1) (harg4.unread x2) (arg8.view.writes (Elt Ideal) arg8.view.junk kernelRun0_A.sl.HS0_1) k0_pay20 2).1⟩]) ?_ (by rw [ld arg5 harg5, ld arg2 harg2])
  unfold kernelRun0_A
  rfl

/-- A row's weights summed, and its weighted values. -/
def den (r : Fin 2048) : EReal := ∑ e : Fin 8, ∑ a : Fin 16, lw x0 x1 x3 a e r
def num (d : Fin 64) (r : Fin 2048) : EReal := ∑ a : Fin 16, vw x0 x1 x2 x3 a d r

/-- Two trips of eight blocks are the sixteen blocks. -/
theorem two_trips (f : Fin 16 → EReal) :
    ∑ k : Fin 2, ∑ u : Fin 8, f (nth ⟨k.val, Nat.lt_of_lt_of_le k.isLt le_two⟩ u) = ∑ a, f a :=
  (Fin.sum_univ_tiles 2 8 rfl f).symm

theorem den_at (G : BufTy.Contents (Elt Ideal) arg8.view.ty) (r : Fin 2048) : ∑ e : Fin 8, (st_k0_t1 Variants.none c none i arg2 harg2 arg3 harg3 arg4 harg4 arg5 harg5 arg6 harg6 arg7 harg7 arg8 harg8 x0 x3 (harg3.unread x1) (harg4.unread x2) G k0_pay20 2).1 (ix2 e r) = den x0 x1 x3 r := by
  refine Finset.sum_congr rfl fun e _ => ?_
  refine ((loop_at Variants.none c none i arg2 harg2 arg3 harg3 arg4 harg4 arg5 harg5 arg6 harg6 arg7 harg7 arg8 harg8 x0 x3 (harg3.unread x1) (harg4.unread x2) G 2 le_two).1 e r).trans ?_
  rw [harg3.read_unread]
  exact two_trips (fun a => lw x0 x1 x3 a e r)

theorem num_at (d : Fin 64) (r : Fin 2048) :
    arg8.view.readCov ((st_k0_t1 Variants.none c none i arg2 harg2 arg3 harg3 arg4 harg4 arg5 harg5 arg6 harg6 arg7 harg7 arg8 harg8 x0 x3 (harg3.unread x1) (harg4.unread x2) (arg8.view.writes (Elt Ideal) arg8.view.junk kernelRun0_A.sl.HS0_1) k0_pay20 2).2 ++ kernelRun0_A.sl.HS0_1) (Rect.unit (s := S64x2048) ![0, 0] S64x2048.size inb_S64x2048_S64x2048_0_0).toLoadRect (ix2 d r) = num x0 x1 x2 x3 d r := by
  refine (congrFun (View.readAt_full arg8.view _ inb_S64x2048_S64x2048_0_0) _).trans ?_
  rw [View.writes_append]
  refine ((loop_at Variants.none c none i arg2 harg2 arg3 harg3 arg4 harg4 arg5 harg5 arg6 harg6 arg7 harg7 arg8 harg8 x0 x3 (harg3.unread x1) (harg4.unread x2) (arg8.view.writes (Elt Ideal) arg8.view.junk kernelRun0_A.sl.HS0_1) 2 le_two).2 d r).trans ?_
  rw [harg3.read_unread, harg4.read_unread]
  have e : arg8.view.read (Elt Ideal) (arg8.view.writes (Elt Ideal) arg8.view.junk kernelRun0_A.sl.HS0_1) (ix2 d r) = 0 :=
    (congrFun (View.read_writes_full arg8.view _ inb_S64x2048_S64x2048_0_0 _ []) _).trans (pay19_at _)
  rw [e, zero_add]
  exact two_trips (fun a => vw x0 x1 x2 x3 a d r)

theorem out4 (z z' : Fin 1) (d : Fin 64) (r : Fin 2048) :
    out0_A_4 c i arg2 harg2 arg3 harg3 arg4 harg4 arg5 harg5 arg6 harg6 arg7 harg7 arg8 harg8 x0 x1 x2 x3 (ix4 z z' d r) = Ideal.div (num x0 x1 x2 x3 d r) (den x0 x1 x3 r) := by
  unfold out0_A_4
  rw [list4, View.read_writes_full, pay23_at, den_at, num_at]

theorem out5 (z z' z'' : Fin 1) (r : Fin 2048) :
    out0_A_5 c i arg2 harg2 arg3 harg3 arg4 harg4 arg5 harg5 arg6 harg6 arg7 harg7 arg8 harg8 x0 x1 x2 x3 (ix4 z z' z'' r)
      = x3 (ix4 0 0 0 r) + Ideal.div (Ideal.log (den x0 x1 x3 r)) (Ideal.log (Ideal.ofBits .f32 0x40000000#32)) := by
  unfold out0_A_5
  rw [list5, View.read_writes_full, pay24_at, den_at]

end point

end Cert.FwIdeal.Val

end
-- ==== Proof.Val.FwRef.lean ====
/-
  The reference of the attention's forward call (`FwRef`): the results its run states, read index by index over finite
  arguments as the weighted sums of the values and the logarithms of the rows' sums of exponentials.
-/
module

public import proofs.«01_k».proof.Defs
public import proofs.«01_k».proof.Proof.Gen.FwRefIdeal.Run
public import proofs.«01_k».proof.Proof.Val.FaHost

@[expose] public section

set_option maxRecDepth 16384

noncomputable section

open Idealize.ShloMosaic Idealize.ShloMosaic.TcCoe Idealize.SL.Sem

namespace Cert.Val.Fw

open Cert.Val Cert.Val.Fa

abbrev SL : Shape := ⟨4, ![2, 16, 1, 2048]⟩

section math

variable (q : Fin 2 → Fin 4 → Fin 8192 → Fin 64 → ℝ) (k : Fin 2 → Fin 8192 → Fin 64 → ℝ)
  (mx : Fin 2 → Fin 4 → Fin 8192 → ℝ)

/-- A row's sum of unshifted exponentials. -/
def Z (h : Fin 2) (g : Fin 4) (i : Fin 8192) : ℝ := ∑ j, Real.exp (S q k h g i j)

theorem Z_pos (h : Fin 2) (g : Fin 4) (i : Fin 8192) : 0 < Z q k h g i :=
  Finset.sum_pos (fun _ _ => Real.exp_pos _) ⟨0, Finset.mem_univ _⟩

theorem L_eq (h : Fin 2) (g : Fin 4) (i : Fin 8192) : L q k mx h g i = Z q k h g i * Real.exp (-mx h g i) := by
  unfold L Z E
  rw [Finset.sum_mul]
  exact Finset.sum_congr rfl fun j _ => by rw [sub_eq_add_neg, Real.exp_add]

/-- A weight does not depend on the shift. -/
theorem P_eq (h : Fin 2) (g : Fin 4) (i j : Fin 8192) : P q k mx h g i j = Real.exp (S q k h g i j) / Z q k h g i := by
  unfold P
  rw [L_eq, E, sub_eq_add_neg, Real.exp_add, mul_div_mul_right _ _ (Real.exp_pos _).ne']

/-- Nor does a row's logarithm of its sum, with the shift put back. -/
theorem lse_eq (h : Fin 2) (g : Fin 4) (i : Fin 8192) : mx h g i + Real.log (L q k mx h g i) = Real.log (Z q k h g i) := by
  rw [L_eq, Real.log_mul (Z_pos q k h g i).ne' (Real.exp_pos _).ne', Real.log_exp]
  ring

/-- An exponential as the kernel computes it: of base two, with the shift `μ` in units of `log 2`. -/
theorem exp_two (μ : ℝ) (h : Fin 2) (g : Fin 4) (i j : Fin 8192) :
    Real.rpow 2 ((∑ d, k h j d * (q h g i d * (8⁻¹ * (Real.log 2)⁻¹))) - μ) = E q k (fun _ _ _ => μ * Real.log 2) h g i j := by
  have h2 : Real.log 2 ≠ 0 := (Real.log_pos (by norm_num)).ne'
  have e : (∑ d, k h j d * (q h g i d * (8⁻¹ * (Real.log 2)⁻¹))) = S q k h g i j * (Real.log 2)⁻¹ := by
    unfold S
    rw [mul_assoc, Finset.sum_mul]
    exact Finset.sum_congr rfl fun d _ => by ring
  show (2 : ℝ) ^ (_ : ℝ) = _
  rw [e, Real.rpow_def_of_pos (by norm_num)]
  unfold E
  congr 1
  field_simp

end math

variable (q : SQ.Idx → ℝ) (k v : SK.Idx → ℝ)

/-- The two results. -/
def resO : FVec Ideal SB .f32 := fun j =>
  ((∑ s, Real.exp (S (at4 q) (at3 k) (j 0) (grp (j 3)) (row (j 1) (low (j 3))) s) / Z (at4 q) (at3 k) (j 0) (grp (j 3)) (row (j 1) (low (j 3)))
    * at3 v (j 0) s (j 2) : ℝ) : EReal)
def resL : FVec Ideal SL .f32 := fun j =>
  ((Real.log (Z (at4 q) (at3 k) (j 0) (grp (j 3)) (row (j 1) (low (j 3)))) * (Real.log 2)⁻¹ : ℝ) : EReal)

end Cert.Val.Fw

namespace Cert.FwRefIdeal.Val

open Cert.FwRefIdeal Cert.FwRefIdeal.Gen Cert.Val Cert.Val.Fa Cert.Val.Fw

section steps

variable (Y : FVec Ideal S2x8192x64 .f32) (A : FVec Ideal S2x4x8192x8192 .f32) (M N : FVec Ideal S2x4x8192 .f32)

/-- The weighted sums in their blocks. -/
def Ow : FVec Ideal S2x16x64x2048 .f32 :=
  shapeCast _ (transpose S2x16x64x4x512 [0, 2, 4, 1, 3] (shapeCast _ (Host.dotGeneral dot_S2x4x8192x8192_S2x8192x64_S2x4x8192x64_3_1_12_2_0_0 none A Y) shapeCasts_S2x4x8192x64_S2x4x16x512x64) transposes_S2x4x16x512x64_S2x16x64x4x512_0_2_4_1_3) shapeCasts_S2x16x64x4x512_S2x16x64x2048
/-- The rows' logarithms of sums in units of `log 2`. -/
def Lr : FVec Ideal S2x4x8192 .f32 := mulf (addf M (Host.log N)) (broadcastInDim S2x4x8192 ![] bcast_S_S2x4x8192 Cert.FaIdeal.Val.C2)

theorem Ow_at (h : Fin 2) (b : Fin 16) (d : Fin 64) (r : Fin 2048) :
    Ow Y A (ix4 h b d r) = ∑ s : Fin 8192, A (ix4 h (grp r) (row b (low r)) s) * Y (ix3 h s d) := by
  unfold row grp low
  pointwise [Ow]
theorem Lr_at (h : Fin 2) (g : Fin 4) (i : Fin 8192) :
    Lr M N (ix3 h g i) = (M (ix3 h g i) + Ideal.log (N (ix3 h g i))) * (((Real.log 2)⁻¹ : ℝ) : EReal) := by
  rw [← Cert.FaIdeal.Val.C2_at ix0]
  generalize hC : Cert.FaIdeal.Val.C2 = C
  unfold Lr
  rw [hC]
  pointwise

end steps

section whole

variable (X : FVec Ideal S2x4x8192x64 .f32) (Y V : FVec Ideal S2x8192x64 .f32)

def wt := Host.divf (Cert.FaRefIdeal.Val.ex X Y) (Cert.FaRefIdeal.Val.Lb (Cert.FaRefIdeal.Val.ls X Y))
def lr := Lr (Cert.FaIdeal.Val.Mx (Cert.FaIdeal.Val.Sc X Y)) (Cert.FaIdeal.Val.Rs (Cert.FaIdeal.Val.pe X Y))

end whole

variable (q : SQ.Idx → ℝ) (k v : SK.Idx → ℝ)

theorem wt_real (h : Fin 2) (g : Fin 4) (i j : Fin 8192) : wt (up q) (up k) (ix4 h g i j)
    = ((Real.exp (S (at4 q) (at3 k) h g i j) / Z (at4 q) (at3 k) h g i : ℝ) : EReal) := by
  show Ideal.div _ _ = _
  rw [Cert.FaRefIdeal.Val.Lb_at, Cert.FaRefIdeal.Val.ex_real, Cert.FaRefIdeal.Val.ls_real, div_real _ _ (L_ne (at4 q) (at3 k) (tp q k) h g i)]
  exact congrArg _ (P_eq (at4 q) (at3 k) (tp q k) h g i j)

theorem lr_real (h : Fin 2) (g : Fin 4) (i : Fin 8192) : lr (up q) (up k) (ix3 h g i)
    = ((Real.log (Z (at4 q) (at3 k) h g i) * (Real.log 2)⁻¹ : ℝ) : EReal) := by
  unfold lr
  have e1 : Cert.FaIdeal.Val.Mx (Cert.FaIdeal.Val.Sc (up q) (up k)) (ix3 h g i) = ((tp q k h g i : ℝ) : EReal) := by
    rw [← Cert.FaIdeal.Val.mc_real q k h g i 0]
    unfold Cert.FaIdeal.Val.mc
    rw [Cert.FaIdeal.Val.Col_at]
  have e2 : Cert.FaIdeal.Val.Rs (Cert.FaIdeal.Val.pe (up q) (up k)) (ix3 h g i) = ((L (at4 q) (at3 k) (tp q k) h g i : ℝ) : EReal) := by
    rw [← Cert.FaIdeal.Val.sm_real q k h g i 0]
    unfold Cert.FaIdeal.Val.sm
    rw [Cert.FaIdeal.Val.Col_at]
  rw [Lr_at, e1, e2, Ideal.log_coe, if_neg (not_le.2 (L_pos _ _ _ h g i)), ← EReal.coe_add, ← EReal.coe_mul,
    lse_eq (at4 q) (at3 k) (tp q k)]

theorem out_o : Ow (up v) (wt (up q) (up k)) = resO q k v := by
  funext j
  idx_vars j
  rw [Ow_at]
  simp only [wt_real, up_apply, ← EReal.coe_mul, sum_real]
  rfl

theorem out_l : Cert.FaIdeal.Val.Rm (lr (up q) (up k)) = resL q k := by
  funext j
  idx_vars j
  rw [Cert.FaIdeal.Val.Rm_at, lr_real]
  rfl

set_option maxHeartbeats 1000000 in
/-- The reference's run over finite arguments ends with the two results. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (q : SQ.Idx → ℝ) (k v : SK.Idx → ℝ),
        m ((c.tc : Thread nD τ).loc main_arg0) = (up q : FVec Ideal SQ .f32) → m ((c.tc : Thread nD τ).loc main_arg1) = (up k : FVec Ideal SK .f32) →
        m ((c.tc : Thread nD τ).loc main_arg2) = (up v : FVec Ideal SK .f32) →
        r.2.mem ((c.tc : Thread nD τ).loc main_v28) = resO q k v
        ∧ r.2.mem ((c.tc : Thread nD τ).loc main_v35) = resL q k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono ?_ (Value.run m ρ)
  intro r h c
  refine ⟨fun q k v h0 h1 h2 => ⟨(h c).1.trans ?_, (h c).2.1.trans ?_⟩, (h c).2.2⟩
  · rw [← out_o, ← h0, ← h1, ← h2]
    rfl
  · rw [← out_l, ← h0, ← h1]
    rfl

end Cert.FwRefIdeal.Val

end
-- ==== Proof.Val.FwKer.lean ====
/-
  The attention's forward call (`Fw`): the host operations before its region (the bound on the scores is only known to be
  a real number, which is all the results need), each point's blocks at finite arguments, and the claims.
-/
module

public import proofs.«01_k».proof.Proof.Val.FwTrip
public import proofs.«01_k».proof.Proof.Val.FwRef
public import proofs.«01_k».proof.Proof.Val.FaKer
public import proofs.«01_k».proof.Proof.Gen.Pre_finite_fw

@[expose] public section

set_option maxRecDepth 16384

noncomputable section

open Idealize.ShloMosaic Idealize.ShloMosaic.TcCoe Idealize.SL.Sem

namespace Cert.FwIdeal.Val

open Cert.FwIdeal Cert.FwIdeal.Gen Cert.Val Cert.Val.Fa Cert.Val.Fw
open Cert.FaIdeal.Val (pw Qb Qm Kb Qb_at Qm_at Kb_at sum_rows)

/-! ## The bound on a row's scores is a real number -/

/-- A real number that is not negative. -/
def NN (x : EReal) : Prop := ∃ r : ℝ, 0 ≤ r ∧ x = (r : EReal)

theorem NN.mul {x y : EReal} (hx : NN x) (hy : NN y) : NN (x * y) := by
  obtain ⟨a, ha, rfl⟩ := hx
  obtain ⟨b, hb, rfl⟩ := hy
  exact ⟨a * b, mul_nonneg ha hb, (EReal.coe_mul a b).symm⟩
theorem NN.sqrt {x : EReal} (hx : NN x) : NN (Ideal.sqrt x) := by
  obtain ⟨a, ha, rfl⟩ := hx
  exact ⟨Real.sqrt a, Real.sqrt_nonneg a, by rw [Ideal.sqrt_coe, if_neg (not_lt.2 ha)]⟩
theorem NN.squares {n : ℕ} (f : Fin n → EReal) (h : ∀ i, ∃ r : ℝ, f i = (r : EReal)) : NN (∑ i, f i * f i) := by
  choose g hg using h
  simp only [hg, ← EReal.coe_mul, sum_real]
  exact ⟨_, Finset.sum_nonneg fun i _ => mul_self_nonneg _, rfl⟩
theorem NN.fold {n : ℕ} (f : Fin (n + 1) → EReal) (h : ∀ i, NN (f i)) : NN (Finset.univ.fold max ⊥ f) := by
  show NN (Finset.univ.sup f)
  obtain ⟨i, _, hi⟩ := Finset.exists_mem_eq_sup Finset.univ ⟨0, Finset.mem_univ _⟩ f
  rw [hi]
  exact h i

section bound

variable (B : FVec Ideal S2x16x64x2048 .bf16) (K : FVec Ideal S2x16x64x512 .bf16) (N : FVec Ideal S2x16x512 .f32) (M : FVec Ideal S2x16 .f32)
  (T : FVec Ideal S2 .f32) (W : FVec Ideal S2x16x1x2048 .f32)

/-- A query's norm; a key's square; the largest of a block's, then of all; the product, with the factor `1.001`. -/
def Qn : FVec Ideal S2x16x1x2048 .f32 :=
  Host.sqrt (broadcastInDim S2x16x1x2048 ![0, 1, 3] bcast_S2x16x2048_S2x16x1x2048_0_1_3
    (Host.reduceAdd (mulf (extf .f32 B bitsLt_bf16_f32) (extf .f32 B bitsLt_bf16_f32)) (constant S_ .f32 0x00000000#32) reducesTo_S2x16x64x2048_S2x16x2048_d2 h_S_))
def Ks : FVec Ideal S2x16x512 .f32 :=
  Host.reduceAdd (mulf (extf .f32 K bitsLt_bf16_f32) (extf .f32 K bitsLt_bf16_f32)) (constant S_ .f32 0x00000000#32) reducesTo_S2x16x64x512_S2x16x512_d2 h_S_
def Mb : FVec Ideal S2x16 .f32 := Host.reduce FloatOps.maximumf N (constant S_ .f32 0xFF800000#32) reducesTo_S2x16x512_S2x16_d2 h_S_
def Ma : FVec Ideal S2 .f32 := Host.reduce FloatOps.maximumf M (constant S_ .f32 0xFF800000#32) reducesTo_S2x16_S2_d1 h_S_
def Bd : FVec Ideal S2x16x1x2048 .f32 :=
  mulf W (broadcastInDim S2x16x1x2048 ![0, 1, 2, 3] bcast_S2x1x1x1_S2x16x1x2048_0_1_2_3
    (shapeCast S2x1x1x1 (mulf (Host.sqrt T) (broadcastInDim S2 ![] bcast_S_S2 (constant S_ .f32 0x3F8020C5#32))) shapeCasts_S2_S2x1x1x1))

theorem factor : NN (Ideal.ofBits .f32 0x3F8020C5#32) :=
  ⟨8396997 / 8388608, by norm_num, by
    simp [Ideal.ofBits, Ideal.ieee, ← EReal.coe_mul]
    norm_num [← EReal.coe_mul]⟩

theorem Qn_at (h : Fin 2) (b : Fin 16) (z : Fin 1) (r : Fin 2048) : Qn B (ix4 h b z r) = Ideal.sqrt (∑ d : Fin 64, B (ix4 h b d r) * B (ix4 h b d r)) := by
  pointwise [Qn]
theorem Ks_at (h : Fin 2) (b : Fin 16) (s : Fin 512) : Ks K (ix3 h b s) = ∑ d : Fin 64, K (ix4 h b d s) * K (ix4 h b d s) := by
  pointwise [Ks]
theorem Mb_at (h : Fin 2) (b : Fin 16) : Mb N (ix2 h b) = Finset.univ.fold max ⊥ fun s : Fin 512 => N (ix3 h b s) := by
  rw [← bot32]
  unfold Mb
  rw [Host.reduce_eq_fold, Shape.ReducesTo.fold_fiber_r3_a2]
  rfl
theorem Ma_at (h : Fin 2) : Ma M (ix1 h) = Finset.univ.fold max ⊥ fun b : Fin 16 => M (ix2 h b) := by
  rw [← bot32]
  unfold Ma
  rw [Host.reduce_eq_fold, Shape.ReducesTo.fold_fiber_r2_a1]
  rfl
theorem Bd_at (h : Fin 2) (b : Fin 16) (z : Fin 1) (r : Fin 2048) :
    Bd T W (ix4 h b z r) = W (ix4 h b z r) * (Ideal.sqrt (T (ix1 h)) * Ideal.ofBits .f32 0x3F8020C5#32) := by
  pointwise [Bd]

theorem bound_real (hB : ∀ h b d r, ∃ x : ℝ, B (ix4 h b d r) = (x : EReal)) (hK : ∀ h b d s, ∃ x : ℝ, K (ix4 h b d s) = (x : EReal))
    (h : Fin 2) (b : Fin 16) (z : Fin 1) (r : Fin 2048) : NN (Bd (Ma (Mb (Ks K))) (Qn B) (ix4 h b z r)) := by
  rw [Bd_at, Qn_at, Ma_at]
  refine NN.mul (NN.sqrt (NN.squares _ fun d => hB h b d r)) (NN.mul (NN.sqrt (NN.fold _ fun b' => ?_)) factor)
  rw [Mb_at]
  refine NN.fold _ fun s => ?_
  rw [Ks_at]
  exact NN.squares _ fun d => hK h b' d s

end bound

/-! ## The windows' arrays and blocks -/

variable (m : (ℓ : Loc nD τ sig) → Buf (Elt Ideal) ℓ) (ρ : Dev nD → PrngReg)

abbrev A0 (c : Dev nD) : FVec Ideal SQ .f32 := m ((c : Thread nD τ).loc main_arg0)
abbrev A1 (c : Dev nD) : FVec Ideal SK .f32 := m ((c : Thread nD τ).loc main_arg1)
abbrev A2 (c : Dev nD) : FVec Ideal SK .f32 := m ((c : Thread nD τ).loc main_arg2)

theorem V0 (c : Dev nD) : V m c main_v8 = Qb (Qm (A0 m c)) := by
  entry_read
  rfl
theorem V1 (c : Dev nD) : V m c main_v11 = Kb (A1 m c) := by
  entry_read
  rfl
theorem V2 (c : Dev nD) : V m c main_v30 = Kb (A2 m c) := by
  entry_read
  rfl
theorem V3 (c : Dev nD) : V m c main_v27 = Bd (Ma (Mb (Ks (Kb (A1 m c))))) (Qn (Qb (Qm (A0 m c)))) := by
  entry_read
  rfl

/-- Where the windows stand at a grid point. -/
theorem idx : ∀ t : Fin cfg0.N, win0_0.index t = ![t.val / 16, t.val % 16, 0, 0] ∧ win0_1.index t = ![t.val / 16, 0, 0, 0]
    ∧ win0_2.index t = ![t.val / 16, 0, 0, 0] ∧ win0_3.index t = ![t.val / 16, t.val % 16, 0, 0]
    ∧ win0_4.index t = ![t.val / 16, t.val % 16, 0, 0] ∧ win0_5.index t = ![t.val / 16, t.val % 16, 0, 0] :=
  (by decide +kernel : ∀ t : Fin grid0.N, _)

/-- A grid point's head and block. -/
def hd (t : Fin cfg0.N) : Fin 2 := ⟨t.val / 16, by have h : t.val < 32 := t.isLt; omega⟩
def bk (t : Fin cfg0.N) : Fin 16 := ⟨t.val % 16, by omega⟩

theorem rd0 (X : FVec Ideal S2x16x64x2048 .bf16) (t : Fin cfg0.N) (d : Fin 64) (r : Fin 2048) :
    ((cfg0.win 0).blk t).view.read (Elt Ideal) X (ix4 0 0 d r) = X (ix4 (hd t) (bk t) d r) := by
  unfold hd bk
  blk_ext [idx t]
theorem rd1 (X : FVec Ideal S2x16x64x512 .bf16) (t : Fin cfg0.N) (a : Fin 16) (d : Fin 64) (s : Fin 512) :
    ((cfg0.win 1).blk t).view.read (Elt Ideal) X (ix4 0 a d s) = X (ix4 (hd t) a d s) := by
  unfold hd
  blk_ext [idx t]
theorem rd2 (X : FVec Ideal S2x16x64x512 .bf16) (t : Fin cfg0.N) (a : Fin 16) (d : Fin 64) (s : Fin 512) :
    ((cfg0.win 2).blk t).view.read (Elt Ideal) X (ix4 0 a d s) = X (ix4 (hd t) a d s) := by
  unfold hd
  blk_ext [idx t]
theorem rd3 (X : FVec Ideal S2x16x1x2048 .f32) (t : Fin cfg0.N) (r : Fin 2048) :
    ((cfg0.win 3).blk t).view.read (Elt Ideal) X (ix4 0 0 0 r) = X (ix4 (hd t) (bk t) 0 r) := by
  unfold hd bk
  blk_ext [idx t]
theorem blk0 (c : Dev nD) (t : Fin cfg0.N) (d : Fin 64) (r : Fin 2048) : iblk m c 0 t (ix4 0 0 d r) = V m c main_v8 (ix4 (hd t) (bk t) d r) :=
  rd0 (V m c main_v8) t d r
theorem blk1 (c : Dev nD) (t : Fin cfg0.N) (a : Fin 16) (d : Fin 64) (s : Fin 512) : iblk m c 1 t (ix4 0 a d s) = V m c main_v11 (ix4 (hd t) a d s) :=
  rd1 (V m c main_v11) t a d s
theorem blk2 (c : Dev nD) (t : Fin cfg0.N) (a : Fin 16) (d : Fin 64) (s : Fin 512) : iblk m c 2 t (ix4 0 a d s) = V m c main_v30 (ix4 (hd t) a d s) :=
  rd2 (V m c main_v30) t a d s
theorem blk3 (c : Dev nD) (t : Fin cfg0.N) (r : Fin 2048) : iblk m c 3 t (ix4 0 0 0 r) = V m c main_v27 (ix4 (hd t) (bk t) 0 r) :=
  rd3 (V m c main_v27) t r

/-! ## At finite arguments -/

/-- A sum over sublanes, blocks and their rows' groups is the sum over all rows. -/
theorem sum_lanes (f : Fin 8192 → ℝ) : ∑ e : Fin 8, ∑ a : Fin 16, ∑ x : Fin 64, f (row a (sub x e)) = ∑ j, f j := by
  rw [sum_rows, Finset.sum_comm]
  refine Finset.sum_congr rfl fun a _ => ?_
  rw [Finset.sum_comm]
  exact (Fin.sum_univ_tiles 64 8 rfl fun s => f (row a s)).symm

variable (c : Dev nD) (q : SQ.Idx → ℝ) (k v : SK.Idx → ℝ)

/-- Device `c`'s arguments are the real arrays. -/
def Args : Prop := A0 m c = (up q : FVec Ideal SQ .f32) ∧ A1 m c = (up k : FVec Ideal SK .f32) ∧ A2 m c = (up v : FVec Ideal SK .f32)

section real

variable (H : Args m c q k v) (t : Fin cfg0.N)
include H

theorem b0 (d : Fin 64) (r : Fin 2048) :
    iblk m c 0 t (ix4 0 0 d r) = ((at4 q (hd t) (grp r) (row (bk t) (low r)) d * (8⁻¹ * (Real.log 2)⁻¹) : ℝ) : EReal) := by
  rw [blk0, V0, Qb_at, Qm_at, H.1, up_apply, ← EReal.coe_mul, ← EReal.coe_mul]
  rfl
theorem b1 (a : Fin 16) (d : Fin 64) (s : Fin 512) : iblk m c 1 t (ix4 0 a d s) = ((at3 k (hd t) (row a s) d : ℝ) : EReal) := by
  rw [blk1, V1, Kb_at, H.2.1, up_apply]
  rfl
theorem b2 (a : Fin 16) (d : Fin 64) (s : Fin 512) : iblk m c 2 t (ix4 0 a d s) = ((at3 v (hd t) (row a s) d : ℝ) : EReal) := by
  rw [blk2, V2, Kb_at, H.2.2, up_apply]
  rfl
theorem b3 (r : Fin 2048) : ∃ μ : ℝ, iblk m c 3 t (ix4 0 0 0 r) = (μ : EReal) := by
  rw [blk3, V3, H.1, H.2.1]
  obtain ⟨x, _, hx⟩ := bound_real (Qb (Qm (up q))) (Kb (up k))
    (fun h b d r => ⟨q (ix4 h (grp r) (row b (low r)) d) * (8⁻¹ * (Real.log 2)⁻¹), by rw [Qb_at, Qm_at, up_apply, ← EReal.coe_mul, ← EReal.coe_mul]⟩)
    (fun h b d s => ⟨k (ix3 h (row b s) d), by rw [Kb_at, up_apply]⟩) (hd t) (bk t) 0 r
  exact ⟨x, hx⟩

variable (r : Fin 2048) (μ : ℝ) (hμ : iblk m c 3 t (ix4 0 0 0 r) = (μ : EReal))
include hμ

/-- A point's weights, and their sums. -/
theorem pw_real (a : Fin 16) (s : Fin 512) :
    pw (iblk m c 0 t) (iblk m c 1 t) (iblk m c 3 t) a s r
      = ((E (at4 q) (at3 k) (fun _ _ _ => μ * Real.log 2) (hd t) (grp r) (row (bk t) (low r)) (row a s) : ℝ) : EReal) := by
  unfold pw
  rw [hμ]
  simp only [b0 m c q k v H, b1 m c q k v H]
  simp only [← EReal.coe_mul, sum_real]
  rw [← EReal.coe_sub, Ideal.exp2_coe, exp_two]
theorem den_real : den (iblk m c 0 t) (iblk m c 1 t) (iblk m c 3 t) r
    = ((L (at4 q) (at3 k) (fun _ _ _ => μ * Real.log 2) (hd t) (grp r) (row (bk t) (low r)) : ℝ) : EReal) := by
  unfold den lw
  simp only [pw_real m c q k v H t r μ hμ, sum_real]
  exact congrArg _ (sum_lanes fun j => E (at4 q) (at3 k) (fun _ _ _ => μ * Real.log 2) (hd t) (grp r) (row (bk t) (low r)) j)
theorem num_real (d : Fin 64) : num (iblk m c 0 t) (iblk m c 1 t) (iblk m c 2 t) (iblk m c 3 t) d r
    = ((∑ j, at3 v (hd t) j d * E (at4 q) (at3 k) (fun _ _ _ => μ * Real.log 2) (hd t) (grp r) (row (bk t) (low r)) j : ℝ) : EReal) := by
  unfold num vw
  simp only [b2 m c q k v H, pw_real m c q k v H t r μ hμ, ← EReal.coe_mul, sum_real]
  exact congrArg _ (sum_rows fun j => at3 v (hd t) j d * E (at4 q) (at3 k) (fun _ _ _ => μ * Real.log 2) (hd t) (grp r) (row (bk t) (low r)) j).symm

end real

/-! ## The final arrays -/

theorem at4' (t : Fin cfg0.N) (z z' : Fin 1) (d : Fin 64) (r : Fin 2048) :
    (outsAt0 m c t).1 (ix4 z z' d r) = Ideal.div (num (iblk m c 0 t) (iblk m c 1 t) (iblk m c 2 t) (iblk m c 3 t) d r) (den (iblk m c 0 t) (iblk m c 1 t) (iblk m c 3 t) r) := by
  unfold outsAt0
  dsimp only
  rw [out4]
theorem at5' (t : Fin cfg0.N) (z z' z'' : Fin 1) (r : Fin 2048) (μ : ℝ) (hμ : iblk m c 3 t (ix4 0 0 0 r) = (μ : EReal)) :
    (outsAt0 m c t).2 (ix4 z z' z'' r) = (μ : EReal)
      + Ideal.div (Ideal.log (den (iblk m c 0 t) (iblk m c 1 t) (iblk m c 3 t) r)) (Ideal.log (Ideal.ofBits .f32 0x40000000#32)) := by
  unfold outsAt0
  dsimp only
  rw [out5, hμ]

variable (H : Args m c q k v)
include H

theorem o_real (t : Fin cfg0.N) (z z' : Fin 1) (d : Fin 64) (r : Fin 2048) : (outsAt0 m c t).1 (ix4 z z' d r) = resO q k v (ix4 (hd t) (bk t) d r) := by
  obtain ⟨μ, hμ⟩ := b3 m c q k v H t r
  rw [at4', num_real m c q k v H t r μ hμ, den_real m c q k v H t r μ hμ, div_real _ _ (L_ne _ _ _ _ _ _)]
  refine congrArg _ ((Finset.sum_div _ _ _).trans (Finset.sum_congr rfl fun j _ => ?_))
  refine Eq.trans ?_ (congrArg (· * at3 v (hd t) j d) (P_eq (at4 q) (at3 k) (fun _ _ _ => μ * Real.log 2) (hd t) (grp r) (row (bk t) (low r)) j))
  unfold P
  ring

theorem l_real (t : Fin cfg0.N) (z z' z'' : Fin 1) (r : Fin 2048) : (outsAt0 m c t).2 (ix4 z z' z'' r) = resL q k (ix4 (hd t) (bk t) 0 r) := by
  obtain ⟨μ, hμ⟩ := b3 m c q k v H t r
  have h2 : Real.log 2 ≠ 0 := (Real.log_pos (by norm_num)).ne'
  rw [at5' m c t z z' z'' r μ hμ, den_real m c q k v H t r μ hμ, two, Ideal.log_coe, if_neg (not_le.2 (L_pos _ _ _ _ _ _)), Ideal.log_coe, if_neg (by norm_num),
    div_real _ _ h2, ← EReal.coe_add]
  refine congrArg _ (Eq.trans ?_ (congrArg (· * (Real.log 2)⁻¹) (lse_eq (at4 q) (at3 k) (fun _ _ _ => μ * Real.log 2) (hd t) (grp r) (row (bk t) (low r)))))
  field_simp

theorem final4 : (dats m 0 c).arrAt 4 (cfgs 0).N = resO q k v := by
  refine (dats m 0 c).arrAt_eq_of_covers 4 _ (by decide +kernel) fun t _ y => ?_
  blk_simp
  rw [after0_4]
  have he : (win0_4.blk t).view.emb y = ix4 (hd t) (bk t) (y 2) (y 3) := by
    unfold hd bk
    blk_ext [idx t]
  rw [he]
  refine Eq.trans ?_ (o_real m c q k v H t (y 0) (y 1) (y 2) (y 3))
  refine congrArg _ (funext fun a => ?_)
  fin_cases a <;> rfl

theorem final5 : (dats m 0 c).arrAt 5 (cfgs 0).N = resL q k := by
  refine (dats m 0 c).arrAt_eq_of_covers 5 _ (by decide +kernel) fun t _ y => ?_
  blk_simp
  rw [after0_5]
  have he : (win0_5.blk t).view.emb y = ix4 (hd t) (bk t) 0 (y 3) := by
    unfold hd bk
    blk_ext [idx t]
  rw [he]
  refine Eq.trans ?_ (l_real m c q k v H t (y 0) (y 1) (y 2) (y 3))
  refine congrArg _ (funext fun a => ?_)
  fin_cases a <;> rfl

omit H in
/-- The precondition read: the arguments are real arrays. -/
theorem args_of_pre (h : Cert.Pre_FwIdeal_finite_fw m) (c : Dev nD) : ∃ (q : SQ.Idx → ℝ) (k v : SK.Idx → ℝ), Args m c q k v := by
  obtain ⟨h0, h1, h2⟩ := h c
  choose q hq using fun i => real_of_cmp _ _ ofBits_inf_f32 (congrFun h0 i)
  choose k hk using fun i => real_of_cmp _ _ ofBits_inf_f32 (congrFun h1 i)
  choose v hv using fun i => real_of_cmp _ _ ofBits_inf_f32 (congrFun h2 i)
  exact ⟨q, k, v, funext hq, funext hk, funext hv⟩

end Cert.FwIdeal.Val

/-! ## The claims -/

namespace Cert.Val.Fw

/-- The reference's frame: its run read at the arguments; it has no semaphore. -/
theorem frame_ref : Cert.quiescent_FwRefIdeal := fun m ρ _ =>
  (θ_run Cert.FwRefIdeal.defs _ _).mono (fun r h => ⟨fun c => (h c).2,
      Idealize.ShloMosaic.sem_eq_zero_of_no_sems (by decide) r.2⟩) (Cert.FwRefIdeal.Val.run m ρ)

/-- Both programs end with the attention's output and its rows' logarithms of sums, of the same finite arguments. -/
theorem algebraic : Cert.algebraic_FwIdeal_FwRefIdeal_pre_finite_fw := by
  intro m ρ m' ρ' hpre hagree
  choose q k v H using Cert.FwIdeal.Val.args_of_pre m hpre
  refine ⟨fun c => resO (q c) (k c) (v c), fun c => resL (q c) (k c), ?_, ?_⟩
  · exact (θ_run Cert.FwIdeal.defs _ _).mono (fun _ h c => ⟨(h c).1.trans (Cert.FwIdeal.Val.final4 m c _ _ _ (H c)),
      (h c).2.1.trans (Cert.FwIdeal.Val.final5 m c _ _ _ (H c)), (h c).2.2⟩) (Cert.FwIdeal.Value.run_blocks m ρ)
  · refine (θ_run Cert.FwRefIdeal.defs _ _).mono (fun _ h c => ?_) (Cert.FwRefIdeal.Val.run m' ρ')
    have e := (h c).1 (q c) (k c) (v c) ((hagree c).1.trans (H c).1) ((hagree c).2.1.trans (H c).2.1) ((hagree c).2.2.trans (H c).2.2)
    exact ⟨e.1, e.2, (h c).2⟩

end Cert.Val.Fw

end
-- ==== Proof.lean ====
module

public import proofs.«01_k».proof.Proof.Gen.Pre_finite_prep
public import proofs.«01_k».proof.Defs
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActIdeal.Value
public import proofs.«01_k».proof.Proof.Gen.Pre_finite_act
public import proofs.«01_k».proof.Proof.Gen.ActRefIdeal.Run
public import proofs.«01_k».proof.Proof.Gen.Fa
public import proofs.«01_k».proof.Proof.Gen.Fa.Skeleton
public import proofs.«01_k».proof.Proof.Gen.Fa.Loops
public import proofs.«01_k».proof.Proof.Gen.Fa.Launch
public import proofs.«01_k».proof.Proof.Gen.Fa.Points
public import proofs.«01_k».proof.Proof.Gen.Fa.Frame
public import proofs.«01_k».proof.Proof.Gen.FaIdeal
public import proofs.«01_k».proof.Proof.Gen.FaIdeal.Skeleton
public import proofs.«01_k».proof.Proof.Gen.FaIdeal.Loops
public import proofs.«01_k».proof.Proof.Gen.FaIdeal.Launch
public import proofs.«01_k».proof.Proof.Gen.FaIdeal.Points
public import proofs.«01_k».proof.Proof.Gen.FaIdeal.Frame
public import proofs.«01_k».proof.Proof.Gen.FaRefIdeal
public import proofs.«01_k».proof.Proof.Gen.FaIdeal.Value
public import proofs.«01_k».proof.Proof.Gen.FaRefIdeal.Run
public import proofs.«01_k».proof.Proof.Gen.Pre_finite_fa
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostIdeal.Value
public import proofs.«01_k».proof.Proof.Gen.PostRefIdeal.Run
public import proofs.«01_k».proof.Proof.Gen.Pre_finite_post
public import proofs.«01_k».proof.Proof.Gen.Hg
public import proofs.«01_k».proof.Proof.Gen.Hg.Skeleton
public import proofs.«01_k».proof.Proof.Gen.Hg.Launch
public import proofs.«01_k».proof.Proof.Gen.Hg.Points
public import proofs.«01_k».proof.Proof.Gen.Hg.Frame
public import proofs.«01_k».proof.Proof.Gen.HgIdeal
public import proofs.«01_k».proof.Proof.Gen.HgIdeal.Skeleton
public import proofs.«01_k».proof.Proof.Gen.HgIdeal.Launch
public import proofs.«01_k».proof.Proof.Gen.HgIdeal.Points
public import proofs.«01_k».proof.Proof.Gen.HgIdeal.Frame
public import proofs.«01_k».proof.Proof.Gen.HgRefIdeal
public import proofs.«01_k».proof.Proof.Gen.HgIdeal.Value
public import proofs.«01_k».proof.Proof.Gen.HgRefIdeal.Run
public import proofs.«01_k».proof.Proof.Gen.Pre_finite_hg
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdRefIdeal
public import proofs.«01_k».proof.Proof.Gen.UpBwdIdeal.Value
public import proofs.«01_k».proof.Proof.Gen.UpBwdRefIdeal.Run
public import proofs.«01_k».proof.Proof.Gen.Pre_finite_upbwd
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdIdeal.Value
public import proofs.«01_k».proof.Proof.Gen.InBwdRefIdeal.Run
public import proofs.«01_k».proof.Proof.Gen.Pre_finite_inbwd
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.Pre_finite_loss
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepIdeal.Value
public import proofs.«01_k».proof.Proof.Gen.PrepRefIdeal.Run
public import proofs.«01_k».proof.Proof.Gen.Fw
public import proofs.«01_k».proof.Proof.Gen.Fw.Skeleton
public import proofs.«01_k».proof.Proof.Gen.Fw.Loops
public import proofs.«01_k».proof.Proof.Gen.Fw.Launch
public import proofs.«01_k».proof.Proof.Gen.Fw.Points
public import proofs.«01_k».proof.Proof.Gen.Fw.Frame
public import proofs.«01_k».proof.Proof.Gen.FwIdeal
public import proofs.«01_k».proof.Proof.Gen.FwIdeal.Skeleton
public import proofs.«01_k».proof.Proof.Gen.FwIdeal.Launch
public import proofs.«01_k».proof.Proof.Gen.FwIdeal.Points
public import proofs.«01_k».proof.Proof.Gen.FwIdeal.Frame
public import proofs.«01_k».proof.Proof.Gen.FwRefIdeal
public import proofs.«01_k».proof.Proof.Gen.FwIdeal.Value
public import proofs.«01_k».proof.Proof.Gen.FwRefIdeal.Run
public import proofs.«01_k».proof.Proof.Gen.Pre_finite_fw
public import proofs.«01_k».proof.Proof.Gen.GlaF
public import proofs.«01_k».proof.Proof.Gen.GlaF.Skeleton
public import proofs.«01_k».proof.Proof.Gen.GlaF.Loops
public import proofs.«01_k».proof.Proof.Gen.GlaF.Launch
public import proofs.«01_k».proof.Proof.Gen.GlaF.Points
public import proofs.«01_k».proof.Proof.Val.GlaF
public import proofs.«01_k».proof.Proof.Gen.GlaFIdeal
public import proofs.«01_k».proof.Proof.Gen.GlaFIdeal.Skeleton
public import proofs.«01_k».proof.Proof.Gen.GlaFIdeal.Loops
public import proofs.«01_k».proof.Proof.Gen.GlaFIdeal.Launch
public import proofs.«01_k».proof.Proof.Gen.GlaFIdeal.Points
public import proofs.«01_k».proof.Proof.Val.GlaFIdeal
public import proofs.«01_k».proof.Proof.Gen.GlaB
public import proofs.«01_k».proof.Proof.Gen.GlaB.Skeleton
public import proofs.«01_k».proof.Proof.Gen.GlaB.Loops
public import proofs.«01_k».proof.Proof.Gen.GlaB.Launch
public import proofs.«01_k».proof.Proof.Gen.GlaB.Points
public import proofs.«01_k».proof.Proof.Val.GlaB
public import proofs.«01_k».proof.Proof.Gen.GlaBIdeal
public import proofs.«01_k».proof.Proof.Gen.GlaBIdeal.Skeleton
public import proofs.«01_k».proof.Proof.Gen.GlaBIdeal.Loops
public import proofs.«01_k».proof.Proof.Gen.GlaBIdeal.Launch
public import proofs.«01_k».proof.Proof.Gen.GlaBIdeal.Points
public import proofs.«01_k».proof.Proof.Val.GlaBIdeal
public import proofs.«01_k».proof.Proof.Gen.GlaFF
public import proofs.«01_k».proof.Proof.Gen.GlaFF.Skeleton
public import proofs.«01_k».proof.Proof.Gen.GlaFF.Launch
public import proofs.«01_k».proof.Proof.Gen.GlaFF.Points
public import proofs.«01_k».proof.Proof.Val.GlaFF
public import proofs.«01_k».proof.Proof.Gen.GlaFFIdeal
public import proofs.«01_k».proof.Proof.Gen.GlaFFIdeal.Skeleton
public import proofs.«01_k».proof.Proof.Gen.GlaFFIdeal.Launch
public import proofs.«01_k».proof.Proof.Gen.GlaFFIdeal.Points
public import proofs.«01_k».proof.Proof.Val.GlaFFIdeal
public import proofs.«01_k».proof.Proof.Gen.GlaFB
public import proofs.«01_k».proof.Proof.Gen.GlaFB.Skeleton
public import proofs.«01_k».proof.Proof.Gen.GlaFB.Launch
public import proofs.«01_k».proof.Proof.Gen.GlaFB.Points
public import proofs.«01_k».proof.Proof.Val.GlaFB
public import proofs.«01_k».proof.Proof.Gen.GlaFBIdeal
public import proofs.«01_k».proof.Proof.Gen.GlaFBIdeal.Skeleton
public import proofs.«01_k».proof.Proof.Gen.GlaFBIdeal.Launch
public import proofs.«01_k».proof.Proof.Gen.GlaFBIdeal.Points
public import proofs.«01_k».proof.Proof.Val.GlaFBIdeal
public import proofs.«01_k».proof.Proof.Gen.RmsF
public import proofs.«01_k».proof.Proof.Gen.RmsF.Skeleton
public import proofs.«01_k».proof.Proof.Gen.RmsF.Launch
public import proofs.«01_k».proof.Proof.Gen.RmsF.Points
public import proofs.«01_k».proof.Proof.Gen.RmsF.Frame
public import proofs.«01_k».proof.Proof.Gen.RmsFIdeal
public import proofs.«01_k».proof.Proof.Gen.RmsFIdeal.Skeleton
public import proofs.«01_k».proof.Proof.Gen.RmsFIdeal.Launch
public import proofs.«01_k».proof.Proof.Gen.RmsFIdeal.Points
public import proofs.«01_k».proof.Proof.Gen.RmsFIdeal.Frame
public import proofs.«01_k».proof.Proof.Gen.FfnF
public import proofs.«01_k».proof.Proof.Gen.FfnF.Skeleton
public import proofs.«01_k».proof.Proof.Gen.FfnF.Launch
public import proofs.«01_k».proof.Proof.Gen.FfnF.Points
public import proofs.«01_k».proof.Proof.Gen.FfnF.Frame
public import proofs.«01_k».proof.Proof.Gen.FfnFIdeal
public import proofs.«01_k».proof.Proof.Gen.FfnFIdeal.Skeleton
public import proofs.«01_k».proof.Proof.Gen.FfnFIdeal.Launch
public import proofs.«01_k».proof.Proof.Gen.FfnFIdeal.Points
public import proofs.«01_k».proof.Proof.Gen.FfnFIdeal.Frame
public import proofs.«01_k».proof.Proof.Gen.PostF
public import proofs.«01_k».proof.Proof.Gen.PostF.Skeleton
public import proofs.«01_k».proof.Proof.Gen.PostF.Launch
public import proofs.«01_k».proof.Proof.Gen.PostF.Points
public import proofs.«01_k».proof.Proof.Gen.PostF.Frame
public import proofs.«01_k».proof.Proof.Gen.PostFIdeal
public import proofs.«01_k».proof.Proof.Gen.PostFIdeal.Skeleton
public import proofs.«01_k».proof.Proof.Gen.PostFIdeal.Launch
public import proofs.«01_k».proof.Proof.Gen.PostFIdeal.Points
public import proofs.«01_k».proof.Proof.Gen.PostFIdeal.Frame
public import proofs.«01_k».proof.Proof.Gen.RmsFIdeal.Value
public import proofs.«01_k».proof.Proof.Gen.RmsFRefIdeal
public import proofs.«01_k».proof.Proof.Gen.RmsFRefIdeal.Run
public import proofs.«01_k».proof.Proof.Val.RmsF
public import proofs.«01_k».proof.Proof.Gen.FfnFIdeal.Value
public import proofs.«01_k».proof.Proof.Gen.FfnFRefIdeal
public import proofs.«01_k».proof.Proof.Gen.FfnFRefIdeal.Run
public import proofs.«01_k».proof.Proof.Val.FfnF
public import proofs.«01_k».proof.Proof.Gen.PostFIdeal.Value
public import proofs.«01_k».proof.Proof.Gen.PostFRefIdeal
public import proofs.«01_k».proof.Proof.Gen.PostFRefIdeal.Run
public import proofs.«01_k».proof.Proof.Val.PostF
public import proofs.«01_k».proof.Proof.Gen.OutF
public import proofs.«01_k».proof.Proof.Gen.OutF.Skeleton
public import proofs.«01_k».proof.Proof.Gen.OutF.Launch
public import proofs.«01_k».proof.Proof.Gen.OutF.Points
public import proofs.«01_k».proof.Proof.Gen.OutF.Frame
public import proofs.«01_k».proof.Proof.Gen.OutFIdeal
public import proofs.«01_k».proof.Proof.Gen.OutFIdeal.Skeleton
public import proofs.«01_k».proof.Proof.Gen.OutFIdeal.Launch
public import proofs.«01_k».proof.Proof.Gen.OutFIdeal.Points
public import proofs.«01_k».proof.Proof.Gen.OutFIdeal.Frame
public import proofs.«01_k».proof.Proof.Gen.OutFIdeal.Value
public import proofs.«01_k».proof.Proof.Gen.OutFRefIdeal
public import proofs.«01_k».proof.Proof.Gen.OutFRefIdeal.Run
public import proofs.«01_k».proof.Proof.Val.OutF
public import proofs.«01_k».proof.Proof.Val.Act
public import proofs.«01_k».proof.Proof.Val.FaKer
public import proofs.«01_k».proof.Proof.Val.Post
public import proofs.«01_k».proof.Proof.Val.Hg
public import proofs.«01_k».proof.Proof.Val.Up
public import proofs.«01_k».proof.Proof.Val.Inp
public import proofs.«01_k».proof.Proof.Val.Loss
public import proofs.«01_k».proof.Proof.Val.Prep
public import proofs.«01_k».proof.Proof.Val.FwKer
public import Idealize.ShloMosaic.Adequacy
public import Idealize.ShloMosaic.Init

@[expose] public section

noncomputable section

namespace Cert.Proof

open Idealize.ShloMosaic Idealize.SL.Sem

theorem claim : Cert.Claim := ⟨Cert.Act.Gen.facts, Cert.ActIdeal.Gen.facts, Cert.ActRefIdeal.Gen.facts,
  Cert.Fa.Gen.facts, Cert.FaIdeal.Gen.facts, Cert.FaRefIdeal.Gen.facts,
  Cert.Post.Gen.facts, Cert.PostIdeal.Gen.facts, Cert.PostRefIdeal.Gen.facts,
  Cert.Hg.Gen.facts, Cert.HgIdeal.Gen.facts, Cert.HgRefIdeal.Gen.facts,
  Cert.UpBwd.Gen.facts, Cert.UpBwdIdeal.Gen.facts, Cert.UpBwdRefIdeal.Gen.facts,
  Cert.InBwd.Gen.facts, Cert.InBwdIdeal.Gen.facts, Cert.InBwdRefIdeal.Gen.facts,
  Cert.Loss.Gen.facts, Cert.LossIdeal.Gen.facts, Cert.LossRefIdeal.Gen.facts,
  Cert.Prep.Gen.facts, Cert.PrepIdeal.Gen.facts, Cert.PrepRefIdeal.Gen.facts,
  Cert.Fw.Gen.facts, Cert.FwIdeal.Gen.facts, Cert.FwRefIdeal.Gen.facts,
  Cert.GlaF.Gen.facts, Cert.GlaFIdeal.Gen.facts, Cert.GlaB.Gen.facts, Cert.GlaBIdeal.Gen.facts,
  Cert.RmsF.Gen.facts, Cert.RmsFIdeal.Gen.facts, Cert.RmsFRefIdeal.Gen.facts,
  Cert.FfnF.Gen.facts, Cert.FfnFIdeal.Gen.facts, Cert.FfnFRefIdeal.Gen.facts,
  Cert.PostF.Gen.facts, Cert.PostFIdeal.Gen.facts, Cert.PostFRefIdeal.Gen.facts,
  Cert.GlaFF.Gen.facts, Cert.GlaFFIdeal.Gen.facts, Cert.GlaFB.Gen.facts, Cert.GlaFBIdeal.Gen.facts,
  Cert.OutF.Gen.facts, Cert.OutFIdeal.Gen.facts, Cert.OutFRefIdeal.Gen.facts,
  Cert.Pre_finite_act.Gen.facts, Cert.Pre_finite_fa.Gen.facts, Cert.Pre_finite_post.Gen.facts, Cert.Pre_finite_hg.Gen.facts, Cert.Pre_finite_upbwd.Gen.facts, Cert.Pre_finite_inbwd.Gen.facts, Cert.Pre_finite_loss.Gen.facts, Cert.Pre_finite_prep.Gen.facts, Cert.Pre_finite_fw.Gen.facts,
  fun m ρ _ => Cert.Act.Gen.frame m ρ, fun m ρ _ => Cert.ActIdeal.Gen.frame m ρ, fun m ρ _ => Cert.ActIdeal.Gen.frame m ρ,
  Cert.Val.Act.frame_ref, fun m ρ _ => Cert.Val.Act.frame_ref m ρ trivial,
  fun m ρ _ => Cert.Fa.Gen.frame m ρ, fun m ρ _ => Cert.FaIdeal.Gen.frame m ρ, fun m ρ _ => Cert.FaIdeal.Gen.frame m ρ,
  Cert.Val.Fa.frame_ref, fun m ρ _ => Cert.Val.Fa.frame_ref m ρ trivial,
  fun m ρ _ => Cert.Post.Gen.frame m ρ, fun m ρ _ => Cert.PostIdeal.Gen.frame m ρ, fun m ρ _ => Cert.PostIdeal.Gen.frame m ρ,
  Cert.Val.Post.frame_ref, fun m ρ _ => Cert.Val.Post.frame_ref m ρ trivial,
  fun m ρ _ => Cert.Hg.Gen.frame m ρ, fun m ρ _ => Cert.HgIdeal.Gen.frame m ρ, fun m ρ _ => Cert.HgIdeal.Gen.frame m ρ,
  Cert.Val.Hg.frame_ref, fun m ρ _ => Cert.Val.Hg.frame_ref m ρ trivial,
  fun m ρ _ => Cert.UpBwd.Gen.frame m ρ, fun m ρ _ => Cert.UpBwdIdeal.Gen.frame m ρ, fun m ρ _ => Cert.UpBwdIdeal.Gen.frame m ρ,
  Cert.Val.Up.frame_ref, fun m ρ _ => Cert.Val.Up.frame_ref m ρ trivial,
  fun m ρ _ => Cert.InBwd.Gen.frame m ρ, fun m ρ _ => Cert.InBwdIdeal.Gen.frame m ρ, fun m ρ _ => Cert.InBwdIdeal.Gen.frame m ρ,
  Cert.Val.Inp.frame_ref, fun m ρ _ => Cert.Val.Inp.frame_ref m ρ trivial,
  fun m ρ _ => Cert.Loss.Gen.frame m ρ, fun m ρ _ => Cert.LossIdeal.Gen.frame m ρ, fun m ρ _ => Cert.LossIdeal.Gen.frame m ρ,
  Cert.Val.Loss.frame_ref, fun m ρ _ => Cert.Val.Loss.frame_ref m ρ trivial,
  fun m ρ _ => Cert.Prep.Gen.frame m ρ, fun m ρ _ => Cert.PrepIdeal.Gen.frame m ρ, fun m ρ _ => Cert.PrepIdeal.Gen.frame m ρ,
  Cert.Val.Prep.frame_ref, fun m ρ _ => Cert.Val.Prep.frame_ref m ρ trivial,
  fun m ρ _ => Cert.Fw.Gen.frame m ρ, fun m ρ _ => Cert.FwIdeal.Gen.frame m ρ, fun m ρ _ => Cert.FwIdeal.Gen.frame m ρ,
  Cert.Val.Fw.frame_ref, fun m ρ _ => Cert.Val.Fw.frame_ref m ρ trivial,
  fun m ρ _ => Cert.GlaF.Any.frame m ρ, fun m ρ _ => Cert.GlaFIdeal.Any.frame m ρ,
  fun m ρ _ => Cert.GlaB.Any.frame m ρ, fun m ρ _ => Cert.GlaBIdeal.Any.frame m ρ,
  fun m ρ _ => Cert.RmsF.Gen.frame m ρ, fun m ρ _ => Cert.RmsFIdeal.Gen.frame m ρ, Cert.Val.RmsF.frame_ref,
  fun m ρ _ => Cert.FfnF.Gen.frame m ρ, fun m ρ _ => Cert.FfnFIdeal.Gen.frame m ρ, Cert.Val.FfnF.frame_ref,
  fun m ρ _ => Cert.PostF.Gen.frame m ρ, fun m ρ _ => Cert.PostFIdeal.Gen.frame m ρ, Cert.Val.PostF.frame_ref,
  fun m ρ _ => Cert.GlaFF.Any.frame m ρ, fun m ρ _ => Cert.GlaFFIdeal.Any.frame m ρ, fun m ρ _ => Cert.GlaFB.Any.frame m ρ, fun m ρ _ => Cert.GlaFBIdeal.Any.frame m ρ,
  fun m ρ _ => Cert.OutF.Gen.frame m ρ, fun m ρ _ => Cert.OutFIdeal.Gen.frame m ρ, Cert.Val.OutF.frame_ref,
  trivial, Cert.Val.Act.algebraic, trivial, Cert.Val.Fa.algebraic, trivial, Cert.Val.Post.algebraic, trivial, Cert.Val.Hg.algebraic, trivial, Cert.Val.Up.algebraic, trivial, Cert.Val.Inp.algebraic, trivial, Cert.Val.Loss.algebraic, trivial, Cert.Val.Prep.algebraic, trivial, Cert.Val.Fw.algebraic, trivial, trivial,
  trivial, Cert.Val.RmsF.algebraic, trivial, Cert.Val.FfnF.algebraic, trivial, Cert.Val.PostF.algebraic, trivial, trivial, trivial, Cert.Val.OutF.algebraic⟩

end Cert.Proof

end
